-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6)) (m ((c.tc : Thread Cert.AttendIdeal.nD Cert.AttendIdeal.τ).loc Cert.AttendIdeal.main_arg7))).1 = (fun _ => 1#1)
    ∧ (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6)) (m ((c.tc : Thread Cert.AttendIdeal.nD Cert.AttendIdeal.τ).loc Cert.AttendIdeal.main_arg7))).2 = (fun _ => 1#1)

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))).1 = (fun _ => 1#1)
    ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))).2 = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6)
      ∧ r.2.mem ((c.tc : Thread Cert.Attend.nD Cert.Attend.τ).loc Cert.Attend.main_arg7) = m ((c.tc : Thread Cert.Attend.nD Cert.Attend.τ).loc Cert.Attend.main_arg7))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
      ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
      ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1)
      ∧ r.2.mem ((c.tc : Thread Cert.Table.nD Cert.Table.τ).loc Cert.Table.main_arg2) = m ((c.tc : Thread Cert.Table.nD Cert.Table.τ).loc Cert.Table.main_arg2)
      ∧ r.2.mem ((c.tc : Thread Cert.Table.nD Cert.Table.τ).loc Cert.Table.main_arg3) = m ((c.tc : Thread Cert.Table.nD Cert.Table.τ).loc Cert.Table.main_arg3)
      ∧ r.2.mem ((c.tc : Thread Cert.Table.nD Cert.Table.τ).loc Cert.Table.main_arg4) = m ((c.tc : Thread Cert.Table.nD Cert.Table.τ).loc Cert.Table.main_arg4)
      ∧ r.2.mem ((c.tc : Thread Cert.Table.nD Cert.Table.τ).loc Cert.Table.main_arg5) = m ((c.tc : Thread Cert.Table.nD Cert.Table.τ).loc Cert.Table.main_arg5))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
      ∧ r.2.mem ((c.tc : Thread Cert.TableIdeal.nD Cert.TableIdeal.τ).loc Cert.TableIdeal.main_arg2) = m ((c.tc : Thread Cert.TableIdeal.nD Cert.TableIdeal.τ).loc Cert.TableIdeal.main_arg2)
      ∧ r.2.mem ((c.tc : Thread Cert.TableIdeal.nD Cert.TableIdeal.τ).loc Cert.TableIdeal.main_arg3) = m ((c.tc : Thread Cert.TableIdeal.nD Cert.TableIdeal.τ).loc Cert.TableIdeal.main_arg3)
      ∧ r.2.mem ((c.tc : Thread Cert.TableIdeal.nD Cert.TableIdeal.τ).loc Cert.TableIdeal.main_arg4) = m ((c.tc : Thread Cert.TableIdeal.nD Cert.TableIdeal.τ).loc Cert.TableIdeal.main_arg4)
      ∧ r.2.mem ((c.tc : Thread Cert.TableIdeal.nD Cert.TableIdeal.τ).loc Cert.TableIdeal.main_arg5) = m ((c.tc : Thread Cert.TableIdeal.nD Cert.TableIdeal.τ).loc Cert.TableIdeal.main_arg5))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0)
      ∧ r.2.mem ((c.tc : Thread Cert.TableReferenceIdeal.nD Cert.TableReferenceIdeal.τ).loc Cert.TableReferenceIdeal.main_arg1) = m ((c.tc : Thread Cert.TableReferenceIdeal.nD Cert.TableReferenceIdeal.τ).loc Cert.TableReferenceIdeal.main_arg1)
      ∧ r.2.mem ((c.tc : Thread Cert.TableReferenceIdeal.nD Cert.TableReferenceIdeal.τ).loc Cert.TableReferenceIdeal.main_arg2) = m ((c.tc : Thread Cert.TableReferenceIdeal.nD Cert.TableReferenceIdeal.τ).loc Cert.TableReferenceIdeal.main_arg2)
      ∧ r.2.mem ((c.tc : Thread Cert.TableReferenceIdeal.nD Cert.TableReferenceIdeal.τ).loc Cert.TableReferenceIdeal.main_arg3) = m ((c.tc : Thread Cert.TableReferenceIdeal.nD Cert.TableReferenceIdeal.τ).loc Cert.TableReferenceIdeal.main_arg3)
      ∧ r.2.mem ((c.tc : Thread Cert.TableReferenceIdeal.nD Cert.TableReferenceIdeal.τ).loc Cert.TableReferenceIdeal.main_arg4) = m ((c.tc : Thread Cert.TableReferenceIdeal.nD Cert.TableReferenceIdeal.τ).loc Cert.TableReferenceIdeal.main_arg4)
      ∧ r.2.mem ((c.tc : Thread Cert.TableReferenceIdeal.nD Cert.TableReferenceIdeal.τ).loc Cert.TableReferenceIdeal.main_arg5) = m ((c.tc : Thread Cert.TableReferenceIdeal.nD Cert.TableReferenceIdeal.τ).loc Cert.TableReferenceIdeal.main_arg5))
      ∧ r.2.sem = fun _ => 0)

def preserves_Kernel_KernelIdeal : Prop :=
  IdealRules.bf16_pair.BufferStatement Cert.KernelIdeal.S72x2x128 Cert.KernelIdeal.S72x1x128
  ∧ IdealRules.sign_bit.Statement Cert.KernelIdeal.S225x128 .f32
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.named_const.Statement Cert.KernelIdeal.κ "eps2" .f32 0x179ABE15#32 ((1 / 1000000000000000000000000 : ℝ) : EReal)

def preserves_Attend_AttendIdeal : Prop :=
  True

def algebraic_AttendIdeal_AttentionIdeal_pre_finite [hAttendIdeal : Cert.AttendIdeal.Facts] [hAttentionIdeal : Cert.AttentionIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_AttendIdeal_finite m →
    (∀ c : Dev Cert.AttendIdeal.nD,
      m' ((c.tc : Thread Cert.AttentionIdeal.nD Cert.AttentionIdeal.τ).loc Cert.AttentionIdeal.main_arg0) = m ((c.tc : Thread Cert.AttendIdeal.nD Cert.AttendIdeal.τ).loc Cert.AttendIdeal.main_arg0)
      ∧ m' ((c.tc : Thread Cert.AttentionIdeal.nD Cert.AttentionIdeal.τ).loc Cert.AttentionIdeal.main_arg1) = m ((c.tc : Thread Cert.AttendIdeal.nD Cert.AttendIdeal.τ).loc Cert.AttendIdeal.main_arg1)
      ∧ m' ((c.tc : Thread Cert.AttentionIdeal.nD Cert.AttentionIdeal.τ).loc Cert.AttentionIdeal.main_arg2) = m ((c.tc : Thread Cert.AttendIdeal.nD Cert.AttendIdeal.τ).loc Cert.AttendIdeal.main_arg2)
      ∧ m' ((c.tc : Thread Cert.AttentionIdeal.nD Cert.AttentionIdeal.τ).loc Cert.AttentionIdeal.main_arg3) = m ((c.tc : Thread Cert.AttendIdeal.nD Cert.AttendIdeal.τ).loc Cert.AttendIdeal.main_arg3)
      ∧ m' ((c.tc : Thread Cert.AttentionIdeal.nD Cert.AttentionIdeal.τ).loc Cert.AttentionIdeal.main_arg4) = m ((c.tc : Thread Cert.AttendIdeal.nD Cert.AttendIdeal.τ).loc Cert.AttendIdeal.main_arg4)
      ∧ m' ((c.tc : Thread Cert.AttentionIdeal.nD Cert.AttentionIdeal.τ).loc Cert.AttentionIdeal.main_arg5) = m ((c.tc : Thread Cert.AttendIdeal.nD Cert.AttendIdeal.τ).loc Cert.AttendIdeal.main_arg5)
      ∧ m' ((c.tc : Thread Cert.AttentionIdeal.nD Cert.AttentionIdeal.τ).loc Cert.AttentionIdeal.main_arg6) = m ((c.tc : Thread Cert.AttendIdeal.nD Cert.AttendIdeal.τ).loc Cert.AttendIdeal.main_arg6)
      ∧ m' ((c.tc : Thread Cert.AttentionIdeal.nD Cert.AttentionIdeal.τ).loc Cert.AttentionIdeal.main_arg7) = m ((c.tc : Thread Cert.AttendIdeal.nD Cert.AttendIdeal.τ).loc Cert.AttendIdeal.main_arg7)) →
    ∃ (v0 : (c : Dev Cert.AttendIdeal.nD) → Buf (Elt Ideal) ((c.tc : Thread Cert.AttendIdeal.nD Cert.AttendIdeal.τ).loc Cert.AttendIdeal.main_v49)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v49) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
          ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          r.2.mem ((c.tc : Thread Cert.AttentionIdeal.nD Cert.AttentionIdeal.τ).loc Cert.AttentionIdeal.main_v42) = v0 c
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m' ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m' ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m' ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m' ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m' ((c.tc : Thread Cert.AttentionIdeal.nD Cert.AttentionIdeal.τ).loc Cert.AttentionIdeal.main_arg7))

def preserves_Table_TableIdeal : Prop :=
  IdealRules.sign_bit.Statement Cert.TableIdeal.S225x128 .f32

def algebraic_TableIdeal_TableReferenceIdeal [hTableIdeal : Cert.TableIdeal.Facts] [hTableReferenceIdeal : Cert.TableReferenceIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableIdeal m →
    (∀ c : Dev Cert.TableIdeal.nD,
      m' ((c.tc : Thread Cert.TableReferenceIdeal.nD Cert.TableReferenceIdeal.τ).loc Cert.TableReferenceIdeal.main_arg0) = m ((c.tc : Thread Cert.TableIdeal.nD Cert.TableIdeal.τ).loc Cert.TableIdeal.main_arg0)
      ∧ m' ((c.tc : Thread Cert.TableReferenceIdeal.nD Cert.TableReferenceIdeal.τ).loc Cert.TableReferenceIdeal.main_arg1) = m ((c.tc : Thread Cert.TableIdeal.nD Cert.TableIdeal.τ).loc Cert.TableIdeal.main_arg1)
      ∧ m' ((c.tc : Thread Cert.TableReferenceIdeal.nD Cert.TableReferenceIdeal.τ).loc Cert.TableReferenceIdeal.main_arg2) = m ((c.tc : Thread Cert.TableIdeal.nD Cert.TableIdeal.τ).loc Cert.TableIdeal.main_arg2)
      ∧ m' ((c.tc : Thread Cert.TableReferenceIdeal.nD Cert.TableReferenceIdeal.τ).loc Cert.TableReferenceIdeal.main_arg3) = m ((c.tc : Thread Cert.TableIdeal.nD Cert.TableIdeal.τ).loc Cert.TableIdeal.main_arg3)
      ∧ m' ((c.tc : Thread Cert.TableReferenceIdeal.nD Cert.TableReferenceIdeal.τ).loc Cert.TableReferenceIdeal.main_arg4) = m ((c.tc : Thread Cert.TableIdeal.nD Cert.TableIdeal.τ).loc Cert.TableIdeal.main_arg4)
      ∧ m' ((c.tc : Thread Cert.TableReferenceIdeal.nD Cert.TableReferenceIdeal.τ).loc Cert.TableReferenceIdeal.main_arg5) = m ((c.tc : Thread Cert.TableIdeal.nD Cert.TableIdeal.τ).loc Cert.TableIdeal.main_arg5)) →
    ∃ (v0 : (c : Dev Cert.TableIdeal.nD) → Buf (Elt Ideal) ((c.tc : Thread Cert.TableIdeal.nD Cert.TableIdeal.τ).loc Cert.TableIdeal.main_v5_0)) (v1 : (c : Dev Cert.TableIdeal.nD) → Buf (Elt Ideal) ((c.tc : Thread Cert.TableIdeal.nD Cert.TableIdeal.τ).loc Cert.TableIdeal.main_v5_1)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v5_0) = v0 c
          ∧ r.2.mem ((c.tc : Thread Cert.TableIdeal.nD Cert.TableIdeal.τ).loc Cert.TableIdeal.main_v5_1) = v1 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
          ∧ r.2.mem ((c.tc : Thread Cert.TableIdeal.nD Cert.TableIdeal.τ).loc Cert.TableIdeal.main_arg2) = m ((c.tc : Thread Cert.TableIdeal.nD Cert.TableIdeal.τ).loc Cert.TableIdeal.main_arg2)
          ∧ r.2.mem ((c.tc : Thread Cert.TableIdeal.nD Cert.TableIdeal.τ).loc Cert.TableIdeal.main_arg3) = m ((c.tc : Thread Cert.TableIdeal.nD Cert.TableIdeal.τ).loc Cert.TableIdeal.main_arg3)
          ∧ r.2.mem ((c.tc : Thread Cert.TableIdeal.nD Cert.TableIdeal.τ).loc Cert.TableIdeal.main_arg4) = m ((c.tc : Thread Cert.TableIdeal.nD Cert.TableIdeal.τ).loc Cert.TableIdeal.main_arg4)
          ∧ r.2.mem ((c.tc : Thread Cert.TableIdeal.nD Cert.TableIdeal.τ).loc Cert.TableIdeal.main_arg5) = m ((c.tc : Thread Cert.TableIdeal.nD Cert.TableIdeal.τ).loc Cert.TableIdeal.main_arg5))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v24_0) = v0 c
          ∧ r.2.mem ((c.tc : Thread Cert.TableReferenceIdeal.nD Cert.TableReferenceIdeal.τ).loc Cert.TableReferenceIdeal.main_v24_1) = v1 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0)
          ∧ r.2.mem ((c.tc : Thread Cert.TableReferenceIdeal.nD Cert.TableReferenceIdeal.τ).loc Cert.TableReferenceIdeal.main_arg1) = m' ((c.tc : Thread Cert.TableReferenceIdeal.nD Cert.TableReferenceIdeal.τ).loc Cert.TableReferenceIdeal.main_arg1)
          ∧ r.2.mem ((c.tc : Thread Cert.TableReferenceIdeal.nD Cert.TableReferenceIdeal.τ).loc Cert.TableReferenceIdeal.main_arg2) = m' ((c.tc : Thread Cert.TableReferenceIdeal.nD Cert.TableReferenceIdeal.τ).loc Cert.TableReferenceIdeal.main_arg2)
          ∧ r.2.mem ((c.tc : Thread Cert.TableReferenceIdeal.nD Cert.TableReferenceIdeal.τ).loc Cert.TableReferenceIdeal.main_arg3) = m' ((c.tc : Thread Cert.TableReferenceIdeal.nD Cert.TableReferenceIdeal.τ).loc Cert.TableReferenceIdeal.main_arg3)
          ∧ r.2.mem ((c.tc : Thread Cert.TableReferenceIdeal.nD Cert.TableReferenceIdeal.τ).loc Cert.TableReferenceIdeal.main_arg4) = m' ((c.tc : Thread Cert.TableReferenceIdeal.nD Cert.TableReferenceIdeal.τ).loc Cert.TableReferenceIdeal.main_arg4)
          ∧ r.2.mem ((c.tc : Thread Cert.TableReferenceIdeal.nD Cert.TableReferenceIdeal.τ).loc Cert.TableReferenceIdeal.main_arg5) = m' ((c.tc : Thread Cert.TableReferenceIdeal.nD Cert.TableReferenceIdeal.τ).loc Cert.TableReferenceIdeal.main_arg5))

def Claim : Prop :=
  ∃ (hKernel : Cert.Kernel.Facts) (hKernelIdeal : Cert.KernelIdeal.Facts) (hAttend : Cert.Attend.Facts) (hAttendIdeal : Cert.AttendIdeal.Facts) (hAttentionIdeal : Cert.AttentionIdeal.Facts) (hTable : Cert.Table.Facts) (hTableIdeal : Cert.TableIdeal.Facts) (hTableReferenceIdeal : Cert.TableReferenceIdeal.Facts) (hPre_finite : Cert.Pre_finite.Facts),
    quiescent_Kernel (hKernel := hKernel)
    ∧ quiescent_KernelIdeal (hKernelIdeal := hKernelIdeal)
    ∧ quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttentionIdeal (hAttentionIdeal := hAttentionIdeal)
    ∧ quiescent_AttentionIdeal_pre_finite (hAttentionIdeal := hAttentionIdeal) (hPre_finite := hPre_finite)
    ∧ quiescent_Table (hTable := hTable)
    ∧ quiescent_TableIdeal (hTableIdeal := hTableIdeal)
    ∧ quiescent_TableReferenceIdeal (hTableReferenceIdeal := hTableReferenceIdeal)
    ∧ preserves_Kernel_KernelIdeal
    ∧ preserves_Attend_AttendIdeal
    ∧ algebraic_AttendIdeal_AttentionIdeal_pre_finite (hAttendIdeal := hAttendIdeal) (hAttentionIdeal := hAttentionIdeal) (hPre_finite := hPre_finite)
    ∧ preserves_Table_TableIdeal
    ∧ algebraic_TableIdeal_TableReferenceIdeal (hTableIdeal := hTableIdeal) (hTableReferenceIdeal := hTableReferenceIdeal)
-- ==== Pre_finite.lean ====
abbrev S6x16384x4x32 : Shape := ⟨4, ![6, 16384, 4, 32]⟩
abbrev S6x16384x4 : Shape := ⟨3, ![6, 16384, 4]⟩
abbrev S6x256x4 : Shape := ⟨3, ![6, 256, 4]⟩
abbrev S4x64x64 : Shape := ⟨3, ![4, 64, 64]⟩
abbrev S_ : Shape := ⟨0, ![]⟩

class Facts : Prop where
  bcast_S_S6x256x4 : S_.BroadcastsInDim S6x256x4 (![] : Fin 0 → Fin S6x256x4.rank)
  bcast_S_S4x64x64 : S_.BroadcastsInDim S4x64x64 (![] : Fin 0 → Fin S4x64x64.rank)

variable [Facts]

def fn {F : FTy → Type} [FloatOps F] (main_arg0 : FVec F S6x16384x4x32 .bf16) (main_arg1 : FVec F S6x16384x4x32 .bf16) (main_arg2 : FVec F S6x16384x4x32 .fp8e4m3) (main_arg3 : FVec F S6x16384x4 .f32) (main_arg4 : FVec F S6x16384x4 .f32) (main_arg5 : FVec F S6x256x4 .f32) (main_arg6 : FVec F S6x256x4 .f32) (main_arg7 : FVec F S4x64x64 .f32) : IVec S6x256x4 1 × IVec S4x64x64 1 :=
  let main_v0 : FVec F S6x256x4 .f32 := Host.absf main_arg5
  let main_cst : FVec F S_ .f32 := constant S_ .f32 0x7F800000#32
  let main_v1 : FVec F S6x256x4 .f32 := broadcastInDim S6x256x4 ![] bcast_S_S6x256x4 main_cst
  let main_v2 : IVec S6x256x4 1 := cmpf .olt main_v0 main_v1
  let main_v3 : FVec F S4x64x64 .f32 := Host.absf main_arg7
  let main_cst_0 : FVec F S_ .f32 := constant S_ .f32 0x7F800000#32
  let main_v4 : FVec F S4x64x64 .f32 := broadcastInDim S4x64x64 ![] bcast_S_S4x64x64 main_cst_0
  let main_v5 : IVec S4x64x64 1 := cmpf .olt main_v3 main_v4
  (main_v2, main_v5)
-- ==== Kernel.lean ====
abbrev S6x16384x4x32 : Shape := ⟨4, ![6, 16384, 4, 32]⟩
abbrev S6x256x4 : Shape := ⟨3, ![6, 256, 4]⟩
abbrev S4 : Shape := ⟨1, ![4]⟩
abbrev S2x512 : Shape := ⟨2, ![2, 512]⟩
abbrev S512 : Shape := ⟨1, ![512]⟩
abbrev S512x4 : Shape := ⟨2, ![512, 4]⟩
abbrev S6x4x32x16384 : Shape := ⟨4, ![6, 4, 32, 16384]⟩
abbrev S6x4x4x8x128x128 : Shape := ⟨6, ![6, 4, 4, 8, 128, 128]⟩
abbrev S6x4x4x128x8x128 : Shape := ⟨6, ![6, 4, 4, 128, 8, 128]⟩
abbrev S6x4x256 : Shape := ⟨3, ![6, 4, 256]⟩
abbrev S1x512 : Shape := ⟨2, ![1, 512]⟩
abbrev S4x512 : Shape := ⟨2, ![4, 512]⟩
abbrev S4x1 : Shape := ⟨2, ![4, 1]⟩
abbrev S6x16384x128 : Shape := ⟨3, ![6, 16384, 128]⟩
abbrev S4x225 : Shape := ⟨2, ![4, 225]⟩
abbrev S225x512 : Shape := ⟨2, ![225, 512]⟩
abbrev S1x225 : Shape := ⟨2, ![1, 225]⟩
abbrev S6x64x4x32x256 : Shape := ⟨5, ![6, 64, 4, 32, 256]⟩
abbrev S1x4x4x64x8x128 : Shape := ⟨6, ![1, 4, 4, 64, 8, 128]⟩
abbrev S1x4x32x8192 : Shape := ⟨4, ![1, 4, 32, 8192]⟩
abbrev S1x4x128 : Shape := ⟨3, ![1, 4, 128]⟩
abbrev S1x8192x128 : Shape := ⟨3, ![1, 8192, 128]⟩
abbrev S1x64x4x32x128 : Shape := ⟨5, ![1, 64, 4, 32, 128]⟩
abbrev S8x256 : Shape := ⟨2, ![8, 256]⟩
abbrev S64x512 : Shape := ⟨2, ![64, 512]⟩
abbrev S4x64x32x128 : Shape := ⟨4, ![4, 64, 32, 128]⟩
abbrev S2x4x64x128 : Shape := ⟨4, ![2, 4, 64, 128]⟩
abbrev S4x64x128 : Shape := ⟨3, ![4, 64, 128]⟩
abbrev S72x128 : Shape := ⟨2, ![72, 128]⟩
abbrev S4128x128 : Shape := ⟨2, ![4128, 128]⟩
abbrev S2112x128 : Shape := ⟨2, ![2112, 128]⟩
abbrev S225x128 : Shape := ⟨2, ![225, 128]⟩
abbrev S225x1 : Shape := ⟨2, ![225, 1]⟩
abbrev S225 : Shape := ⟨1, ![225]⟩
abbrev S31x128 : Shape := ⟨2, ![31, 128]⟩
abbrev S256x128 : Shape := ⟨2, ![256, 128]⟩
abbrev S128x128 : Shape := ⟨2, ![128, 128]⟩
abbrev S1x128 : Shape := ⟨2, ![1, 128]⟩
abbrev S1x256 : Shape := ⟨2, ![1, 256]⟩
abbrev S8x128 : Shape := ⟨2, ![8, 128]⟩
abbrev S8x128x1 : Shape := ⟨3, ![8, 128, 1]⟩
abbrev S1x1x128 : Shape := ⟨3, ![1, 1, 128]⟩
abbrev S8 : Shape := ⟨1, ![8]⟩
abbrev S8x1 : Shape := ⟨2, ![8, 1]⟩
abbrev S1x8x128 : Shape := ⟨3, ![1, 8, 128]⟩
abbrev S1 : Shape := ⟨1, ![1]⟩
abbrev S1x1x2x1x8x128 : Shape := ⟨6, ![1, 1, 2, 1, 8, 128]⟩
abbrev S2x8x128 : Shape := ⟨3, ![2, 8, 128]⟩
abbrev S16x128 : Shape := ⟨2, ![16, 128]⟩
abbrev S1x1x8x128 : Shape := ⟨4, ![1, 1, 8, 128]⟩
abbrev S128 : Shape := ⟨1, ![128]⟩
abbrev S1x1x4x1x8x128 : Shape := ⟨6, ![1, 1, 4, 1, 8, 128]⟩
abbrev S4x8x128 : Shape := ⟨3, ![4, 8, 128]⟩
abbrev S32x128 : Shape := ⟨2, ![32, 128]⟩
abbrev S1x1x1x128 : Shape := ⟨4, ![1, 1, 1, 128]⟩
abbrev S1x1x32x128 : Shape := ⟨4, ![1, 1, 32, 128]⟩
abbrev S64x128 : Shape := ⟨2, ![64, 128]⟩
abbrev S64x256 : Shape := ⟨2, ![64, 256]⟩
abbrev S32x256 : Shape := ⟨2, ![32, 256]⟩
abbrev S256x256 : Shape := ⟨2, ![256, 256]⟩
abbrev S128x256 : Shape := ⟨2, ![128, 256]⟩
abbrev S1x2x32x128 : Shape := ⟨4, ![1, 2, 32, 128]⟩
abbrev S2x32x128 : Shape := ⟨3, ![2, 32, 128]⟩
abbrev S1x128x128 : Shape := ⟨3, ![1, 128, 128]⟩
abbrev S1x1x1x32x128 : Shape := ⟨5, ![1, 1, 1, 32, 128]⟩

abbrev nBuf : Space → Nat
  | .hbm => 28
  | .vmem => 36
  | .smem => 1
  | _ => 0

abbrev bufTy : (tb : Table) → Fin (tcTables nBuf tb) → BufTy
  | .hbm, ⟨0, _⟩ => ⟨S6x16384x4x32, .bf16⟩
  | .hbm, ⟨1, _⟩ => ⟨S6x16384x4x32, .bf16⟩
  | .hbm, ⟨2, _⟩ => ⟨S6x16384x4x32, .fp8e4m3⟩
  | .hbm, ⟨3, _⟩ => ⟨S6x256x4, .f32⟩
  | .hbm, ⟨4, _⟩ => ⟨S4, .f32⟩
  | .hbm, ⟨5, _⟩ => ⟨S2x512, .f32⟩
  | .hbm, ⟨6, _⟩ => ⟨S512, .f32⟩
  | .hbm, ⟨7, _⟩ => ⟨S512x4, .fp8e4m3⟩
  | .hbm, ⟨8, _⟩ => ⟨S4, .f32⟩
  | .hbm, ⟨9, _⟩ => ⟨S6x4x32x16384, .bf16⟩
  | .hbm, ⟨10, _⟩ => ⟨S6x4x4x8x128x128, .bf16⟩
  | .hbm, ⟨11, _⟩ => ⟨S6x4x4x128x8x128, .bf16⟩
  | .hbm, ⟨12, _⟩ => ⟨S6x4x32x16384, .bf16⟩
  | .hbm, ⟨13, _⟩ => ⟨S6x4x4x8x128x128, .bf16⟩
  | .hbm, ⟨14, _⟩ => ⟨S6x4x4x128x8x128, .bf16⟩
  | .hbm, ⟨15, _⟩ => ⟨S6x4x32x16384, .fp8e4m3⟩
  | .hbm, ⟨16, _⟩ => ⟨S6x4x256, .f32⟩
  | .hbm, ⟨17, _⟩ => ⟨S1x512, .f32⟩
  | .hbm, ⟨18, _⟩ => ⟨S4x512, .fp8e4m3⟩
  | .hbm, ⟨19, _⟩ => ⟨S4x1, .f32⟩
  | .hbm, ⟨20, _⟩ => ⟨S6x16384x128, .bf16⟩
  | .hbm, ⟨21, _⟩ => ⟨S4x225, .f32⟩
  | .hbm, ⟨22, _⟩ => ⟨S225x512, .fp8e4m3⟩
  | .hbm, ⟨23, _⟩ => ⟨S1x225, .f32⟩
  | .hbm, ⟨24, _⟩ => ⟨S6x64x4x32x256, .fp8e4m3⟩
  | .hbm, ⟨25, _⟩ => ⟨S6x4x256, .f32⟩
  | .hbm, ⟨26, _⟩ => ⟨S6x64x4x32x256, .fp8e4m3⟩
  | .hbm, ⟨27, _⟩ => ⟨S6x4x256, .f32⟩
  | .local _ .vmem, ⟨0, _⟩ => ⟨S1x4x4x64x8x128, .bf16⟩
  | .local _ .vmem, ⟨1, _⟩ => ⟨S1x4x4x64x8x128, .bf16⟩
  | .local _ .vmem, ⟨2, _⟩ => ⟨S1x4x4x64x8x128, .bf16⟩
  | .local _ .vmem, ⟨3, _⟩ => ⟨S1x4x4x64x8x128, .bf16⟩
  | .local _ .vmem, ⟨4, _⟩ => ⟨S1x4x32x8192, .fp8e4m3⟩
  | .local _ .vmem, ⟨5, _⟩ => ⟨S1x4x32x8192, .fp8e4m3⟩
  | .local _ .vmem, ⟨6, _⟩ => ⟨S1x4x128, .f32⟩
  | .local _ .vmem, ⟨7, _⟩ => ⟨S1x4x128, .f32⟩
  | .local _ .vmem, ⟨8, _⟩ => ⟨S2x512, .f32⟩
  | .local _ .vmem, ⟨9, _⟩ => ⟨S1x512, .f32⟩
  | .local _ .vmem, ⟨10, _⟩ => ⟨S4x512, .fp8e4m3⟩
  | .local _ .vmem, ⟨11, _⟩ => ⟨S4x1, .f32⟩
  | .local _ .vmem, ⟨12, _⟩ => ⟨S1x8192x128, .bf16⟩
  | .local _ .vmem, ⟨13, _⟩ => ⟨S1x8192x128, .bf16⟩
  | .local _ .vmem, ⟨14, _⟩ => ⟨S4x225, .f32⟩
  | .local _ .vmem, ⟨15, _⟩ => ⟨S225x512, .fp8e4m3⟩
  | .local _ .vmem, ⟨16, _⟩ => ⟨S1x225, .f32⟩
  | .local _ .vmem, ⟨17, _⟩ => ⟨S1x64x4x32x128, .fp8e4m3⟩
  | .local _ .vmem, ⟨18, _⟩ => ⟨S1x64x4x32x128, .fp8e4m3⟩
  | .local _ .vmem, ⟨19, _⟩ => ⟨S1x4x128, .f32⟩
  | .local _ .vmem, ⟨20, _⟩ => ⟨S1x4x128, .f32⟩
  | .local _ .vmem, ⟨21, _⟩ => ⟨S1x64x4x32x128, .fp8e4m3⟩
  | .local _ .vmem, ⟨22, _⟩ => ⟨S1x64x4x32x128, .fp8e4m3⟩
  | .local _ .vmem, ⟨23, _⟩ => ⟨S1x4x128, .f32⟩
  | .local _ .vmem, ⟨24, _⟩ => ⟨S1x4x128, .f32⟩
  | .local _ .vmem, ⟨25, _⟩ => ⟨S8x256, .f32⟩
  | .local _ .vmem, ⟨26, _⟩ => ⟨S64x512, .f32⟩
  | .local _ .vmem, ⟨27, _⟩ => ⟨S4x64x32x128, .fp8e4m3⟩
  | .local _ .vmem, ⟨28, _⟩ => ⟨S4x64x32x128, .fp8e4m3⟩
  | .local _ .vmem, ⟨29, _⟩ => ⟨S2x4x64x128, .f32⟩
  | .local _ .vmem, ⟨30, _⟩ => ⟨S4x64x128, .f32⟩
  | .local _ .vmem, ⟨31, _⟩ => ⟨S4x64x128, .f32⟩
  | .local _ .vmem, ⟨32, _⟩ => ⟨S72x128, .f32⟩
  | .local _ .vmem, ⟨33, _⟩ => ⟨S72x128, .i32⟩
  | .local _ .vmem, ⟨34, _⟩ => ⟨S4128x128, .f32⟩
  | .local _ .vmem, ⟨35, _⟩ => ⟨S2112x128, .f32⟩
  | .local _ .smem, ⟨0, _⟩ => ⟨S4, .f32⟩
  | _, _ => ⟨S6x16384x4x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [BitOps F]

abbrev grid0 : Pipeline.Grid := ⟨2, ![6, 2], ![false, false]⟩

@[reducible] def k0_t1_loop : Scf.Loop 32 :=
  let c0_i32_324 : BitVec 32 := 0#32
  let c8_i32_325 : BitVec 32 := 8#32
  let v933 : BitVec 32 := Scalar.addi c0_i32_324 c8_i32_325
  let c1_i32_326 : BitVec 32 := 1#32
  ⟨c0_i32_324, v933, c1_i32_326⟩
def k0_off1 (k0_t1 : Fin k0_t1_loop.trips) (c0_i32_404 : BitVec 32) : Fin 6 → Nat :=
  let c0_405 : Index := 0#32
  let c0_406 : Index := 0#32
  let c0_407 : Index := 0#32
  let c0_i32_324 : BitVec 32 := 0#32
  let c1_i32_326 : BitVec 32 := 1#32
  let arg30 : BitVec 32 := Scf.iv c0_i32_324 c1_i32_326 k0_t1
  let c8_i32_403 : BitVec 32 := 8#32
  let v1008 : BitVec 32 := Scalar.muli arg30 c8_i32_403
  let v1009 : BitVec 32 := Scalar.addi v1008 c0_i32_404
  let v1010 : Index := Scalar.indexCast v1009
  let c0_408 : Index := 0#32
  let c0_409 : Index := 0#32
  ![0, 0, 0, v1010.toNat, 0, 0]
def k0_off2 (k0_t1 : Fin k0_t1_loop.trips) (c0_i32_404 : BitVec 32) : Fin 6 → Nat :=
  let c0_410 : Index := 0#32
  let c0_411 : Index := 0#32
  let c2_412 : Index := 2#32
  let c0_i32_324 : BitVec 32 := 0#32
  let c1_i32_326 : BitVec 32 := 1#32
  let arg30 : BitVec 32 := Scf.iv c0_i32_324 c1_i32_326 k0_t1
  let c8_i32_403 : BitVec 32 := 8#32
  let v1008 : BitVec 32 := Scalar.muli arg30 c8_i32_403
  let v1009 : BitVec 32 := Scalar.addi v1008 c0_i32_404
  let v1014 : Index := Scalar.indexCast v1009
  let c0_413 : Index := 0#32
  let c0_414 : Index := 0#32
  ![0, 0, 2, v1014.toNat, 0, 0]
def k0_off3 (k0_t1 : Fin k0_t1_loop.trips) : Fin 4 → Nat :=
  let c0_563 : Index := 0#32
  let c0_564 : Index := 0#32
  let c0_i32_324 : BitVec 32 := 0#32
  let c1_i32_326 : BitVec 32 := 1#32
  let arg30 : BitVec 32 := Scf.iv c0_i32_324 c1_i32_326 k0_t1
  let c8_i32_562 : BitVec 32 := 8#32
  let v1405 : BitVec 32 := Scalar.muli arg30 c8_i32_562
  let v1406 : Index := Scalar.indexCast v1405
  let c0_565 : Index := 0#32
  ![0, 0, v1406.toNat, 0]
def k0_off4 (k0_t1 : Fin k0_t1_loop.trips) : Fin 4 → Nat :=
  let c1_747 : Index := 1#32
  let c0_748 : Index := 0#32
  let c0_i32_324 : BitVec 32 := 0#32
  let c1_i32_326 : BitVec 32 := 1#32
  let arg30 : BitVec 32 := Scf.iv c0_i32_324 c1_i32_326 k0_t1
  let c8_i32_746 : BitVec 32 := 8#32
  let v1816 : BitVec 32 := Scalar.muli arg30 c8_i32_746
  let v1817 : Index := Scalar.indexCast v1816
  let c0_749 : Index := 0#32
  ![1, 0, v1817.toNat, 0]
def k0_off5 (k0_t1 : Fin k0_t1_loop.trips) : Fin 3 → Nat :=
  let c0_754 : Index := 0#32
  let c0_i32_324 : BitVec 32 := 0#32
  let c1_i32_326 : BitVec 32 := 1#32
  let arg30 : BitVec 32 := Scf.iv c0_i32_324 c1_i32_326 k0_t1
  let c8_i32_753 : BitVec 32 := 8#32
  let v1833 : BitVec 32 := Scalar.muli arg30 c8_i32_753
  let v1834 : Index := Scalar.indexCast v1833
  let c0_755 : Index := 0#32
  ![0, v1834.toNat, 0]
@[reducible] def k0_t2_loop : Scf.Loop 32 :=
  let c0_i32_340 : BitVec 32 := 0#32
  let c8_i32_341 : BitVec 32 := 8#32
  let v950 : BitVec 32 := Scalar.addi c0_i32_340 c8_i32_341
  let c1_i32_342 : BitVec 32 := 1#32
  ⟨c0_i32_340, v950, c1_i32_342⟩
def k0_off6 (k0_t2 : Fin k0_t2_loop.trips) (c0_i32_404 : BitVec 32) : Fin 6 → Nat :=
  let c0_405 : Index := 0#32
  let c1_406 : Index := 1#32
  let c0_407 : Index := 0#32
  let c0_i32_340 : BitVec 32 := 0#32
  let c1_i32_342 : BitVec 32 := 1#32
  let arg30 : BitVec 32 := Scf.iv c0_i32_340 c1_i32_342 k0_t2
  let c8_i32_403 : BitVec 32 := 8#32
  let v1008 : BitVec 32 := Scalar.muli arg30 c8_i32_403
  let v1009 : BitVec 32 := Scalar.addi v1008 c0_i32_404
  let v1010 : Index := Scalar.indexCast v1009
  let c0_408 : Index := 0#32
  let c0_409 : Index := 0#32
  ![0, 1, 0, v1010.toNat, 0, 0]
def k0_off7 (k0_t2 : Fin k0_t2_loop.trips) (c0_i32_404 : BitVec 32) : Fin 6 → Nat :=
  let c0_410 : Index := 0#32
  let c1_411 : Index := 1#32
  let c2_412 : Index := 2#32
  let c0_i32_340 : BitVec 32 := 0#32
  let c1_i32_342 : BitVec 32 := 1#32
  let arg30 : BitVec 32 := Scf.iv c0_i32_340 c1_i32_342 k0_t2
  let c8_i32_403 : BitVec 32 := 8#32
  let v1008 : BitVec 32 := Scalar.muli arg30 c8_i32_403
  let v1009 : BitVec 32 := Scalar.addi v1008 c0_i32_404
  let v1014 : Index := Scalar.indexCast v1009
  let c0_413 : Index := 0#32
  let c0_414 : Index := 0#32
  ![0, 1, 2, v1014.toNat, 0, 0]
def k0_off8 (k0_t2 : Fin k0_t2_loop.trips) : Fin 4 → Nat :=
  let c0_563 : Index := 0#32
  let c1_564 : Index := 1#32
  let c0_i32_340 : BitVec 32 := 0#32
  let c1_i32_342 : BitVec 32 := 1#32
  let arg30 : BitVec 32 := Scf.iv c0_i32_340 c1_i32_342 k0_t2
  let c8_i32_562 : BitVec 32 := 8#32
  let v1405 : BitVec 32 := Scalar.muli arg30 c8_i32_562
  let v1406 : Index := Scalar.indexCast v1405
  let c0_565 : Index := 0#32
  ![0, 1, v1406.toNat, 0]
def k0_off9 (k0_t2 : Fin k0_t2_loop.trips) : Fin 4 → Nat :=
  let c1_747 : Index := 1#32
  let c1_748 : Index := 1#32
  let c0_i32_340 : BitVec 32 := 0#32
  let c1_i32_342 : BitVec 32 := 1#32
  let arg30 : BitVec 32 := Scf.iv c0_i32_340 c1_i32_342 k0_t2
  let c8_i32_746 : BitVec 32 := 8#32
  let v1816 : BitVec 32 := Scalar.muli arg30 c8_i32_746
  let v1817 : Index := Scalar.indexCast v1816
  let c0_749 : Index := 0#32
  ![1, 1, v1817.toNat, 0]
def k0_off10 (k0_t2 : Fin k0_t2_loop.trips) : Fin 3 → Nat :=
  let c1_754 : Index := 1#32
  let c0_i32_340 : BitVec 32 := 0#32
  let c1_i32_342 : BitVec 32 := 1#32
  let arg30 : BitVec 32 := Scf.iv c0_i32_340 c1_i32_342 k0_t2
  let c8_i32_753 : BitVec 32 := 8#32
  let v1833 : BitVec 32 := Scalar.muli arg30 c8_i32_753
  let v1834 : Index := Scalar.indexCast v1833
  let c0_755 : Index := 0#32
  ![1, v1834.toNat, 0]
@[reducible] def k0_t3_loop : Scf.Loop 32 :=
  let c0_i32_356 : BitVec 32 := 0#32
  let c8_i32_357 : BitVec 32 := 8#32
  let v967 : BitVec 32 := Scalar.addi c0_i32_356 c8_i32_357
  let c1_i32_358 : BitVec 32 := 1#32
  ⟨c0_i32_356, v967, c1_i32_358⟩
def k0_off11 (k0_t3 : Fin k0_t3_loop.trips) (c0_i32_404 : BitVec 32) : Fin 6 → Nat :=
  let c0_405 : Index := 0#32
  let c2_406 : Index := 2#32
  let c0_407 : Index := 0#32
  let c0_i32_356 : BitVec 32 := 0#32
  let c1_i32_358 : BitVec 32 := 1#32
  let arg30 : BitVec 32 := Scf.iv c0_i32_356 c1_i32_358 k0_t3
  let c8_i32_403 : BitVec 32 := 8#32
  let v1008 : BitVec 32 := Scalar.muli arg30 c8_i32_403
  let v1009 : BitVec 32 := Scalar.addi v1008 c0_i32_404
  let v1010 : Index := Scalar.indexCast v1009
  let c0_408 : Index := 0#32
  let c0_409 : Index := 0#32
  ![0, 2, 0, v1010.toNat, 0, 0]
def k0_off12 (k0_t3 : Fin k0_t3_loop.trips) (c0_i32_404 : BitVec 32) : Fin 6 → Nat :=
  let c0_410 : Index := 0#32
  let c2_411 : Index := 2#32
  let c2_412 : Index := 2#32
  let c0_i32_356 : BitVec 32 := 0#32
  let c1_i32_358 : BitVec 32 := 1#32
  let arg30 : BitVec 32 := Scf.iv c0_i32_356 c1_i32_358 k0_t3
  let c8_i32_403 : BitVec 32 := 8#32
  let v1008 : BitVec 32 := Scalar.muli arg30 c8_i32_403
  let v1009 : BitVec 32 := Scalar.addi v1008 c0_i32_404
  let v1014 : Index := Scalar.indexCast v1009
  let c0_413 : Index := 0#32
  let c0_414 : Index := 0#32
  ![0, 2, 2, v1014.toNat, 0, 0]
def k0_off13 (k0_t3 : Fin k0_t3_loop.trips) : Fin 4 → Nat :=
  let c0_563 : Index := 0#32
  let c2_564 : Index := 2#32
  let c0_i32_356 : BitVec 32 := 0#32
  let c1_i32_358 : BitVec 32 := 1#32
  let arg30 : BitVec 32 := Scf.iv c0_i32_356 c1_i32_358 k0_t3
  let c8_i32_562 : BitVec 32 := 8#32
  let v1405 : BitVec 32 := Scalar.muli arg30 c8_i32_562
  let v1406 : Index := Scalar.indexCast v1405
  let c0_565 : Index := 0#32
  ![0, 2, v1406.toNat, 0]
def k0_off14 (k0_t3 : Fin k0_t3_loop.trips) : Fin 4 → Nat :=
  let c1_747 : Index := 1#32
  let c2_748 : Index := 2#32
  let c0_i32_356 : BitVec 32 := 0#32
  let c1_i32_358 : BitVec 32 := 1#32
  let arg30 : BitVec 32 := Scf.iv c0_i32_356 c1_i32_358 k0_t3
  let c8_i32_746 : BitVec 32 := 8#32
  let v1816 : BitVec 32 := Scalar.muli arg30 c8_i32_746
  let v1817 : Index := Scalar.indexCast v1816
  let c0_749 : Index := 0#32
  ![1, 2, v1817.toNat, 0]
def k0_off15 (k0_t3 : Fin k0_t3_loop.trips) : Fin 3 → Nat :=
  let c2_754 : Index := 2#32
  let c0_i32_356 : BitVec 32 := 0#32
  let c1_i32_358 : BitVec 32 := 1#32
  let arg30 : BitVec 32 := Scf.iv c0_i32_356 c1_i32_358 k0_t3
  let c8_i32_753 : BitVec 32 := 8#32
  let v1833 : BitVec 32 := Scalar.muli arg30 c8_i32_753
  let v1834 : Index := Scalar.indexCast v1833
  let c0_755 : Index := 0#32
  ![2, v1834.toNat, 0]
@[reducible] def k0_t4_loop : Scf.Loop 32 :=
  let c0_i32_372 : BitVec 32 := 0#32
  let c8_i32_373 : BitVec 32 := 8#32
  let v984 : BitVec 32 := Scalar.addi c0_i32_372 c8_i32_373
  let c1_i32_374 : BitVec 32 := 1#32
  ⟨c0_i32_372, v984, c1_i32_374⟩
def k0_off16 (k0_t4 : Fin k0_t4_loop.trips) (c0_i32_404 : BitVec 32) : Fin 6 → Nat :=
  let c0_405 : Index := 0#32
  let c3_406 : Index := 3#32
  let c0_407 : Index := 0#32
  let c0_i32_372 : BitVec 32 := 0#32
  let c1_i32_374 : BitVec 32 := 1#32
  let arg30 : BitVec 32 := Scf.iv c0_i32_372 c1_i32_374 k0_t4
  let c8_i32_403 : BitVec 32 := 8#32
  let v1008 : BitVec 32 := Scalar.muli arg30 c8_i32_403
  let v1009 : BitVec 32 := Scalar.addi v1008 c0_i32_404
  let v1010 : Index := Scalar.indexCast v1009
  let c0_408 : Index := 0#32
  let c0_409 : Index := 0#32
  ![0, 3, 0, v1010.toNat, 0, 0]
def k0_off17 (k0_t4 : Fin k0_t4_loop.trips) (c0_i32_404 : BitVec 32) : Fin 6 → Nat :=
  let c0_410 : Index := 0#32
  let c3_411 : Index := 3#32
  let c2_412 : Index := 2#32
  let c0_i32_372 : BitVec 32 := 0#32
  let c1_i32_374 : BitVec 32 := 1#32
  let arg30 : BitVec 32 := Scf.iv c0_i32_372 c1_i32_374 k0_t4
  let c8_i32_403 : BitVec 32 := 8#32
  let v1008 : BitVec 32 := Scalar.muli arg30 c8_i32_403
  let v1009 : BitVec 32 := Scalar.addi v1008 c0_i32_404
  let v1014 : Index := Scalar.indexCast v1009
  let c0_413 : Index := 0#32
  let c0_414 : Index := 0#32
  ![0, 3, 2, v1014.toNat, 0, 0]
def k0_off18 (k0_t4 : Fin k0_t4_loop.trips) : Fin 4 → Nat :=
  let c0_563 : Index := 0#32
  let c3_564 : Index := 3#32
  let c0_i32_372 : BitVec 32 := 0#32
  let c1_i32_374 : BitVec 32 := 1#32
  let arg30 : BitVec 32 := Scf.iv c0_i32_372 c1_i32_374 k0_t4
  let c8_i32_562 : BitVec 32 := 8#32
  let v1405 : BitVec 32 := Scalar.muli arg30 c8_i32_562
  let v1406 : Index := Scalar.indexCast v1405
  let c0_565 : Index := 0#32
  ![0, 3, v1406.toNat, 0]
def k0_off19 (k0_t4 : Fin k0_t4_loop.trips) : Fin 4 → Nat :=
  let c1_747 : Index := 1#32
  let c3_748 : Index := 3#32
  let c0_i32_372 : BitVec 32 := 0#32
  let c1_i32_374 : BitVec 32 := 1#32
  let arg30 : BitVec 32 := Scf.iv c0_i32_372 c1_i32_374 k0_t4
  let c8_i32_746 : BitVec 32 := 8#32
  let v1816 : BitVec 32 := Scalar.muli arg30 c8_i32_746
  let v1817 : Index := Scalar.indexCast v1816
  let c0_749 : Index := 0#32
  ![1, 3, v1817.toNat, 0]
def k0_off20 (k0_t4 : Fin k0_t4_loop.trips) : Fin 3 → Nat :=
  let c3_754 : Index := 3#32
  let c0_i32_372 : BitVec 32 := 0#32
  let c1_i32_374 : BitVec 32 := 1#32
  let arg30 : BitVec 32 := Scf.iv c0_i32_372 c1_i32_374 k0_t4
  let c8_i32_753 : BitVec 32 := 8#32
  let v1833 : BitVec 32 := Scalar.muli arg30 c8_i32_753
  let v1834 : Index := Scalar.indexCast v1833
  let c0_755 : Index := 0#32
  ![3, v1834.toNat, 0]
@[reducible] def k0_t5_loop : Scf.Loop 32 :=
  let c0_i32_384 : BitVec 32 := 0#32
  let c64_i32_385 : BitVec 32 := 64#32
  let v996 : BitVec 32 := Scalar.addi c0_i32_384 c64_i32_385
  let c1_i32_386 : BitVec 32 := 1#32
  ⟨c0_i32_384, v996, c1_i32_386⟩
def k0_off21 (k0_t5 : Fin k0_t5_loop.trips) : Fin 6 → Nat :=
  let c0_403 : Index := 0#32
  let c0_404 : Index := 0#32
  let c0_405 : Index := 0#32
  let c0_i32_384 : BitVec 32 := 0#32
  let c1_i32_386 : BitVec 32 := 1#32
  let arg30 : BitVec 32 := Scf.iv c0_i32_384 c1_i32_386 k0_t5
  let v1008 : Index := Scalar.indexCast arg30
  let c0_406 : Index := 0#32
  let c0_407 : Index := 0#32
  ![0, 0, 0, v1008.toNat, 0, 0]
def k0_off22 (k0_t5 : Fin k0_t5_loop.trips) : Fin 4 → Nat :=
  let c0_408 : Index := 0#32
  let c0_409 : Index := 0#32
  let c0_i32_384 : BitVec 32 := 0#32
  let c1_i32_386 : BitVec 32 := 1#32
  let arg30 : BitVec 32 := Scf.iv c0_i32_384 c1_i32_386 k0_t5
  let v1013 : Index := Scalar.indexCast arg30
  let c0_410 : Index := 0#32
  ![0, 0, v1013.toNat, 0]
def k0_off23 (k0_t5 : Fin k0_t5_loop.trips) : Fin 4 → Nat :=
  let c0_413 : Index := 0#32
  let c0_i32_384 : BitVec 32 := 0#32
  let c1_i32_386 : BitVec 32 := 1#32
  let arg30 : BitVec 32 := Scf.iv c0_i32_384 c1_i32_386 k0_t5
  let v1023 : Index := Scalar.indexCast arg30
  let c0_414 : Index := 0#32
  let c0_415 : Index := 0#32
  ![0, v1023.toNat, 0, 0]
def k0_off24 (k0_t5 : Fin k0_t5_loop.trips) : Fin 6 → Nat :=
  let c0_416 : Index := 0#32
  let c1_417 : Index := 1#32
  let c0_418 : Index := 0#32
  let c0_i32_384 : BitVec 32 := 0#32
  let c1_i32_386 : BitVec 32 := 1#32
  let arg30 : BitVec 32 := Scf.iv c0_i32_384 c1_i32_386 k0_t5
  let v1027 : Index := Scalar.indexCast arg30
  let c0_419 : Index := 0#32
  let c0_420 : Index := 0#32
  ![0, 1, 0, v1027.toNat, 0, 0]
def k0_off25 (k0_t5 : Fin k0_t5_loop.trips) : Fin 4 → Nat :=
  let c0_421 : Index := 0#32
  let c1_422 : Index := 1#32
  let c0_i32_384 : BitVec 32 := 0#32
  let c1_i32_386 : BitVec 32 := 1#32
  let arg30 : BitVec 32 := Scf.iv c0_i32_384 c1_i32_386 k0_t5
  let v1032 : Index := Scalar.indexCast arg30
  let c0_423 : Index := 0#32
  ![0, 1, v1032.toNat, 0]
def k0_off26 (k0_t5 : Fin k0_t5_loop.trips) : Fin 4 → Nat :=
  let c1_426 : Index := 1#32
  let c0_i32_384 : BitVec 32 := 0#32
  let c1_i32_386 : BitVec 32 := 1#32
  let arg30 : BitVec 32 := Scf.iv c0_i32_384 c1_i32_386 k0_t5
  let v1042 : Index := Scalar.indexCast arg30
  let c0_427 : Index := 0#32
  let c0_428 : Index := 0#32
  ![1, v1042.toNat, 0, 0]
def k0_off27 (k0_t5 : Fin k0_t5_loop.trips) : Fin 6 → Nat :=
  let c0_429 : Index := 0#32
  let c2_430 : Index := 2#32
  let c0_431 : Index := 0#32
  let c0_i32_384 : BitVec 32 := 0#32
  let c1_i32_386 : BitVec 32 := 1#32
  let arg30 : BitVec 32 := Scf.iv c0_i32_384 c1_i32_386 k0_t5
  let v1046 : Index := Scalar.indexCast arg30
  let c0_432 : Index := 0#32
  let c0_433 : Index := 0#32
  ![0, 2, 0, v1046.toNat, 0, 0]
def k0_off28 (k0_t5 : Fin k0_t5_loop.trips) : Fin 4 → Nat :=
  let c0_434 : Index := 0#32
  let c2_435 : Index := 2#32
  let c0_i32_384 : BitVec 32 := 0#32
  let c1_i32_386 : BitVec 32 := 1#32
  let arg30 : BitVec 32 := Scf.iv c0_i32_384 c1_i32_386 k0_t5
  let v1051 : Index := Scalar.indexCast arg30
  let c0_436 : Index := 0#32
  ![0, 2, v1051.toNat, 0]
def k0_off29 (k0_t5 : Fin k0_t5_loop.trips) : Fin 4 → Nat :=
  let c2_439 : Index := 2#32
  let c0_i32_384 : BitVec 32 := 0#32
  let c1_i32_386 : BitVec 32 := 1#32
  let arg30 : BitVec 32 := Scf.iv c0_i32_384 c1_i32_386 k0_t5
  let v1061 : Index := Scalar.indexCast arg30
  let c0_440 : Index := 0#32
  let c0_441 : Index := 0#32
  ![2, v1061.toNat, 0, 0]
def k0_off30 (k0_t5 : Fin k0_t5_loop.trips) : Fin 6 → Nat :=
  let c0_442 : Index := 0#32
  let c3_443 : Index := 3#32
  let c0_444 : Index := 0#32
  let c0_i32_384 : BitVec 32 := 0#32
  let c1_i32_386 : BitVec 32 := 1#32
  let arg30 : BitVec 32 := Scf.iv c0_i32_384 c1_i32_386 k0_t5
  let v1065 : Index := Scalar.indexCast arg30
  let c0_445 : Index := 0#32
  let c0_446 : Index := 0#32
  ![0, 3, 0, v1065.toNat, 0, 0]
def k0_off31 (k0_t5 : Fin k0_t5_loop.trips) : Fin 4 → Nat :=
  let c0_447 : Index := 0#32
  let c3_448 : Index := 3#32
  let c0_i32_384 : BitVec 32 := 0#32
  let c1_i32_386 : BitVec 32 := 1#32
  let arg30 : BitVec 32 := Scf.iv c0_i32_384 c1_i32_386 k0_t5
  let v1070 : Index := Scalar.indexCast arg30
  let c0_449 : Index := 0#32
  ![0, 3, v1070.toNat, 0]
def k0_off32 (k0_t5 : Fin k0_t5_loop.trips) : Fin 4 → Nat :=
  let c3_452 : Index := 3#32
  let c0_i32_384 : BitVec 32 := 0#32
  let c1_i32_386 : BitVec 32 := 1#32
  let arg30 : BitVec 32 := Scf.iv c0_i32_384 c1_i32_386 k0_t5
  let v1080 : Index := Scalar.indexCast arg30
  let c0_453 : Index := 0#32
  let c0_454 : Index := 0#32
  ![3, v1080.toNat, 0, 0]
def k0_off33 (k0_t5 : Fin k0_t5_loop.trips) : Fin 4 → Nat :=
  let c1_460 : Index := 1#32
  let c0_461 : Index := 0#32
  let c0_i32_384 : BitVec 32 := 0#32
  let c1_i32_386 : BitVec 32 := 1#32
  let arg30 : BitVec 32 := Scf.iv c0_i32_384 c1_i32_386 k0_t5
  let v1089 : Index := Scalar.indexCast arg30
  let c0_462 : Index := 0#32
  ![1, 0, v1089.toNat, 0]
def k0_off34 (k0_t5 : Fin k0_t5_loop.trips) : Fin 4 → Nat :=
  let c1_473 : Index := 1#32
  let c1_474 : Index := 1#32
  let c0_i32_384 : BitVec 32 := 0#32
  let c1_i32_386 : BitVec 32 := 1#32
  let arg30 : BitVec 32 := Scf.iv c0_i32_384 c1_i32_386 k0_t5
  let v1108 : Index := Scalar.indexCast arg30
  let c0_475 : Index := 0#32
  ![1, 1, v1108.toNat, 0]
def k0_off35 (k0_t5 : Fin k0_t5_loop.trips) : Fin 4 → Nat :=
  let c1_486 : Index := 1#32
  let c2_487 : Index := 2#32
  let c0_i32_384 : BitVec 32 := 0#32
  let c1_i32_386 : BitVec 32 := 1#32
  let arg30 : BitVec 32 := Scf.iv c0_i32_384 c1_i32_386 k0_t5
  let v1127 : Index := Scalar.indexCast arg30
  let c0_488 : Index := 0#32
  ![1, 2, v1127.toNat, 0]
def k0_off36 (k0_t5 : Fin k0_t5_loop.trips) : Fin 4 → Nat :=
  let c1_499 : Index := 1#32
  let c3_500 : Index := 3#32
  let c0_i32_384 : BitVec 32 := 0#32
  let c1_i32_386 : BitVec 32 := 1#32
  let arg30 : BitVec 32 := Scf.iv c0_i32_384 c1_i32_386 k0_t5
  let v1146 : Index := Scalar.indexCast arg30
  let c0_501 : Index := 0#32
  ![1, 3, v1146.toNat, 0]
@[reducible] def k0_t6_loop : Scf.Loop 32 :=
  let c0_i32_390 : BitVec 32 := 0#32
  let c64_i32_391 : BitVec 32 := 64#32
  let v1000 : BitVec 32 := Scalar.addi c0_i32_390 c64_i32_391
  let c1_i32_392 : BitVec 32 := 1#32
  ⟨c0_i32_390, v1000, c1_i32_392⟩
def k0_off37 (k0_t6 : Fin k0_t6_loop.trips) : Fin 4 → Nat :=
  let c0_403 : Index := 0#32
  let c0_i32_390 : BitVec 32 := 0#32
  let c1_i32_392 : BitVec 32 := 1#32
  let arg30 : BitVec 32 := Scf.iv c0_i32_390 c1_i32_392 k0_t6
  let v1008 : Index := Scalar.indexCast arg30
  let c0_404 : Index := 0#32
  let c0_405 : Index := 0#32
  ![0, v1008.toNat, 0, 0]
def k0_off38 (k0_t6 : Fin k0_t6_loop.trips) : Fin 4 → Nat :=
  let c1_406 : Index := 1#32
  let c0_i32_390 : BitVec 32 := 0#32
  let c1_i32_392 : BitVec 32 := 1#32
  let arg30 : BitVec 32 := Scf.iv c0_i32_390 c1_i32_392 k0_t6
  let v1011 : Index := Scalar.indexCast arg30
  let c0_407 : Index := 0#32
  let c0_408 : Index := 0#32
  ![1, v1011.toNat, 0, 0]
def k0_off39 (k0_t6 : Fin k0_t6_loop.trips) : Fin 4 → Nat :=
  let c2_409 : Index := 2#32
  let c0_i32_390 : BitVec 32 := 0#32
  let c1_i32_392 : BitVec 32 := 1#32
  let arg30 : BitVec 32 := Scf.iv c0_i32_390 c1_i32_392 k0_t6
  let v1014 : Index := Scalar.indexCast arg30
  let c0_410 : Index := 0#32
  let c0_411 : Index := 0#32
  ![2, v1014.toNat, 0, 0]
def k0_off40 (k0_t6 : Fin k0_t6_loop.trips) : Fin 4 → Nat :=
  let c3_412 : Index := 3#32
  let c0_i32_390 : BitVec 32 := 0#32
  let c1_i32_392 : BitVec 32 := 1#32
  let arg30 : BitVec 32 := Scf.iv c0_i32_390 c1_i32_392 k0_t6
  let v1017 : Index := Scalar.indexCast arg30
  let c0_413 : Index := 0#32
  let c0_414 : Index := 0#32
  ![3, v1017.toNat, 0, 0]
def k0_off41 (k0_t6 : Fin k0_t6_loop.trips) : Fin 3 → Nat :=
  let c0_432 : Index := 0#32
  let c0_i32_390 : BitVec 32 := 0#32
  let c1_i32_392 : BitVec 32 := 1#32
  let arg30 : BitVec 32 := Scf.iv c0_i32_390 c1_i32_392 k0_t6
  let v1064 : Index := Scalar.indexCast arg30
  let c0_433 : Index := 0#32
  ![0, v1064.toNat, 0]
def k0_off42 (k0_t6 : Fin k0_t6_loop.trips) : Fin 3 → Nat :=
  let c1_439 : Index := 1#32
  let c0_i32_390 : BitVec 32 := 0#32
  let c1_i32_392 : BitVec 32 := 1#32
  let arg30 : BitVec 32 := Scf.iv c0_i32_390 c1_i32_392 k0_t6
  let v1084 : Index := Scalar.indexCast arg30
  let c0_440 : Index := 0#32
  ![1, v1084.toNat, 0]
def k0_mult1 (k0_t6 : Fin k0_t6_loop.trips) : BitVec 32 :=
  let c0_i32_390 : BitVec 32 := 0#32
  let c1_i32_392 : BitVec 32 := 1#32
  let arg30 : BitVec 32 := Scf.iv c0_i32_390 c1_i32_392 k0_t6
  let c128_i32 : BitVec 32 := 128#32
  let v1122 : BitVec 32 := Scalar.muli arg30 c128_i32
  v1122
def k0_off43 (k0_t6 : Fin k0_t6_loop.trips) : Fin 4 → Nat :=
  let c0_449 : Index := 0#32
  let c0_450 : Index := 0#32
  let c0_451 : Index := 0#32
  let c0_i32_390 : BitVec 32 := 0#32
  let c1_i32_392 : BitVec 32 := 1#32
  let arg30 : BitVec 32 := Scf.iv c0_i32_390 c1_i32_392 k0_t6
  let c128_i32 : BitVec 32 := 128#32
  let v1122 : BitVec 32 := Scalar.muli arg30 c128_i32
  let v1123 : BitVec 32 := v1122
  let v1124 : Index := Scalar.indexCast v1123
  ![0, 0, 0, v1124.toNat]
def k0_off44 (k0_t6 : Fin k0_t6_loop.trips) : Fin 3 → Nat :=
  let c2_474 : Index := 2#32
  let c0_i32_390 : BitVec 32 := 0#32
  let c1_i32_392 : BitVec 32 := 1#32
  let arg30 : BitVec 32 := Scf.iv c0_i32_390 c1_i32_392 k0_t6
  let v1182 : Index := Scalar.indexCast arg30
  let c0_475 : Index := 0#32
  ![2, v1182.toNat, 0]
def k0_off45 (k0_t6 : Fin k0_t6_loop.trips) : Fin 3 → Nat :=
  let c3_480 : Index := 3#32
  let c0_i32_390 : BitVec 32 := 0#32
  let c1_i32_392 : BitVec 32 := 1#32
  let arg30 : BitVec 32 := Scf.iv c0_i32_390 c1_i32_392 k0_t6
  let v1202 : Index := Scalar.indexCast arg30
  let c0_481 : Index := 0#32
  ![3, v1202.toNat, 0]
def k0_mult2 (k0_t6 : Fin k0_t6_loop.trips) : BitVec 32 :=
  let c0_i32_390 : BitVec 32 := 0#32
  let c1_i32_392 : BitVec 32 := 1#32
  let arg30 : BitVec 32 := Scf.iv c0_i32_390 c1_i32_392 k0_t6
  let c128_i32_490 : BitVec 32 := 128#32
  let v1240 : BitVec 32 := Scalar.muli arg30 c128_i32_490
  v1240
def k0_off46 (k0_t6 : Fin k0_t6_loop.trips) : Fin 4 → Nat :=
  let c0_491 : Index := 0#32
  let c2_492 : Index := 2#32
  let c0_493 : Index := 0#32
  let c0_i32_390 : BitVec 32 := 0#32
  let c1_i32_392 : BitVec 32 := 1#32
  let arg30 : BitVec 32 := Scf.iv c0_i32_390 c1_i32_392 k0_t6
  let c128_i32_490 : BitVec 32 := 128#32
  let v1240 : BitVec 32 := Scalar.muli arg30 c128_i32_490
  let v1241 : BitVec 32 := v1240
  let v1242 : Index := Scalar.indexCast v1241
  ![0, 2, 0, v1242.toNat]
def k0_mult3 (k0_t6 : Fin k0_t6_loop.trips) : BitVec 32 :=
  let c0_i32_390 : BitVec 32 := 0#32
  let c1_i32_392 : BitVec 32 := 1#32
  let arg30 : BitVec 32 := Scf.iv c0_i32_390 c1_i32_392 k0_t6
  let c128_i32_499 : BitVec 32 := 128#32
  let v1263 : BitVec 32 := Scalar.muli arg30 c128_i32_499
  v1263
def k0_off47 (k0_t6 : Fin k0_t6_loop.trips) : Fin 3 → Nat :=
  let c0_500 : Index := 0#32
  let c0_i32_390 : BitVec 32 := 0#32
  let c1_i32_392 : BitVec 32 := 1#32
  let arg30 : BitVec 32 := Scf.iv c0_i32_390 c1_i32_392 k0_t6
  let c128_i32_499 : BitVec 32 := 128#32
  let v1263 : BitVec 32 := Scalar.muli arg30 c128_i32_499
  let v1264 : BitVec 32 := v1263
  let v1265 : Index := Scalar.indexCast v1264
  let c0_501 : Index := 0#32
  ![0, v1265.toNat, 0]
@[reducible] def k0_t7_loop : Scf.Loop 32 :=
  let c0_i32_396 : BitVec 32 := 0#32
  let c4_i32 : BitVec 32 := 4#32
  let v1006 : BitVec 32 := Scalar.addi c0_i32_396 c4_i32
  let c1_i32_397 : BitVec 32 := 1#32
  ⟨c0_i32_396, v1006, c1_i32_397⟩
def k0_off48 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1008 : Index := Scalar.indexCast arg30
  let c0_403 : Index := 0#32
  let c0_404 : Index := 0#32
  let c0_405 : Index := 0#32
  ![v1008.toNat, 0, 0, 0]
def k0_off49 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1018 : Index := Scalar.indexCast arg30
  let c1_410 : Index := 1#32
  let c0_411 : Index := 0#32
  let c0_412 : Index := 0#32
  ![v1018.toNat, 1, 0, 0]
def k0_off50 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1028 : Index := Scalar.indexCast arg30
  let c2_417 : Index := 2#32
  let c0_418 : Index := 0#32
  let c0_419 : Index := 0#32
  ![v1028.toNat, 2, 0, 0]
def k0_off51 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1038 : Index := Scalar.indexCast arg30
  let c3_422 : Index := 3#32
  let c0_423 : Index := 0#32
  let c0_424 : Index := 0#32
  ![v1038.toNat, 3, 0, 0]
def k0_off52 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1048 : Index := Scalar.indexCast arg30
  let c4_427 : Index := 4#32
  let c0_428 : Index := 0#32
  let c0_429 : Index := 0#32
  ![v1048.toNat, 4, 0, 0]
def k0_off53 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1058 : Index := Scalar.indexCast arg30
  let c5_433 : Index := 5#32
  let c0_434 : Index := 0#32
  let c0_435 : Index := 0#32
  ![v1058.toNat, 5, 0, 0]
def k0_off54 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1068 : Index := Scalar.indexCast arg30
  let c6_438 : Index := 6#32
  let c0_439 : Index := 0#32
  let c0_440 : Index := 0#32
  ![v1068.toNat, 6, 0, 0]
def k0_off55 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1078 : Index := Scalar.indexCast arg30
  let c7_443 : Index := 7#32
  let c0_444 : Index := 0#32
  let c0_445 : Index := 0#32
  ![v1078.toNat, 7, 0, 0]
def k0_off56 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1088 : Index := Scalar.indexCast arg30
  let c8_448 : Index := 8#32
  let c0_449 : Index := 0#32
  let c0_450 : Index := 0#32
  ![v1088.toNat, 8, 0, 0]
def k0_off57 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1098 : Index := Scalar.indexCast arg30
  let c9_454 : Index := 9#32
  let c0_455 : Index := 0#32
  let c0_456 : Index := 0#32
  ![v1098.toNat, 9, 0, 0]
def k0_off58 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1108 : Index := Scalar.indexCast arg30
  let c10_459 : Index := 10#32
  let c0_460 : Index := 0#32
  let c0_461 : Index := 0#32
  ![v1108.toNat, 10, 0, 0]
def k0_off59 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1118 : Index := Scalar.indexCast arg30
  let c11_464 : Index := 11#32
  let c0_465 : Index := 0#32
  let c0_466 : Index := 0#32
  ![v1118.toNat, 11, 0, 0]
def k0_off60 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1128 : Index := Scalar.indexCast arg30
  let c12_469 : Index := 12#32
  let c0_470 : Index := 0#32
  let c0_471 : Index := 0#32
  ![v1128.toNat, 12, 0, 0]
def k0_off61 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1138 : Index := Scalar.indexCast arg30
  let c13_475 : Index := 13#32
  let c0_476 : Index := 0#32
  let c0_477 : Index := 0#32
  ![v1138.toNat, 13, 0, 0]
def k0_off62 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1148 : Index := Scalar.indexCast arg30
  let c14_480 : Index := 14#32
  let c0_481 : Index := 0#32
  let c0_482 : Index := 0#32
  ![v1148.toNat, 14, 0, 0]
def k0_off63 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1158 : Index := Scalar.indexCast arg30
  let c15_485 : Index := 15#32
  let c0_486 : Index := 0#32
  let c0_487 : Index := 0#32
  ![v1158.toNat, 15, 0, 0]
def k0_off64 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1168 : Index := Scalar.indexCast arg30
  let c16_490 : Index := 16#32
  let c0_491 : Index := 0#32
  let c0_492 : Index := 0#32
  ![v1168.toNat, 16, 0, 0]
def k0_off65 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1178 : Index := Scalar.indexCast arg30
  let c17_496 : Index := 17#32
  let c0_497 : Index := 0#32
  let c0_498 : Index := 0#32
  ![v1178.toNat, 17, 0, 0]
def k0_off66 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1188 : Index := Scalar.indexCast arg30
  let c18_501 : Index := 18#32
  let c0_502 : Index := 0#32
  let c0_503 : Index := 0#32
  ![v1188.toNat, 18, 0, 0]
def k0_off67 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1198 : Index := Scalar.indexCast arg30
  let c19_506 : Index := 19#32
  let c0_507 : Index := 0#32
  let c0_508 : Index := 0#32
  ![v1198.toNat, 19, 0, 0]
def k0_off68 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1208 : Index := Scalar.indexCast arg30
  let c20_511 : Index := 20#32
  let c0_512 : Index := 0#32
  let c0_513 : Index := 0#32
  ![v1208.toNat, 20, 0, 0]
def k0_off69 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1218 : Index := Scalar.indexCast arg30
  let c21_517 : Index := 21#32
  let c0_518 : Index := 0#32
  let c0_519 : Index := 0#32
  ![v1218.toNat, 21, 0, 0]
def k0_off70 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1228 : Index := Scalar.indexCast arg30
  let c22_522 : Index := 22#32
  let c0_523 : Index := 0#32
  let c0_524 : Index := 0#32
  ![v1228.toNat, 22, 0, 0]
def k0_off71 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1238 : Index := Scalar.indexCast arg30
  let c23_527 : Index := 23#32
  let c0_528 : Index := 0#32
  let c0_529 : Index := 0#32
  ![v1238.toNat, 23, 0, 0]
def k0_off72 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1248 : Index := Scalar.indexCast arg30
  let c24_532 : Index := 24#32
  let c0_533 : Index := 0#32
  let c0_534 : Index := 0#32
  ![v1248.toNat, 24, 0, 0]
def k0_off73 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1258 : Index := Scalar.indexCast arg30
  let c25_538 : Index := 25#32
  let c0_539 : Index := 0#32
  let c0_540 : Index := 0#32
  ![v1258.toNat, 25, 0, 0]
def k0_off74 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1268 : Index := Scalar.indexCast arg30
  let c26_543 : Index := 26#32
  let c0_544 : Index := 0#32
  let c0_545 : Index := 0#32
  ![v1268.toNat, 26, 0, 0]
def k0_off75 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1278 : Index := Scalar.indexCast arg30
  let c27_548 : Index := 27#32
  let c0_549 : Index := 0#32
  let c0_550 : Index := 0#32
  ![v1278.toNat, 27, 0, 0]
def k0_off76 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1288 : Index := Scalar.indexCast arg30
  let c28_553 : Index := 28#32
  let c0_554 : Index := 0#32
  let c0_555 : Index := 0#32
  ![v1288.toNat, 28, 0, 0]
def k0_off77 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1298 : Index := Scalar.indexCast arg30
  let c29_559 : Index := 29#32
  let c0_560 : Index := 0#32
  let c0_561 : Index := 0#32
  ![v1298.toNat, 29, 0, 0]
def k0_off78 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1308 : Index := Scalar.indexCast arg30
  let c30_564 : Index := 30#32
  let c0_565 : Index := 0#32
  let c0_566 : Index := 0#32
  ![v1308.toNat, 30, 0, 0]
def k0_off79 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1318 : Index := Scalar.indexCast arg30
  let c31_569 : Index := 31#32
  let c0_570 : Index := 0#32
  let c0_571 : Index := 0#32
  ![v1318.toNat, 31, 0, 0]
def k0_off80 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1328 : Index := Scalar.indexCast arg30
  let c32_574 : Index := 32#32
  let c0_575 : Index := 0#32
  let c0_576 : Index := 0#32
  ![v1328.toNat, 32, 0, 0]
def k0_off81 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1338 : Index := Scalar.indexCast arg30
  let c33_579 : Index := 33#32
  let c0_580 : Index := 0#32
  let c0_581 : Index := 0#32
  ![v1338.toNat, 33, 0, 0]
def k0_off82 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1348 : Index := Scalar.indexCast arg30
  let c34_584 : Index := 34#32
  let c0_585 : Index := 0#32
  let c0_586 : Index := 0#32
  ![v1348.toNat, 34, 0, 0]
def k0_off83 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1358 : Index := Scalar.indexCast arg30
  let c35_589 : Index := 35#32
  let c0_590 : Index := 0#32
  let c0_591 : Index := 0#32
  ![v1358.toNat, 35, 0, 0]
def k0_off84 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1368 : Index := Scalar.indexCast arg30
  let c36_594 : Index := 36#32
  let c0_595 : Index := 0#32
  let c0_596 : Index := 0#32
  ![v1368.toNat, 36, 0, 0]
def k0_off85 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1378 : Index := Scalar.indexCast arg30
  let c37_599 : Index := 37#32
  let c0_600 : Index := 0#32
  let c0_601 : Index := 0#32
  ![v1378.toNat, 37, 0, 0]
def k0_off86 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1388 : Index := Scalar.indexCast arg30
  let c38_604 : Index := 38#32
  let c0_605 : Index := 0#32
  let c0_606 : Index := 0#32
  ![v1388.toNat, 38, 0, 0]
def k0_off87 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1398 : Index := Scalar.indexCast arg30
  let c39_609 : Index := 39#32
  let c0_610 : Index := 0#32
  let c0_611 : Index := 0#32
  ![v1398.toNat, 39, 0, 0]
def k0_off88 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1408 : Index := Scalar.indexCast arg30
  let c40_614 : Index := 40#32
  let c0_615 : Index := 0#32
  let c0_616 : Index := 0#32
  ![v1408.toNat, 40, 0, 0]
def k0_off89 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1418 : Index := Scalar.indexCast arg30
  let c41_619 : Index := 41#32
  let c0_620 : Index := 0#32
  let c0_621 : Index := 0#32
  ![v1418.toNat, 41, 0, 0]
def k0_off90 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1428 : Index := Scalar.indexCast arg30
  let c42_624 : Index := 42#32
  let c0_625 : Index := 0#32
  let c0_626 : Index := 0#32
  ![v1428.toNat, 42, 0, 0]
def k0_off91 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1438 : Index := Scalar.indexCast arg30
  let c43_629 : Index := 43#32
  let c0_630 : Index := 0#32
  let c0_631 : Index := 0#32
  ![v1438.toNat, 43, 0, 0]
def k0_off92 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1448 : Index := Scalar.indexCast arg30
  let c44_634 : Index := 44#32
  let c0_635 : Index := 0#32
  let c0_636 : Index := 0#32
  ![v1448.toNat, 44, 0, 0]
def k0_off93 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1458 : Index := Scalar.indexCast arg30
  let c45_639 : Index := 45#32
  let c0_640 : Index := 0#32
  let c0_641 : Index := 0#32
  ![v1458.toNat, 45, 0, 0]
def k0_off94 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1468 : Index := Scalar.indexCast arg30
  let c46_644 : Index := 46#32
  let c0_645 : Index := 0#32
  let c0_646 : Index := 0#32
  ![v1468.toNat, 46, 0, 0]
def k0_off95 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1478 : Index := Scalar.indexCast arg30
  let c47_649 : Index := 47#32
  let c0_650 : Index := 0#32
  let c0_651 : Index := 0#32
  ![v1478.toNat, 47, 0, 0]
def k0_off96 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1488 : Index := Scalar.indexCast arg30
  let c48_654 : Index := 48#32
  let c0_655 : Index := 0#32
  let c0_656 : Index := 0#32
  ![v1488.toNat, 48, 0, 0]
def k0_off97 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1498 : Index := Scalar.indexCast arg30
  let c49_659 : Index := 49#32
  let c0_660 : Index := 0#32
  let c0_661 : Index := 0#32
  ![v1498.toNat, 49, 0, 0]
def k0_off98 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1508 : Index := Scalar.indexCast arg30
  let c50_664 : Index := 50#32
  let c0_665 : Index := 0#32
  let c0_666 : Index := 0#32
  ![v1508.toNat, 50, 0, 0]
def k0_off99 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1518 : Index := Scalar.indexCast arg30
  let c51_669 : Index := 51#32
  let c0_670 : Index := 0#32
  let c0_671 : Index := 0#32
  ![v1518.toNat, 51, 0, 0]
def k0_off100 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1528 : Index := Scalar.indexCast arg30
  let c52_674 : Index := 52#32
  let c0_675 : Index := 0#32
  let c0_676 : Index := 0#32
  ![v1528.toNat, 52, 0, 0]
def k0_off101 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1538 : Index := Scalar.indexCast arg30
  let c53_679 : Index := 53#32
  let c0_680 : Index := 0#32
  let c0_681 : Index := 0#32
  ![v1538.toNat, 53, 0, 0]
def k0_off102 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1548 : Index := Scalar.indexCast arg30
  let c54_684 : Index := 54#32
  let c0_685 : Index := 0#32
  let c0_686 : Index := 0#32
  ![v1548.toNat, 54, 0, 0]
def k0_off103 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1558 : Index := Scalar.indexCast arg30
  let c55_689 : Index := 55#32
  let c0_690 : Index := 0#32
  let c0_691 : Index := 0#32
  ![v1558.toNat, 55, 0, 0]
def k0_off104 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1568 : Index := Scalar.indexCast arg30
  let c56_694 : Index := 56#32
  let c0_695 : Index := 0#32
  let c0_696 : Index := 0#32
  ![v1568.toNat, 56, 0, 0]
def k0_off105 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1578 : Index := Scalar.indexCast arg30
  let c57_699 : Index := 57#32
  let c0_700 : Index := 0#32
  let c0_701 : Index := 0#32
  ![v1578.toNat, 57, 0, 0]
def k0_off106 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1588 : Index := Scalar.indexCast arg30
  let c58_704 : Index := 58#32
  let c0_705 : Index := 0#32
  let c0_706 : Index := 0#32
  ![v1588.toNat, 58, 0, 0]
def k0_off107 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1598 : Index := Scalar.indexCast arg30
  let c59_709 : Index := 59#32
  let c0_710 : Index := 0#32
  let c0_711 : Index := 0#32
  ![v1598.toNat, 59, 0, 0]
def k0_off108 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1608 : Index := Scalar.indexCast arg30
  let c60_714 : Index := 60#32
  let c0_715 : Index := 0#32
  let c0_716 : Index := 0#32
  ![v1608.toNat, 60, 0, 0]
def k0_off109 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1618 : Index := Scalar.indexCast arg30
  let c61_719 : Index := 61#32
  let c0_720 : Index := 0#32
  let c0_721 : Index := 0#32
  ![v1618.toNat, 61, 0, 0]
def k0_off110 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1628 : Index := Scalar.indexCast arg30
  let c62_724 : Index := 62#32
  let c0_725 : Index := 0#32
  let c0_726 : Index := 0#32
  ![v1628.toNat, 62, 0, 0]
def k0_off111 (k0_t7 : Fin k0_t7_loop.trips) : Fin 4 → Nat :=
  let c0_i32_396 : BitVec 32 := 0#32
  let c1_i32_397 : BitVec 32 := 1#32
  let arg30 : BitVec 32 := Scf.iv c0_i32_396 c1_i32_397 k0_t7
  let v1638 : Index := Scalar.indexCast arg30
  let c63_729 : Index := 63#32
  let c0_730 : Index := 0#32
  let c0_731 : Index := 0#32
  ![v1638.toNat, 63, 0, 0]
def k0_off112 (k0_t7 : Fin k0_t7_loop.trips) : Fin 5 → Nat :=
  let c0_1057 : Index := 0#32
  let c0_1058 : Index := 0#32
  let c0_i32_396 : BitVec 32 := 0#32
  let c1_i32_397 : BitVec 32 := 1#32
  let arg30 : BitVec 32 := Scf.iv c0_i32_396 c1_i32_397 k0_t7
  let v2834 : Index := Scalar.indexCast arg30
  let c0_1059 : Index := 0#32
  let c0_1060 : Index := 0#32
  ![0, 0, v2834.toNat, 0, 0]
def k0_off113 (k0_t7 : Fin k0_t7_loop.trips) : Fin 5 → Nat :=
  let c0_1063 : Index := 0#32
  let c1_1064 : Index := 1#32
  let c0_i32_396 : BitVec 32 := 0#32
  let c1_i32_397 : BitVec 32 := 1#32
  let arg30 : BitVec 32 := Scf.iv c0_i32_396 c1_i32_397 k0_t7
  let v2840 : Index := Scalar.indexCast arg30
  let c0_1065 : Index := 0#32
  let c0_1066 : Index := 0#32
  ![0, 1, v2840.toNat, 0, 0]
def k0_off114 (k0_t7 : Fin k0_t7_loop.trips) : Fin 5 → Nat :=
  let c0_1069 : Index := 0#32
  let c2_1070 : Index := 2#32
  let c0_i32_396 : BitVec 32 := 0#32
  let c1_i32_397 : BitVec 32 := 1#32
  let arg30 : BitVec 32 := Scf.iv c0_i32_396 c1_i32_397 k0_t7
  let v2846 : Index := Scalar.indexCast arg30
  let c0_1071 : Index := 0#32
  let c0_1072 : Index := 0#32
  ![0, 2, v2846.toNat, 0, 0]
def k0_off115 (k0_t7 : Fin k0_t7_loop.trips) : Fin 5 → Nat :=
  let c0_1075 : Index := 0#32
  let c3_1076 : Index := 3#32
  let c0_i32_396 : BitVec 32 := 0#32
  let c1_i32_397 : BitVec 32 := 1#32
  let arg30 : BitVec 32 := Scf.iv c0_i32_396 c1_i32_397 k0_t7
  let v2852 : Index := Scalar.indexCast arg30
  let c0_1077 : Index := 0#32
  let c0_1078 : Index := 0#32
  ![0, 3, v2852.toNat, 0, 0]
def k0_off116 (k0_t7 : Fin k0_t7_loop.trips) : Fin 5 → Nat :=
  let c0_1080 : Index := 0#32
  let c4_1081 : Index := 4#32
  let c0_i32_396 : BitVec 32 := 0#32
  let c1_i32_397 : BitVec 32 := 1#32
  let arg30 : BitVec 32 := Scf.iv c0_i32_396 c1_i32_397 k0_t7
  let v2858 : Index := Scalar.indexCast arg30
  let c0_1082 : Index := 0#32
  let c0_1083 : Index := 0#32
  ![0, 4, v2858.toNat, 0, 0]
def k0_off117 (k0_t7 : Fin k0_t7_loop.trips) : Fin 5 → Nat :=
  let c0_1085 : Index := 0#32
  let c5_1086 : Index := 5#32
  let c0_i32_396 : BitVec 32 := 0#32
  let c1_i32_397 : BitVec 32 := 1#32
  let arg30 : BitVec 32 := Scf.iv c0_i32_396 c1_i32_397 k0_t7
  let v2864 : Index := Scalar.indexCast arg30
  let c0_1087 : Index := 0#32
  let c0_1088 : Index := 0#32
  ![0, 5, v2864.toNat, 0, 0]
def k0_off118 (k0_t7 : Fin k0_t7_loop.trips) : Fin 5 → Nat :=
  let c0_1090 : Index := 0#32
  let c6_1091 : Index := 6#32
  let c0_i32_396 : BitVec 32 := 0#32
  let c1_i32_397 : BitVec 32 := 1#32
  let arg30 : BitVec 32 := Scf.iv c0_i32_396 c1_i32_397 k0_t7
  let v2870 : Index := Scalar.indexCast arg30
  let c0_1092 : Index := 0#32
  let c0_1093 : Index := 0#32
  ![0, 6, v2870.toNat, 0, 0]
def k0_off119 (k0_t7 : Fin k0_t7_loop.trips) : Fin 5 → Nat :=
  let c0_1095 : Index := 0#32
  let c7_1096 : Index := 7#32
  let c0_i32_396 : BitVec 32 := 0#32
  let c1_i32_397 : BitVec 32 := 1#32
  let arg30 : BitVec 32 := Scf.iv c0_i32_396 c1_i32_397 k0_t7
  let v2876 : Index := Scalar.indexCast arg30
  let c0_1097 : Index := 0#32
  let c0_1098 : Index := 0#32
  ![0, 7, v2876.toNat, 0, 0]
def k0_off120 (k0_t7 : Fin k0_t7_loop.trips) : Fin 5 → Nat :=
  let c0_1101 : Index := 0#32
  let c8_1102 : Index := 8#32
  let c0_i32_396 : BitVec 32 := 0#32
  let c1_i32_397 : BitVec 32 := 1#32
  let arg30 : BitVec 32 := Scf.iv c0_i32_396 c1_i32_397 k0_t7
  let v2882 : Index := Scalar.indexCast arg30
  let c0_1103 : Index := 0#32
  let c0_1104 : Index := 0#32
  ![0, 8, v2882.toNat, 0, 0]
def k0_off121 (k0_t7 : Fin k0_t7_loop.trips) : Fin 5 → Nat :=
  let c0_1106 : Index := 0#32
  let c9_1107 : Index := 9#32
  let c0_i32_396 : BitVec 32 := 0#32
  let c1_i32_397 : BitVec 32 := 1#32
  let arg30 : BitVec 32 := Scf.iv c0_i32_396 c1_i32_397 k0_t7
  let v2888 : Index := Scalar.indexCast arg30
  let c0_1108 : Index := 0#32
  let c0_1109 : Index := 0#32
  ![0, 9, v2888.toNat, 0, 0]
def k0_off122 (k0_t7 : Fin k0_t7_loop.trips) : Fin 5 → Nat :=
  let c0_1111 : Index := 0#32
  let c10_1112 : Index := 10#32
  let c0_i32_396 : BitVec 32 := 0#32
  let c1_i32_397 : BitVec 32 := 1#32
  let arg30 : BitVec 32 := Scf.iv c0_i32_396 c1_i32_397 k0_t7
  let v2894 : Index := Scalar.indexCast arg30
  let c0_1113 : Index := 0#32
  let c0_1114 : Index := 0#32
  ![0, 10, v2894.toNat, 0, 0]
def k0_off123 (k0_t7 : Fin k0_t7_loop.trips) : Fin 5 → Nat :=
  let c0_1116 : Index := 0#32
  let c11_1117 : Index := 11#32
  let c0_i32_396 : BitVec 32 := 0#32
  let c1_i32_397 : BitVec 32 := 1#32
  let arg30 : BitVec 32 := Scf.iv c0_i32_396 c1_i32_397 k0_t7
  let v2900 : Index := Scalar.indexCast arg30
  let c0_1118 : Index := 0#32
  let c0_1119 : Index := 0#32
  ![0, 11, v2900.toNat, 0, 0]
def k0_off124 (k0_t7 : Fin k0_t7_loop.trips) : Fin 5 → Nat :=
  let c0_1121 : Index := 0#32
  let c12_1122 : Index := 12#32
  let c0_i32_396 : BitVec 32 := 0#32
  let c1_i32_397 : BitVec 32 := 1#32
  let arg30 : BitVec 32 := Scf.iv c0_i32_396 c1_i32_397 k0_t7
  let v2906 : Index := Scalar.indexCast arg30
  let c0_1123 : Index := 0#32
  let c0_1124 : Index := 0#32
  ![0, 12, v2906.toNat, 0, 0]
def k0_off125 (k0_t7 : Fin k0_t7_loop.trips) : Fin 5 → Nat :=
  let c0_1126 : Index := 0#32
  let c13_1127 : Index := 13#32
  let c0_i32_396 : BitVec 32 := 0#32
  let c1_i32_397 : BitVec 32 := 1#32
  let arg30 : BitVec 32 := Scf.iv c0_i32_396 c1_i32_397 k0_t7
  let v2912 : Index := Scalar.indexCast arg30
  let c0_1128 : Index := 0#32
  let c0_1129 : Index := 0#32
  ![0, 13, v2912.toNat, 0, 0]
def k0_off126 (k0_t7 : Fin k0_t7_loop.trips) : Fin 5 → Nat :=
  let c0_1131 : Index := 0#32
  let c14_1132 : Index := 14#32
  let c0_i32_396 : BitVec 32 := 0#32
  let c1_i32_397 : BitVec 32 := 1#32
  let arg30 : BitVec 32 := Scf.iv c0_i32_396 c1_i32_397 k0_t7
  let v2918 : Index := Scalar.indexCast arg30
  let c0_1133 : Index := 0#32
  let c0_1134 : Index := 0#32
  ![0, 14, v2918.toNat, 0, 0]
def k0_off127 (k0_t7 : Fin k0_t7_loop.trips) : Fin 5 → Nat :=
  let c0_1136 : Index := 0#32
  let c15_1137 : Index := 15#32
  let c0_i32_396 : BitVec 32 := 0#32
  let c1_i32_397 : BitVec 32 := 1#32
  let arg30 : BitVec 32 := Scf.iv c0_i32_396 c1_i32_397 k0_t7
  let v2924 : Index := Scalar.indexCast arg30
  let c0_1138 : Index := 0#32
  let c0_1139 : Index := 0#32
  ![0, 15, v2924.toNat, 0, 0]
def k0_off128 (k0_t7 : Fin k0_t7_loop.trips) : Fin 5 → Nat :=
  let c0_1142 : Index := 0#32
  let c16_1143 : Index := 16#32
  let c0_i32_396 : BitVec 32 := 0#32
  let c1_i32_397 : BitVec 32 := 1#32
  let arg30 : BitVec 32 := Scf.iv c0_i32_396 c1_i32_397 k0_t7
  let v2930 : Index := Scalar.indexCast arg30
  let c0_1144 : Index := 0#32
  let c0_1145 : Index := 0#32
  ![0, 16, v2930.toNat, 0, 0]
def k0_off129 (k0_t7 : Fin k0_t7_loop.trips) : Fin 5 → Nat :=
  let c0_1147 : Index := 0#32
  let c17_1148 : Index := 17#32
  let c0_i32_396 : BitVec 32 := 0#32
  let c1_i32_397 : BitVec 32 := 1#32
  let arg30 : BitVec 32 := Scf.iv c0_i32_396 c1_i32_397 k0_t7
  let v2936 : Index := Scalar.indexCast arg30
  let c0_1149 : Index := 0#32
  let c0_1150 : Index := 0#32
  ![0, 17, v2936.toNat, 0, 0]
def k0_off130 (k0_t7 : Fin k0_t7_loop.trips) : Fin 5 → Nat :=
  let c0_1152 : Index := 0#32
  let c18_1153 : Index := 18#32
  let c0_i32_396 : BitVec 32 := 0#32
  let c1_i32_397 : BitVec 32 := 1#32
  let arg30 : BitVec 32 := Scf.iv c0_i32_396 c1_i32_397 k0_t7
  let v2942 : Index := Scalar.indexCast arg30
  let c0_1154 : Index := 0#32
  let c0_1155 : Index := 0#32
  ![0, 18, v2942.toNat, 0, 0]
def k0_off131 (k0_t7 : Fin k0_t7_loop.trips) : Fin 5 → Nat :=
  let c0_1157 : Index := 0#32
  let c19_1158 : Index := 19#32
  let c0_i32_396 : BitVec 32 := 0#32
  let c1_i32_397 : BitVec 32 := 1#32
  let arg30 : BitVec 32 := Scf.iv c0_i32_396 c1_i32_397 k0_t7
  let v2948 : Index := Scalar.indexCast arg30
  let c0_1159 : Index := 0#32
  let c0_1160 : Index := 0#32
  ![0, 19, v2948.toNat, 0, 0]
def k0_off132 (k0_t7 : Fin k0_t7_loop.trips) : Fin 5 → Nat :=
  let c0_1162 : Index := 0#32
  let c20_1163 : Index := 20#32
  let c0_i32_396 : BitVec 32 := 0#32
  let c1_i32_397 : BitVec 32 := 1#32
  let arg30 : BitVec 32 := Scf.iv c0_i32_396 c1_i32_397 k0_t7
  let v2954 : Index := Scalar.indexCast arg30
  let c0_1164 : Index := 0#32
  let c0_1165 : Index := 0#32
  ![0, 20, v2954.toNat, 0, 0]
def k0_off133 (k0_t7 : Fin k0_t7_loop.trips) : Fin 5 → Nat :=
  let c0_1167 : Index := 0#32
  let c21_1168 : Index := 21#32
  let c0_i32_396 : BitVec 32 := 0#32
  let c1_i32_397 : BitVec 32 := 1#32
  let arg30 : BitVec 32 := Scf.iv c0_i32_396 c1_i32_397 k0_t7
  let v2960 : Index := Scalar.indexCast arg30
  let c0_1169 : Index := 0#32
  let c0_1170 : Index := 0#32
  ![0, 21, v2960.toNat, 0, 0]
def k0_off134 (k0_t7 : Fin k0_t7_loop.trips) : Fin 5 → Nat :=
  let c0_1172 : Index := 0#32
  let c22_1173 : Index := 22#32
  let c0_i32_396 : BitVec 32 := 0#32
  let c1_i32_397 : BitVec 32 := 1#32
  let arg30 : BitVec 32 := Scf.iv c0_i32_396 c1_i32_397 k0_t7
  let v2966 : Index := Scalar.indexCast arg30
  let c0_1174 : Index := 0#32
  let c0_1175 : Index := 0#32
  ![0, 22, v2966.toNat, 0, 0]
def k0_off135 (k0_t7 : Fin k0_t7_loop.trips) : Fin 5 → Nat :=
  let c0_1177 : Index := 0#32
  let c23_1178 : Index := 23#32
  let c0_i32_396 : BitVec 32 := 0#32
  let c1_i32_397 : BitVec 32 := 1#32
  let arg30 : BitVec 32 := Scf.iv c0_i32_396 c1_i32_397 k0_t7
  let v2972 : Index := Scalar.indexCast arg30
  let c0_1179 : Index := 0#32
  let c0_1180 : Index := 0#32
  ![0, 23, v2972.toNat, 0, 0]
def k0_off136 (k0_t7 : Fin k0_t7_loop.trips) : Fin 5 → Nat :=
  let c0_1183 : Index := 0#32
  let c24_1184 : Index := 24#32
  let c0_i32_396 : BitVec 32 := 0#32
  let c1_i32_397 : BitVec 32 := 1#32
  let arg30 : BitVec 32 := Scf.iv c0_i32_396 c1_i32_397 k0_t7
  let v2978 : Index := Scalar.indexCast arg30
  let c0_1185 : Index := 0#32
  let c0_1186 : Index := 0#32
  ![0, 24, v2978.toNat, 0, 0]
def k0_off137 (k0_t7 : Fin k0_t7_loop.trips) : Fin 5 → Nat :=
  let c0_1188 : Index := 0#32
  let c25_1189 : Index := 25#32
  let c0_i32_396 : BitVec 32 := 0#32
  let c1_i32_397 : BitVec 32 := 1#32
  let arg30 : BitVec 32 := Scf.iv c0_i32_396 c1_i32_397 k0_t7
  let v2984 : Index := Scalar.indexCast arg30
  let c0_1190 : Index := 0#32
  let c0_1191 : Index := 0#32
  ![0, 25, v2984.toNat, 0, 0]
def k0_off138 (k0_t7 : Fin k0_t7_loop.trips) : Fin 5 → Nat :=
  let c0_1193 : Index := 0#32
  let c26_1194 : Index := 26#32
  let c0_i32_396 : BitVec 32 := 0#32
  let c1_i32_397 : BitVec 32 := 1#32
  let arg30 : BitVec 32 := Scf.iv c0_i32_396 c1_i32_397 k0_t7
  let v2990 : Index := Scalar.indexCast arg30
  let c0_1195 : Index := 0#32
  let c0_1196 : Index := 0#32
  ![0, 26, v2990.toNat, 0, 0]
def k0_off139 (k0_t7 : Fin k0_t7_loop.trips) : Fin 5 → Nat :=
  let c0_1198 : Index := 0#32
  let c27_1199 : Index := 27#32
  let c0_i32_396 : BitVec 32 := 0#32
  let c1_i32_397 : BitVec 32 := 1#32
  let arg30 : BitVec 32 := Scf.iv c0_i32_396 c1_i32_397 k0_t7
  let v2996 : Index := Scalar.indexCast arg30
  let c0_1200 : Index := 0#32
  let c0_1201 : Index := 0#32
  ![0, 27, v2996.toNat, 0, 0]
def k0_off140 (k0_t7 : Fin k0_t7_loop.trips) : Fin 5 → Nat :=
  let c0_1203 : Index := 0#32
  let c28_1204 : Index := 28#32
  let c0_i32_396 : BitVec 32 := 0#32
  let c1_i32_397 : BitVec 32 := 1#32
  let arg30 : BitVec 32 := Scf.iv c0_i32_396 c1_i32_397 k0_t7
  let v3002 : Index := Scalar.indexCast arg30
  let c0_1205 : Index := 0#32
  let c0_1206 : Index := 0#32
  ![0, 28, v3002.toNat, 0, 0]
def k0_off141 (k0_t7 : Fin k0_t7_loop.trips) : Fin 5 → Nat :=
  let c0_1208 : Index := 0#32
  let c29_1209 : Index := 29#32
  let c0_i32_396 : BitVec 32 := 0#32
  let c1_i32_397 : BitVec 32 := 1#32
  let arg30 : BitVec 32 := Scf.iv c0_i32_396 c1_i32_397 k0_t7
  let v3008 : Index := Scalar.indexCast arg30
  let c0_1210 : Index := 0#32
  let c0_1211 : Index := 0#32
  ![0, 29, v3008.toNat, 0, 0]
def k0_off142 (k0_t7 : Fin k0_t7_loop.trips) : Fin 5 → Nat :=
  let c0_1213 : Index := 0#32
  let c30_1214 : Index := 30#32
  let c0_i32_396 : BitVec 32 := 0#32
  let c1_i32_397 : BitVec 32 := 1#32
  let arg30 : BitVec 32 := Scf.iv c0_i32_396 c1_i32_397 k0_t7
  let v3014 : Index := Scalar.indexCast arg30
  let c0_1215 : Index := 0#32
  let c0_1216 : Index := 0#32
  ![0, 30, v3014.toNat, 0, 0]
def k0_off143 (k0_t7 : Fin k0_t7_loop.trips) : Fin 5 → Nat :=
  let c0_1218 : Index := 0#32
  let c31_1219 : Index := 31#32
  let c0_i32_396 : BitVec 32 := 0#32
  let c1_i32_397 : BitVec 32 := 1#32
  let arg30 : BitVec 32 := Scf.iv c0_i32_396 c1_i32_397 k0_t7
  let v3020 : Index := Scalar.indexCast arg30
  let c0_1220 : Index := 0#32
  let c0_1221 : Index := 0#32
  ![0, 31, v3020.toNat, 0, 0]
def k0_off144 (k0_t7 : Fin k0_t7_loop.trips) : Fin 5 → Nat :=
  let c0_1224 : Index := 0#32
  let c32_1225 : Index := 32#32
  let c0_i32_396 : BitVec 32 := 0#32
  let c1_i32_397 : BitVec 32 := 1#32
  let arg30 : BitVec 32 := Scf.iv c0_i32_396 c1_i32_397 k0_t7
  let v3026 : Index := Scalar.indexCast arg30
  let c0_1226 : Index := 0#32
  let c0_1227 : Index := 0#32
  ![0, 32, v3026.toNat, 0, 0]
def k0_off145 (k0_t7 : Fin k0_t7_loop.trips) : Fin 5 → Nat :=
  let c0_1229 : Index := 0#32
  let c33_1230 : Index := 33#32
  let c0_i32_396 : BitVec 32 := 0#32
  let c1_i32_397 : BitVec 32 := 1#32
  let arg30 : BitVec 32 := Scf.iv c0_i32_396 c1_i32_397 k0_t7
  let v3032 : Index := Scalar.indexCast arg30
  let c0_1231 : Index := 0#32
  let c0_1232 : Index := 0#32
  ![0, 33, v3032.toNat, 0, 0]
def k0_off146 (k0_t7 : Fin k0_t7_loop.trips) : Fin 5 → Nat :=
  let c0_1234 : Index := 0#32
  let c34_1235 : Index := 34#32
  let c0_i32_396 : BitVec 32 := 0#32
  let c1_i32_397 : BitVec 32 := 1#32
  let arg30 : BitVec 32 := Scf.iv c0_i32_396 c1_i32_397 k0_t7
  let v3038 : Index := Scalar.indexCast arg30
  let c0_1236 : Index := 0#32
  let c0_1237 : Index := 0#32
  ![0, 34, v3038.toNat, 0, 0]
def k0_off147 (k0_t7 : Fin k0_t7_loop.trips) : Fin 5 → Nat :=
  let c0_1239 : Index := 0#32
  let c35_1240 : Index := 35#32
  let c0_i32_396 : BitVec 32 := 0#32
  let c1_i32_397 : BitVec 32 := 1#32
  let arg30 : BitVec 32 := Scf.iv c0_i32_396 c1_i32_397 k0_t7
  let v3044 : Index := Scalar.indexCast arg30
  let c0_1241 : Index := 0#32
  let c0_1242 : Index := 0#32
  ![0, 35, v3044.toNat, 0, 0]
def k0_off148 (k0_t7 : Fin k0_t7_loop.trips) : Fin 5 → Nat :=
  let c0_1244 : Index := 0#32
  let c36_1245 : Index := 36#32
  let c0_i32_396 : BitVec 32 := 0#32
  let c1_i32_397 : BitVec 32 := 1#32
  let arg30 : BitVec 32 := Scf.iv c0_i32_396 c1_i32_397 k0_t7
  let v3050 : Index := Scalar.indexCast arg30
  let c0_1246 : Index := 0#32
  let c0_1247 : Index := 0#32
  ![0, 36, v3050.toNat, 0, 0]
def k0_off149 (k0_t7 : Fin k0_t7_loop.trips) : Fin 5 → Nat :=
  let c0_1249 : Index := 0#32
  let c37_1250 : Index := 37#32
  let c0_i32_396 : BitVec 32 := 0#32
  let c1_i32_397 : BitVec 32 := 1#32
  let arg30 : BitVec 32 := Scf.iv c0_i32_396 c1_i32_397 k0_t7
  let v3056 : Index := Scalar.indexCast arg30
  let c0_1251 : Index := 0#32
  let c0_1252 : Index := 0#32
  ![0, 37, v3056.toNat, 0, 0]
def k0_off150 (k0_t7 : Fin k0_t7_loop.trips) : Fin 5 → Nat :=
  let c0_1254 : Index := 0#32
  let c38_1255 : Index := 38#32
  let c0_i32_396 : BitVec 32 := 0#32
  let c1_i32_397 : BitVec 32 := 1#32
  let arg30 : BitVec 32 := Scf.iv c0_i32_396 c1_i32_397 k0_t7
  let v3062 : Index := Scalar.indexCast arg30
  let c0_1256 : Index := 0#32
  let c0_1257 : Index := 0#32
  ![0, 38, v3062.toNat, 0, 0]
def k0_off151 (k0_t7 : Fin k0_t7_loop.trips) : Fin 5 → Nat :=
  let c0_1259 : Index := 0#32
  let c39_1260 : Index := 39#32
  let c0_i32_396 : BitVec 32 := 0#32
  let c1_i32_397 : BitVec 32 := 1#32
  let arg30 : BitVec 32 := Scf.iv c0_i32_396 c1_i32_397 k0_t7
  let v3068 : Index := Scalar.indexCast arg30
  let c0_1261 : Index := 0#32
  let c0_1262 : Index := 0#32
  ![0, 39, v3068.toNat, 0, 0]
def k0_off152 (k0_t7 : Fin k0_t7_loop.trips) : Fin 5 → Nat :=
  let c0_1265 : Index := 0#32
  let c40_1266 : Index := 40#32
  let c0_i32_396 : BitVec 32 := 0#32
  let c1_i32_397 : BitVec 32 := 1#32
  let arg30 : BitVec 32 := Scf.iv c0_i32_396 c1_i32_397 k0_t7
  let v3074 : Index := Scalar.indexCast arg30
  let c0_1267 : Index := 0#32
  let c0_1268 : Index := 0#32
  ![0, 40, v3074.toNat, 0, 0]
def k0_off153 (k0_t7 : Fin k0_t7_loop.trips) : Fin 5 → Nat :=
  let c0_1270 : Index := 0#32
  let c41_1271 : Index := 41#32
  let c0_i32_396 : BitVec 32 := 0#32
  let c1_i32_397 : BitVec 32 := 1#32
  let arg30 : BitVec 32 := Scf.iv c0_i32_396 c1_i32_397 k0_t7
  let v3080 : Index := Scalar.indexCast arg30
  let c0_1272 : Index := 0#32
  let c0_1273 : Index := 0#32
  ![0, 41, v3080.toNat, 0, 0]
def k0_off154 (k0_t7 : Fin k0_t7_loop.trips) : Fin 5 → Nat :=
  let c0_1275 : Index := 0#32
  let c42_1276 : Index := 42#32
  let c0_i32_396 : BitVec 32 := 0#32
  let c1_i32_397 : BitVec 32 := 1#32
  let arg30 : BitVec 32 := Scf.iv c0_i32_396 c1_i32_397 k0_t7
  let v3086 : Index := Scalar.indexCast arg30
  let c0_1277 : Index := 0#32
  let c0_1278 : Index := 0#32
  ![0, 42, v3086.toNat, 0, 0]
def k0_off155 (k0_t7 : Fin k0_t7_loop.trips) : Fin 5 → Nat :=
  let c0_1281 : Index := 0#32
  let c43_1282 : Index := 43#32
  let c0_i32_396 : BitVec 32 := 0#32
  let c1_i32_397 : BitVec 32 := 1#32
  let arg30 : BitVec 32 := Scf.iv c0_i32_396 c1_i32_397 k0_t7
  let v3092 : Index := Scalar.indexCast arg30
  let c0_1283 : Index := 0#32
  let c0_1284 : Index := 0#32
  ![0, 43, v3092.toNat, 0, 0]
def k0_off156 (k0_t7 : Fin k0_t7_loop.trips) : Fin 5 → Nat :=
  let c0_1286 : Index := 0#32
  let c44_1287 : Index := 44#32
  let c0_i32_396 : BitVec 32 := 0#32
  let c1_i32_397 : BitVec 32 := 1#32
  let arg30 : BitVec 32 := Scf.iv c0_i32_396 c1_i32_397 k0_t7
  let v3098 : Index := Scalar.indexCast arg30
  let c0_1288 : Index := 0#32
  let c0_1289 : Index := 0#32
  ![0, 44, v3098.toNat, 0, 0]
def k0_off157 (k0_t7 : Fin k0_t7_loop.trips) : Fin 5 → Nat :=
  let c0_1291 : Index := 0#32
  let c45_1292 : Index := 45#32
  let c0_i32_396 : BitVec 32 := 0#32
  let c1_i32_397 : BitVec 32 := 1#32
  let arg30 : BitVec 32 := Scf.iv c0_i32_396 c1_i32_397 k0_t7
  let v3104 : Index := Scalar.indexCast arg30
  let c0_1293 : Index := 0#32
  let c0_1294 : Index := 0#32
  ![0, 45, v3104.toNat, 0, 0]
def k0_off158 (k0_t7 : Fin k0_t7_loop.trips) : Fin 5 → Nat :=
  let c0_1296 : Index := 0#32
  let c46_1297 : Index := 46#32
  let c0_i32_396 : BitVec 32 := 0#32
  let c1_i32_397 : BitVec 32 := 1#32
  let arg30 : BitVec 32 := Scf.iv c0_i32_396 c1_i32_397 k0_t7
  let v3110 : Index := Scalar.indexCast arg30
  let c0_1298 : Index := 0#32
  let c0_1299 : Index := 0#32
  ![0, 46, v3110.toNat, 0, 0]
def k0_off159 (k0_t7 : Fin k0_t7_loop.trips) : Fin 5 → Nat :=
  let c0_1301 : Index := 0#32
  let c47_1302 : Index := 47#32
  let c0_i32_396 : BitVec 32 := 0#32
  let c1_i32_397 : BitVec 32 := 1#32
  let arg30 : BitVec 32 := Scf.iv c0_i32_396 c1_i32_397 k0_t7
  let v3116 : Index := Scalar.indexCast arg30
  let c0_1303 : Index := 0#32
  let c0_1304 : Index := 0#32
  ![0, 47, v3116.toNat, 0, 0]
def k0_off160 (k0_t7 : Fin k0_t7_loop.trips) : Fin 5 → Nat :=
  let c0_1307 : Index := 0#32
  let c48_1308 : Index := 48#32
  let c0_i32_396 : BitVec 32 := 0#32
  let c1_i32_397 : BitVec 32 := 1#32
  let arg30 : BitVec 32 := Scf.iv c0_i32_396 c1_i32_397 k0_t7
  let v3122 : Index := Scalar.indexCast arg30
  let c0_1309 : Index := 0#32
  let c0_1310 : Index := 0#32
  ![0, 48, v3122.toNat, 0, 0]
def k0_off161 (k0_t7 : Fin k0_t7_loop.trips) : Fin 5 → Nat :=
  let c0_1312 : Index := 0#32
  let c49_1313 : Index := 49#32
  let c0_i32_396 : BitVec 32 := 0#32
  let c1_i32_397 : BitVec 32 := 1#32
  let arg30 : BitVec 32 := Scf.iv c0_i32_396 c1_i32_397 k0_t7
  let v3128 : Index := Scalar.indexCast arg30
  let c0_1314 : Index := 0#32
  let c0_1315 : Index := 0#32
  ![0, 49, v3128.toNat, 0, 0]
def k0_off162 (k0_t7 : Fin k0_t7_loop.trips) : Fin 5 → Nat :=
  let c0_1317 : Index := 0#32
  let c50_1318 : Index := 50#32
  let c0_i32_396 : BitVec 32 := 0#32
  let c1_i32_397 : BitVec 32 := 1#32
  let arg30 : BitVec 32 := Scf.iv c0_i32_396 c1_i32_397 k0_t7
  let v3134 : Index := Scalar.indexCast arg30
  let c0_1319 : Index := 0#32
  let c0_1320 : Index := 0#32
  ![0, 50, v3134.toNat, 0, 0]
def k0_off163 (k0_t7 : Fin k0_t7_loop.trips) : Fin 5 → Nat :=
  let c0_1322 : Index := 0#32
  let c51_1323 : Index := 51#32
  let c0_i32_396 : BitVec 32 := 0#32
  let c1_i32_397 : BitVec 32 := 1#32
  let arg30 : BitVec 32 := Scf.iv c0_i32_396 c1_i32_397 k0_t7
  let v3140 : Index := Scalar.indexCast arg30
  let c0_1324 : Index := 0#32
  let c0_1325 : Index := 0#32
  ![0, 51, v3140.toNat, 0, 0]
def k0_off164 (k0_t7 : Fin k0_t7_loop.trips) : Fin 5 → Nat :=
  let c0_1327 : Index := 0#32
  let c52_1328 : Index := 52#32
  let c0_i32_396 : BitVec 32 := 0#32
  let c1_i32_397 : BitVec 32 := 1#32
  let arg30 : BitVec 32 := Scf.iv c0_i32_396 c1_i32_397 k0_t7
  let v3146 : Index := Scalar.indexCast arg30
  let c0_1329 : Index := 0#32
  let c0_1330 : Index := 0#32
  ![0, 52, v3146.toNat, 0, 0]
def k0_off165 (k0_t7 : Fin k0_t7_loop.trips) : Fin 5 → Nat :=
  let c0_1332 : Index := 0#32
  let c53_1333 : Index := 53#32
  let c0_i32_396 : BitVec 32 := 0#32
  let c1_i32_397 : BitVec 32 := 1#32
  let arg30 : BitVec 32 := Scf.iv c0_i32_396 c1_i32_397 k0_t7
  let v3152 : Index := Scalar.indexCast arg30
  let c0_1334 : Index := 0#32
  let c0_1335 : Index := 0#32
  ![0, 53, v3152.toNat, 0, 0]
def k0_off166 (k0_t7 : Fin k0_t7_loop.trips) : Fin 5 → Nat :=
  let c0_1337 : Index := 0#32
  let c54_1338 : Index := 54#32
  let c0_i32_396 : BitVec 32 := 0#32
  let c1_i32_397 : BitVec 32 := 1#32
  let arg30 : BitVec 32 := Scf.iv c0_i32_396 c1_i32_397 k0_t7
  let v3158 : Index := Scalar.indexCast arg30
  let c0_1339 : Index := 0#32
  let c0_1340 : Index := 0#32
  ![0, 54, v3158.toNat, 0, 0]
def k0_off167 (k0_t7 : Fin k0_t7_loop.trips) : Fin 5 → Nat :=
  let c0_1342 : Index := 0#32
  let c55_1343 : Index := 55#32
  let c0_i32_396 : BitVec 32 := 0#32
  let c1_i32_397 : BitVec 32 := 1#32
  let arg30 : BitVec 32 := Scf.iv c0_i32_396 c1_i32_397 k0_t7
  let v3164 : Index := Scalar.indexCast arg30
  let c0_1344 : Index := 0#32
  let c0_1345 : Index := 0#32
  ![0, 55, v3164.toNat, 0, 0]
def k0_off168 (k0_t7 : Fin k0_t7_loop.trips) : Fin 5 → Nat :=
  let c0_1348 : Index := 0#32
  let c56_1349 : Index := 56#32
  let c0_i32_396 : BitVec 32 := 0#32
  let c1_i32_397 : BitVec 32 := 1#32
  let arg30 : BitVec 32 := Scf.iv c0_i32_396 c1_i32_397 k0_t7
  let v3170 : Index := Scalar.indexCast arg30
  let c0_1350 : Index := 0#32
  let c0_1351 : Index := 0#32
  ![0, 56, v3170.toNat, 0, 0]
def k0_off169 (k0_t7 : Fin k0_t7_loop.trips) : Fin 5 → Nat :=
  let c0_1353 : Index := 0#32
  let c57_1354 : Index := 57#32
  let c0_i32_396 : BitVec 32 := 0#32
  let c1_i32_397 : BitVec 32 := 1#32
  let arg30 : BitVec 32 := Scf.iv c0_i32_396 c1_i32_397 k0_t7
  let v3176 : Index := Scalar.indexCast arg30
  let c0_1355 : Index := 0#32
  let c0_1356 : Index := 0#32
  ![0, 57, v3176.toNat, 0, 0]
def k0_off170 (k0_t7 : Fin k0_t7_loop.trips) : Fin 5 → Nat :=
  let c0_1358 : Index := 0#32
  let c58_1359 : Index := 58#32
  let c0_i32_396 : BitVec 32 := 0#32
  let c1_i32_397 : BitVec 32 := 1#32
  let arg30 : BitVec 32 := Scf.iv c0_i32_396 c1_i32_397 k0_t7
  let v3182 : Index := Scalar.indexCast arg30
  let c0_1360 : Index := 0#32
  let c0_1361 : Index := 0#32
  ![0, 58, v3182.toNat, 0, 0]
def k0_off171 (k0_t7 : Fin k0_t7_loop.trips) : Fin 5 → Nat :=
  let c0_1363 : Index := 0#32
  let c59_1364 : Index := 59#32
  let c0_i32_396 : BitVec 32 := 0#32
  let c1_i32_397 : BitVec 32 := 1#32
  let arg30 : BitVec 32 := Scf.iv c0_i32_396 c1_i32_397 k0_t7
  let v3188 : Index := Scalar.indexCast arg30
  let c0_1365 : Index := 0#32
  let c0_1366 : Index := 0#32
  ![0, 59, v3188.toNat, 0, 0]
def k0_off172 (k0_t7 : Fin k0_t7_loop.trips) : Fin 5 → Nat :=
  let c0_1368 : Index := 0#32
  let c60_1369 : Index := 60#32
  let c0_i32_396 : BitVec 32 := 0#32
  let c1_i32_397 : BitVec 32 := 1#32
  let arg30 : BitVec 32 := Scf.iv c0_i32_396 c1_i32_397 k0_t7
  let v3194 : Index := Scalar.indexCast arg30
  let c0_1370 : Index := 0#32
  let c0_1371 : Index := 0#32
  ![0, 60, v3194.toNat, 0, 0]
def k0_off173 (k0_t7 : Fin k0_t7_loop.trips) : Fin 5 → Nat :=
  let c0_1373 : Index := 0#32
  let c61_1374 : Index := 61#32
  let c0_i32_396 : BitVec 32 := 0#32
  let c1_i32_397 : BitVec 32 := 1#32
  let arg30 : BitVec 32 := Scf.iv c0_i32_396 c1_i32_397 k0_t7
  let v3200 : Index := Scalar.indexCast arg30
  let c0_1375 : Index := 0#32
  let c0_1376 : Index := 0#32
  ![0, 61, v3200.toNat, 0, 0]
def k0_off174 (k0_t7 : Fin k0_t7_loop.trips) : Fin 5 → Nat :=
  let c0_1378 : Index := 0#32
  let c62_1379 : Index := 62#32
  let c0_i32_396 : BitVec 32 := 0#32
  let c1_i32_397 : BitVec 32 := 1#32
  let arg30 : BitVec 32 := Scf.iv c0_i32_396 c1_i32_397 k0_t7
  let v3206 : Index := Scalar.indexCast arg30
  let c0_1380 : Index := 0#32
  let c0_1381 : Index := 0#32
  ![0, 62, v3206.toNat, 0, 0]
def k0_off175 (k0_t7 : Fin k0_t7_loop.trips) : Fin 5 → Nat :=
  let c0_1383 : Index := 0#32
  let c63_1384 : Index := 63#32
  let c0_i32_396 : BitVec 32 := 0#32
  let c1_i32_397 : BitVec 32 := 1#32
  let arg30 : BitVec 32 := Scf.iv c0_i32_396 c1_i32_397 k0_t7
  let v3212 : Index := Scalar.indexCast arg30
  let c0_1385 : Index := 0#32
  let c0_1386 : Index := 0#32
  ![0, 63, v3212.toNat, 0, 0]
@[reducible] def k0_t8_loop : Scf.Loop 32 :=
  let c0_i32_399 : BitVec 32 := 0#32
  let c4_i32_400 : BitVec 32 := 4#32
  let v1007 : BitVec 32 := Scalar.addi c0_i32_399 c4_i32_400
  let c1_i32_401 : BitVec 32 := 1#32
  ⟨c0_i32_399, v1007, c1_i32_401⟩
def k0_off176 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1008 : Index := Scalar.indexCast arg30
  let c0_403 : Index := 0#32
  let c0_404 : Index := 0#32
  let c0_405 : Index := 0#32
  ![v1008.toNat, 0, 0, 0]
def k0_off177 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1018 : Index := Scalar.indexCast arg30
  let c1_410 : Index := 1#32
  let c0_411 : Index := 0#32
  let c0_412 : Index := 0#32
  ![v1018.toNat, 1, 0, 0]
def k0_off178 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1028 : Index := Scalar.indexCast arg30
  let c2_417 : Index := 2#32
  let c0_418 : Index := 0#32
  let c0_419 : Index := 0#32
  ![v1028.toNat, 2, 0, 0]
def k0_off179 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1038 : Index := Scalar.indexCast arg30
  let c3_422 : Index := 3#32
  let c0_423 : Index := 0#32
  let c0_424 : Index := 0#32
  ![v1038.toNat, 3, 0, 0]
def k0_off180 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1048 : Index := Scalar.indexCast arg30
  let c4_427 : Index := 4#32
  let c0_428 : Index := 0#32
  let c0_429 : Index := 0#32
  ![v1048.toNat, 4, 0, 0]
def k0_off181 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1058 : Index := Scalar.indexCast arg30
  let c5_433 : Index := 5#32
  let c0_434 : Index := 0#32
  let c0_435 : Index := 0#32
  ![v1058.toNat, 5, 0, 0]
def k0_off182 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1068 : Index := Scalar.indexCast arg30
  let c6_438 : Index := 6#32
  let c0_439 : Index := 0#32
  let c0_440 : Index := 0#32
  ![v1068.toNat, 6, 0, 0]
def k0_off183 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1078 : Index := Scalar.indexCast arg30
  let c7_443 : Index := 7#32
  let c0_444 : Index := 0#32
  let c0_445 : Index := 0#32
  ![v1078.toNat, 7, 0, 0]
def k0_off184 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1088 : Index := Scalar.indexCast arg30
  let c8_448 : Index := 8#32
  let c0_449 : Index := 0#32
  let c0_450 : Index := 0#32
  ![v1088.toNat, 8, 0, 0]
def k0_off185 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1098 : Index := Scalar.indexCast arg30
  let c9_454 : Index := 9#32
  let c0_455 : Index := 0#32
  let c0_456 : Index := 0#32
  ![v1098.toNat, 9, 0, 0]
def k0_off186 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1108 : Index := Scalar.indexCast arg30
  let c10_459 : Index := 10#32
  let c0_460 : Index := 0#32
  let c0_461 : Index := 0#32
  ![v1108.toNat, 10, 0, 0]
def k0_off187 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1118 : Index := Scalar.indexCast arg30
  let c11_464 : Index := 11#32
  let c0_465 : Index := 0#32
  let c0_466 : Index := 0#32
  ![v1118.toNat, 11, 0, 0]
def k0_off188 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1128 : Index := Scalar.indexCast arg30
  let c12_469 : Index := 12#32
  let c0_470 : Index := 0#32
  let c0_471 : Index := 0#32
  ![v1128.toNat, 12, 0, 0]
def k0_off189 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1138 : Index := Scalar.indexCast arg30
  let c13_475 : Index := 13#32
  let c0_476 : Index := 0#32
  let c0_477 : Index := 0#32
  ![v1138.toNat, 13, 0, 0]
def k0_off190 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1148 : Index := Scalar.indexCast arg30
  let c14_480 : Index := 14#32
  let c0_481 : Index := 0#32
  let c0_482 : Index := 0#32
  ![v1148.toNat, 14, 0, 0]
def k0_off191 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1158 : Index := Scalar.indexCast arg30
  let c15_485 : Index := 15#32
  let c0_486 : Index := 0#32
  let c0_487 : Index := 0#32
  ![v1158.toNat, 15, 0, 0]
def k0_off192 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1168 : Index := Scalar.indexCast arg30
  let c16_490 : Index := 16#32
  let c0_491 : Index := 0#32
  let c0_492 : Index := 0#32
  ![v1168.toNat, 16, 0, 0]
def k0_off193 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1178 : Index := Scalar.indexCast arg30
  let c17_496 : Index := 17#32
  let c0_497 : Index := 0#32
  let c0_498 : Index := 0#32
  ![v1178.toNat, 17, 0, 0]
def k0_off194 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1188 : Index := Scalar.indexCast arg30
  let c18_501 : Index := 18#32
  let c0_502 : Index := 0#32
  let c0_503 : Index := 0#32
  ![v1188.toNat, 18, 0, 0]
def k0_off195 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1198 : Index := Scalar.indexCast arg30
  let c19_506 : Index := 19#32
  let c0_507 : Index := 0#32
  let c0_508 : Index := 0#32
  ![v1198.toNat, 19, 0, 0]
def k0_off196 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1208 : Index := Scalar.indexCast arg30
  let c20_511 : Index := 20#32
  let c0_512 : Index := 0#32
  let c0_513 : Index := 0#32
  ![v1208.toNat, 20, 0, 0]
def k0_off197 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1218 : Index := Scalar.indexCast arg30
  let c21_517 : Index := 21#32
  let c0_518 : Index := 0#32
  let c0_519 : Index := 0#32
  ![v1218.toNat, 21, 0, 0]
def k0_off198 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1228 : Index := Scalar.indexCast arg30
  let c22_522 : Index := 22#32
  let c0_523 : Index := 0#32
  let c0_524 : Index := 0#32
  ![v1228.toNat, 22, 0, 0]
def k0_off199 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1238 : Index := Scalar.indexCast arg30
  let c23_527 : Index := 23#32
  let c0_528 : Index := 0#32
  let c0_529 : Index := 0#32
  ![v1238.toNat, 23, 0, 0]
def k0_off200 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1248 : Index := Scalar.indexCast arg30
  let c24_532 : Index := 24#32
  let c0_533 : Index := 0#32
  let c0_534 : Index := 0#32
  ![v1248.toNat, 24, 0, 0]
def k0_off201 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1258 : Index := Scalar.indexCast arg30
  let c25_538 : Index := 25#32
  let c0_539 : Index := 0#32
  let c0_540 : Index := 0#32
  ![v1258.toNat, 25, 0, 0]
def k0_off202 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1268 : Index := Scalar.indexCast arg30
  let c26_543 : Index := 26#32
  let c0_544 : Index := 0#32
  let c0_545 : Index := 0#32
  ![v1268.toNat, 26, 0, 0]
def k0_off203 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1278 : Index := Scalar.indexCast arg30
  let c27_548 : Index := 27#32
  let c0_549 : Index := 0#32
  let c0_550 : Index := 0#32
  ![v1278.toNat, 27, 0, 0]
def k0_off204 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1288 : Index := Scalar.indexCast arg30
  let c28_553 : Index := 28#32
  let c0_554 : Index := 0#32
  let c0_555 : Index := 0#32
  ![v1288.toNat, 28, 0, 0]
def k0_off205 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1298 : Index := Scalar.indexCast arg30
  let c29_559 : Index := 29#32
  let c0_560 : Index := 0#32
  let c0_561 : Index := 0#32
  ![v1298.toNat, 29, 0, 0]
def k0_off206 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1308 : Index := Scalar.indexCast arg30
  let c30_564 : Index := 30#32
  let c0_565 : Index := 0#32
  let c0_566 : Index := 0#32
  ![v1308.toNat, 30, 0, 0]
def k0_off207 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1318 : Index := Scalar.indexCast arg30
  let c31_569 : Index := 31#32
  let c0_570 : Index := 0#32
  let c0_571 : Index := 0#32
  ![v1318.toNat, 31, 0, 0]
def k0_off208 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1328 : Index := Scalar.indexCast arg30
  let c32_574 : Index := 32#32
  let c0_575 : Index := 0#32
  let c0_576 : Index := 0#32
  ![v1328.toNat, 32, 0, 0]
def k0_off209 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1338 : Index := Scalar.indexCast arg30
  let c33_579 : Index := 33#32
  let c0_580 : Index := 0#32
  let c0_581 : Index := 0#32
  ![v1338.toNat, 33, 0, 0]
def k0_off210 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1348 : Index := Scalar.indexCast arg30
  let c34_584 : Index := 34#32
  let c0_585 : Index := 0#32
  let c0_586 : Index := 0#32
  ![v1348.toNat, 34, 0, 0]
def k0_off211 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1358 : Index := Scalar.indexCast arg30
  let c35_589 : Index := 35#32
  let c0_590 : Index := 0#32
  let c0_591 : Index := 0#32
  ![v1358.toNat, 35, 0, 0]
def k0_off212 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1368 : Index := Scalar.indexCast arg30
  let c36_594 : Index := 36#32
  let c0_595 : Index := 0#32
  let c0_596 : Index := 0#32
  ![v1368.toNat, 36, 0, 0]
def k0_off213 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1378 : Index := Scalar.indexCast arg30
  let c37_599 : Index := 37#32
  let c0_600 : Index := 0#32
  let c0_601 : Index := 0#32
  ![v1378.toNat, 37, 0, 0]
def k0_off214 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1388 : Index := Scalar.indexCast arg30
  let c38_604 : Index := 38#32
  let c0_605 : Index := 0#32
  let c0_606 : Index := 0#32
  ![v1388.toNat, 38, 0, 0]
def k0_off215 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1398 : Index := Scalar.indexCast arg30
  let c39_609 : Index := 39#32
  let c0_610 : Index := 0#32
  let c0_611 : Index := 0#32
  ![v1398.toNat, 39, 0, 0]
def k0_off216 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1408 : Index := Scalar.indexCast arg30
  let c40_614 : Index := 40#32
  let c0_615 : Index := 0#32
  let c0_616 : Index := 0#32
  ![v1408.toNat, 40, 0, 0]
def k0_off217 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1418 : Index := Scalar.indexCast arg30
  let c41_619 : Index := 41#32
  let c0_620 : Index := 0#32
  let c0_621 : Index := 0#32
  ![v1418.toNat, 41, 0, 0]
def k0_off218 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1428 : Index := Scalar.indexCast arg30
  let c42_624 : Index := 42#32
  let c0_625 : Index := 0#32
  let c0_626 : Index := 0#32
  ![v1428.toNat, 42, 0, 0]
def k0_off219 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1438 : Index := Scalar.indexCast arg30
  let c43_629 : Index := 43#32
  let c0_630 : Index := 0#32
  let c0_631 : Index := 0#32
  ![v1438.toNat, 43, 0, 0]
def k0_off220 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1448 : Index := Scalar.indexCast arg30
  let c44_634 : Index := 44#32
  let c0_635 : Index := 0#32
  let c0_636 : Index := 0#32
  ![v1448.toNat, 44, 0, 0]
def k0_off221 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1458 : Index := Scalar.indexCast arg30
  let c45_639 : Index := 45#32
  let c0_640 : Index := 0#32
  let c0_641 : Index := 0#32
  ![v1458.toNat, 45, 0, 0]
def k0_off222 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1468 : Index := Scalar.indexCast arg30
  let c46_644 : Index := 46#32
  let c0_645 : Index := 0#32
  let c0_646 : Index := 0#32
  ![v1468.toNat, 46, 0, 0]
def k0_off223 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1478 : Index := Scalar.indexCast arg30
  let c47_649 : Index := 47#32
  let c0_650 : Index := 0#32
  let c0_651 : Index := 0#32
  ![v1478.toNat, 47, 0, 0]
def k0_off224 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1488 : Index := Scalar.indexCast arg30
  let c48_654 : Index := 48#32
  let c0_655 : Index := 0#32
  let c0_656 : Index := 0#32
  ![v1488.toNat, 48, 0, 0]
def k0_off225 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1498 : Index := Scalar.indexCast arg30
  let c49_659 : Index := 49#32
  let c0_660 : Index := 0#32
  let c0_661 : Index := 0#32
  ![v1498.toNat, 49, 0, 0]
def k0_off226 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1508 : Index := Scalar.indexCast arg30
  let c50_664 : Index := 50#32
  let c0_665 : Index := 0#32
  let c0_666 : Index := 0#32
  ![v1508.toNat, 50, 0, 0]
def k0_off227 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1518 : Index := Scalar.indexCast arg30
  let c51_669 : Index := 51#32
  let c0_670 : Index := 0#32
  let c0_671 : Index := 0#32
  ![v1518.toNat, 51, 0, 0]
def k0_off228 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1528 : Index := Scalar.indexCast arg30
  let c52_674 : Index := 52#32
  let c0_675 : Index := 0#32
  let c0_676 : Index := 0#32
  ![v1528.toNat, 52, 0, 0]
def k0_off229 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1538 : Index := Scalar.indexCast arg30
  let c53_679 : Index := 53#32
  let c0_680 : Index := 0#32
  let c0_681 : Index := 0#32
  ![v1538.toNat, 53, 0, 0]
def k0_off230 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1548 : Index := Scalar.indexCast arg30
  let c54_684 : Index := 54#32
  let c0_685 : Index := 0#32
  let c0_686 : Index := 0#32
  ![v1548.toNat, 54, 0, 0]
def k0_off231 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1558 : Index := Scalar.indexCast arg30
  let c55_689 : Index := 55#32
  let c0_690 : Index := 0#32
  let c0_691 : Index := 0#32
  ![v1558.toNat, 55, 0, 0]
def k0_off232 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1568 : Index := Scalar.indexCast arg30
  let c56_694 : Index := 56#32
  let c0_695 : Index := 0#32
  let c0_696 : Index := 0#32
  ![v1568.toNat, 56, 0, 0]
def k0_off233 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1578 : Index := Scalar.indexCast arg30
  let c57_699 : Index := 57#32
  let c0_700 : Index := 0#32
  let c0_701 : Index := 0#32
  ![v1578.toNat, 57, 0, 0]
def k0_off234 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1588 : Index := Scalar.indexCast arg30
  let c58_704 : Index := 58#32
  let c0_705 : Index := 0#32
  let c0_706 : Index := 0#32
  ![v1588.toNat, 58, 0, 0]
def k0_off235 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1598 : Index := Scalar.indexCast arg30
  let c59_709 : Index := 59#32
  let c0_710 : Index := 0#32
  let c0_711 : Index := 0#32
  ![v1598.toNat, 59, 0, 0]
def k0_off236 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1608 : Index := Scalar.indexCast arg30
  let c60_714 : Index := 60#32
  let c0_715 : Index := 0#32
  let c0_716 : Index := 0#32
  ![v1608.toNat, 60, 0, 0]
def k0_off237 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1618 : Index := Scalar.indexCast arg30
  let c61_719 : Index := 61#32
  let c0_720 : Index := 0#32
  let c0_721 : Index := 0#32
  ![v1618.toNat, 61, 0, 0]
def k0_off238 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1628 : Index := Scalar.indexCast arg30
  let c62_724 : Index := 62#32
  let c0_725 : Index := 0#32
  let c0_726 : Index := 0#32
  ![v1628.toNat, 62, 0, 0]
def k0_off239 (k0_t8 : Fin k0_t8_loop.trips) : Fin 4 → Nat :=
  let c0_i32_399 : BitVec 32 := 0#32
  let c1_i32_401 : BitVec 32 := 1#32
  let arg30 : BitVec 32 := Scf.iv c0_i32_399 c1_i32_401 k0_t8
  let v1638 : Index := Scalar.indexCast arg30
  let c63_729 : Index := 63#32
  let c0_730 : Index := 0#32
  let c0_731 : Index := 0#32
  ![v1638.toNat, 63, 0, 0]
def k0_off240 (k0_t8 : Fin k0_t8_loop.trips) : Fin 5 → Nat :=
  let c0_1057 : Index := 0#32
  let c0_1058 : Index := 0#32
  let c0_i32_399 : BitVec 32 := 0#32
  let c1_i32_401 : BitVec 32 := 1#32
  let arg30 : BitVec 32 := Scf.iv c0_i32_399 c1_i32_401 k0_t8
  let v2834 : Index := Scalar.indexCast arg30
  let c0_1059 : Index := 0#32
  let c0_1060 : Index := 0#32
  ![0, 0, v2834.toNat, 0, 0]
def k0_off241 (k0_t8 : Fin k0_t8_loop.trips) : Fin 5 → Nat :=
  let c0_1063 : Index := 0#32
  let c1_1064 : Index := 1#32
  let c0_i32_399 : BitVec 32 := 0#32
  let c1_i32_401 : BitVec 32 := 1#32
  let arg30 : BitVec 32 := Scf.iv c0_i32_399 c1_i32_401 k0_t8
  let v2840 : Index := Scalar.indexCast arg30
  let c0_1065 : Index := 0#32
  let c0_1066 : Index := 0#32
  ![0, 1, v2840.toNat, 0, 0]
def k0_off242 (k0_t8 : Fin k0_t8_loop.trips) : Fin 5 → Nat :=
  let c0_1069 : Index := 0#32
  let c2_1070 : Index := 2#32
  let c0_i32_399 : BitVec 32 := 0#32
  let c1_i32_401 : BitVec 32 := 1#32
  let arg30 : BitVec 32 := Scf.iv c0_i32_399 c1_i32_401 k0_t8
  let v2846 : Index := Scalar.indexCast arg30
  let c0_1071 : Index := 0#32
  let c0_1072 : Index := 0#32
  ![0, 2, v2846.toNat, 0, 0]
def k0_off243 (k0_t8 : Fin k0_t8_loop.trips) : Fin 5 → Nat :=
  let c0_1075 : Index := 0#32
  let c3_1076 : Index := 3#32
  let c0_i32_399 : BitVec 32 := 0#32
  let c1_i32_401 : BitVec 32 := 1#32
  let arg30 : BitVec 32 := Scf.iv c0_i32_399 c1_i32_401 k0_t8
  let v2852 : Index := Scalar.indexCast arg30
  let c0_1077 : Index := 0#32
  let c0_1078 : Index := 0#32
  ![0, 3, v2852.toNat, 0, 0]
def k0_off244 (k0_t8 : Fin k0_t8_loop.trips) : Fin 5 → Nat :=
  let c0_1080 : Index := 0#32
  let c4_1081 : Index := 4#32
  let c0_i32_399 : BitVec 32 := 0#32
  let c1_i32_401 : BitVec 32 := 1#32
  let arg30 : BitVec 32 := Scf.iv c0_i32_399 c1_i32_401 k0_t8
  let v2858 : Index := Scalar.indexCast arg30
  let c0_1082 : Index := 0#32
  let c0_1083 : Index := 0#32
  ![0, 4, v2858.toNat, 0, 0]
def k0_off245 (k0_t8 : Fin k0_t8_loop.trips) : Fin 5 → Nat :=
  let c0_1085 : Index := 0#32
  let c5_1086 : Index := 5#32
  let c0_i32_399 : BitVec 32 := 0#32
  let c1_i32_401 : BitVec 32 := 1#32
  let arg30 : BitVec 32 := Scf.iv c0_i32_399 c1_i32_401 k0_t8
  let v2864 : Index := Scalar.indexCast arg30
  let c0_1087 : Index := 0#32
  let c0_1088 : Index := 0#32
  ![0, 5, v2864.toNat, 0, 0]
def k0_off246 (k0_t8 : Fin k0_t8_loop.trips) : Fin 5 → Nat :=
  let c0_1090 : Index := 0#32
  let c6_1091 : Index := 6#32
  let c0_i32_399 : BitVec 32 := 0#32
  let c1_i32_401 : BitVec 32 := 1#32
  let arg30 : BitVec 32 := Scf.iv c0_i32_399 c1_i32_401 k0_t8
  let v2870 : Index := Scalar.indexCast arg30
  let c0_1092 : Index := 0#32
  let c0_1093 : Index := 0#32
  ![0, 6, v2870.toNat, 0, 0]
def k0_off247 (k0_t8 : Fin k0_t8_loop.trips) : Fin 5 → Nat :=
  let c0_1095 : Index := 0#32
  let c7_1096 : Index := 7#32
  let c0_i32_399 : BitVec 32 := 0#32
  let c1_i32_401 : BitVec 32 := 1#32
  let arg30 : BitVec 32 := Scf.iv c0_i32_399 c1_i32_401 k0_t8
  let v2876 : Index := Scalar.indexCast arg30
  let c0_1097 : Index := 0#32
  let c0_1098 : Index := 0#32
  ![0, 7, v2876.toNat, 0, 0]
def k0_off248 (k0_t8 : Fin k0_t8_loop.trips) : Fin 5 → Nat :=
  let c0_1101 : Index := 0#32
  let c8_1102 : Index := 8#32
  let c0_i32_399 : BitVec 32 := 0#32
  let c1_i32_401 : BitVec 32 := 1#32
  let arg30 : BitVec 32 := Scf.iv c0_i32_399 c1_i32_401 k0_t8
  let v2882 : Index := Scalar.indexCast arg30
  let c0_1103 : Index := 0#32
  let c0_1104 : Index := 0#32
  ![0, 8, v2882.toNat, 0, 0]
def k0_off249 (k0_t8 : Fin k0_t8_loop.trips) : Fin 5 → Nat :=
  let c0_1106 : Index := 0#32
  let c9_1107 : Index := 9#32
  let c0_i32_399 : BitVec 32 := 0#32
  let c1_i32_401 : BitVec 32 := 1#32
  let arg30 : BitVec 32 := Scf.iv c0_i32_399 c1_i32_401 k0_t8
  let v2888 : Index := Scalar.indexCast arg30
  let c0_1108 : Index := 0#32
  let c0_1109 : Index := 0#32
  ![0, 9, v2888.toNat, 0, 0]
def k0_off250 (k0_t8 : Fin k0_t8_loop.trips) : Fin 5 → Nat :=
  let c0_1111 : Index := 0#32
  let c10_1112 : Index := 10#32
  let c0_i32_399 : BitVec 32 := 0#32
  let c1_i32_401 : BitVec 32 := 1#32
  let arg30 : BitVec 32 := Scf.iv c0_i32_399 c1_i32_401 k0_t8
  let v2894 : Index := Scalar.indexCast arg30
  let c0_1113 : Index := 0#32
  let c0_1114 : Index := 0#32
  ![0, 10, v2894.toNat, 0, 0]
def k0_off251 (k0_t8 : Fin k0_t8_loop.trips) : Fin 5 → Nat :=
  let c0_1116 : Index := 0#32
  let c11_1117 : Index := 11#32
  let c0_i32_399 : BitVec 32 := 0#32
  let c1_i32_401 : BitVec 32 := 1#32
  let arg30 : BitVec 32 := Scf.iv c0_i32_399 c1_i32_401 k0_t8
  let v2900 : Index := Scalar.indexCast arg30
  let c0_1118 : Index := 0#32
  let c0_1119 : Index := 0#32
  ![0, 11, v2900.toNat, 0, 0]
def k0_off252 (k0_t8 : Fin k0_t8_loop.trips) : Fin 5 → Nat :=
  let c0_1121 : Index := 0#32
  let c12_1122 : Index := 12#32
  let c0_i32_399 : BitVec 32 := 0#32
  let c1_i32_401 : BitVec 32 := 1#32
  let arg30 : BitVec 32 := Scf.iv c0_i32_399 c1_i32_401 k0_t8
  let v2906 : Index := Scalar.indexCast arg30
  let c0_1123 : Index := 0#32
  let c0_1124 : Index := 0#32
  ![0, 12, v2906.toNat, 0, 0]
def k0_off253 (k0_t8 : Fin k0_t8_loop.trips) : Fin 5 → Nat :=
  let c0_1126 : Index := 0#32
  let c13_1127 : Index := 13#32
  let c0_i32_399 : BitVec 32 := 0#32
  let c1_i32_401 : BitVec 32 := 1#32
  let arg30 : BitVec 32 := Scf.iv c0_i32_399 c1_i32_401 k0_t8
  let v2912 : Index := Scalar.indexCast arg30
  let c0_1128 : Index := 0#32
  let c0_1129 : Index := 0#32
  ![0, 13, v2912.toNat, 0, 0]
def k0_off254 (k0_t8 : Fin k0_t8_loop.trips) : Fin 5 → Nat :=
  let c0_1131 : Index := 0#32
  let c14_1132 : Index := 14#32
  let c0_i32_399 : BitVec 32 := 0#32
  let c1_i32_401 : BitVec 32 := 1#32
  let arg30 : BitVec 32 := Scf.iv c0_i32_399 c1_i32_401 k0_t8
  let v2918 : Index := Scalar.indexCast arg30
  let c0_1133 : Index := 0#32
  let c0_1134 : Index := 0#32
  ![0, 14, v2918.toNat, 0, 0]
def k0_off255 (k0_t8 : Fin k0_t8_loop.trips) : Fin 5 → Nat :=
  let c0_1136 : Index := 0#32
  let c15_1137 : Index := 15#32
  let c0_i32_399 : BitVec 32 := 0#32
  let c1_i32_401 : BitVec 32 := 1#32
  let arg30 : BitVec 32 := Scf.iv c0_i32_399 c1_i32_401 k0_t8
  let v2924 : Index := Scalar.indexCast arg30
  let c0_1138 : Index := 0#32
  let c0_1139 : Index := 0#32
  ![0, 15, v2924.toNat, 0, 0]
def k0_off256 (k0_t8 : Fin k0_t8_loop.trips) : Fin 5 → Nat :=
  let c0_1142 : Index := 0#32
  let c16_1143 : Index := 16#32
  let c0_i32_399 : BitVec 32 := 0#32
  let c1_i32_401 : BitVec 32 := 1#32
  let arg30 : BitVec 32 := Scf.iv c0_i32_399 c1_i32_401 k0_t8
  let v2930 : Index := Scalar.indexCast arg30
  let c0_1144 : Index := 0#32
  let c0_1145 : Index := 0#32
  ![0, 16, v2930.toNat, 0, 0]
def k0_off257 (k0_t8 : Fin k0_t8_loop.trips) : Fin 5 → Nat :=
  let c0_1147 : Index := 0#32
  let c17_1148 : Index := 17#32
  let c0_i32_399 : BitVec 32 := 0#32
  let c1_i32_401 : BitVec 32 := 1#32
  let arg30 : BitVec 32 := Scf.iv c0_i32_399 c1_i32_401 k0_t8
  let v2936 : Index := Scalar.indexCast arg30
  let c0_1149 : Index := 0#32
  let c0_1150 : Index := 0#32
  ![0, 17, v2936.toNat, 0, 0]
def k0_off258 (k0_t8 : Fin k0_t8_loop.trips) : Fin 5 → Nat :=
  let c0_1152 : Index := 0#32
  let c18_1153 : Index := 18#32
  let c0_i32_399 : BitVec 32 := 0#32
  let c1_i32_401 : BitVec 32 := 1#32
  let arg30 : BitVec 32 := Scf.iv c0_i32_399 c1_i32_401 k0_t8
  let v2942 : Index := Scalar.indexCast arg30
  let c0_1154 : Index := 0#32
  let c0_1155 : Index := 0#32
  ![0, 18, v2942.toNat, 0, 0]
def k0_off259 (k0_t8 : Fin k0_t8_loop.trips) : Fin 5 → Nat :=
  let c0_1157 : Index := 0#32
  let c19_1158 : Index := 19#32
  let c0_i32_399 : BitVec 32 := 0#32
  let c1_i32_401 : BitVec 32 := 1#32
  let arg30 : BitVec 32 := Scf.iv c0_i32_399 c1_i32_401 k0_t8
  let v2948 : Index := Scalar.indexCast arg30
  let c0_1159 : Index := 0#32
  let c0_1160 : Index := 0#32
  ![0, 19, v2948.toNat, 0, 0]
def k0_off260 (k0_t8 : Fin k0_t8_loop.trips) : Fin 5 → Nat :=
  let c0_1162 : Index := 0#32
  let c20_1163 : Index := 20#32
  let c0_i32_399 : BitVec 32 := 0#32
  let c1_i32_401 : BitVec 32 := 1#32
  let arg30 : BitVec 32 := Scf.iv c0_i32_399 c1_i32_401 k0_t8
  let v2954 : Index := Scalar.indexCast arg30
  let c0_1164 : Index := 0#32
  let c0_1165 : Index := 0#32
  ![0, 20, v2954.toNat, 0, 0]
def k0_off261 (k0_t8 : Fin k0_t8_loop.trips) : Fin 5 → Nat :=
  let c0_1167 : Index := 0#32
  let c21_1168 : Index := 21#32
  let c0_i32_399 : BitVec 32 := 0#32
  let c1_i32_401 : BitVec 32 := 1#32
  let arg30 : BitVec 32 := Scf.iv c0_i32_399 c1_i32_401 k0_t8
  let v2960 : Index := Scalar.indexCast arg30
  let c0_1169 : Index := 0#32
  let c0_1170 : Index := 0#32
  ![0, 21, v2960.toNat, 0, 0]
def k0_off262 (k0_t8 : Fin k0_t8_loop.trips) : Fin 5 → Nat :=
  let c0_1172 : Index := 0#32
  let c22_1173 : Index := 22#32
  let c0_i32_399 : BitVec 32 := 0#32
  let c1_i32_401 : BitVec 32 := 1#32
  let arg30 : BitVec 32 := Scf.iv c0_i32_399 c1_i32_401 k0_t8
  let v2966 : Index := Scalar.indexCast arg30
  let c0_1174 : Index := 0#32
  let c0_1175 : Index := 0#32
  ![0, 22, v2966.toNat, 0, 0]
def k0_off263 (k0_t8 : Fin k0_t8_loop.trips) : Fin 5 → Nat :=
  let c0_1177 : Index := 0#32
  let c23_1178 : Index := 23#32
  let c0_i32_399 : BitVec 32 := 0#32
  let c1_i32_401 : BitVec 32 := 1#32
  let arg30 : BitVec 32 := Scf.iv c0_i32_399 c1_i32_401 k0_t8
  let v2972 : Index := Scalar.indexCast arg30
  let c0_1179 : Index := 0#32
  let c0_1180 : Index := 0#32
  ![0, 23, v2972.toNat, 0, 0]
def k0_off264 (k0_t8 : Fin k0_t8_loop.trips) : Fin 5 → Nat :=
  let c0_1183 : Index := 0#32
  let c24_1184 : Index := 24#32
  let c0_i32_399 : BitVec 32 := 0#32
  let c1_i32_401 : BitVec 32 := 1#32
  let arg30 : BitVec 32 := Scf.iv c0_i32_399 c1_i32_401 k0_t8
  let v2978 : Index := Scalar.indexCast arg30
  let c0_1185 : Index := 0#32
  let c0_1186 : Index := 0#32
  ![0, 24, v2978.toNat, 0, 0]
def k0_off265 (k0_t8 : Fin k0_t8_loop.trips) : Fin 5 → Nat :=
  let c0_1188 : Index := 0#32
  let c25_1189 : Index := 25#32
  let c0_i32_399 : BitVec 32 := 0#32
  let c1_i32_401 : BitVec 32 := 1#32
  let arg30 : BitVec 32 := Scf.iv c0_i32_399 c1_i32_401 k0_t8
  let v2984 : Index := Scalar.indexCast arg30
  let c0_1190 : Index := 0#32
  let c0_1191 : Index := 0#32
  ![0, 25, v2984.toNat, 0, 0]
def k0_off266 (k0_t8 : Fin k0_t8_loop.trips) : Fin 5 → Nat :=
  let c0_1193 : Index := 0#32
  let c26_1194 : Index := 26#32
  let c0_i32_399 : BitVec 32 := 0#32
  let c1_i32_401 : BitVec 32 := 1#32
  let arg30 : BitVec 32 := Scf.iv c0_i32_399 c1_i32_401 k0_t8
  let v2990 : Index := Scalar.indexCast arg30
  let c0_1195 : Index := 0#32
  let c0_1196 : Index := 0#32
  ![0, 26, v2990.toNat, 0, 0]
def k0_off267 (k0_t8 : Fin k0_t8_loop.trips) : Fin 5 → Nat :=
  let c0_1198 : Index := 0#32
  let c27_1199 : Index := 27#32
  let c0_i32_399 : BitVec 32 := 0#32
  let c1_i32_401 : BitVec 32 := 1#32
  let arg30 : BitVec 32 := Scf.iv c0_i32_399 c1_i32_401 k0_t8
  let v2996 : Index := Scalar.indexCast arg30
  let c0_1200 : Index := 0#32
  let c0_1201 : Index := 0#32
  ![0, 27, v2996.toNat, 0, 0]
def k0_off268 (k0_t8 : Fin k0_t8_loop.trips) : Fin 5 → Nat :=
  let c0_1203 : Index := 0#32
  let c28_1204 : Index := 28#32
  let c0_i32_399 : BitVec 32 := 0#32
  let c1_i32_401 : BitVec 32 := 1#32
  let arg30 : BitVec 32 := Scf.iv c0_i32_399 c1_i32_401 k0_t8
  let v3002 : Index := Scalar.indexCast arg30
  let c0_1205 : Index := 0#32
  let c0_1206 : Index := 0#32
  ![0, 28, v3002.toNat, 0, 0]
def k0_off269 (k0_t8 : Fin k0_t8_loop.trips) : Fin 5 → Nat :=
  let c0_1208 : Index := 0#32
  let c29_1209 : Index := 29#32
  let c0_i32_399 : BitVec 32 := 0#32
  let c1_i32_401 : BitVec 32 := 1#32
  let arg30 : BitVec 32 := Scf.iv c0_i32_399 c1_i32_401 k0_t8
  let v3008 : Index := Scalar.indexCast arg30
  let c0_1210 : Index := 0#32
  let c0_1211 : Index := 0#32
  ![0, 29, v3008.toNat, 0, 0]
def k0_off270 (k0_t8 : Fin k0_t8_loop.trips) : Fin 5 → Nat :=
  let c0_1213 : Index := 0#32
  let c30_1214 : Index := 30#32
  let c0_i32_399 : BitVec 32 := 0#32
  let c1_i32_401 : BitVec 32 := 1#32
  let arg30 : BitVec 32 := Scf.iv c0_i32_399 c1_i32_401 k0_t8
  let v3014 : Index := Scalar.indexCast arg30
  let c0_1215 : Index := 0#32
  let c0_1216 : Index := 0#32
  ![0, 30, v3014.toNat, 0, 0]
def k0_off271 (k0_t8 : Fin k0_t8_loop.trips) : Fin 5 → Nat :=
  let c0_1218 : Index := 0#32
  let c31_1219 : Index := 31#32
  let c0_i32_399 : BitVec 32 := 0#32
  let c1_i32_401 : BitVec 32 := 1#32
  let arg30 : BitVec 32 := Scf.iv c0_i32_399 c1_i32_401 k0_t8
  let v3020 : Index := Scalar.indexCast arg30
  let c0_1220 : Index := 0#32
  let c0_1221 : Index := 0#32
  ![0, 31, v3020.toNat, 0, 0]
def k0_off272 (k0_t8 : Fin k0_t8_loop.trips) : Fin 5 → Nat :=
  let c0_1224 : Index := 0#32
  let c32_1225 : Index := 32#32
  let c0_i32_399 : BitVec 32 := 0#32
  let c1_i32_401 : BitVec 32 := 1#32
  let arg30 : BitVec 32 := Scf.iv c0_i32_399 c1_i32_401 k0_t8
  let v3026 : Index := Scalar.indexCast arg30
  let c0_1226 : Index := 0#32
  let c0_1227 : Index := 0#32
  ![0, 32, v3026.toNat, 0, 0]
def k0_off273 (k0_t8 : Fin k0_t8_loop.trips) : Fin 5 → Nat :=
  let c0_1229 : Index := 0#32
  let c33_1230 : Index := 33#32
  let c0_i32_399 : BitVec 32 := 0#32
  let c1_i32_401 : BitVec 32 := 1#32
  let arg30 : BitVec 32 := Scf.iv c0_i32_399 c1_i32_401 k0_t8
  let v3032 : Index := Scalar.indexCast arg30
  let c0_1231 : Index := 0#32
  let c0_1232 : Index := 0#32
  ![0, 33, v3032.toNat, 0, 0]
def k0_off274 (k0_t8 : Fin k0_t8_loop.trips) : Fin 5 → Nat :=
  let c0_1234 : Index := 0#32
  let c34_1235 : Index := 34#32
  let c0_i32_399 : BitVec 32 := 0#32
  let c1_i32_401 : BitVec 32 := 1#32
  let arg30 : BitVec 32 := Scf.iv c0_i32_399 c1_i32_401 k0_t8
  let v3038 : Index := Scalar.indexCast arg30
  let c0_1236 : Index := 0#32
  let c0_1237 : Index := 0#32
  ![0, 34, v3038.toNat, 0, 0]
def k0_off275 (k0_t8 : Fin k0_t8_loop.trips) : Fin 5 → Nat :=
  let c0_1239 : Index := 0#32
  let c35_1240 : Index := 35#32
  let c0_i32_399 : BitVec 32 := 0#32
  let c1_i32_401 : BitVec 32 := 1#32
  let arg30 : BitVec 32 := Scf.iv c0_i32_399 c1_i32_401 k0_t8
  let v3044 : Index := Scalar.indexCast arg30
  let c0_1241 : Index := 0#32
  let c0_1242 : Index := 0#32
  ![0, 35, v3044.toNat, 0, 0]
def k0_off276 (k0_t8 : Fin k0_t8_loop.trips) : Fin 5 → Nat :=
  let c0_1244 : Index := 0#32
  let c36_1245 : Index := 36#32
  let c0_i32_399 : BitVec 32 := 0#32
  let c1_i32_401 : BitVec 32 := 1#32
  let arg30 : BitVec 32 := Scf.iv c0_i32_399 c1_i32_401 k0_t8
  let v3050 : Index := Scalar.indexCast arg30
  let c0_1246 : Index := 0#32
  let c0_1247 : Index := 0#32
  ![0, 36, v3050.toNat, 0, 0]
def k0_off277 (k0_t8 : Fin k0_t8_loop.trips) : Fin 5 → Nat :=
  let c0_1249 : Index := 0#32
  let c37_1250 : Index := 37#32
  let c0_i32_399 : BitVec 32 := 0#32
  let c1_i32_401 : BitVec 32 := 1#32
  let arg30 : BitVec 32 := Scf.iv c0_i32_399 c1_i32_401 k0_t8
  let v3056 : Index := Scalar.indexCast arg30
  let c0_1251 : Index := 0#32
  let c0_1252 : Index := 0#32
  ![0, 37, v3056.toNat, 0, 0]
def k0_off278 (k0_t8 : Fin k0_t8_loop.trips) : Fin 5 → Nat :=
  let c0_1254 : Index := 0#32
  let c38_1255 : Index := 38#32
  let c0_i32_399 : BitVec 32 := 0#32
  let c1_i32_401 : BitVec 32 := 1#32
  let arg30 : BitVec 32 := Scf.iv c0_i32_399 c1_i32_401 k0_t8
  let v3062 : Index := Scalar.indexCast arg30
  let c0_1256 : Index := 0#32
  let c0_1257 : Index := 0#32
  ![0, 38, v3062.toNat, 0, 0]
def k0_off279 (k0_t8 : Fin k0_t8_loop.trips) : Fin 5 → Nat :=
  let c0_1259 : Index := 0#32
  let c39_1260 : Index := 39#32
  let c0_i32_399 : BitVec 32 := 0#32
  let c1_i32_401 : BitVec 32 := 1#32
  let arg30 : BitVec 32 := Scf.iv c0_i32_399 c1_i32_401 k0_t8
  let v3068 : Index := Scalar.indexCast arg30
  let c0_1261 : Index := 0#32
  let c0_1262 : Index := 0#32
  ![0, 39, v3068.toNat, 0, 0]
def k0_off280 (k0_t8 : Fin k0_t8_loop.trips) : Fin 5 → Nat :=
  let c0_1265 : Index := 0#32
  let c40_1266 : Index := 40#32
  let c0_i32_399 : BitVec 32 := 0#32
  let c1_i32_401 : BitVec 32 := 1#32
  let arg30 : BitVec 32 := Scf.iv c0_i32_399 c1_i32_401 k0_t8
  let v3074 : Index := Scalar.indexCast arg30
  let c0_1267 : Index := 0#32
  let c0_1268 : Index := 0#32
  ![0, 40, v3074.toNat, 0, 0]
def k0_off281 (k0_t8 : Fin k0_t8_loop.trips) : Fin 5 → Nat :=
  let c0_1270 : Index := 0#32
  let c41_1271 : Index := 41#32
  let c0_i32_399 : BitVec 32 := 0#32
  let c1_i32_401 : BitVec 32 := 1#32
  let arg30 : BitVec 32 := Scf.iv c0_i32_399 c1_i32_401 k0_t8
  let v3080 : Index := Scalar.indexCast arg30
  let c0_1272 : Index := 0#32
  let c0_1273 : Index := 0#32
  ![0, 41, v3080.toNat, 0, 0]
def k0_off282 (k0_t8 : Fin k0_t8_loop.trips) : Fin 5 → Nat :=
  let c0_1275 : Index := 0#32
  let c42_1276 : Index := 42#32
  let c0_i32_399 : BitVec 32 := 0#32
  let c1_i32_401 : BitVec 32 := 1#32
  let arg30 : BitVec 32 := Scf.iv c0_i32_399 c1_i32_401 k0_t8
  let v3086 : Index := Scalar.indexCast arg30
  let c0_1277 : Index := 0#32
  let c0_1278 : Index := 0#32
  ![0, 42, v3086.toNat, 0, 0]
def k0_off283 (k0_t8 : Fin k0_t8_loop.trips) : Fin 5 → Nat :=
  let c0_1281 : Index := 0#32
  let c43_1282 : Index := 43#32
  let c0_i32_399 : BitVec 32 := 0#32
  let c1_i32_401 : BitVec 32 := 1#32
  let arg30 : BitVec 32 := Scf.iv c0_i32_399 c1_i32_401 k0_t8
  let v3092 : Index := Scalar.indexCast arg30
  let c0_1283 : Index := 0#32
  let c0_1284 : Index := 0#32
  ![0, 43, v3092.toNat, 0, 0]
def k0_off284 (k0_t8 : Fin k0_t8_loop.trips) : Fin 5 → Nat :=
  let c0_1286 : Index := 0#32
  let c44_1287 : Index := 44#32
  let c0_i32_399 : BitVec 32 := 0#32
  let c1_i32_401 : BitVec 32 := 1#32
  let arg30 : BitVec 32 := Scf.iv c0_i32_399 c1_i32_401 k0_t8
  let v3098 : Index := Scalar.indexCast arg30
  let c0_1288 : Index := 0#32
  let c0_1289 : Index := 0#32
  ![0, 44, v3098.toNat, 0, 0]
def k0_off285 (k0_t8 : Fin k0_t8_loop.trips) : Fin 5 → Nat :=
  let c0_1291 : Index := 0#32
  let c45_1292 : Index := 45#32
  let c0_i32_399 : BitVec 32 := 0#32
  let c1_i32_401 : BitVec 32 := 1#32
  let arg30 : BitVec 32 := Scf.iv c0_i32_399 c1_i32_401 k0_t8
  let v3104 : Index := Scalar.indexCast arg30
  let c0_1293 : Index := 0#32
  let c0_1294 : Index := 0#32
  ![0, 45, v3104.toNat, 0, 0]
def k0_off286 (k0_t8 : Fin k0_t8_loop.trips) : Fin 5 → Nat :=
  let c0_1296 : Index := 0#32
  let c46_1297 : Index := 46#32
  let c0_i32_399 : BitVec 32 := 0#32
  let c1_i32_401 : BitVec 32 := 1#32
  let arg30 : BitVec 32 := Scf.iv c0_i32_399 c1_i32_401 k0_t8
  let v3110 : Index := Scalar.indexCast arg30
  let c0_1298 : Index := 0#32
  let c0_1299 : Index := 0#32
  ![0, 46, v3110.toNat, 0, 0]
def k0_off287 (k0_t8 : Fin k0_t8_loop.trips) : Fin 5 → Nat :=
  let c0_1301 : Index := 0#32
  let c47_1302 : Index := 47#32
  let c0_i32_399 : BitVec 32 := 0#32
  let c1_i32_401 : BitVec 32 := 1#32
  let arg30 : BitVec 32 := Scf.iv c0_i32_399 c1_i32_401 k0_t8
  let v3116 : Index := Scalar.indexCast arg30
  let c0_1303 : Index := 0#32
  let c0_1304 : Index := 0#32
  ![0, 47, v3116.toNat, 0, 0]
def k0_off288 (k0_t8 : Fin k0_t8_loop.trips) : Fin 5 → Nat :=
  let c0_1307 : Index := 0#32
  let c48_1308 : Index := 48#32
  let c0_i32_399 : BitVec 32 := 0#32
  let c1_i32_401 : BitVec 32 := 1#32
  let arg30 : BitVec 32 := Scf.iv c0_i32_399 c1_i32_401 k0_t8
  let v3122 : Index := Scalar.indexCast arg30
  let c0_1309 : Index := 0#32
  let c0_1310 : Index := 0#32
  ![0, 48, v3122.toNat, 0, 0]
def k0_off289 (k0_t8 : Fin k0_t8_loop.trips) : Fin 5 → Nat :=
  let c0_1312 : Index := 0#32
  let c49_1313 : Index := 49#32
  let c0_i32_399 : BitVec 32 := 0#32
  let c1_i32_401 : BitVec 32 := 1#32
  let arg30 : BitVec 32 := Scf.iv c0_i32_399 c1_i32_401 k0_t8
  let v3128 : Index := Scalar.indexCast arg30
  let c0_1314 : Index := 0#32
  let c0_1315 : Index := 0#32
  ![0, 49, v3128.toNat, 0, 0]
def k0_off290 (k0_t8 : Fin k0_t8_loop.trips) : Fin 5 → Nat :=
  let c0_1317 : Index := 0#32
  let c50_1318 : Index := 50#32
  let c0_i32_399 : BitVec 32 := 0#32
  let c1_i32_401 : BitVec 32 := 1#32
  let arg30 : BitVec 32 := Scf.iv c0_i32_399 c1_i32_401 k0_t8
  let v3134 : Index := Scalar.indexCast arg30
  let c0_1319 : Index := 0#32
  let c0_1320 : Index := 0#32
  ![0, 50, v3134.toNat, 0, 0]
def k0_off291 (k0_t8 : Fin k0_t8_loop.trips) : Fin 5 → Nat :=
  let c0_1322 : Index := 0#32
  let c51_1323 : Index := 51#32
  let c0_i32_399 : BitVec 32 := 0#32
  let c1_i32_401 : BitVec 32 := 1#32
  let arg30 : BitVec 32 := Scf.iv c0_i32_399 c1_i32_401 k0_t8
  let v3140 : Index := Scalar.indexCast arg30
  let c0_1324 : Index := 0#32
  let c0_1325 : Index := 0#32
  ![0, 51, v3140.toNat, 0, 0]
def k0_off292 (k0_t8 : Fin k0_t8_loop.trips) : Fin 5 → Nat :=
  let c0_1327 : Index := 0#32
  let c52_1328 : Index := 52#32
  let c0_i32_399 : BitVec 32 := 0#32
  let c1_i32_401 : BitVec 32 := 1#32
  let arg30 : BitVec 32 := Scf.iv c0_i32_399 c1_i32_401 k0_t8
  let v3146 : Index := Scalar.indexCast arg30
  let c0_1329 : Index := 0#32
  let c0_1330 : Index := 0#32
  ![0, 52, v3146.toNat, 0, 0]
def k0_off293 (k0_t8 : Fin k0_t8_loop.trips) : Fin 5 → Nat :=
  let c0_1332 : Index := 0#32
  let c53_1333 : Index := 53#32
  let c0_i32_399 : BitVec 32 := 0#32
  let c1_i32_401 : BitVec 32 := 1#32
  let arg30 : BitVec 32 := Scf.iv c0_i32_399 c1_i32_401 k0_t8
  let v3152 : Index := Scalar.indexCast arg30
  let c0_1334 : Index := 0#32
  let c0_1335 : Index := 0#32
  ![0, 53, v3152.toNat, 0, 0]
def k0_off294 (k0_t8 : Fin k0_t8_loop.trips) : Fin 5 → Nat :=
  let c0_1337 : Index := 0#32
  let c54_1338 : Index := 54#32
  let c0_i32_399 : BitVec 32 := 0#32
  let c1_i32_401 : BitVec 32 := 1#32
  let arg30 : BitVec 32 := Scf.iv c0_i32_399 c1_i32_401 k0_t8
  let v3158 : Index := Scalar.indexCast arg30
  let c0_1339 : Index := 0#32
  let c0_1340 : Index := 0#32
  ![0, 54, v3158.toNat, 0, 0]
def k0_off295 (k0_t8 : Fin k0_t8_loop.trips) : Fin 5 → Nat :=
  let c0_1342 : Index := 0#32
  let c55_1343 : Index := 55#32
  let c0_i32_399 : BitVec 32 := 0#32
  let c1_i32_401 : BitVec 32 := 1#32
  let arg30 : BitVec 32 := Scf.iv c0_i32_399 c1_i32_401 k0_t8
  let v3164 : Index := Scalar.indexCast arg30
  let c0_1344 : Index := 0#32
  let c0_1345 : Index := 0#32
  ![0, 55, v3164.toNat, 0, 0]
def k0_off296 (k0_t8 : Fin k0_t8_loop.trips) : Fin 5 → Nat :=
  let c0_1348 : Index := 0#32
  let c56_1349 : Index := 56#32
  let c0_i32_399 : BitVec 32 := 0#32
  let c1_i32_401 : BitVec 32 := 1#32
  let arg30 : BitVec 32 := Scf.iv c0_i32_399 c1_i32_401 k0_t8
  let v3170 : Index := Scalar.indexCast arg30
  let c0_1350 : Index := 0#32
  let c0_1351 : Index := 0#32
  ![0, 56, v3170.toNat, 0, 0]
def k0_off297 (k0_t8 : Fin k0_t8_loop.trips) : Fin 5 → Nat :=
  let c0_1353 : Index := 0#32
  let c57_1354 : Index := 57#32
  let c0_i32_399 : BitVec 32 := 0#32
  let c1_i32_401 : BitVec 32 := 1#32
  let arg30 : BitVec 32 := Scf.iv c0_i32_399 c1_i32_401 k0_t8
  let v3176 : Index := Scalar.indexCast arg30
  let c0_1355 : Index := 0#32
  let c0_1356 : Index := 0#32
  ![0, 57, v3176.toNat, 0, 0]
def k0_off298 (k0_t8 : Fin k0_t8_loop.trips) : Fin 5 → Nat :=
  let c0_1358 : Index := 0#32
  let c58_1359 : Index := 58#32
  let c0_i32_399 : BitVec 32 := 0#32
  let c1_i32_401 : BitVec 32 := 1#32
  let arg30 : BitVec 32 := Scf.iv c0_i32_399 c1_i32_401 k0_t8
  let v3182 : Index := Scalar.indexCast arg30
  let c0_1360 : Index := 0#32
  let c0_1361 : Index := 0#32
  ![0, 58, v3182.toNat, 0, 0]
def k0_off299 (k0_t8 : Fin k0_t8_loop.trips) : Fin 5 → Nat :=
  let c0_1363 : Index := 0#32
  let c59_1364 : Index := 59#32
  let c0_i32_399 : BitVec 32 := 0#32
  let c1_i32_401 : BitVec 32 := 1#32
  let arg30 : BitVec 32 := Scf.iv c0_i32_399 c1_i32_401 k0_t8
  let v3188 : Index := Scalar.indexCast arg30
  let c0_1365 : Index := 0#32
  let c0_1366 : Index := 0#32
  ![0, 59, v3188.toNat, 0, 0]
def k0_off300 (k0_t8 : Fin k0_t8_loop.trips) : Fin 5 → Nat :=
  let c0_1368 : Index := 0#32
  let c60_1369 : Index := 60#32
  let c0_i32_399 : BitVec 32 := 0#32
  let c1_i32_401 : BitVec 32 := 1#32
  let arg30 : BitVec 32 := Scf.iv c0_i32_399 c1_i32_401 k0_t8
  let v3194 : Index := Scalar.indexCast arg30
  let c0_1370 : Index := 0#32
  let c0_1371 : Index := 0#32
  ![0, 60, v3194.toNat, 0, 0]
def k0_off301 (k0_t8 : Fin k0_t8_loop.trips) : Fin 5 → Nat :=
  let c0_1373 : Index := 0#32
  let c61_1374 : Index := 61#32
  let c0_i32_399 : BitVec 32 := 0#32
  let c1_i32_401 : BitVec 32 := 1#32
  let arg30 : BitVec 32 := Scf.iv c0_i32_399 c1_i32_401 k0_t8
  let v3200 : Index := Scalar.indexCast arg30
  let c0_1375 : Index := 0#32
  let c0_1376 : Index := 0#32
  ![0, 61, v3200.toNat, 0, 0]
def k0_off302 (k0_t8 : Fin k0_t8_loop.trips) : Fin 5 → Nat :=
  let c0_1378 : Index := 0#32
  let c62_1379 : Index := 62#32
  let c0_i32_399 : BitVec 32 := 0#32
  let c1_i32_401 : BitVec 32 := 1#32
  let arg30 : BitVec 32 := Scf.iv c0_i32_399 c1_i32_401 k0_t8
  let v3206 : Index := Scalar.indexCast arg30
  let c0_1380 : Index := 0#32
  let c0_1381 : Index := 0#32
  ![0, 62, v3206.toNat, 0, 0]
def k0_off303 (k0_t8 : Fin k0_t8_loop.trips) : Fin 5 → Nat :=
  let c0_1383 : Index := 0#32
  let c63_1384 : Index := 63#32
  let c0_i32_399 : BitVec 32 := 0#32
  let c1_i32_401 : BitVec 32 := 1#32
  let arg30 : BitVec 32 := Scf.iv c0_i32_399 c1_i32_401 k0_t8
  let v3212 : Index := Scalar.indexCast arg30
  let c0_1385 : Index := 0#32
  let c0_1386 : Index := 0#32
  ![0, 63, v3212.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x4x64x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4x64x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x32x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x225 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S225x512 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x225 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x4x32x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x4x32x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
abbrev S72x2x128 : Shape := ⟨3, ![72, 2, 128]⟩
abbrev S72x1x128 : Shape := ⟨3, ![72, 1, 128]⟩
abbrev S8x2x128 : Shape := ⟨3, ![8, 2, 128]⟩
abbrev S8x1x128 : Shape := ⟨3, ![8, 1, 128]⟩
  | .local _ .vmem, ⟨33, _⟩ => ⟨S72x2x128, .bf16⟩
variable {F : FTy → Type} [FloatOps F] [Named F]
def κ : String → Option EReal := fun
  | "eps2" => some ((1 / 1000000000000000000000000 : ℝ) : EReal)
  | _ => none
-- ==== Attend.lean ====
abbrev S6x16384x4x32 : Shape := ⟨4, ![6, 16384, 4, 32]⟩
abbrev S6x16384x4 : Shape := ⟨3, ![6, 16384, 4]⟩
abbrev S6x256x4 : Shape := ⟨3, ![6, 256, 4]⟩
abbrev S4x64x64 : Shape := ⟨3, ![4, 64, 64]⟩
abbrev S6x4x16384 : Shape := ⟨3, ![6, 4, 16384]⟩
abbrev S6x4x128x128 : Shape := ⟨4, ![6, 4, 128, 128]⟩
abbrev S6x1x4x128x128 : Shape := ⟨5, ![6, 1, 4, 128, 128]⟩
abbrev S6x2x4x128x128 : Shape := ⟨5, ![6, 2, 4, 128, 128]⟩
abbrev S1x64x64 : Shape := ⟨3, ![1, 64, 64]⟩
abbrev S64x64 : Shape := ⟨2, ![64, 64]⟩
abbrev S64x512 : Shape := ⟨2, ![64, 512]⟩
abbrev S6x4x32x16384 : Shape := ⟨4, ![6, 4, 32, 16384]⟩
abbrev S6x4x4x8x128x128 : Shape := ⟨6, ![6, 4, 4, 8, 128, 128]⟩
abbrev S6x4x4x128x8x128 : Shape := ⟨6, ![6, 4, 4, 128, 8, 128]⟩
abbrev S6x4x256 : Shape := ⟨3, ![6, 4, 256]⟩
abbrev S6x4x256x1 : Shape := ⟨4, ![6, 4, 256, 1]⟩
abbrev S6x4x256x64 : Shape := ⟨4, ![6, 4, 256, 64]⟩
abbrev S_ : Shape := ⟨0, ![]⟩
abbrev S6x16384x128 : Shape := ⟨3, ![6, 16384, 128]⟩
abbrev S1x4x4x64x8x128 : Shape := ⟨6, ![1, 4, 4, 64, 8, 128]⟩
abbrev S1x4x32x8192 : Shape := ⟨4, ![1, 4, 32, 8192]⟩
abbrev S1x2x4x64x128 : Shape := ⟨5, ![1, 2, 4, 64, 128]⟩
abbrev S1x4x64x128 : Shape := ⟨4, ![1, 4, 64, 128]⟩
abbrev S1x8192x128 : Shape := ⟨3, ![1, 8192, 128]⟩
abbrev S4x64x32x128 : Shape := ⟨4, ![4, 64, 32, 128]⟩
abbrev S8x128 : Shape := ⟨2, ![8, 128]⟩
abbrev S1x1x4x1x8x128 : Shape := ⟨6, ![1, 1, 4, 1, 8, 128]⟩
abbrev S4x8x128 : Shape := ⟨3, ![4, 8, 128]⟩
abbrev S32x128 : Shape := ⟨2, ![32, 128]⟩
abbrev S1x1x1x1x128 : Shape := ⟨5, ![1, 1, 1, 1, 128]⟩
abbrev S1x128 : Shape := ⟨2, ![1, 128]⟩
abbrev S1x1x32x128 : Shape := ⟨4, ![1, 1, 32, 128]⟩
abbrev S128x128 : Shape := ⟨2, ![128, 128]⟩
abbrev S64x128 : Shape := ⟨2, ![64, 128]⟩
abbrev S64x256 : Shape := ⟨2, ![64, 256]⟩
abbrev S32x256 : Shape := ⟨2, ![32, 256]⟩
abbrev S256x256 : Shape := ⟨2, ![256, 256]⟩
abbrev S1x1x1x128 : Shape := ⟨4, ![1, 1, 1, 128]⟩
abbrev S128 : Shape := ⟨1, ![128]⟩
abbrev S128x256 : Shape := ⟨2, ![128, 256]⟩
abbrev S1x2x32x128 : Shape := ⟨4, ![1, 2, 32, 128]⟩
abbrev S2x32x128 : Shape := ⟨3, ![2, 32, 128]⟩
abbrev S1x128x128 : Shape := ⟨3, ![1, 128, 128]⟩

abbrev nBuf : Space → Nat
  | .hbm => 59
  | .vmem => 17
  | .smem => 0
  | _ => 0

abbrev bufTy : (tb : Table) → Fin (tcTables nBuf tb) → BufTy
  | .hbm, ⟨0, _⟩ => ⟨S6x16384x4x32, .bf16⟩
  | .hbm, ⟨1, _⟩ => ⟨S6x16384x4x32, .bf16⟩
  | .hbm, ⟨2, _⟩ => ⟨S6x16384x4x32, .fp8e4m3⟩
  | .hbm, ⟨3, _⟩ => ⟨S6x16384x4, .f32⟩
  | .hbm, ⟨4, _⟩ => ⟨S6x16384x4, .f32⟩
  | .hbm, ⟨5, _⟩ => ⟨S6x256x4, .f32⟩
  | .hbm, ⟨6, _⟩ => ⟨S6x256x4, .f32⟩
  | .hbm, ⟨7, _⟩ => ⟨S4x64x64, .f32⟩
  | .hbm, ⟨8, _⟩ => ⟨S6x4x16384, .f32⟩
  | .hbm, ⟨9, _⟩ => ⟨S6x4x128x128, .f32⟩
  | .hbm, ⟨10, _⟩ => ⟨S6x4x16384, .f32⟩
  | .hbm, ⟨11, _⟩ => ⟨S6x4x128x128, .f32⟩
  | .hbm, ⟨12, _⟩ => ⟨S6x1x4x128x128, .f32⟩
  | .hbm, ⟨13, _⟩ => ⟨S6x1x4x128x128, .f32⟩
  | .hbm, ⟨14, _⟩ => ⟨S6x2x4x128x128, .f32⟩
  | .hbm, ⟨15, _⟩ => ⟨S1x64x64, .f32⟩
  | .hbm, ⟨16, _⟩ => ⟨S64x64, .f32⟩
  | .hbm, ⟨17, _⟩ => ⟨S1x64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S1x64x64, .f32⟩
  | .hbm, ⟨22, _⟩ => ⟨S64x64, .f32⟩
  | .hbm, ⟨23, _⟩ => ⟨S1x64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S1x64x64, .f32⟩
  | .hbm, ⟨28, _⟩ => ⟨S64x64, .f32⟩
  | .hbm, ⟨29, _⟩ => ⟨S1x64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S1x64x64, .f32⟩
  | .hbm, ⟨34, _⟩ => ⟨S64x64, .f32⟩
  | .hbm, ⟨35, _⟩ => ⟨S1x64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x512, .f32⟩
  | .hbm, ⟨40, _⟩ => ⟨S6x4x32x16384, .bf16⟩
  | .hbm, ⟨41, _⟩ => ⟨S6x4x4x8x128x128, .bf16⟩
  | .hbm, ⟨42, _⟩ => ⟨S6x4x4x128x8x128, .bf16⟩
  | .hbm, ⟨43, _⟩ => ⟨S6x4x32x16384, .bf16⟩
  | .hbm, ⟨44, _⟩ => ⟨S6x4x4x8x128x128, .bf16⟩
  | .hbm, ⟨45, _⟩ => ⟨S6x4x4x128x8x128, .bf16⟩
  | .hbm, ⟨46, _⟩ => ⟨S6x4x32x16384, .fp8e4m3⟩
  | .hbm, ⟨47, _⟩ => ⟨S6x4x256, .f32⟩
  | .hbm, ⟨48, _⟩ => ⟨S6x4x256x1, .f32⟩
  | .hbm, ⟨49, _⟩ => ⟨S6x4x256x64, .f32⟩
  | .hbm, ⟨50, _⟩ => ⟨S6x4x128x128, .f32⟩
  | .hbm, ⟨51, _⟩ => ⟨S_, .f32⟩
  | .hbm, ⟨52, _⟩ => ⟨S6x256x4, .f32⟩
  | .hbm, ⟨53, _⟩ => ⟨S6x256x4, .f32⟩
  | .hbm, ⟨54, _⟩ => ⟨S6x4x256, .f32⟩
  | .hbm, ⟨55, _⟩ => ⟨S6x4x256x1, .f32⟩
  | .hbm, ⟨56, _⟩ => ⟨S6x4x256x64, .f32⟩
  | .hbm, ⟨57, _⟩ => ⟨S6x4x128x128, .f32⟩
  | .hbm, ⟨58, _⟩ => ⟨S6x16384x128, .bf16⟩
  | .local _ .vmem, ⟨0, _⟩ => ⟨S1x4x4x64x8x128, .bf16⟩
  | .local _ .vmem, ⟨1, _⟩ => ⟨S1x4x4x64x8x128, .bf16⟩
  | .local _ .vmem, ⟨2, _⟩ => ⟨S1x4x4x64x8x128, .bf16⟩
  | .local _ .vmem, ⟨3, _⟩ => ⟨S1x4x4x64x8x128, .bf16⟩
  | .local _ .vmem, ⟨4, _⟩ => ⟨S1x4x32x8192, .fp8e4m3⟩
  | .local _ .vmem, ⟨5, _⟩ => ⟨S1x4x32x8192, .fp8e4m3⟩
  | .local _ .vmem, ⟨6, _⟩ => ⟨S1x2x4x64x128, .f32⟩
  | .local _ .vmem, ⟨7, _⟩ => ⟨S1x2x4x64x128, .f32⟩
  | .local _ .vmem, ⟨8, _⟩ => ⟨S1x4x64x128, .f32⟩
  | .local _ .vmem, ⟨9, _⟩ => ⟨S1x4x64x128, .f32⟩
  | .local _ .vmem, ⟨10, _⟩ => ⟨S1x4x64x128, .f32⟩
  | .local _ .vmem, ⟨11, _⟩ => ⟨S1x4x64x128, .f32⟩
  | .local _ .vmem, ⟨12, _⟩ => ⟨S64x512, .f32⟩
  | .local _ .vmem, ⟨13, _⟩ => ⟨S1x8192x128, .bf16⟩
  | .local _ .vmem, ⟨14, _⟩ => ⟨S1x8192x128, .bf16⟩
  | .local _ .vmem, ⟨15, _⟩ => ⟨S4x64x32x128, .fp8e4m3⟩
  | .local _ .vmem, ⟨16, _⟩ => ⟨S4x64x32x128, .fp8e4m3⟩
  | _, _ => ⟨S6x16384x4x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![6, 2], ![false, false]⟩

@[reducible] def k0_t1_loop : Scf.Loop 32 :=
  let c0_i32 : BitVec 32 := 0#32
  let c64_i32_0 : BitVec 32 := 64#32
  let v3 : BitVec 32 := Scalar.addi c0_i32 c64_i32_0
  let c1_i32 : BitVec 32 := 1#32
  ⟨c0_i32, v3, c1_i32⟩
def k0_off1 (k0_t1 : Fin k0_t1_loop.trips) : Fin 6 → Nat :=
  let c0 : Index := 0#32
  let c0_7 : Index := 0#32
  let c0_8 : Index := 0#32
  let c0_i32 : BitVec 32 := 0#32
  let c1_i32 : BitVec 32 := 1#32
  let arg12 : BitVec 32 := Scf.iv c0_i32 c1_i32 k0_t1
  let v8 : Index := Scalar.indexCast arg12
  let c0_9 : Index := 0#32
  let c0_10 : Index := 0#32
  ![0, 0, 0, v8.toNat, 0, 0]
def k0_off2 (k0_t1 : Fin k0_t1_loop.trips) : Fin 5 → Nat :=
  let c0_11 : Index := 0#32
  let c0_12 : Index := 0#32
  let c0_13 : Index := 0#32
  let c0_i32 : BitVec 32 := 0#32
  let c1_i32 : BitVec 32 := 1#32
  let arg12 : BitVec 32 := Scf.iv c0_i32 c1_i32 k0_t1
  let v13 : Index := Scalar.indexCast arg12
  let c0_14 : Index := 0#32
  ![0, 0, 0, v13.toNat, 0]
def k0_off3 (k0_t1 : Fin k0_t1_loop.trips) : Fin 4 → Nat :=
  let c0_17 : Index := 0#32
  let c0_i32 : BitVec 32 := 0#32
  let c1_i32 : BitVec 32 := 1#32
  let arg12 : BitVec 32 := Scf.iv c0_i32 c1_i32 k0_t1
  let v23 : Index := Scalar.indexCast arg12
  let c0_18 : Index := 0#32
  let c0_19 : Index := 0#32
  ![0, v23.toNat, 0, 0]
def k0_off4 (k0_t1 : Fin k0_t1_loop.trips) : Fin 6 → Nat :=
  let c0_20 : Index := 0#32
  let c1 : Index := 1#32
  let c0_21 : Index := 0#32
  let c0_i32 : BitVec 32 := 0#32
  let c1_i32 : BitVec 32 := 1#32
  let arg12 : BitVec 32 := Scf.iv c0_i32 c1_i32 k0_t1
  let v27 : Index := Scalar.indexCast arg12
  let c0_22 : Index := 0#32
  let c0_23 : Index := 0#32
  ![0, 1, 0, v27.toNat, 0, 0]
def k0_off5 (k0_t1 : Fin k0_t1_loop.trips) : Fin 5 → Nat :=
  let c0_24 : Index := 0#32
  let c0_25 : Index := 0#32
  let c1_26 : Index := 1#32
  let c0_i32 : BitVec 32 := 0#32
  let c1_i32 : BitVec 32 := 1#32
  let arg12 : BitVec 32 := Scf.iv c0_i32 c1_i32 k0_t1
  let v32 : Index := Scalar.indexCast arg12
  let c0_27 : Index := 0#32
  ![0, 0, 1, v32.toNat, 0]
def k0_off6 (k0_t1 : Fin k0_t1_loop.trips) : Fin 4 → Nat :=
  let c1_30 : Index := 1#32
  let c0_i32 : BitVec 32 := 0#32
  let c1_i32 : BitVec 32 := 1#32
  let arg12 : BitVec 32 := Scf.iv c0_i32 c1_i32 k0_t1
  let v42 : Index := Scalar.indexCast arg12
  let c0_31 : Index := 0#32
  let c0_32 : Index := 0#32
  ![1, v42.toNat, 0, 0]
def k0_off7 (k0_t1 : Fin k0_t1_loop.trips) : Fin 6 → Nat :=
  let c0_33 : Index := 0#32
  let c2 : Index := 2#32
  let c0_34 : Index := 0#32
  let c0_i32 : BitVec 32 := 0#32
  let c1_i32 : BitVec 32 := 1#32
  let arg12 : BitVec 32 := Scf.iv c0_i32 c1_i32 k0_t1
  let v46 : Index := Scalar.indexCast arg12
  let c0_35 : Index := 0#32
  let c0_36 : Index := 0#32
  ![0, 2, 0, v46.toNat, 0, 0]
def k0_off8 (k0_t1 : Fin k0_t1_loop.trips) : Fin 5 → Nat :=
  let c0_37 : Index := 0#32
  let c0_38 : Index := 0#32
  let c2_39 : Index := 2#32
  let c0_i32 : BitVec 32 := 0#32
  let c1_i32 : BitVec 32 := 1#32
  let arg12 : BitVec 32 := Scf.iv c0_i32 c1_i32 k0_t1
  let v51 : Index := Scalar.indexCast arg12
  let c0_40 : Index := 0#32
  ![0, 0, 2, v51.toNat, 0]
def k0_off9 (k0_t1 : Fin k0_t1_loop.trips) : Fin 4 → Nat :=
  let c2_43 : Index := 2#32
  let c0_i32 : BitVec 32 := 0#32
  let c1_i32 : BitVec 32 := 1#32
  let arg12 : BitVec 32 := Scf.iv c0_i32 c1_i32 k0_t1
  let v61 : Index := Scalar.indexCast arg12
  let c0_44 : Index := 0#32
  let c0_45 : Index := 0#32
  ![2, v61.toNat, 0, 0]
def k0_off10 (k0_t1 : Fin k0_t1_loop.trips) : Fin 6 → Nat :=
  let c0_46 : Index := 0#32
  let c3 : Index := 3#32
  let c0_47 : Index := 0#32
  let c0_i32 : BitVec 32 := 0#32
  let c1_i32 : BitVec 32 := 1#32
  let arg12 : BitVec 32 := Scf.iv c0_i32 c1_i32 k0_t1
  let v65 : Index := Scalar.indexCast arg12
  let c0_48 : Index := 0#32
  let c0_49 : Index := 0#32
  ![0, 3, 0, v65.toNat, 0, 0]
def k0_off11 (k0_t1 : Fin k0_t1_loop.trips) : Fin 5 → Nat :=
  let c0_50 : Index := 0#32
  let c0_51 : Index := 0#32
  let c3_52 : Index := 3#32
  let c0_i32 : BitVec 32 := 0#32
  let c1_i32 : BitVec 32 := 1#32
  let arg12 : BitVec 32 := Scf.iv c0_i32 c1_i32 k0_t1
  let v70 : Index := Scalar.indexCast arg12
  let c0_53 : Index := 0#32
  ![0, 0, 3, v70.toNat, 0]
def k0_off12 (k0_t1 : Fin k0_t1_loop.trips) : Fin 4 → Nat :=
  let c3_56 : Index := 3#32
  let c0_i32 : BitVec 32 := 0#32
  let c1_i32 : BitVec 32 := 1#32
  let arg12 : BitVec 32 := Scf.iv c0_i32 c1_i32 k0_t1
  let v80 : Index := Scalar.indexCast arg12
  let c0_57 : Index := 0#32
  let c0_58 : Index := 0#32
  ![3, v80.toNat, 0, 0]
def k0_off13 (k0_t1 : Fin k0_t1_loop.trips) : Fin 5 → Nat :=
  let c0_64 : Index := 0#32
  let c1_65 : Index := 1#32
  let c0_66 : Index := 0#32
  let c0_i32 : BitVec 32 := 0#32
  let c1_i32 : BitVec 32 := 1#32
  let arg12 : BitVec 32 := Scf.iv c0_i32 c1_i32 k0_t1
  let v89 : Index := Scalar.indexCast arg12
  let c0_67 : Index := 0#32
  ![0, 1, 0, v89.toNat, 0]
def k0_off14 (k0_t1 : Fin k0_t1_loop.trips) : Fin 5 → Nat :=
  let c0_78 : Index := 0#32
  let c1_79 : Index := 1#32
  let c1_80 : Index := 1#32
  let c0_i32 : BitVec 32 := 0#32
  let c1_i32 : BitVec 32 := 1#32
  let arg12 : BitVec 32 := Scf.iv c0_i32 c1_i32 k0_t1
  let v108 : Index := Scalar.indexCast arg12
  let c0_81 : Index := 0#32
  ![0, 1, 1, v108.toNat, 0]
def k0_off15 (k0_t1 : Fin k0_t1_loop.trips) : Fin 5 → Nat :=
  let c0_92 : Index := 0#32
  let c1_93 : Index := 1#32
  let c2_94 : Index := 2#32
  let c0_i32 : BitVec 32 := 0#32
  let c1_i32 : BitVec 32 := 1#32
  let arg12 : BitVec 32 := Scf.iv c0_i32 c1_i32 k0_t1
  let v127 : Index := Scalar.indexCast arg12
  let c0_95 : Index := 0#32
  ![0, 1, 2, v127.toNat, 0]
def k0_off16 (k0_t1 : Fin k0_t1_loop.trips) : Fin 5 → Nat :=
  let c0_106 : Index := 0#32
  let c1_107 : Index := 1#32
  let c3_108 : Index := 3#32
  let c0_i32 : BitVec 32 := 0#32
  let c1_i32 : BitVec 32 := 1#32
  let arg12 : BitVec 32 := Scf.iv c0_i32 c1_i32 k0_t1
  let v146 : Index := Scalar.indexCast arg12
  let c0_109 : Index := 0#32
  ![0, 1, 3, v146.toNat, 0]
@[reducible] def k0_t2_loop : Scf.Loop 32 :=
  let c0_i32_3 : BitVec 32 := 0#32
  let c64_i32_4 : BitVec 32 := 64#32
  let v7 : BitVec 32 := Scalar.addi c0_i32_3 c64_i32_4
  let c1_i32_5 : BitVec 32 := 1#32
  ⟨c0_i32_3, v7, c1_i32_5⟩
def k0_off17 (k0_t2 : Fin k0_t2_loop.trips) : Fin 4 → Nat :=
  let c0 : Index := 0#32
  let c0_i32_3 : BitVec 32 := 0#32
  let c1_i32_5 : BitVec 32 := 1#32
  let arg12 : BitVec 32 := Scf.iv c0_i32_3 c1_i32_5 k0_t2
  let v8 : Index := Scalar.indexCast arg12
  let c0_7 : Index := 0#32
  let c0_8 : Index := 0#32
  ![0, v8.toNat, 0, 0]
def k0_off18 (k0_t2 : Fin k0_t2_loop.trips) : Fin 4 → Nat :=
  let c1 : Index := 1#32
  let c0_i32_3 : BitVec 32 := 0#32
  let c1_i32_5 : BitVec 32 := 1#32
  let arg12 : BitVec 32 := Scf.iv c0_i32_3 c1_i32_5 k0_t2
  let v11 : Index := Scalar.indexCast arg12
  let c0_9 : Index := 0#32
  let c0_10 : Index := 0#32
  ![1, v11.toNat, 0, 0]
def k0_off19 (k0_t2 : Fin k0_t2_loop.trips) : Fin 4 → Nat :=
  let c2 : Index := 2#32
  let c0_i32_3 : BitVec 32 := 0#32
  let c1_i32_5 : BitVec 32 := 1#32
  let arg12 : BitVec 32 := Scf.iv c0_i32_3 c1_i32_5 k0_t2
  let v14 : Index := Scalar.indexCast arg12
  let c0_11 : Index := 0#32
  let c0_12 : Index := 0#32
  ![2, v14.toNat, 0, 0]
def k0_off20 (k0_t2 : Fin k0_t2_loop.trips) : Fin 4 → Nat :=
  let c3 : Index := 3#32
  let c0_i32_3 : BitVec 32 := 0#32
  let c1_i32_5 : BitVec 32 := 1#32
  let arg12 : BitVec 32 := Scf.iv c0_i32_3 c1_i32_5 k0_t2
  let v17 : Index := Scalar.indexCast arg12
  let c0_13 : Index := 0#32
  let c0_14 : Index := 0#32
  ![3, v17.toNat, 0, 0]
def k0_off21 (k0_t2 : Fin k0_t2_loop.trips) : Fin 4 → Nat :=
  let c0_32 : Index := 0#32
  let c0_33 : Index := 0#32
  let c0_i32_3 : BitVec 32 := 0#32
  let c1_i32_5 : BitVec 32 := 1#32
  let arg12 : BitVec 32 := Scf.iv c0_i32_3 c1_i32_5 k0_t2
  let v64 : Index := Scalar.indexCast arg12
  let c0_34 : Index := 0#32
  ![0, 0, v64.toNat, 0]
def k0_off22 (k0_t2 : Fin k0_t2_loop.trips) : Fin 4 → Nat :=
  let c0_40 : Index := 0#32
  let c1_41 : Index := 1#32
  let c0_i32_3 : BitVec 32 := 0#32
  let c1_i32_5 : BitVec 32 := 1#32
  let arg12 : BitVec 32 := Scf.iv c0_i32_3 c1_i32_5 k0_t2
  let v85 : Index := Scalar.indexCast arg12
  let c0_42 : Index := 0#32
  ![0, 1, v85.toNat, 0]
def k0_mult1 (k0_t2 : Fin k0_t2_loop.trips) : BitVec 32 :=
  let c0_i32_3 : BitVec 32 := 0#32
  let c1_i32_5 : BitVec 32 := 1#32
  let arg12 : BitVec 32 := Scf.iv c0_i32_3 c1_i32_5 k0_t2
  let c128_i32 : BitVec 32 := 128#32
  let v124 : BitVec 32 := Scalar.muli arg12 c128_i32
  v124
def k0_off23 (k0_t2 : Fin k0_t2_loop.trips) : Fin 4 → Nat :=
  let c0_51 : Index := 0#32
  let c0_52 : Index := 0#32
  let c0_53 : Index := 0#32
  let c0_i32_3 : BitVec 32 := 0#32
  let c1_i32_5 : BitVec 32 := 1#32
  let arg12 : BitVec 32 := Scf.iv c0_i32_3 c1_i32_5 k0_t2
  let c128_i32 : BitVec 32 := 128#32
  let v124 : BitVec 32 := Scalar.muli arg12 c128_i32
  let v125 : BitVec 32 := v124
  let v126 : Index := Scalar.indexCast v125
  ![0, 0, 0, v126.toNat]
def k0_off24 (k0_t2 : Fin k0_t2_loop.trips) : Fin 4 → Nat :=
  let c0_78 : Index := 0#32
  let c2_79 : Index := 2#32
  let c0_i32_3 : BitVec 32 := 0#32
  let c1_i32_5 : BitVec 32 := 1#32
  let arg12 : BitVec 32 := Scf.iv c0_i32_3 c1_i32_5 k0_t2
  let v184 : Index := Scalar.indexCast arg12
  let c0_80 : Index := 0#32
  ![0, 2, v184.toNat, 0]
def k0_off25 (k0_t2 : Fin k0_t2_loop.trips) : Fin 4 → Nat :=
  let c0_85 : Index := 0#32
  let c3_86 : Index := 3#32
  let c0_i32_3 : BitVec 32 := 0#32
  let c1_i32_5 : BitVec 32 := 1#32
  let arg12 : BitVec 32 := Scf.iv c0_i32_3 c1_i32_5 k0_t2
  let v205 : Index := Scalar.indexCast arg12
  let c0_87 : Index := 0#32
  ![0, 3, v205.toNat, 0]
def k0_mult2 (k0_t2 : Fin k0_t2_loop.trips) : BitVec 32 :=
  let c0_i32_3 : BitVec 32 := 0#32
  let c1_i32_5 : BitVec 32 := 1#32
  let arg12 : BitVec 32 := Scf.iv c0_i32_3 c1_i32_5 k0_t2
  let c128_i32_96 : BitVec 32 := 128#32
  let v244 : BitVec 32 := Scalar.muli arg12 c128_i32_96
  v244
def k0_off26 (k0_t2 : Fin k0_t2_loop.trips) : Fin 4 → Nat :=
  let c0_97 : Index := 0#32
  let c2_98 : Index := 2#32
  let c0_99 : Index := 0#32
  let c0_i32_3 : BitVec 32 := 0#32
  let c1_i32_5 : BitVec 32 := 1#32
  let arg12 : BitVec 32 := Scf.iv c0_i32_3 c1_i32_5 k0_t2
  let c128_i32_96 : BitVec 32 := 128#32
  let v244 : BitVec 32 := Scalar.muli arg12 c128_i32_96
  let v245 : BitVec 32 := v244
  let v246 : Index := Scalar.indexCast v245
  ![0, 2, 0, v246.toNat]
def k0_mult3 (k0_t2 : Fin k0_t2_loop.trips) : BitVec 32 :=
  let c0_i32_3 : BitVec 32 := 0#32
  let c1_i32_5 : BitVec 32 := 1#32
  let arg12 : BitVec 32 := Scf.iv c0_i32_3 c1_i32_5 k0_t2
  let c128_i32_107 : BitVec 32 := 128#32
  let v267 : BitVec 32 := Scalar.muli arg12 c128_i32_107
  v267
def k0_off27 (k0_t2 : Fin k0_t2_loop.trips) : Fin 3 → Nat :=
  let c0_108 : Index := 0#32
  let c0_i32_3 : BitVec 32 := 0#32
  let c1_i32_5 : BitVec 32 := 1#32
  let arg12 : BitVec 32 := Scf.iv c0_i32_3 c1_i32_5 k0_t2
  let c128_i32_107 : BitVec 32 := 128#32
  let v267 : BitVec 32 := Scalar.muli arg12 c128_i32_107
  let v268 : BitVec 32 := v267
  let v269 : Index := Scalar.indexCast v268
  let c0_109 : Index := 0#32
  ![0, v269.toNat, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x4x64x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4x64x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x32x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttentionIdeal.lean ====
abbrev S6x16384x4x32 : Shape := ⟨4, ![6, 16384, 4, 32]⟩
abbrev S6x16384x4 : Shape := ⟨3, ![6, 16384, 4]⟩
abbrev S6x256x4 : Shape := ⟨3, ![6, 256, 4]⟩
abbrev S4x64x64 : Shape := ⟨3, ![4, 64, 64]⟩
abbrev S6x16384x4x1 : Shape := ⟨4, ![6, 16384, 4, 1]⟩
abbrev S_ : Shape := ⟨0, ![]⟩
abbrev S6x256x64x4x32 : Shape := ⟨5, ![6, 256, 64, 4, 32]⟩
abbrev S6x256x4x64x64 : Shape := ⟨5, ![6, 256, 4, 64, 64]⟩
abbrev S6x256x4x1x1 : Shape := ⟨5, ![6, 256, 4, 1, 1]⟩
abbrev S1x1x4x64x64 : Shape := ⟨5, ![1, 1, 4, 64, 64]⟩
abbrev S6x256x4x64 : Shape := ⟨4, ![6, 256, 4, 64]⟩
abbrev S6x256x4x64x1 : Shape := ⟨5, ![6, 256, 4, 64, 1]⟩
abbrev S6x256x4x32x64 : Shape := ⟨5, ![6, 256, 4, 32, 64]⟩
abbrev S6x256x1x4x1 : Shape := ⟨5, ![6, 256, 1, 4, 1]⟩
abbrev S6x16384x128 : Shape := ⟨3, ![6, 16384, 128]⟩

abbrev nBuf : Space → Nat
  | .hbm => 70
  | .vmem => 2
  | .smem => 0
  | _ => 0

abbrev bufTy : (tb : Table) → Fin (tcTables nBuf tb) → BufTy
  | .hbm, ⟨0, _⟩ => ⟨S6x16384x4x32, .bf16⟩
  | .hbm, ⟨1, _⟩ => ⟨S6x16384x4x32, .bf16⟩
  | .hbm, ⟨2, _⟩ => ⟨S6x16384x4x32, .fp8e4m3⟩
  | .hbm, ⟨3, _⟩ => ⟨S6x16384x4, .f32⟩
  | .hbm, ⟨4, _⟩ => ⟨S6x16384x4, .f32⟩
  | .hbm, ⟨5, _⟩ => ⟨S6x256x4, .f32⟩
  | .hbm, ⟨6, _⟩ => ⟨S6x256x4, .f32⟩
  | .hbm, ⟨7, _⟩ => ⟨S4x64x64, .f32⟩
  | .hbm, ⟨8, _⟩ => ⟨S6x16384x4x32, .f32⟩
  | .hbm, ⟨9, _⟩ => ⟨S6x16384x4x32, .f32⟩
  | .hbm, ⟨10, _⟩ => ⟨S6x16384x4x1, .f32⟩
  | .hbm, ⟨11, _⟩ => ⟨S6x16384x4x32, .f32⟩
  | .hbm, ⟨12, _⟩ => ⟨S6x16384x4x32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S6x16384x4x32, .f32⟩
  | .hbm, ⟨17, _⟩ => ⟨S6x16384x4x32, .f32⟩
  | .hbm, ⟨18, _⟩ => ⟨S_, .f32⟩
  | .hbm, ⟨19, _⟩ => ⟨S6x16384x4x32, .f32⟩
  | .hbm, ⟨20, _⟩ => ⟨S6x16384x4x32, .f32⟩
  | .hbm, ⟨21, _⟩ => ⟨S6x256x64x4x32, .f32⟩
  | .hbm, ⟨22, _⟩ => ⟨S6x16384x4x32, .f32⟩
  | .hbm, ⟨23, _⟩ => ⟨S6x16384x4x1, .f32⟩
  | .hbm, ⟨24, _⟩ => ⟨S6x16384x4x32, .f32⟩
  | .hbm, ⟨25, _⟩ => ⟨S6x16384x4x32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S6x16384x4x32, .f32⟩
  | .hbm, ⟨30, _⟩ => ⟨S6x16384x4x32, .f32⟩
  | .hbm, ⟨31, _⟩ => ⟨S_, .f32⟩
  | .hbm, ⟨32, _⟩ => ⟨S6x16384x4x32, .f32⟩
  | .hbm, ⟨33, _⟩ => ⟨S6x16384x4x32, .f32⟩
  | .hbm, ⟨34, _⟩ => ⟨S6x256x64x4x32, .f32⟩
  | .hbm, ⟨35, _⟩ => ⟨S6x256x4x64x64, .f32⟩
  | .hbm, ⟨36, _⟩ => ⟨S6x256x4x1x1, .f32⟩
  | .hbm, ⟨37, _⟩ => ⟨S6x256x4x64x64, .f32⟩
  | .hbm, ⟨38, _⟩ => ⟨S6x256x4x64x64, .f32⟩
  | .hbm, ⟨39, _⟩ => ⟨S1x1x4x64x64, .f32⟩
  | .hbm, ⟨40, _⟩ => ⟨S6x256x4x64x64, .f32⟩
  | .hbm, ⟨41, _⟩ => ⟨S6x256x4x64x64, .f32⟩
  | .hbm, ⟨42, _⟩ => ⟨S_, .f32⟩
  | .hbm, ⟨43, _⟩ => ⟨S6x256x4x64, .f32⟩
  | .hbm, ⟨44, _⟩ => ⟨S_, .f32⟩
  | .hbm, ⟨45, _⟩ => ⟨S6x256x4x64, .f32⟩
  | .hbm, ⟨46, _⟩ => ⟨S6x256x4x64, .f32⟩
  | .hbm, ⟨47, _⟩ => ⟨S6x256x4x64x1, .f32⟩
  | .hbm, ⟨48, _⟩ => ⟨S6x256x4x64x64, .f32⟩
  | .hbm, ⟨49, _⟩ => ⟨S6x256x4x64x64, .f32⟩
  | .hbm, ⟨50, _⟩ => ⟨S6x256x4x64x64, .f32⟩
  | .hbm, ⟨51, _⟩ => ⟨S_, .f32⟩
  | .hbm, ⟨52, _⟩ => ⟨S6x256x4x64, .f32⟩
  | .hbm, ⟨53, _⟩ => ⟨S6x256x4x64x1, .f32⟩
  | .hbm, ⟨54, _⟩ => ⟨S6x256x4x64x64, .f32⟩
  | .hbm, ⟨55, _⟩ => ⟨S6x256x4x64x64, .f32⟩
  | .hbm, ⟨56, _⟩ => ⟨S_, .f32⟩
  | .hbm, ⟨57, _⟩ => ⟨S6x256x4x64x64, .f32⟩
  | .hbm, ⟨58, _⟩ => ⟨S6x256x4x64x64, .f32⟩
  | .hbm, ⟨59, _⟩ => ⟨S6x256x64x4x32, .f32⟩
  | .hbm, ⟨60, _⟩ => ⟨S6x256x4x32x64, .f32⟩
  | .hbm, ⟨61, _⟩ => ⟨S6x256x64x4x32, .f32⟩
  | .hbm, ⟨62, _⟩ => ⟨S6x256x1x4x1, .f32⟩
  | .hbm, ⟨63, _⟩ => ⟨S6x256x64x4x32, .f32⟩
  | .hbm, ⟨64, _⟩ => ⟨S6x256x64x4x32, .f32⟩
  | .hbm, ⟨65, _⟩ => ⟨S_, .f32⟩
  | .hbm, ⟨66, _⟩ => ⟨S6x256x64x4x32, .f32⟩
  | .hbm, ⟨67, _⟩ => ⟨S6x256x64x4x32, .f32⟩
  | .hbm, ⟨68, _⟩ => ⟨S6x16384x128, .f32⟩
  | .hbm, ⟨69, _⟩ => ⟨S6x16384x128, .bf16⟩
  | .local _ .vmem, ⟨0, _⟩ => ⟨S6x16384x4x32, .fp8e4m3⟩
  | .local _ .vmem, ⟨1, _⟩ => ⟨S6x16384x4x32, .f32⟩
  | _, _ => ⟨S6x16384x4x32, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x16384x4x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x16384x4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Table.lean ====
abbrev S2x512 : Shape := ⟨2, ![2, 512]⟩
abbrev S512 : Shape := ⟨1, ![512]⟩
abbrev S512x4 : Shape := ⟨2, ![512, 4]⟩
abbrev S4 : Shape := ⟨1, ![4]⟩
abbrev S225 : Shape := ⟨1, ![225]⟩
abbrev S1x512 : Shape := ⟨2, ![1, 512]⟩
abbrev S4x512 : Shape := ⟨2, ![4, 512]⟩
abbrev S4x1 : Shape := ⟨2, ![4, 1]⟩
abbrev S225x1 : Shape := ⟨2, ![225, 1]⟩
abbrev S4x225 : Shape := ⟨2, ![4, 225]⟩
abbrev S225x512 : Shape := ⟨2, ![225, 512]⟩
abbrev S225x128 : Shape := ⟨2, ![225, 128]⟩
abbrev S31x128 : Shape := ⟨2, ![31, 128]⟩
abbrev S256x128 : Shape := ⟨2, ![256, 128]⟩
abbrev S128x128 : Shape := ⟨2, ![128, 128]⟩
abbrev S1x128 : Shape := ⟨2, ![1, 128]⟩
abbrev S1x256 : Shape := ⟨2, ![1, 256]⟩
abbrev S1x225 : Shape := ⟨2, ![1, 225]⟩

abbrev nBuf : Space → Nat
  | .hbm => 13
  | .vmem => 8
  | .smem => 0
  | _ => 0

abbrev bufTy : (tb : Table) → Fin (tcTables nBuf tb) → BufTy
  | .hbm, ⟨0, _⟩ => ⟨S2x512, .f32⟩
  | .hbm, ⟨1, _⟩ => ⟨S512, .f32⟩
  | .hbm, ⟨2, _⟩ => ⟨S512x4, .fp8e4m3⟩
  | .hbm, ⟨3, _⟩ => ⟨S4, .f32⟩
  | .hbm, ⟨4, _⟩ => ⟨S225, .f32⟩
  | .hbm, ⟨5, _⟩ => ⟨S225, .f32⟩
  | .hbm, ⟨6, _⟩ => ⟨S1x512, .f32⟩
  | .hbm, ⟨7, _⟩ => ⟨S4x512, .fp8e4m3⟩
  | .hbm, ⟨8, _⟩ => ⟨S4x1, .f32⟩
  | .hbm, ⟨9, _⟩ => ⟨S225x1, .f32⟩
  | .hbm, ⟨10, _⟩ => ⟨S225x1, .f32⟩
  | .hbm, ⟨11, _⟩ => ⟨S4x225, .f32⟩
  | .hbm, ⟨12, _⟩ => ⟨S225x512, .fp8e4m3⟩
  | .local _ .vmem, ⟨0, _⟩ => ⟨S2x512, .f32⟩
  | .local _ .vmem, ⟨1, _⟩ => ⟨S1x512, .f32⟩
  | .local _ .vmem, ⟨2, _⟩ => ⟨S4x512, .fp8e4m3⟩
  | .local _ .vmem, ⟨3, _⟩ => ⟨S4x1, .f32⟩
  | .local _ .vmem, ⟨4, _⟩ => ⟨S225x1, .f32⟩
  | .local _ .vmem, ⟨5, _⟩ => ⟨S225x1, .f32⟩
  | .local _ .vmem, ⟨6, _⟩ => ⟨S4x225, .f32⟩
  | .local _ .vmem, ⟨7, _⟩ => ⟨S225x512, .fp8e4m3⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [BitOps F]

abbrev grid0 : Pipeline.Grid := ⟨2, ![6, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S225x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S225x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x225 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S225x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== TableIdeal.lean ====
variable {F : FTy → Type} [FloatOps F]
-- ==== TableReferenceIdeal.lean ====
abbrev S2x512 : Shape := ⟨2, ![2, 512]⟩
abbrev S512 : Shape := ⟨1, ![512]⟩
abbrev S512x4 : Shape := ⟨2, ![512, 4]⟩
abbrev S4 : Shape := ⟨1, ![4]⟩
abbrev S225 : Shape := ⟨1, ![225]⟩
abbrev S15 : Shape := ⟨1, ![15]⟩
abbrev S_ : Shape := ⟨0, ![]⟩
abbrev S15x15 : Shape := ⟨2, ![15, 15]⟩
abbrev S225x1 : Shape := ⟨2, ![225, 1]⟩
abbrev S225x2 : Shape := ⟨2, ![225, 2]⟩
abbrev S4x225 : Shape := ⟨2, ![4, 225]⟩
abbrev S225x512 : Shape := ⟨2, ![225, 512]⟩
abbrev S1x512 : Shape := ⟨2, ![1, 512]⟩
abbrev S225x4 : Shape := ⟨2, ![225, 4]⟩
abbrev S1x4 : Shape := ⟨2, ![1, 4]⟩

abbrev nBuf : Space → Nat
  | .hbm => 38
  | .vmem => 9
  | .smem => 0
  | _ => 0

abbrev bufTy : (tb : Table) → Fin (tcTables nBuf tb) → BufTy
  | .hbm, ⟨0, _⟩ => ⟨S2x512, .f32⟩
  | .hbm, ⟨1, _⟩ => ⟨S512, .f32⟩
  | .hbm, ⟨2, _⟩ => ⟨S512x4, .fp8e4m3⟩
  | .hbm, ⟨3, _⟩ => ⟨S4, .f32⟩
  | .hbm, ⟨4, _⟩ => ⟨S225, .f32⟩
  | .hbm, ⟨5, _⟩ => ⟨S225, .f32⟩
  | .hbm, ⟨6, _⟩ => ⟨S15, .f32⟩
  | .hbm, ⟨7, _⟩ => ⟨S_, .f32⟩
  | .hbm, ⟨8, _⟩ => ⟨S15, .f32⟩
  | .hbm, ⟨9, _⟩ => ⟨S15, .f32⟩
  | .hbm, ⟨10, _⟩ => ⟨S15, .f32⟩
  | .hbm, ⟨11, _⟩ => ⟨S15, .f32⟩
  | .hbm, ⟨12, _⟩ => ⟨S_, .f32⟩
  | .hbm, ⟨13, _⟩ => ⟨S15, .f32⟩
  | .hbm, ⟨14, _⟩ => ⟨S15, .f32⟩
  | .hbm, ⟨15, _⟩ => ⟨S_, .f32⟩
  | .hbm, ⟨16, _⟩ => ⟨S15, .f32⟩
  | .hbm, ⟨17, _⟩ => ⟨S15, .f32⟩
  | .hbm, ⟨18, _⟩ => ⟨S_, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S_, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S_, .f32⟩
  | .hbm, ⟨27, _⟩ => ⟨S15, .f32⟩
  | .hbm, ⟨28, _⟩ => ⟨S15, .f32⟩
  | .hbm, ⟨29, _⟩ => ⟨S15x15, .f32⟩
  | .hbm, ⟨30, _⟩ => ⟨S15x15, .f32⟩
  | .hbm, ⟨31, _⟩ => ⟨S225, .f32⟩
  | .hbm, ⟨32, _⟩ => ⟨S225, .f32⟩
  | .hbm, ⟨33, _⟩ => ⟨S225x1, .f32⟩
  | .hbm, ⟨34, _⟩ => ⟨S225x1, .f32⟩
  | .hbm, ⟨35, _⟩ => ⟨S225x2, .f32⟩
  | .hbm, ⟨36, _⟩ => ⟨S4x225, .f32⟩
  | .hbm, ⟨37, _⟩ => ⟨S225x512, .fp8e4m3⟩
  | .local _ .vmem, ⟨0, _⟩ => ⟨S225x2, .f32⟩
  | .local _ .vmem, ⟨1, _⟩ => ⟨S2x512, .f32⟩
  | .local _ .vmem, ⟨2, _⟩ => ⟨S512, .f32⟩
  | .local _ .vmem, ⟨3, _⟩ => ⟨S512x4, .fp8e4m3⟩
  | .local _ .vmem, ⟨4, _⟩ => ⟨S4, .f32⟩
  | .local _ .vmem, ⟨5, _⟩ => ⟨S225, .f32⟩
  | .local _ .vmem, ⟨6, _⟩ => ⟨S225, .f32⟩
  | .local _ .vmem, ⟨7, _⟩ => ⟨S4x225, .f32⟩
  | .local _ .vmem, ⟨8, _⟩ => ⟨S225x512, .fp8e4m3⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S225x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x4 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S225 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S225 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x225 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S225x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Safe.lean ====
/-
  A program of loads, stores, counted loops and conditionals runs without a fault from any assertion that lets each memref it
  touches be taken out, owned whole at some contents, and put back. Nothing is said of the contents: this is what a
  frame needs, and it is how the parts of a body that bear on no claimed value are gone through.
-/
module

public import Idealize.ShloMosaic.Rules.Step
public import Idealize.ShloMosaic.Lib.Memref
public import Idealize.ShloMosaic.Lib.Scf

@[expose] public section

noncomputable section

namespace Cert.Common

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels} {defs : Defs nD τ sig Val Λ} {𝒱 : Variants}
variable {c : Thread nD τ} {bd : Option 𝒱.V} {E : Set Name}
local notation "𝕄" => MT nD τ sig Ix Val Name U Lvl

/-- The memref is owned in full, at some contents. -/
def Some' (c : Thread nD τ) {sp : Space} {s : Shape} {e : EltTy} (m : Memref sig c.2.kind sp s e) : sProp 𝕄 :=
  iprop(∃ f, m.view.loc c ↦[m.view.set]{fullShare} (f : Buf Val (m.view.loc c)))

/-- From `R` the memref can be taken, owned at some contents, and given back so at any other contents. -/
def Lends (R : sProp 𝕄) (c : Thread nD τ) {sp : Space} {s : Shape} {e : EltTy} (m : Memref sig c.2.kind sp s e) : Prop :=
  R ⊢ iprop(Some' (Ix := Ix) (Val := Val) (Name := Name) (U := U) (Lvl := Lvl) c m ∗ (Some' (Ix := Ix) (Val := Val) (Name := Name) (U := U) (Lvl := Lvl) c m -∗ R))

/-- The program runs from `R`, and ends with `R` again, whatever it returns. -/
def Safe {α : Type} (c : Thread nD τ) (defs : Defs nD τ sig Val Λ) (𝒱 : Variants) (bd : Option 𝒱.V) (E : Set Name) (R : sProp 𝕄)
    (p : Prog (TpuEff nD τ sig Val Λ c.2) α) : Prop :=
  R ⊢ wp frame (wpE defs 𝒱 c bd) E p (fun _ => R)

section Lemmas
variable {R : sProp (MT nD τ sig Ix Val Name U Lvl)}

/-- The head of a separating conjunction can be taken out and put back. -/
theorem lends_head {sp : Space} {s : Shape} {e : EltTy} {m : Memref sig c.2.kind sp s e} : Lends (Ix := Ix) (Val := Val) (Name := Name) (U := U) (Lvl := Lvl) iprop(Some' (Ix := Ix) (Val := Val) (Name := Name) (U := U) (Lvl := Lvl) c m ∗ R) c m := by
  unfold Lends
  iintro ⟨H, HR⟩
  isplitl [H]; · iexact H
  iintro H
  isplitl [H]; · iexact H
  iexact HR

/-- What the tail of a separating conjunction lends, the whole lends. -/
theorem lends_tail {P : sProp 𝕄} {sp : Space} {s : Shape} {e : EltTy} {m : Memref sig c.2.kind sp s e} (h : Lends (Ix := Ix) (Val := Val) (Name := Name) (U := U) (Lvl := Lvl) R c m) :
    Lends (Ix := Ix) (Val := Val) (Name := Name) (U := U) (Lvl := Lvl) iprop(P ∗ R) c m := by
  unfold Lends at h ⊢
  iintro ⟨HP, HR⟩
  ihave HR' := h $$ HR
  icases HR' with ⟨H, HW⟩
  isplitl [H]; · iexact H
  iintro H
  isplitl [HP]; · iexact HP
  iapply HW; iexact H

/-- A separating conjunct alone. -/
theorem lends_self {sp : Space} {s : Shape} {e : EltTy} {m : Memref sig c.2.kind sp s e} : Lends (Ix := Ix) (Val := Val) (Name := Name) (U := U) (Lvl := Lvl) (Some' (Ix := Ix) (Val := Val) (Name := Name) (U := U) (Lvl := Lvl) c m) c m := by
  unfold Lends
  iintro H
  isplitl [H]; · iexact H
  iintro H; iexact H

/-- A program that returns at once. -/
theorem safe_pure {α : Type} (a : α) : Safe (Ix := Ix) (Val := Val) (Name := Name) (U := U) (Lvl := Lvl) c defs 𝒱 bd E R (pure a : Prog (TpuEff nD τ sig Val Λ c.2) α) :=
  le_wp_ret frame (wpE defs 𝒱 c bd) E a (fun _ => R)

/-- A program, then another for each thing the first may return. -/
theorem safe_bind {α β : Type} {p : Prog (TpuEff nD τ sig Val Λ c.2) α} {k : α → Prog (TpuEff nD τ sig Val Λ c.2) β}
    (hp : Safe (Ix := Ix) (Val := Val) (Name := Name) (U := U) (Lvl := Lvl) c defs 𝒱 bd E R p) (hk : ∀ a, Safe (Ix := Ix) (Val := Val) (Name := Name) (U := U) (Lvl := Lvl) c defs 𝒱 bd E R (k a)) : Safe (Ix := Ix) (Val := Val) (Name := Name) (U := U) (Lvl := Lvl) c defs 𝒱 bd E R (p >>= k) := by
  unfold Safe at hp hk ⊢
  rw [wp_bind]
  exact hp.trans (wp_mono frame _ _ hk)

/-- A load at the head of a program. -/
theorem safe_op_load {α : Type} {cs : CoreSpace} {s : Shape} {e : EltTy} {m : Memref sig c.2.kind cs s e} {r : LoadRect s} {hl : m.view.LoadsAt r}
    {k : (r.shape.Idx → Val e) → Prog (TpuEff nD τ sig Val Λ c.2) α}
    (hm : Lends (Ix := Ix) (Val := Val) (Name := Name) (U := U) (Lvl := Lvl) R c m) (hk : ∀ x, Safe (Ix := Ix) (Val := Val) (Name := Name) (U := U) (Lvl := Lvl) c defs 𝒱 bd E R (k x)) : Safe (Ix := Ix) (Val := Val) (Name := Name) (U := U) (Lvl := Lvl) c defs 𝒱 bd E R (.op (.load m r hl) k) := by
  unfold Safe Lends at *
  iintro HR
  ihave HR' := hm $$ HR
  icases HR' with ⟨H, HW⟩
  unfold Some'
  icases H with ⟨%f, H⟩
  iapply (wp_load 𝒱 c bd E (m.view.setOn_subset_set r.set)) $$ H
  iintro H
  iapply (hk _)
  iapply HW
  iexists f; iexact H

/-- A store at the head of a program. -/
theorem safe_op_store {α : Type} {cs : CoreSpace} {s : Shape} {e : EltTy} {m : Memref sig c.2.kind cs s e} {r : Rect s} {w : r.shape.Idx → Val e}
    {Mk : Finset r.shape.Idx} {hx : (m.access r).Stores Mk} {hst : Mk = Finset.univ ∨ ∀ a, r.stride a = 1}
    {k : PUnit → Prog (TpuEff nD τ sig Val Λ c.2) α}
    (hm : Lends (Ix := Ix) (Val := Val) (Name := Name) (U := U) (Lvl := Lvl) R c m) (hk : Safe (Ix := Ix) (Val := Val) (Name := Name) (U := U) (Lvl := Lvl) c defs 𝒱 bd E R (k ⟨⟩)) : Safe (Ix := Ix) (Val := Val) (Name := Name) (U := U) (Lvl := Lvl) c defs 𝒱 bd E R (.op (.store m r w Mk hx hst) k) := by
  unfold Safe Lends at *
  iintro HR
  ihave HR' := hm $$ HR
  icases HR' with ⟨H, HW⟩
  unfold Some'
  icases H with ⟨%f, H⟩
  iapply (wp_store 𝒱 c bd E (((m.access r).setOn_subset_set Mk).trans ((View.set_slice ..).subset.trans (m.view.setOn_subset_set r.set)))) $$ H
  iintro H
  iapply hk
  iapply HW
  iexists _; iexact H

/-- A load, then what follows it. -/
theorem safe_load {α : Type} {cs : CoreSpace} {s : Shape} {e : EltTy} {m : Memref sig c.2.kind cs s e} {r : LoadRect s} {hl : m.view.LoadsAt r}
    {k : (r.shape.Idx → Val e) → Prog (TpuEff nD τ sig Val Λ c.2) α}
    (hm : Lends (Ix := Ix) (Val := Val) (Name := Name) (U := U) (Lvl := Lvl) R c m) (hk : ∀ x, Safe (Ix := Ix) (Val := Val) (Name := Name) (U := U) (Lvl := Lvl) c defs 𝒱 bd E R (k x)) : Safe (Ix := Ix) (Val := Val) (Name := Name) (U := U) (Lvl := Lvl) c defs 𝒱 bd E R (Prog.lift (.load m r hl) >>= k) :=
  safe_op_load hm hk

/-- A load of one word of scalar memory, then what follows it. -/
theorem safe_smem {α : Type} {s : Shape} {e : EltTy} {m : Memref sig c.2.kind .smem s e} {r : Rect s} {h1 : r.shape.numel = 1} {hp : e.packing = 1}
    {k : Val e → Prog (TpuEff nD τ sig Val Λ c.2) α}
    (hm : Lends (Ix := Ix) (Val := Val) (Name := Name) (U := U) (Lvl := Lvl) R c m) (hk : ∀ x, Safe (Ix := Ix) (Val := Val) (Name := Name) (U := U) (Lvl := Lvl) c defs 𝒱 bd E R (k x)) : Safe (Ix := Ix) (Val := Val) (Name := Name) (U := U) (Lvl := Lvl) c defs 𝒱 bd E R (smemLoad m r h1 hp >>= k) :=
  safe_op_load (k := fun f => k (f (Shape.Idx.first (h1.symm ▸ Nat.one_pos)))) hm fun _ => hk _

/-- A store, then what follows it. -/
theorem safe_store {α : Type} {cs : CoreSpace} {s : Shape} {e : EltTy} {m : Memref sig c.2.kind cs s e} {r : Rect s} {w : r.shape.Idx → Val e}
    {Mk : Finset r.shape.Idx} {hx : (m.access r).Stores Mk} {hst : Mk = Finset.univ ∨ ∀ a, r.stride a = 1}
    {k : PUnit → Prog (TpuEff nD τ sig Val Λ c.2) α}
    (hm : Lends (Ix := Ix) (Val := Val) (Name := Name) (U := U) (Lvl := Lvl) R c m) (hk : Safe (Ix := Ix) (Val := Val) (Name := Name) (U := U) (Lvl := Lvl) c defs 𝒱 bd E R (k ⟨⟩)) : Safe (Ix := Ix) (Val := Val) (Name := Name) (U := U) (Lvl := Lvl) c defs 𝒱 bd E R (Prog.lift (.store m r w Mk hx hst) >>= k) :=
  safe_op_store hm hk

/-- A store at the end of a program. -/
theorem safe_store_last {cs : CoreSpace} {s : Shape} {e : EltTy} {m : Memref sig c.2.kind cs s e} {r : Rect s} {w : r.shape.Idx → Val e}
    {Mk : Finset r.shape.Idx} {hx : (m.access r).Stores Mk} {hst : Mk = Finset.univ ∨ ∀ a, r.stride a = 1}
    (hm : Lends (Ix := Ix) (Val := Val) (Name := Name) (U := U) (Lvl := Lvl) R c m) : Safe (Ix := Ix) (Val := Val) (Name := Name) (U := U) (Lvl := Lvl) c defs 𝒱 bd E R (Prog.lift (.store m r w Mk hx hst) : Prog (TpuEff nD τ sig Val Λ c.2) PUnit) :=
  safe_op_store hm (safe_pure _)

/-- A load at the end of a program. -/
theorem safe_load_last {cs : CoreSpace} {s : Shape} {e : EltTy} {m : Memref sig c.2.kind cs s e} {r : LoadRect s} {hl : m.view.LoadsAt r}
    (hm : Lends (Ix := Ix) (Val := Val) (Name := Name) (U := U) (Lvl := Lvl) R c m) :
    Safe (Ix := Ix) (Val := Val) (Name := Name) (U := U) (Lvl := Lvl) c defs 𝒱 bd E R (Prog.lift (.load m r hl) : Prog (TpuEff nD τ sig Val Λ c.2) _) :=
  safe_op_load hm fun _ => safe_pure _

/-- A load of one word of scalar memory at the end of a program. -/
theorem safe_smem_last {s : Shape} {e : EltTy} {m : Memref sig c.2.kind .smem s e} {r : Rect s} {h1 : r.shape.numel = 1} {hp : e.packing = 1}
    (hm : Lends (Ix := Ix) (Val := Val) (Name := Name) (U := U) (Lvl := Lvl) R c m) : Safe (Ix := Ix) (Val := Val) (Name := Name) (U := U) (Lvl := Lvl) c defs 𝒱 bd E R (smemLoad m r h1 hp : Prog (TpuEff nD τ sig Val Λ c.2) _) :=
  safe_op_load (k := fun f => .ret (f (Shape.Idx.first (h1.symm ▸ Nat.one_pos)))) hm fun _ => safe_pure _

/-- A counted loop whose every trip is safe. -/
theorem safe_loop {w : Nat} {σ : Type} {l : Scf.Loop w} {hok : l.OK} {init : σ} {body : Fin l.trips → σ → Prog (TpuEff nD τ sig Val Λ c.2) σ}
    (hb : ∀ t acc, Safe (Ix := Ix) (Val := Val) (Name := Name) (U := U) (Lvl := Lvl) c defs 𝒱 bd E R (body t acc)) : Safe (Ix := Ix) (Val := Val) (Name := Name) (U := U) (Lvl := Lvl) c defs 𝒱 bd E R (Scf.Loop.for l hok init body) := by
  unfold Safe at *
  iintro HR
  iapply (Scf.wp_for frame (wpE defs 𝒱 c bd) E l.lb l.ub l.st hok init body (fun _ _ => _) hb)
  isplitl [HR]; · iexact HR
  iintro %acc HR; iexact HR

/-- A conditional whose branches are safe. -/
theorem safe_dite {α : Type} {C : Prop} [Decidable C] {p : C → Prog (TpuEff nD τ sig Val Λ c.2) α} {q : ¬C → Prog (TpuEff nD τ sig Val Λ c.2) α}
    (hp : ∀ h, Safe (Ix := Ix) (Val := Val) (Name := Name) (U := U) (Lvl := Lvl) c defs 𝒱 bd E R (p h)) (hq : ∀ h, Safe (Ix := Ix) (Val := Val) (Name := Name) (U := U) (Lvl := Lvl) c defs 𝒱 bd E R (q h)) : Safe (Ix := Ix) (Val := Val) (Name := Name) (U := U) (Lvl := Lvl) c defs 𝒱 bd E R (if h : C then p h else q h) := by
  split
  · exact hp _
  · exact hq _

end Lemmas

end Cert.Common

end
-- ==== Proof.SafeKernel.lean ====
/-
  The body of `Kernel` runs without a fault, and hands back what it was handed, from any assertion that lends each of its memrefs:
  each loop's trip, then the whole body (Proof/Safe.lean).
-/
module

public import proofs.«01_k».proof.Proof.Gen.Kernel.Skeleton
public import proofs.«01_k».proof.Proof.Safe
public import Idealize.ShloMosaic.Lib.Pipeline.Frame

@[expose] public section

set_option maxRecDepth 16384
set_option maxHeartbeats 400000

noncomputable section

namespace Cert.Kernel.Hand

open Cert.Kernel Cert.Kernel.Gen Cert.Common
open Idealize.ShloMosaic Idealize.ShloMosaic.TcCoe
open Idealize.SL Idealize.SL.RA Idealize.SL.BI
open scoped Idealize.SL.BI
open Idealize.SL.BI.BIBase Idealize.SL.Sem

variable {F : FTy → Type} [BitOps F]
variable {c : Dev nD} {R : sProp (MT nD τ sig Unit (Elt F) ℕ (UR sig nD τ) ℕ)}
variable (i : grid0.Coords) {arg2 : Memref sig .tc .vmem S1x4x4x64x8x128 .bf16} {harg2 : arg2.IsWhole} {arg3 : Memref sig .tc .vmem S1x4x4x64x8x128 .bf16} {harg3 : arg3.IsWhole} {arg4 : Memref sig .tc .vmem S1x4x32x8192 .fp8e4m3} {harg4 : arg4.IsWhole} {arg5 : Memref sig .tc .vmem S1x4x128 .f32} {harg5 : arg5.IsWhole} {arg6 : Memref sig .tc .smem S4 .f32} {harg6 : arg6.IsWhole} {arg7 : Memref sig .tc .vmem S2x512 .f32} {harg7 : arg7.IsWhole} {arg8 : Memref sig .tc .vmem S1x512 .f32} {harg8 : arg8.IsWhole} {arg9 : Memref sig .tc .vmem S4x512 .fp8e4m3} {harg9 : arg9.IsWhole} {arg10 : Memref sig .tc .vmem S4x1 .f32} {harg10 : arg10.IsWhole} {arg11 : Memref sig .tc .vmem S1x8192x128 .bf16} {harg11 : arg11.IsWhole} {arg12 : Memref sig .tc .vmem S4x225 .f32} {harg12 : arg12.IsWhole} {arg13 : Memref sig .tc .vmem S225x512 .fp8e4m3} {harg13 : arg13.IsWhole} {arg14 : Memref sig .tc .vmem S1x225 .f32} {harg14 : arg14.IsWhole} {arg15 : Memref sig .tc .vmem S1x64x4x32x128 .fp8e4m3} {harg15 : arg15.IsWhole} {arg16 : Memref sig .tc .vmem S1x4x128 .f32} {harg16 : arg16.IsWhole} {arg17 : Memref sig .tc .vmem S1x64x4x32x128 .fp8e4m3} {harg17 : arg17.IsWhole} {arg18 : Memref sig .tc .vmem S1x4x128 .f32} {harg18 : arg18.IsWhole} {arg19 : Memref sig .tc .vmem S8x256 .f32} {harg19 : arg19.IsWhole} {arg20 : Memref sig .tc .vmem S64x512 .f32} {harg20 : arg20.IsWhole} {arg21 : Memref sig .tc .vmem S4x64x32x128 .fp8e4m3} {harg21 : arg21.IsWhole} {arg22 : Memref sig .tc .vmem S4x64x32x128 .fp8e4m3} {harg22 : arg22.IsWhole} {arg23 : Memref sig .tc .vmem S2x4x64x128 .f32} {harg23 : arg23.IsWhole} {arg24 : Memref sig .tc .vmem S4x64x128 .f32} {harg24 : arg24.IsWhole} {arg25 : Memref sig .tc .vmem S4x64x128 .f32} {harg25 : arg25.IsWhole} {arg26 : Memref sig .tc .vmem S72x128 .f32} {harg26 : arg26.IsWhole} {arg27 : Memref sig .tc .vmem S72x128 .i32} {harg27 : arg27.IsWhole} {arg28 : Memref sig .tc .vmem S4128x128 .f32} {harg28 : arg28.IsWhole} {arg29 : Memref sig .tc .vmem S2112x128 .f32} {harg29 : arg29.IsWhole}

/-- A trip of loop 1. -/
theorem safe_t1 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v703 : FVec F S1x128 .f32) (v896 : FVec F S8x128 .f32) (v928 : Elt F .f32) (t : Fin k0_t1_loop.trips) (acc) :
    Safe (c : Thread nD τ) (defs₀ (F := F)) Variants.none none Set.univ R (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v703 v896 v928 t acc) := by
  delta k0_t1_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton]
       delta
         k0_part13_skel k0_part14_skel k0_part15_skel k0_part16_skel k0_part17_skel k0_part18_skel k0_part19_skel k0_part20_skel k0_part21_skel
         k0_part22_skel k0_part23_skel k0_part24_skel k0_part25_skel k0_part26_skel k0_part27_skel k0_part28_skel k0_part29_skel k0_part30_skel
         k0_part31_skel k0_part32_skel)

/-- A trip of loop 2. -/
theorem safe_t2 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v934_0 : FVec F S8x128 .f32) (v934_1 : FVec F S8x128 .f32) (v945 : Elt F .f32) (t : Fin k0_t2_loop.trips) (acc) :
    Safe (c : Thread nD τ) (defs₀ (F := F)) Variants.none none Set.univ R (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v934_0 v934_1 v945 t acc) := by
  delta k0_t2_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part33_eq_skeleton, k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton, k0_part50_eq_skeleton,
    k0_part51_eq_skeleton, k0_part52_eq_skeleton]
       delta
         k0_part33_skel k0_part34_skel k0_part35_skel k0_part36_skel k0_part37_skel k0_part38_skel k0_part39_skel k0_part40_skel k0_part41_skel
         k0_part42_skel k0_part43_skel k0_part44_skel k0_part45_skel k0_part46_skel k0_part47_skel k0_part48_skel k0_part49_skel k0_part50_skel
         k0_part51_skel k0_part52_skel)

/-- A trip of loop 3. -/
theorem safe_t3 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v963 : F .f32) (t : Fin k0_t3_loop.trips) (acc) :
    Safe (c : Thread nD τ) (defs₀ (F := F)) Variants.none none Set.univ R (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v963 t acc) := by
  delta k0_t3_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part53_eq_skeleton, k0_part54_eq_skeleton, k0_part55_eq_skeleton, k0_part56_eq_skeleton, k0_part57_eq_skeleton, k0_part58_eq_skeleton,
    k0_part59_eq_skeleton, k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton, k0_part70_eq_skeleton,
    k0_part71_eq_skeleton, k0_part72_eq_skeleton]
       delta
         k0_part53_skel k0_part54_skel k0_part55_skel k0_part56_skel k0_part57_skel k0_part58_skel k0_part59_skel k0_part60_skel k0_part61_skel
         k0_part62_skel k0_part63_skel k0_part64_skel k0_part65_skel k0_part66_skel k0_part67_skel k0_part68_skel k0_part69_skel k0_part70_skel
         k0_part71_skel k0_part72_skel)

/-- A trip of loop 4. -/
theorem safe_t4 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v963 : F .f32) (v979 : Elt F .f32) (t : Fin k0_t4_loop.trips) (acc) :
    Safe (c : Thread nD τ) (defs₀ (F := F)) Variants.none none Set.univ R (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v963 v979 t acc) := by
  delta k0_t4_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton]
       delta
         k0_part73_skel k0_part74_skel k0_part75_skel k0_part76_skel k0_part77_skel k0_part78_skel k0_part79_skel k0_part80_skel k0_part81_skel
         k0_part82_skel k0_part83_skel k0_part84_skel k0_part85_skel k0_part86_skel k0_part87_skel k0_part88_skel k0_part89_skel k0_part90_skel
         k0_part91_skel k0_part92_skel)

/-- A trip of loop 5. -/
theorem safe_t5 (h2 : Lends R (c : Thread nD τ) arg2) (h3 : Lends R (c : Thread nD τ) arg3) (h21 : Lends R (c : Thread nD τ) arg21) (h22 : Lends R (c : Thread nD τ) arg22) (h23 : Lends R (c : Thread nD τ) arg23)
     (t : Fin k0_t5_loop.trips) (acc) :
    Safe (c : Thread nD τ) (defs₀ (F := F)) Variants.none none Set.univ R (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29  t acc) := by
  delta k0_t5_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part93_eq_skeleton, k0_part94_eq_skeleton, k0_part95_eq_skeleton, k0_part96_eq_skeleton]
       delta
         k0_part93_skel k0_part94_skel k0_part95_skel k0_part96_skel)

/-- A trip of loop 6. -/
theorem safe_t6 (h4 : Lends R (c : Thread nD τ) arg4) (h11 : Lends R (c : Thread nD τ) arg11) (h20 : Lends R (c : Thread nD τ) arg20) (h21 : Lends R (c : Thread nD τ) arg21) (h22 : Lends R (c : Thread nD τ) arg22) (h24 : Lends R (c : Thread nD τ) arg24) (h25 : Lends R (c : Thread nD τ) arg25)
    (v8 : IVec S8x128 1) (t : Fin k0_t6_loop.trips) (acc) :
    Safe (c : Thread nD τ) (defs₀ (F := F)) Variants.none none Set.univ R (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v8 t acc) := by
  delta k0_t6_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part97_eq_skeleton, k0_part98_eq_skeleton, k0_part99_eq_skeleton, k0_part100_eq_skeleton, k0_part101_eq_skeleton, k0_part102_eq_skeleton]
       delta
         k0_part97_skel k0_part98_skel k0_part99_skel k0_part100_skel k0_part101_skel k0_part102_skel)

/-- A trip of loop 7. -/
theorem safe_t7 (h15 : Lends R (c : Thread nD τ) arg15) (h21 : Lends R (c : Thread nD τ) arg21) (h28 : Lends R (c : Thread nD τ) arg28) (h29 : Lends R (c : Thread nD τ) arg29)
     (t : Fin k0_t7_loop.trips) (acc) :
    Safe (c : Thread nD τ) (defs₀ (F := F)) Variants.none none Set.univ R (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29  t acc) := by
  delta k0_t7_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part103_eq_skeleton, k0_part104_eq_skeleton, k0_part105_eq_skeleton, k0_part106_eq_skeleton, k0_part107_eq_skeleton, k0_part108_eq_skeleton,
    k0_part109_eq_skeleton, k0_part110_eq_skeleton, k0_part111_eq_skeleton, k0_part112_eq_skeleton, k0_part113_eq_skeleton, k0_part114_eq_skeleton,
    k0_part115_eq_skeleton, k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton, k0_part126_eq_skeleton,
    k0_part127_eq_skeleton, k0_part128_eq_skeleton, k0_part129_eq_skeleton, k0_part130_eq_skeleton, k0_part131_eq_skeleton, k0_part132_eq_skeleton,
    k0_part133_eq_skeleton, k0_part134_eq_skeleton, k0_part135_eq_skeleton, k0_part136_eq_skeleton, k0_part137_eq_skeleton, k0_part138_eq_skeleton,
    k0_part139_eq_skeleton, k0_part140_eq_skeleton, k0_part141_eq_skeleton, k0_part142_eq_skeleton, k0_part143_eq_skeleton, k0_part144_eq_skeleton,
    k0_part145_eq_skeleton, k0_part146_eq_skeleton, k0_part147_eq_skeleton, k0_part148_eq_skeleton, k0_part149_eq_skeleton, k0_part150_eq_skeleton,
    k0_part151_eq_skeleton, k0_part152_eq_skeleton, k0_part153_eq_skeleton, k0_part154_eq_skeleton, k0_part155_eq_skeleton, k0_part156_eq_skeleton,
    k0_part157_eq_skeleton, k0_part158_eq_skeleton, k0_part159_eq_skeleton, k0_part160_eq_skeleton, k0_part161_eq_skeleton, k0_part162_eq_skeleton,
    k0_part163_eq_skeleton, k0_part164_eq_skeleton, k0_part165_eq_skeleton, k0_part166_eq_skeleton, k0_part167_eq_skeleton, k0_part168_eq_skeleton,
    k0_part169_eq_skeleton, k0_part170_eq_skeleton]
       delta
         k0_part103_skel k0_part104_skel k0_part105_skel k0_part106_skel k0_part107_skel k0_part108_skel k0_part109_skel k0_part110_skel
         k0_part111_skel k0_part112_skel k0_part113_skel k0_part114_skel k0_part115_skel k0_part116_skel k0_part117_skel k0_part118_skel
         k0_part119_skel k0_part120_skel k0_part121_skel k0_part122_skel k0_part123_skel k0_part124_skel k0_part125_skel k0_part126_skel
         k0_part127_skel k0_part128_skel k0_part129_skel k0_part130_skel k0_part131_skel k0_part132_skel k0_part133_skel k0_part134_skel
         k0_part135_skel k0_part136_skel k0_part137_skel k0_part138_skel k0_part139_skel k0_part140_skel k0_part141_skel k0_part142_skel
         k0_part143_skel k0_part144_skel k0_part145_skel k0_part146_skel k0_part147_skel k0_part148_skel k0_part149_skel k0_part150_skel
         k0_part151_skel k0_part152_skel k0_part153_skel k0_part154_skel k0_part155_skel k0_part156_skel k0_part157_skel k0_part158_skel
         k0_part159_skel k0_part160_skel k0_part161_skel k0_part162_skel k0_part163_skel k0_part164_skel k0_part165_skel k0_part166_skel
         k0_part167_skel k0_part168_skel k0_part169_skel k0_part170_skel)

/-- A trip of loop 8. -/
theorem safe_t8 (h17 : Lends R (c : Thread nD τ) arg17) (h22 : Lends R (c : Thread nD τ) arg22) (h28 : Lends R (c : Thread nD τ) arg28) (h29 : Lends R (c : Thread nD τ) arg29)
    (v1005 : IVec S64x128 1) (t : Fin k0_t8_loop.trips) (acc) :
    Safe (c : Thread nD τ) (defs₀ (F := F)) Variants.none none Set.univ R (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v1005 t acc) := by
  delta k0_t8_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part171_eq_skeleton, k0_part172_eq_skeleton, k0_part173_eq_skeleton, k0_part174_eq_skeleton, k0_part175_eq_skeleton, k0_part176_eq_skeleton,
    k0_part177_eq_skeleton, k0_part178_eq_skeleton, k0_part179_eq_skeleton, k0_part180_eq_skeleton, k0_part181_eq_skeleton, k0_part182_eq_skeleton,
    k0_part183_eq_skeleton, k0_part184_eq_skeleton, k0_part185_eq_skeleton, k0_part186_eq_skeleton, k0_part187_eq_skeleton, k0_part188_eq_skeleton,
    k0_part189_eq_skeleton, k0_part190_eq_skeleton, k0_part191_eq_skeleton, k0_part192_eq_skeleton, k0_part193_eq_skeleton, k0_part194_eq_skeleton,
    k0_part195_eq_skeleton, k0_part196_eq_skeleton, k0_part197_eq_skeleton, k0_part198_eq_skeleton, k0_part199_eq_skeleton, k0_part200_eq_skeleton,
    k0_part201_eq_skeleton, k0_part202_eq_skeleton, k0_part203_eq_skeleton, k0_part204_eq_skeleton, k0_part205_eq_skeleton, k0_part206_eq_skeleton,
    k0_part207_eq_skeleton, k0_part208_eq_skeleton, k0_part209_eq_skeleton, k0_part210_eq_skeleton, k0_part211_eq_skeleton, k0_part212_eq_skeleton,
    k0_part213_eq_skeleton, k0_part214_eq_skeleton, k0_part215_eq_skeleton, k0_part216_eq_skeleton, k0_part217_eq_skeleton, k0_part218_eq_skeleton,
    k0_part219_eq_skeleton, k0_part220_eq_skeleton, k0_part221_eq_skeleton, k0_part222_eq_skeleton, k0_part223_eq_skeleton, k0_part224_eq_skeleton,
    k0_part225_eq_skeleton, k0_part226_eq_skeleton, k0_part227_eq_skeleton, k0_part228_eq_skeleton, k0_part229_eq_skeleton, k0_part230_eq_skeleton,
    k0_part231_eq_skeleton, k0_part232_eq_skeleton, k0_part233_eq_skeleton, k0_part234_eq_skeleton, k0_part235_eq_skeleton, k0_part236_eq_skeleton,
    k0_part237_eq_skeleton, k0_part238_eq_skeleton]
       delta
         k0_part171_skel k0_part172_skel k0_part173_skel k0_part174_skel k0_part175_skel k0_part176_skel k0_part177_skel k0_part178_skel
         k0_part179_skel k0_part180_skel k0_part181_skel k0_part182_skel k0_part183_skel k0_part184_skel k0_part185_skel k0_part186_skel
         k0_part187_skel k0_part188_skel k0_part189_skel k0_part190_skel k0_part191_skel k0_part192_skel k0_part193_skel k0_part194_skel
         k0_part195_skel k0_part196_skel k0_part197_skel k0_part198_skel k0_part199_skel k0_part200_skel k0_part201_skel k0_part202_skel
         k0_part203_skel k0_part204_skel k0_part205_skel k0_part206_skel k0_part207_skel k0_part208_skel k0_part209_skel k0_part210_skel
         k0_part211_skel k0_part212_skel k0_part213_skel k0_part214_skel k0_part215_skel k0_part216_skel k0_part217_skel k0_part218_skel
         k0_part219_skel k0_part220_skel k0_part221_skel k0_part222_skel k0_part223_skel k0_part224_skel k0_part225_skel k0_part226_skel
         k0_part227_skel k0_part228_skel k0_part229_skel k0_part230_skel k0_part231_skel k0_part232_skel k0_part233_skel k0_part234_skel
         k0_part235_skel k0_part236_skel k0_part237_skel k0_part238_skel)

/-- The whole body. -/
theorem safe_body (h2 : Lends R (c : Thread nD τ) arg2) (h3 : Lends R (c : Thread nD τ) arg3) (h4 : Lends R (c : Thread nD τ) arg4) (h5 : Lends R (c : Thread nD τ) arg5) (h6 : Lends R (c : Thread nD τ) arg6) (h7 : Lends R (c : Thread nD τ) arg7) (h8 : Lends R (c : Thread nD τ) arg8) (h9 : Lends R (c : Thread nD τ) arg9) (h10 : Lends R (c : Thread nD τ) arg10) (h11 : Lends R (c : Thread nD τ) arg11) (h12 : Lends R (c : Thread nD τ) arg12) (h13 : Lends R (c : Thread nD τ) arg13) (h14 : Lends R (c : Thread nD τ) arg14) (h15 : Lends R (c : Thread nD τ) arg15) (h16 : Lends R (c : Thread nD τ) arg16) (h17 : Lends R (c : Thread nD τ) arg17) (h18 : Lends R (c : Thread nD τ) arg18) (h19 : Lends R (c : Thread nD τ) arg19) (h20 : Lends R (c : Thread nD τ) arg20) (h21 : Lends R (c : Thread nD τ) arg21) (h22 : Lends R (c : Thread nD τ) arg22) (h23 : Lends R (c : Thread nD τ) arg23) (h24 : Lends R (c : Thread nD τ) arg24) (h25 : Lends R (c : Thread nD τ) arg25) (h26 : Lends R (c : Thread nD τ) arg26) (h27 : Lends R (c : Thread nD τ) arg27) (h28 : Lends R (c : Thread nD τ) arg28) (h29 : Lends R (c : Thread nD τ) arg29) :
    Safe (c : Thread nD τ) (defs₀ (F := F)) Variants.none none Set.univ R (cc0_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) := by
  simp only [cc0_window_attention_eq_skeleton]
  delta cc0_window_attention_skel
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_loop fun t acc => ?_
    | with_reducible exact safe_t1 _ h2 h3 h23 h24 h26 h27 _ _ _ _ _ _ _ t acc
    | with_reducible exact safe_t2 _ h2 h3 h23 h24 h26 h27 _ _ _ _ _ _ _ t acc
    | with_reducible exact safe_t3 _ h2 h3 h23 h24 h26 h27 _ _ _ _ _ t acc
    | with_reducible exact safe_t4 _ h2 h3 h23 h24 h26 h27 _ _ _ _ _ _ t acc
    | with_reducible exact safe_t5 _ h2 h3 h21 h22 h23  t acc
    | with_reducible exact safe_t6 _ h4 h11 h20 h21 h22 h24 h25 _ t acc
    | with_reducible exact safe_t7 _ h15 h21 h28 h29  t acc
    | with_reducible exact safe_t8 _ h17 h22 h28 h29 _ t acc
    | with_reducible refine safe_bind ?_ fun _ => ?_
    | with_reducible refine safe_dite (fun _ => ?_) fun _ => ?_
    | (simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part239_eq_skeleton, k0_part240_eq_skeleton, k0_part241_eq_skeleton, k0_part242_eq_skeleton, k0_part243_eq_skeleton, k0_part244_eq_skeleton,
    k0_part245_eq_skeleton, k0_part246_eq_skeleton, k0_part247_eq_skeleton, k0_part248_eq_skeleton, k0_part249_eq_skeleton, k0_part250_eq_skeleton,
    k0_part251_eq_skeleton, k0_part252_eq_skeleton, k0_part253_eq_skeleton, k0_part254_eq_skeleton, k0_part255_eq_skeleton, k0_part256_eq_skeleton,
    k0_part257_eq_skeleton, k0_part258_eq_skeleton, k0_part259_eq_skeleton, k0_part260_eq_skeleton, k0_part261_eq_skeleton, k0_part262_eq_skeleton,
    k0_part263_eq_skeleton]
       delta
         k0_part1_skel k0_part2_skel k0_part3_skel k0_part4_skel k0_part5_skel k0_part6_skel k0_part7_skel k0_part8_skel k0_part9_skel
         k0_part10_skel k0_part11_skel k0_part12_skel k0_part239_skel k0_part240_skel k0_part241_skel k0_part242_skel k0_part243_skel
         k0_part244_skel k0_part245_skel k0_part246_skel k0_part247_skel k0_part248_skel k0_part249_skel k0_part250_skel k0_part251_skel
         k0_part252_skel k0_part253_skel k0_part254_skel k0_part255_skel k0_part256_skel k0_part257_skel k0_part258_skel k0_part259_skel
         k0_part260_skel k0_part261_skel k0_part262_skel k0_part263_skel)
  all_goals exact safe_smem_last (by assumption)

end Cert.Kernel.Hand

end
-- ==== Proof.Lent.lean ====
/-
  Ownership at stated contents, ownership at some contents, and the passage of a program that hands back what it was handed to any continuation.
-/
module

public import proofs.«01_k».proof.Proof.Safe

@[expose] public section

noncomputable section

namespace Cert.Common

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels} {defs : Defs nD τ sig Val Λ} {𝒱 : Variants}
variable {c : Thread nD τ} {bd : Option 𝒱.V} {E : Set Name}
local notation "𝕄" => MT nD τ sig Ix Val Name U Lvl

/-- Owned at stated contents is owned at some. -/
theorem owns_some {sp : Space} {s : Shape} {e : EltTy} (m : Memref sig c.2.kind sp s e) (X : s.Idx → Val e) :
    (owns c m fullShare X : sProp 𝕄) ⊢ Some' c m := by
  unfold owns Some'
  iintro ⟨%f, -, H⟩
  iexists f; iexact H

/-- Owned at some contents is owned at what the memref reads there. -/
theorem some_owns {sp : Space} {s : Shape} {e : EltTy} (m : Memref sig c.2.kind sp s e) :
    (Some' c m : sProp 𝕄) ⊢ iprop(∃ X, ⌜True⌝ ∗ owns c m fullShare X) := by
  unfold owns Some'
  iintro ⟨%f, H⟩
  iexists (m.view.read Val f)
  isplitr; · ipureintro; trivial
  iexists f
  isplitr; · ipureintro; rfl
  iexact H

/-- A whole buffer held at some contents, as a memref owned at some contents. -/
theorem some_whole (b : Ref sig c.2.kind) :
    (iprop(∃ f : Buf Val (c.loc b), (c.loc b) ↦{fullShare} f) : sProp 𝕄) = Some' c (Memref.whole b) := by
  unfold Some'; simp only [Memref.view_whole, View.set_whole]

/-- A safe program, for any continuation that takes back what was lent. -/
theorem safe_run {α : Type} {R : sProp 𝕄} {p : Prog (TpuEff nD τ sig Val Λ c.2) α} (K : α → sProp 𝕄)
    (h : Safe (Ix := Ix) (Val := Val) (Name := Name) (U := U) (Lvl := Lvl) c defs 𝒱 bd E R p) :
    iprop(R ∗ (∀ a, R -∗ K a)) ⊢ wp frame (wpE defs 𝒱 c bd) E p K := by
  unfold Safe at h
  iintro ⟨HR, HK⟩
  ihave H := h $$ HR
  ihave H' := (wp_wand frame (wpE defs 𝒱 c bd) E (Q' := K)) $$ H
  iapply H'; iexact HK

end Cert.Common

end
-- ==== Proof.FrameKernel.lean ====
/-
  `Kernel` runs without a fault and leaves its arguments as they were: the body at a point of the grid hands back every buffer it was handed
  (`body_obligation`, from `safe_body`), so the pipeline runs to its end (`run_main`), where the argument arrays hold what they
  held at launch (`frame`).
-/
module

public import proofs.«01_k».proof.Proof.Gen.Kernel.Frame
public import proofs.«01_k».proof.Proof.SafeKernel
public import proofs.«01_k».proof.Proof.Lent

@[expose] public section

set_option maxRecDepth 16384

noncomputable section

namespace Cert.Kernel.Hand

open Cert.Kernel Cert.Kernel.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Everything the body touches at a point, each memref at some contents: the 17 windows' staging buffers, then the 11 scratch buffers. -/
def lent (c : Dev nD) (t : Fin cfg0.N) : sProp 𝕄 :=
  iprop(Some' (c : Thread nD τ) (win0_0.stage (cfg0.slots t 0)) ∗ Some' (c : Thread nD τ) (win0_1.stage (cfg0.slots t 1)) ∗ Some' (c : Thread nD τ) (win0_2.stage (cfg0.slots t 2)) ∗ Some' (c : Thread nD τ) (win0_3.stage (cfg0.slots t 3)) ∗ Some' (c : Thread nD τ) (win0_4.stage (cfg0.slots t 4)) ∗ Some' (c : Thread nD τ) (win0_5.stage (cfg0.slots t 5)) ∗ Some' (c : Thread nD τ) (win0_6.stage (cfg0.slots t 6)) ∗ Some' (c : Thread nD τ) (win0_7.stage (cfg0.slots t 7)) ∗ Some' (c : Thread nD τ) (win0_8.stage (cfg0.slots t 8)) ∗ Some' (c : Thread nD τ) (win0_9.stage (cfg0.slots t 9)) ∗ Some' (c : Thread nD τ) (win0_10.stage (cfg0.slots t 10)) ∗ Some' (c : Thread nD τ) (win0_11.stage (cfg0.slots t 11)) ∗ Some' (c : Thread nD τ) (win0_12.stage (cfg0.slots t 12)) ∗ Some' (c : Thread nD τ) (win0_13.stage (cfg0.slots t 13)) ∗ Some' (c : Thread nD τ) (win0_14.stage (cfg0.slots t 14)) ∗ Some' (c : Thread nD τ) (win0_15.stage (cfg0.slots t 15)) ∗ Some' (c : Thread nD τ) (win0_16.stage (cfg0.slots t 16)) ∗ Some' (c : Thread nD τ) (Memref.whole cc0_scratch0) ∗ Some' (c : Thread nD τ) (Memref.whole cc0_scratch1) ∗ Some' (c : Thread nD τ) (Memref.whole cc0_scratch2) ∗ Some' (c : Thread nD τ) (Memref.whole cc0_scratch3) ∗ Some' (c : Thread nD τ) (Memref.whole cc0_scratch4) ∗ Some' (c : Thread nD τ) (Memref.whole cc0_scratch5) ∗ Some' (c : Thread nD τ) (Memref.whole cc0_scratch6) ∗ Some' (c : Thread nD τ) (Memref.whole cc0_scratch7) ∗ Some' (c : Thread nD τ) (Memref.whole cc0_scratch8) ∗ Some' (c : Thread nD τ) (Memref.whole cc0_scratch9) ∗ Some' (c : Thread nD τ) (Memref.whole cc0_scratch10))

/-- The body at a point, from everything it touches, hands it all back. -/
theorem body_safe (c : Dev nD) (t : Fin cfg0.N) :
    Safe (c : Thread nD τ) (defs₀ (F := F)) Variants.none none Set.univ (lent (F := F) c t) (bodyAt0 t) := by
  unfold lent bodyAt0
  exact safe_body (grid0.coords t)
    (lends_head)
    (lends_tail <| lends_head)
    (lends_tail <| lends_tail <| lends_head)
    (lends_tail <| lends_tail <| lends_tail <| lends_head)
    (lends_tail <| lends_tail <| lends_tail <| lends_tail <| lends_head)
    (lends_tail <| lends_tail <| lends_tail <| lends_tail <| lends_tail <| lends_head)
    (lends_tail <| lends_tail <| lends_tail <| lends_tail <| lends_tail <| lends_tail <| lends_head)
    (lends_tail <| lends_tail <| lends_tail <| lends_tail <| lends_tail <| lends_tail <| lends_tail <| lends_head)
    (lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_self)

/-- The proof data: the arrays as the region finds them, nothing said of what the body leaves in a staging buffer, the scratch at some contents
    between points, full shares, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body obligation: at every point, from the invariant and the staging buffers at any contents, the body runs and gives them back. -/
theorem body_obligation (c : Dev nD) : (rdat (F := F) m c).BodyObligation (defs₀ (F := F)) Variants.none () Set.univ := fun t Y _ => by
  rw [bigSep_W0, bigSep_W0, defs₀_row]
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [scopedRest0_eq]
  simp only [some_whole (c := (c : Thread nD τ))]
  iintro ⟨⟨⟨S0, S1, S2, S3, S4, S5, S6, S7, S8, S9, S10⟩, Hg⟩, HO, W0, W1, W2, W3, W4, W5, W6, W7, W8, W9, W10, W11, W12, W13, W14, W15, W16⟩
  iapply (safe_run _ (body_safe c t))
  isplitl [W0 W1 W2 W3 W4 W5 W6 W7 W8 W9 W10 W11 W12 W13 W14 W15 W16 S0 S1 S2 S3 S4 S5 S6 S7 S8 S9 S10]
  · unfold lent
    isplitl [W0]; · iapply (owns_some _ _); iexact W0
    isplitl [W1]; · iapply (owns_some _ _); iexact W1
    isplitl [W2]; · iapply (owns_some _ _); iexact W2
    isplitl [W3]; · iapply (owns_some _ _); iexact W3
    isplitl [W4]; · iapply (owns_some _ _); iexact W4
    isplitl [W5]; · iapply (owns_some _ _); iexact W5
    isplitl [W6]; · iapply (owns_some _ _); iexact W6
    isplitl [W7]; · iapply (owns_some _ _); iexact W7
    isplitl [W8]; · iapply (owns_some _ _); iexact W8
    isplitl [W9]; · iapply (owns_some _ _); iexact W9
    isplitl [W10]; · iapply (owns_some _ _); iexact W10
    isplitl [W11]; · iapply (owns_some _ _); iexact W11
    isplitl [W12]; · iapply (owns_some _ _); iexact W12
    isplitl [W13]; · iapply (owns_some _ _); iexact W13
    isplitl [W14]; · iapply (owns_some _ _); iexact W14
    isplitl [W15]; · iapply (owns_some _ _); iexact W15
    isplitl [W16]; · iapply (owns_some _ _); iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iintro %_ H
  unfold lent
  icases H with ⟨W0, W1, W2, W3, W4, W5, W6, W7, W8, W9, W10, W11, W12, W13, W14, W15, W16, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HO]; · iexact HO
  isplitl [W0]; · iapply (some_owns _); iexact W0
  isplitl [W1]; · iapply (some_owns _); iexact W1
  isplitl [W2]; · iapply (some_owns _); iexact W2
  isplitl [W3]; · iapply (some_owns _); iexact W3
  isplitl [W4]; · iapply (some_owns _); iexact W4
  isplitl [W5]; · iapply (some_owns _); iexact W5
  isplitl [W6]; · iapply (some_owns _); iexact W6
  isplitl [W7]; · iapply (some_owns _); iexact W7
  isplitl [W8]; · iapply (some_owns _); iexact W8
  isplitl [W9]; · iapply (some_owns _); iexact W9
  isplitl [W10]; · iapply (some_owns _); iexact W10
  isplitl [W11]; · iapply (some_owns _); iexact W11
  isplitl [W12]; · iapply (some_owns _); iexact W12
  isplitl [W13]; · iapply (some_owns _); iexact W13
  isplitl [W14]; · iapply (some_owns _); iexact W14
  isplitl [W15]; · iapply (some_owns _); iexact W15
  iapply (some_owns _); iexact W16

-- the launch theorem's implicit arguments are found by unifying its conclusion, which needs plain definitions unfolded in types
set_option backward.isDefEq.respectTransparency.types false in
/-- Every fair execution ends with every array and every buffer of no window as the proof data say, and every counter at zero. -/
theorem run_main :
    θ_run defs (onTc (τ := τ) (main (F := F))) (s₀ m ρ)
      (fun r => RDat.FramePost cfg0 (rdat m) (V m) r ∧ r.2.sem = fun _ => 0) :=
  RDat.θ_run_frame cfgs (0 : Fin 1) launch0 defs₀ Variants.none (rdat m) m ρ main
    (body_obligation m) (fun c => (rdat m c).share_full fun _ => rfl) (fun _ _ => rfl) (V m) (hmain m Variants.none)
    (fun _ _ => rfl) (fun _ _ => rfl) _ (fun _ h => h)

/-- The arguments end as they began, and every counter is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    (RDat.FramePost.arr_in h.1 c 4 rfl).trans (V_main_arg4 m c),
    (RDat.FramePost.arr_in h.1 c 5 rfl).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩)
    (run_main m ρ)

end Cert.Kernel.Hand

end
-- ==== Proof.SafeKernelIdeal.lean ====
/-
  The body of `KernelIdeal` runs without a fault, and hands back what it was handed, from any assertion that lends each of its memrefs:
  each loop's trip, then the whole body (Proof/Safe.lean).
-/
module

public import proofs.«01_k».proof.Proof.Gen.KernelIdeal.Skeleton
public import proofs.«01_k».proof.Proof.Safe
public import Idealize.ShloMosaic.Lib.Pipeline.Frame

@[expose] public section

set_option maxRecDepth 16384
set_option maxHeartbeats 400000

noncomputable section

namespace Cert.KernelIdeal.Hand

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]
variable {c : Dev nD} {R : sProp (MT nD τ sig Unit (Elt F) ℕ (UR sig nD τ) ℕ)}
variable (i : grid0.Coords) {arg2 : Memref sig .tc .vmem S1x4x4x64x8x128 .bf16} {harg2 : arg2.IsWhole} {arg3 : Memref sig .tc .vmem S1x4x4x64x8x128 .bf16} {harg3 : arg3.IsWhole} {arg4 : Memref sig .tc .vmem S1x4x32x8192 .fp8e4m3} {harg4 : arg4.IsWhole} {arg5 : Memref sig .tc .vmem S1x4x128 .f32} {harg5 : arg5.IsWhole} {arg6 : Memref sig .tc .smem S4 .f32} {harg6 : arg6.IsWhole} {arg7 : Memref sig .tc .vmem S2x512 .f32} {harg7 : arg7.IsWhole} {arg8 : Memref sig .tc .vmem S1x512 .f32} {harg8 : arg8.IsWhole} {arg9 : Memref sig .tc .vmem S4x512 .fp8e4m3} {harg9 : arg9.IsWhole} {arg10 : Memref sig .tc .vmem S4x1 .f32} {harg10 : arg10.IsWhole} {arg11 : Memref sig .tc .vmem S1x8192x128 .bf16} {harg11 : arg11.IsWhole} {arg12 : Memref sig .tc .vmem S4x225 .f32} {harg12 : arg12.IsWhole} {arg13 : Memref sig .tc .vmem S225x512 .fp8e4m3} {harg13 : arg13.IsWhole} {arg14 : Memref sig .tc .vmem S1x225 .f32} {harg14 : arg14.IsWhole} {arg15 : Memref sig .tc .vmem S1x64x4x32x128 .fp8e4m3} {harg15 : arg15.IsWhole} {arg16 : Memref sig .tc .vmem S1x4x128 .f32} {harg16 : arg16.IsWhole} {arg17 : Memref sig .tc .vmem S1x64x4x32x128 .fp8e4m3} {harg17 : arg17.IsWhole} {arg18 : Memref sig .tc .vmem S1x4x128 .f32} {harg18 : arg18.IsWhole} {arg19 : Memref sig .tc .vmem S8x256 .f32} {harg19 : arg19.IsWhole} {arg20 : Memref sig .tc .vmem S64x512 .f32} {harg20 : arg20.IsWhole} {arg21 : Memref sig .tc .vmem S4x64x32x128 .fp8e4m3} {harg21 : arg21.IsWhole} {arg22 : Memref sig .tc .vmem S4x64x32x128 .fp8e4m3} {harg22 : arg22.IsWhole} {arg23 : Memref sig .tc .vmem S2x4x64x128 .f32} {harg23 : arg23.IsWhole} {arg24 : Memref sig .tc .vmem S4x64x128 .f32} {harg24 : arg24.IsWhole} {arg25 : Memref sig .tc .vmem S4x64x128 .f32} {harg25 : arg25.IsWhole} {arg26 : Memref sig .tc .vmem S72x128 .f32} {harg26 : arg26.IsWhole} {arg27 : Memref sig .tc .vmem S72x2x128 .bf16} {harg27 : arg27.IsWhole} {arg28 : Memref sig .tc .vmem S4128x128 .f32} {harg28 : arg28.IsWhole} {arg29 : Memref sig .tc .vmem S2112x128 .f32} {harg29 : arg29.IsWhole}

/-- A trip of loop 1. -/
theorem safe_t1 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v703 : FVec F S1x128 .f32) (v896 : FVec F S8x128 .f32) (v928 : Elt F .f32) (t : Fin k0_t1_loop.trips) (acc) :
    Safe (c : Thread nD τ) (defs₀ (F := F)) Variants.none none Set.univ R (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v703 v896 v928 t acc) := by
  delta k0_t1_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton]
       delta
         k0_part13_skel k0_part14_skel k0_part15_skel k0_part16_skel k0_part17_skel k0_part18_skel k0_part19_skel k0_part20_skel k0_part21_skel
         k0_part22_skel k0_part23_skel k0_part24_skel k0_part25_skel k0_part26_skel k0_part27_skel k0_part28_skel k0_part29_skel k0_part30_skel
         k0_part31_skel k0_part32_skel k0_part33_skel k0_part34_skel k0_part35_skel)

/-- A trip of loop 2. -/
theorem safe_t2 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v934_0 : FVec F S8x128 .f32) (v934_1 : FVec F S8x128 .f32) (v945 : Elt F .f32) (t : Fin k0_t2_loop.trips) (acc) :
    Safe (c : Thread nD τ) (defs₀ (F := F)) Variants.none none Set.univ R (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v934_0 v934_1 v945 t acc) := by
  delta k0_t2_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton, k0_part53_eq_skeleton,
    k0_part54_eq_skeleton, k0_part55_eq_skeleton, k0_part56_eq_skeleton, k0_part57_eq_skeleton, k0_part58_eq_skeleton]
       delta
         k0_part36_skel k0_part37_skel k0_part38_skel k0_part39_skel k0_part40_skel k0_part41_skel k0_part42_skel k0_part43_skel k0_part44_skel
         k0_part45_skel k0_part46_skel k0_part47_skel k0_part48_skel k0_part49_skel k0_part50_skel k0_part51_skel k0_part52_skel k0_part53_skel
         k0_part54_skel k0_part55_skel k0_part56_skel k0_part57_skel k0_part58_skel)

/-- A trip of loop 3. -/
theorem safe_t3 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v963 : F .f32) (t : Fin k0_t3_loop.trips) (acc) :
    Safe (c : Thread nD τ) (defs₀ (F := F)) Variants.none none Set.univ R (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v963 t acc) := by
  delta k0_t3_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part59_eq_skeleton, k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton, k0_part76_eq_skeleton,
    k0_part77_eq_skeleton, k0_part78_eq_skeleton, k0_part79_eq_skeleton, k0_part80_eq_skeleton, k0_part81_eq_skeleton]
       delta
         k0_part59_skel k0_part60_skel k0_part61_skel k0_part62_skel k0_part63_skel k0_part64_skel k0_part65_skel k0_part66_skel k0_part67_skel
         k0_part68_skel k0_part69_skel k0_part70_skel k0_part71_skel k0_part72_skel k0_part73_skel k0_part74_skel k0_part75_skel k0_part76_skel
         k0_part77_skel k0_part78_skel k0_part79_skel k0_part80_skel k0_part81_skel)

/-- A trip of loop 4. -/
theorem safe_t4 (h2 : Lends R (c : Thread nD τ) arg2) (h3 : Lends R (c : Thread nD τ) arg3) (h23 : Lends R (c : Thread nD τ) arg23) (h24 : Lends R (c : Thread nD τ) arg24) (h26 : Lends R (c : Thread nD τ) arg26) (h27 : Lends R (c : Thread nD τ) arg27)
    (v5 : IVec S8x128 32) (v6 : IVec S8x128 32) (v8 : IVec S8x128 1) (v15 : IVec S8x128 1) (v963 : F .f32) (v979 : Elt F .f32) (t : Fin k0_t4_loop.trips) (acc) :
    Safe (c : Thread nD τ) (defs₀ (F := F)) Variants.none none Set.univ R (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v6 v8 v15 v963 v979 t acc) := by
  delta k0_t4_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part82_eq_skeleton, k0_part83_eq_skeleton, k0_part84_eq_skeleton, k0_part85_eq_skeleton, k0_part86_eq_skeleton, k0_part87_eq_skeleton,
    k0_part88_eq_skeleton, k0_part89_eq_skeleton, k0_part90_eq_skeleton, k0_part91_eq_skeleton, k0_part92_eq_skeleton, k0_part93_eq_skeleton,
    k0_part94_eq_skeleton, k0_part95_eq_skeleton, k0_part96_eq_skeleton, k0_part97_eq_skeleton, k0_part98_eq_skeleton, k0_part99_eq_skeleton,
    k0_part100_eq_skeleton, k0_part101_eq_skeleton, k0_part102_eq_skeleton, k0_part103_eq_skeleton, k0_part104_eq_skeleton]
       delta
         k0_part82_skel k0_part83_skel k0_part84_skel k0_part85_skel k0_part86_skel k0_part87_skel k0_part88_skel k0_part89_skel k0_part90_skel
         k0_part91_skel k0_part92_skel k0_part93_skel k0_part94_skel k0_part95_skel k0_part96_skel k0_part97_skel k0_part98_skel k0_part99_skel
         k0_part100_skel k0_part101_skel k0_part102_skel k0_part103_skel k0_part104_skel)

/-- A trip of loop 5. -/
theorem safe_t5 (h2 : Lends R (c : Thread nD τ) arg2) (h3 : Lends R (c : Thread nD τ) arg3) (h21 : Lends R (c : Thread nD τ) arg21) (h22 : Lends R (c : Thread nD τ) arg22) (h23 : Lends R (c : Thread nD τ) arg23)
     (t : Fin k0_t5_loop.trips) (acc) :
    Safe (c : Thread nD τ) (defs₀ (F := F)) Variants.none none Set.univ R (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29  t acc) := by
  delta k0_t5_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part105_eq_skeleton, k0_part106_eq_skeleton, k0_part107_eq_skeleton, k0_part108_eq_skeleton]
       delta
         k0_part105_skel k0_part106_skel k0_part107_skel k0_part108_skel)

/-- A trip of loop 6. -/
theorem safe_t6 (h4 : Lends R (c : Thread nD τ) arg4) (h11 : Lends R (c : Thread nD τ) arg11) (h20 : Lends R (c : Thread nD τ) arg20) (h21 : Lends R (c : Thread nD τ) arg21) (h22 : Lends R (c : Thread nD τ) arg22) (h24 : Lends R (c : Thread nD τ) arg24) (h25 : Lends R (c : Thread nD τ) arg25)
    (v8 : IVec S8x128 1) (t : Fin k0_t6_loop.trips) (acc) :
    Safe (c : Thread nD τ) (defs₀ (F := F)) Variants.none none Set.univ R (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v8 t acc) := by
  delta k0_t6_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part109_eq_skeleton, k0_part110_eq_skeleton, k0_part111_eq_skeleton, k0_part112_eq_skeleton, k0_part113_eq_skeleton, k0_part114_eq_skeleton]
       delta
         k0_part109_skel k0_part110_skel k0_part111_skel k0_part112_skel k0_part113_skel k0_part114_skel)

/-- A trip of loop 7. -/
theorem safe_t7 (h15 : Lends R (c : Thread nD τ) arg15) (h21 : Lends R (c : Thread nD τ) arg21) (h28 : Lends R (c : Thread nD τ) arg28) (h29 : Lends R (c : Thread nD τ) arg29)
     (t : Fin k0_t7_loop.trips) (acc) :
    Safe (c : Thread nD τ) (defs₀ (F := F)) Variants.none none Set.univ R (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29  t acc) := by
  delta k0_t7_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part115_eq_skeleton, k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton, k0_part126_eq_skeleton,
    k0_part127_eq_skeleton, k0_part128_eq_skeleton, k0_part129_eq_skeleton, k0_part130_eq_skeleton, k0_part131_eq_skeleton, k0_part132_eq_skeleton,
    k0_part133_eq_skeleton, k0_part134_eq_skeleton, k0_part135_eq_skeleton, k0_part136_eq_skeleton, k0_part137_eq_skeleton, k0_part138_eq_skeleton,
    k0_part139_eq_skeleton, k0_part140_eq_skeleton, k0_part141_eq_skeleton, k0_part142_eq_skeleton, k0_part143_eq_skeleton, k0_part144_eq_skeleton,
    k0_part145_eq_skeleton, k0_part146_eq_skeleton, k0_part147_eq_skeleton, k0_part148_eq_skeleton, k0_part149_eq_skeleton, k0_part150_eq_skeleton,
    k0_part151_eq_skeleton, k0_part152_eq_skeleton, k0_part153_eq_skeleton, k0_part154_eq_skeleton, k0_part155_eq_skeleton, k0_part156_eq_skeleton,
    k0_part157_eq_skeleton, k0_part158_eq_skeleton, k0_part159_eq_skeleton, k0_part160_eq_skeleton, k0_part161_eq_skeleton, k0_part162_eq_skeleton,
    k0_part163_eq_skeleton, k0_part164_eq_skeleton, k0_part165_eq_skeleton, k0_part166_eq_skeleton, k0_part167_eq_skeleton, k0_part168_eq_skeleton,
    k0_part169_eq_skeleton, k0_part170_eq_skeleton, k0_part171_eq_skeleton, k0_part172_eq_skeleton, k0_part173_eq_skeleton, k0_part174_eq_skeleton,
    k0_part175_eq_skeleton, k0_part176_eq_skeleton, k0_part177_eq_skeleton, k0_part178_eq_skeleton, k0_part179_eq_skeleton, k0_part180_eq_skeleton,
    k0_part181_eq_skeleton, k0_part182_eq_skeleton]
       delta
         k0_part115_skel k0_part116_skel k0_part117_skel k0_part118_skel k0_part119_skel k0_part120_skel k0_part121_skel k0_part122_skel
         k0_part123_skel k0_part124_skel k0_part125_skel k0_part126_skel k0_part127_skel k0_part128_skel k0_part129_skel k0_part130_skel
         k0_part131_skel k0_part132_skel k0_part133_skel k0_part134_skel k0_part135_skel k0_part136_skel k0_part137_skel k0_part138_skel
         k0_part139_skel k0_part140_skel k0_part141_skel k0_part142_skel k0_part143_skel k0_part144_skel k0_part145_skel k0_part146_skel
         k0_part147_skel k0_part148_skel k0_part149_skel k0_part150_skel k0_part151_skel k0_part152_skel k0_part153_skel k0_part154_skel
         k0_part155_skel k0_part156_skel k0_part157_skel k0_part158_skel k0_part159_skel k0_part160_skel k0_part161_skel k0_part162_skel
         k0_part163_skel k0_part164_skel k0_part165_skel k0_part166_skel k0_part167_skel k0_part168_skel k0_part169_skel k0_part170_skel
         k0_part171_skel k0_part172_skel k0_part173_skel k0_part174_skel k0_part175_skel k0_part176_skel k0_part177_skel k0_part178_skel
         k0_part179_skel k0_part180_skel k0_part181_skel k0_part182_skel)

/-- A trip of loop 8. -/
theorem safe_t8 (h17 : Lends R (c : Thread nD τ) arg17) (h22 : Lends R (c : Thread nD τ) arg22) (h28 : Lends R (c : Thread nD τ) arg28) (h29 : Lends R (c : Thread nD τ) arg29)
    (v1005 : IVec S64x128 1) (t : Fin k0_t8_loop.trips) (acc) :
    Safe (c : Thread nD τ) (defs₀ (F := F)) Variants.none none Set.univ R (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v1005 t acc) := by
  delta k0_t8_body
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_bind ?_ fun _ => ?_
    | with_reducible refine safe_dite (fun _ => ?_) fun _ => ?_
    | (simp only [
    k0_part183_eq_skeleton, k0_part184_eq_skeleton, k0_part185_eq_skeleton, k0_part186_eq_skeleton, k0_part187_eq_skeleton, k0_part188_eq_skeleton,
    k0_part189_eq_skeleton, k0_part190_eq_skeleton, k0_part191_eq_skeleton, k0_part192_eq_skeleton, k0_part193_eq_skeleton, k0_part194_eq_skeleton,
    k0_part195_eq_skeleton, k0_part196_eq_skeleton, k0_part197_eq_skeleton, k0_part198_eq_skeleton, k0_part199_eq_skeleton, k0_part200_eq_skeleton,
    k0_part201_eq_skeleton, k0_part202_eq_skeleton, k0_part203_eq_skeleton, k0_part204_eq_skeleton, k0_part205_eq_skeleton, k0_part206_eq_skeleton,
    k0_part207_eq_skeleton, k0_part208_eq_skeleton, k0_part209_eq_skeleton, k0_part210_eq_skeleton, k0_part211_eq_skeleton, k0_part212_eq_skeleton,
    k0_part213_eq_skeleton, k0_part214_eq_skeleton, k0_part215_eq_skeleton, k0_part216_eq_skeleton, k0_part217_eq_skeleton, k0_part218_eq_skeleton,
    k0_part219_eq_skeleton, k0_part220_eq_skeleton, k0_part221_eq_skeleton, k0_part222_eq_skeleton, k0_part223_eq_skeleton, k0_part224_eq_skeleton,
    k0_part225_eq_skeleton, k0_part226_eq_skeleton, k0_part227_eq_skeleton, k0_part228_eq_skeleton, k0_part229_eq_skeleton, k0_part230_eq_skeleton,
    k0_part231_eq_skeleton, k0_part232_eq_skeleton, k0_part233_eq_skeleton, k0_part234_eq_skeleton, k0_part235_eq_skeleton, k0_part236_eq_skeleton,
    k0_part237_eq_skeleton, k0_part238_eq_skeleton, k0_part239_eq_skeleton, k0_part240_eq_skeleton, k0_part241_eq_skeleton, k0_part242_eq_skeleton,
    k0_part243_eq_skeleton, k0_part244_eq_skeleton, k0_part245_eq_skeleton, k0_part246_eq_skeleton, k0_part247_eq_skeleton, k0_part248_eq_skeleton,
    k0_part249_eq_skeleton, k0_part250_eq_skeleton]
       delta
         k0_part183_skel k0_part184_skel k0_part185_skel k0_part186_skel k0_part187_skel k0_part188_skel k0_part189_skel k0_part190_skel
         k0_part191_skel k0_part192_skel k0_part193_skel k0_part194_skel k0_part195_skel k0_part196_skel k0_part197_skel k0_part198_skel
         k0_part199_skel k0_part200_skel k0_part201_skel k0_part202_skel k0_part203_skel k0_part204_skel k0_part205_skel k0_part206_skel
         k0_part207_skel k0_part208_skel k0_part209_skel k0_part210_skel k0_part211_skel k0_part212_skel k0_part213_skel k0_part214_skel
         k0_part215_skel k0_part216_skel k0_part217_skel k0_part218_skel k0_part219_skel k0_part220_skel k0_part221_skel k0_part222_skel
         k0_part223_skel k0_part224_skel k0_part225_skel k0_part226_skel k0_part227_skel k0_part228_skel k0_part229_skel k0_part230_skel
         k0_part231_skel k0_part232_skel k0_part233_skel k0_part234_skel k0_part235_skel k0_part236_skel k0_part237_skel k0_part238_skel
         k0_part239_skel k0_part240_skel k0_part241_skel k0_part242_skel k0_part243_skel k0_part244_skel k0_part245_skel k0_part246_skel
         k0_part247_skel k0_part248_skel k0_part249_skel k0_part250_skel)

/-- The whole body. -/
theorem safe_body (h2 : Lends R (c : Thread nD τ) arg2) (h3 : Lends R (c : Thread nD τ) arg3) (h4 : Lends R (c : Thread nD τ) arg4) (h5 : Lends R (c : Thread nD τ) arg5) (h6 : Lends R (c : Thread nD τ) arg6) (h7 : Lends R (c : Thread nD τ) arg7) (h8 : Lends R (c : Thread nD τ) arg8) (h9 : Lends R (c : Thread nD τ) arg9) (h10 : Lends R (c : Thread nD τ) arg10) (h11 : Lends R (c : Thread nD τ) arg11) (h12 : Lends R (c : Thread nD τ) arg12) (h13 : Lends R (c : Thread nD τ) arg13) (h14 : Lends R (c : Thread nD τ) arg14) (h15 : Lends R (c : Thread nD τ) arg15) (h16 : Lends R (c : Thread nD τ) arg16) (h17 : Lends R (c : Thread nD τ) arg17) (h18 : Lends R (c : Thread nD τ) arg18) (h19 : Lends R (c : Thread nD τ) arg19) (h20 : Lends R (c : Thread nD τ) arg20) (h21 : Lends R (c : Thread nD τ) arg21) (h22 : Lends R (c : Thread nD τ) arg22) (h23 : Lends R (c : Thread nD τ) arg23) (h24 : Lends R (c : Thread nD τ) arg24) (h25 : Lends R (c : Thread nD τ) arg25) (h26 : Lends R (c : Thread nD τ) arg26) (h27 : Lends R (c : Thread nD τ) arg27) (h28 : Lends R (c : Thread nD τ) arg28) (h29 : Lends R (c : Thread nD τ) arg29) :
    Safe (c : Thread nD τ) (defs₀ (F := F)) Variants.none none Set.univ R (cc0_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) := by
  simp only [cc0_window_attention_eq_skeleton]
  delta cc0_window_attention_skel
  repeat' first
    | with_reducible refine safe_load (by assumption) fun _ => ?_
    | with_reducible refine safe_store (by assumption) ?_
    | with_reducible exact safe_pure _
    | with_reducible refine safe_smem (by assumption) fun _ => ?_
    | with_reducible exact safe_store_last (by assumption)
    | with_reducible exact safe_load_last (by assumption)
    | with_reducible refine safe_loop fun t acc => ?_
    | with_reducible exact safe_t1 _ h2 h3 h23 h24 h26 h27 _ _ _ _ _ _ _ t acc
    | with_reducible exact safe_t2 _ h2 h3 h23 h24 h26 h27 _ _ _ _ _ _ _ t acc
    | with_reducible exact safe_t3 _ h2 h3 h23 h24 h26 h27 _ _ _ _ _ t acc
    | with_reducible exact safe_t4 _ h2 h3 h23 h24 h26 h27 _ _ _ _ _ _ t acc
    | with_reducible exact safe_t5 _ h2 h3 h21 h22 h23  t acc
    | with_reducible exact safe_t6 _ h4 h11 h20 h21 h22 h24 h25 _ t acc
    | with_reducible exact safe_t7 _ h15 h21 h28 h29  t acc
    | with_reducible exact safe_t8 _ h17 h22 h28 h29 _ t acc
    | with_reducible refine safe_bind ?_ fun _ => ?_
    | with_reducible refine safe_dite (fun _ => ?_) fun _ => ?_
    | (simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part251_eq_skeleton, k0_part252_eq_skeleton, k0_part253_eq_skeleton, k0_part254_eq_skeleton, k0_part255_eq_skeleton, k0_part256_eq_skeleton,
    k0_part257_eq_skeleton, k0_part258_eq_skeleton, k0_part259_eq_skeleton, k0_part260_eq_skeleton, k0_part261_eq_skeleton, k0_part262_eq_skeleton,
    k0_part263_eq_skeleton, k0_part264_eq_skeleton, k0_part265_eq_skeleton, k0_part266_eq_skeleton, k0_part267_eq_skeleton, k0_part268_eq_skeleton,
    k0_part269_eq_skeleton, k0_part270_eq_skeleton, k0_part271_eq_skeleton, k0_part272_eq_skeleton, k0_part273_eq_skeleton, k0_part274_eq_skeleton,
    k0_part275_eq_skeleton]
       delta
         k0_part1_skel k0_part2_skel k0_part3_skel k0_part4_skel k0_part5_skel k0_part6_skel k0_part7_skel k0_part8_skel k0_part9_skel
         k0_part10_skel k0_part11_skel k0_part12_skel k0_part251_skel k0_part252_skel k0_part253_skel k0_part254_skel k0_part255_skel
         k0_part256_skel k0_part257_skel k0_part258_skel k0_part259_skel k0_part260_skel k0_part261_skel k0_part262_skel k0_part263_skel
         k0_part264_skel k0_part265_skel k0_part266_skel k0_part267_skel k0_part268_skel k0_part269_skel k0_part270_skel k0_part271_skel
         k0_part272_skel k0_part273_skel k0_part274_skel k0_part275_skel)
  all_goals exact safe_smem_last (by assumption)

end Cert.KernelIdeal.Hand

end
-- ==== Proof.FrameKernelIdeal.lean ====
/-
  `KernelIdeal` runs without a fault and leaves its arguments as they were: the body at a point of the grid hands back every buffer it was handed
  (`body_obligation`, from `safe_body`), so the pipeline runs to its end (`run_main`), where the argument arrays hold what they
  held at launch (`frame`).
-/
module

public import proofs.«01_k».proof.Proof.Gen.KernelIdeal.Frame
public import proofs.«01_k».proof.Proof.SafeKernelIdeal
public import proofs.«01_k».proof.Proof.Lent

@[expose] public section

set_option maxRecDepth 16384

noncomputable section

namespace Cert.KernelIdeal.Hand

open Cert.KernelIdeal Cert.KernelIdeal.Gen Cert.Common
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Everything the body touches at a point, each memref at some contents: the 17 windows' staging buffers, then the 11 scratch buffers. -/
def lent (c : Dev nD) (t : Fin cfg0.N) : sProp 𝕄 :=
  iprop(Some' (c : Thread nD τ) (win0_0.stage (cfg0.slots t 0)) ∗ Some' (c : Thread nD τ) (win0_1.stage (cfg0.slots t 1)) ∗ Some' (c : Thread nD τ) (win0_2.stage (cfg0.slots t 2)) ∗ Some' (c : Thread nD τ) (win0_3.stage (cfg0.slots t 3)) ∗ Some' (c : Thread nD τ) (win0_4.stage (cfg0.slots t 4)) ∗ Some' (c : Thread nD τ) (win0_5.stage (cfg0.slots t 5)) ∗ Some' (c : Thread nD τ) (win0_6.stage (cfg0.slots t 6)) ∗ Some' (c : Thread nD τ) (win0_7.stage (cfg0.slots t 7)) ∗ Some' (c : Thread nD τ) (win0_8.stage (cfg0.slots t 8)) ∗ Some' (c : Thread nD τ) (win0_9.stage (cfg0.slots t 9)) ∗ Some' (c : Thread nD τ) (win0_10.stage (cfg0.slots t 10)) ∗ Some' (c : Thread nD τ) (win0_11.stage (cfg0.slots t 11)) ∗ Some' (c : Thread nD τ) (win0_12.stage (cfg0.slots t 12)) ∗ Some' (c : Thread nD τ) (win0_13.stage (cfg0.slots t 13)) ∗ Some' (c : Thread nD τ) (win0_14.stage (cfg0.slots t 14)) ∗ Some' (c : Thread nD τ) (win0_15.stage (cfg0.slots t 15)) ∗ Some' (c : Thread nD τ) (win0_16.stage (cfg0.slots t 16)) ∗ Some' (c : Thread nD τ) (Memref.whole cc0_scratch0) ∗ Some' (c : Thread nD τ) (Memref.whole cc0_scratch1) ∗ Some' (c : Thread nD τ) (Memref.whole cc0_scratch2) ∗ Some' (c : Thread nD τ) (Memref.whole cc0_scratch3) ∗ Some' (c : Thread nD τ) (Memref.whole cc0_scratch4) ∗ Some' (c : Thread nD τ) (Memref.whole cc0_scratch5) ∗ Some' (c : Thread nD τ) (Memref.whole cc0_scratch6) ∗ Some' (c : Thread nD τ) (Memref.whole cc0_scratch7) ∗ Some' (c : Thread nD τ) (Memref.whole cc0_scratch8) ∗ Some' (c : Thread nD τ) (Memref.whole cc0_scratch9) ∗ Some' (c : Thread nD τ) (Memref.whole cc0_scratch10))

/-- The body at a point, from everything it touches, hands it all back. -/
theorem body_safe (c : Dev nD) (t : Fin cfg0.N) :
    Safe (c : Thread nD τ) (defs₀ (F := F)) Variants.none none Set.univ (lent (F := F) c t) (bodyAt0 t) := by
  unfold lent bodyAt0
  exact safe_body (grid0.coords t)
    (lends_head)
    (lends_tail <| lends_head)
    (lends_tail <| lends_tail <| lends_head)
    (lends_tail <| lends_tail <| lends_tail <| lends_head)
    (lends_tail <| lends_tail <| lends_tail <| lends_tail <| lends_head)
    (lends_tail <| lends_tail <| lends_tail <| lends_tail <| lends_tail <| lends_head)
    (lends_tail <| lends_tail <| lends_tail <| lends_tail <| lends_tail <| lends_tail <| lends_head)
    (lends_tail <| lends_tail <| lends_tail <| lends_tail <| lends_tail <| lends_tail <| lends_tail <| lends_head)
    (lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_head)
    (lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_tail <| lends_self)

/-- The proof data: the arrays as the region finds them, nothing said of what the body leaves in a staging buffer, the scratch at some contents
    between points, full shares, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body obligation: at every point, from the invariant and the staging buffers at any contents, the body runs and gives them back. -/
theorem body_obligation (c : Dev nD) : (rdat (F := F) m c).BodyObligation (defs₀ (F := F)) Variants.none () Set.univ := fun t Y _ => by
  rw [bigSep_W0, bigSep_W0, defs₀_row]
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [scopedRest0_eq]
  simp only [some_whole (c := (c : Thread nD τ))]
  iintro ⟨⟨⟨S0, S1, S2, S3, S4, S5, S6, S7, S8, S9, S10⟩, Hg⟩, HO, W0, W1, W2, W3, W4, W5, W6, W7, W8, W9, W10, W11, W12, W13, W14, W15, W16⟩
  iapply (safe_run _ (body_safe c t))
  isplitl [W0 W1 W2 W3 W4 W5 W6 W7 W8 W9 W10 W11 W12 W13 W14 W15 W16 S0 S1 S2 S3 S4 S5 S6 S7 S8 S9 S10]
  · unfold lent
    isplitl [W0]; · iapply (owns_some _ _); iexact W0
    isplitl [W1]; · iapply (owns_some _ _); iexact W1
    isplitl [W2]; · iapply (owns_some _ _); iexact W2
    isplitl [W3]; · iapply (owns_some _ _); iexact W3
    isplitl [W4]; · iapply (owns_some _ _); iexact W4
    isplitl [W5]; · iapply (owns_some _ _); iexact W5
    isplitl [W6]; · iapply (owns_some _ _); iexact W6
    isplitl [W7]; · iapply (owns_some _ _); iexact W7
    isplitl [W8]; · iapply (owns_some _ _); iexact W8
    isplitl [W9]; · iapply (owns_some _ _); iexact W9
    isplitl [W10]; · iapply (owns_some _ _); iexact W10
    isplitl [W11]; · iapply (owns_some _ _); iexact W11
    isplitl [W12]; · iapply (owns_some _ _); iexact W12
    isplitl [W13]; · iapply (owns_some _ _); iexact W13
    isplitl [W14]; · iapply (owns_some _ _); iexact W14
    isplitl [W15]; · iapply (owns_some _ _); iexact W15
    isplitl [W16]; · iapply (owns_some _ _); iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iintro %_ H
  unfold lent
  icases H with ⟨W0, W1, W2, W3, W4, W5, W6, W7, W8, W9, W10, W11, W12, W13, W14, W15, W16, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HO]; · iexact HO
  isplitl [W0]; · iapply (some_owns _); iexact W0
  isplitl [W1]; · iapply (some_owns _); iexact W1
  isplitl [W2]; · iapply (some_owns _); iexact W2
  isplitl [W3]; · iapply (some_owns _); iexact W3
  isplitl [W4]; · iapply (some_owns _); iexact W4
  isplitl [W5]; · iapply (some_owns _); iexact W5
  isplitl [W6]; · iapply (some_owns _); iexact W6
  isplitl [W7]; · iapply (some_owns _); iexact W7
  isplitl [W8]; · iapply (some_owns _); iexact W8
  isplitl [W9]; · iapply (some_owns _); iexact W9
  isplitl [W10]; · iapply (some_owns _); iexact W10
  isplitl [W11]; · iapply (some_owns _); iexact W11
  isplitl [W12]; · iapply (some_owns _); iexact W12
  isplitl [W13]; · iapply (some_owns _); iexact W13
  isplitl [W14]; · iapply (some_owns _); iexact W14
  isplitl [W15]; · iapply (some_owns _); iexact W15
  iapply (some_owns _); iexact W16

-- the launch theorem's implicit arguments are found by unifying its conclusion, which needs plain definitions unfolded in types
set_option backward.isDefEq.respectTransparency.types false in
/-- Every fair execution ends with every array and every buffer of no window as the proof data say, and every counter at zero. -/
theorem run_main :
    θ_run defs (onTc (τ := τ) (main (F := F))) (s₀ m ρ)
      (fun r => RDat.FramePost cfg0 (rdat m) (V m) r ∧ r.2.sem = fun _ => 0) :=
  RDat.θ_run_frame cfgs (0 : Fin 1) launch0 defs₀ Variants.none (rdat m) m ρ main
    (body_obligation m) (fun c => (rdat m c).share_full fun _ => rfl) (fun _ _ => rfl) (V m) (hmain m Variants.none)
    (fun _ _ => rfl) (fun _ _ => rfl) _ (fun _ h => h)

/-- The arguments end as they began, and every counter is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    (RDat.FramePost.arr_in h.1 c 4 rfl).trans (V_main_arg4 m c),
    (RDat.FramePost.arr_in h.1 c 5 rfl).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩)
    (run_main m ρ)

end Cert.KernelIdeal.Hand

end
-- ==== Proof.AttendRun.lean ====
/- One grid step of the attention kernel run as a whole: the first loop fills the two scratch arrays with the codes of q and k, the
   second loop fills the output block. The contents each buffer ends with are named by the pieces that the loops' trips write. -/
module

public import proofs.«01_k».proof.Proof.Gen.Attend.Frame.Runs
public import Idealize.ShloMosaic.Lib.Pipeline.CanonAppend
public import Idealize.ShloMosaic.Lib.Claim

@[expose] public section

set_option maxRecDepth 16384

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section body
variable (c : Dev nD) (i : grid0.Coords) (arg2 : Memref sig .tc .vmem S1x4x4x64x8x128 .bf16) (harg2 : arg2.IsWhole) (arg3 : Memref sig .tc .vmem S1x4x4x64x8x128 .bf16) (harg3 : arg3.IsWhole) (arg4 : Memref sig .tc .vmem S1x4x32x8192 .fp8e4m3) (harg4 : arg4.IsWhole) (arg5 : Memref sig .tc .vmem S1x2x4x64x128 .f32) (harg5 : arg5.IsWhole) (arg6 : Memref sig .tc .vmem S1x4x64x128 .f32) (harg6 : arg6.IsWhole) (arg7 : Memref sig .tc .vmem S1x4x64x128 .f32) (harg7 : arg7.IsWhole) (arg8 : Memref sig .tc .vmem S64x512 .f32) (harg8 : arg8.IsWhole) (arg9 : Memref sig .tc .vmem S1x8192x128 .bf16) (harg9 : arg9.IsWhole) (arg10 : Memref sig .tc .vmem S4x64x32x128 .fp8e4m3) (harg10 : arg10.IsWhole) (arg11 : Memref sig .tc .vmem S4x64x32x128 .fp8e4m3) (harg11 : arg11.IsWhole)
variable (x0 : Vec F S1x4x4x64x8x128 .bf16) (x1 : Vec F S1x4x4x64x8x128 .bf16) (x2 : Vec F S1x4x32x8192 .fp8e4m3) (x3 : Vec F S1x2x4x64x128 .f32) (x4 : Vec F S1x4x64x128 .f32) (x5 : Vec F S1x4x64x128 .f32) (x6 : Vec F S64x512 .f32)

/-- The pieces that the first loop writes into the two scratch arrays. -/
abbrev codePieces : List (View.Piece (Elt F) S4x64x32x128 .fp8e4m3) × List (View.Piece (Elt F) S4x64x32x128 .fp8e4m3) :=
  pb_k0_t1 (F := F) Variants.none c none i arg2 harg2 arg3 harg3 arg4 harg4 arg5 harg5 arg6 harg6 arg7 harg7 arg8 harg8 arg9 harg9 arg10 harg10 arg11 harg11 (harg2.unread x0) (harg3.unread x1) (harg5.unread x3) k0_t1_loop.trips

/-- The codes of q, as the first loop leaves them. -/
def qCodes : Vec F S4x64x32x128 .fp8e4m3 := View.canon (codePieces c i arg2 harg2 arg3 harg3 arg4 harg4 arg5 harg5 arg6 harg6 arg7 harg7 arg8 harg8 arg9 harg9 arg10 harg10 arg11 harg11 x0 x1 x3).1
/-- The codes of k, as the first loop leaves them. -/
def kCodes : Vec F S4x64x32x128 .fp8e4m3 := View.canon (codePieces c i arg2 harg2 arg3 harg3 arg4 harg4 arg5 harg5 arg6 harg6 arg7 harg7 arg8 harg8 arg9 harg9 arg10 harg10 arg11 harg11 x0 x1 x3).2

/-- The first loop's pieces cover the scratch array of q. -/
theorem q_cover (y : S4x64x32x128.Idx) : ∃ p ∈ (codePieces (F := F) c i arg2 harg2 arg3 harg3 arg4 harg4 arg5 harg5 arg6 harg6 arg7 harg7 arg8 harg8 arg9 harg9 arg10 harg10 arg11 harg11 x0 x1 x3).1, y ∈ p.1.set :=
  View.cover_of_tiledL (codePieces (F := F) c i arg2 harg2 arg3 harg3 arg4 harg4 arg5 harg5 arg6 harg6 arg7 harg7 arg8 harg8 arg9 harg9 arg10 harg10 arg11 harg11 x0 x1 x3).1 S1x1x32x128.size (by sl_kernel_rfl) y
/-- The first loop's pieces cover the scratch array of k. -/
theorem k_cover (y : S4x64x32x128.Idx) : ∃ p ∈ (codePieces (F := F) c i arg2 harg2 arg3 harg3 arg4 harg4 arg5 harg5 arg6 harg6 arg7 harg7 arg8 harg8 arg9 harg9 arg10 harg10 arg11 harg11 x0 x1 x3).2, y ∈ p.1.set :=
  View.cover_of_tiledL (codePieces (F := F) c i arg2 harg2 arg3 harg3 arg4 harg4 arg5 harg5 arg6 harg6 arg7 harg7 arg8 harg8 arg9 harg9 arg10 harg10 arg11 harg11 x0 x1 x3).2 S1x1x32x128.size (by sl_kernel_rfl) y

/-- The pieces that the second loop writes into the output block. -/
abbrev outPieces : List (View.Piece (Elt F) S1x8192x128 .bf16) :=
  pb_k0_t2 (F := F) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
    (harg10.unread (qCodes c i arg2 harg2 arg3 harg3 arg4 harg4 arg5 harg5 arg6 harg6 arg7 harg7 arg8 harg8 arg9 harg9 arg10 harg10 arg11 harg11 x0 x1 x3)) (harg11.unread (kCodes c i arg2 harg2 arg3 harg3 arg4 harg4 arg5 harg5 arg6 harg6 arg7 harg7 arg8 harg8 arg9 harg9 arg10 harg10 arg11 harg11 x0 x1 x3)) k0_t2_loop.trips

/-- The output block, as the second loop leaves it. -/
def outBlock : Vec F S1x8192x128 .bf16 := View.canon (outPieces c i arg2 harg2 arg3 harg3 arg4 harg4 arg5 harg5 arg6 harg6 arg7 harg7 arg8 harg8 arg9 harg9 arg10 harg10 arg11 harg11 x0 x1 x2 x3 x4 x5 x6)

/-- The second loop's pieces cover the output block. -/
theorem out_cover (y : S1x8192x128.Idx) : ∃ p ∈ outPieces (F := F) c i arg2 harg2 arg3 harg3 arg4 harg4 arg5 harg5 arg6 harg6 arg7 harg7 arg8 harg8 arg9 harg9 arg10 harg10 arg11 harg11 x0 x1 x2 x3 x4 x5 x6, y ∈ p.1.set :=
  View.cover_of_tiledL (outPieces (F := F) c i arg2 harg2 arg3 harg3 arg4 harg4 arg5 harg5 arg6 harg6 arg7 harg7 arg8 harg8 arg9 harg9 arg10 harg10 arg11 harg11 x0 x1 x2 x3 x4 x5 x6) S1x128x128.size (by sl_kernel_rfl) y

set_option maxHeartbeats 800000 in
/-- One grid step: from the input blocks it leaves `outBlock` in the output's buffer, the inputs as they were and the scratch arrays at
    some contents. -/
theorem body_run (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock c i arg2 harg2 arg3 harg3 arg4 harg4 arg5 harg5 arg6 harg6 arg7 harg7 arg8 harg8 arg9 harg9 arg10 harg10 arg11 harg11 x0 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc0_window_attention i arg2 harg2 arg3 harg3 arg4 harg4 arg5 harg5 arg6 harg6 arg7 harg7 arg8 harg8 arg9 harg9 arg10 harg10 arg11 harg11) K := by
  simp only [cc0_window_attention_eq_skeleton]; unfold cc0_window_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_for (inv_k0_t1 (F := F) Variants.none c none i arg2 harg2 arg3 harg3 arg4 harg4 arg5 harg5 arg6 harg6 arg7 harg7 arg8 harg8 arg9 harg9 arg10 harg10 arg11 harg11 (harg2.unread x0) (harg3.unread x1) (harg5.unread x3) fs0 fs1) $$ [H0 H1 H3 HS0 HS1]
  · exact (loopInv_k0_t1 (F := F) Variants.none c none E i arg2 harg2 arg3 harg3 arg4 harg4 arg5 harg5 arg6 harg6 arg7 harg7 arg8 harg8 arg9 harg9 arg10 harg10 arg11 harg11 (harg2.unread x0) (harg3.unread x1) (harg5.unread x3) fs0 fs1).step
  · isplitl [H0]; · iexact H0
    isplitl [H1]; · iexact H1
    isplitl [H3]; · iexact H3
    isplitl [HS0]
    · iexists _; isplitl [HS0]; · iexact HS0
      ipureintro; rfl
    iexists _; isplitl [HS1]; · iexact HS1
    ipureintro; rfl
  iintro %acc ⟨H0, H1, H3, ⟨%g0, HS0, %hg0⟩, ⟨%g1, HS1, %hg1⟩⟩
  have e0 : g0 = harg10.unread (qCodes c i arg2 harg2 arg3 harg3 arg4 harg4 arg5 harg5 arg6 harg6 arg7 harg7 arg8 harg8 arg9 harg9 arg10 harg10 arg11 harg11 x0 x1 x3) := harg10.eq_unread (by
    rw [hg0]; exact View.read_writes_eq_canon _ _ _ (q_cover c i arg2 harg2 arg3 harg3 arg4 harg4 arg5 harg5 arg6 harg6 arg7 harg7 arg8 harg8 arg9 harg9 arg10 harg10 arg11 harg11 x0 x1 x3))
  have e1 : g1 = harg11.unread (kCodes c i arg2 harg2 arg3 harg3 arg4 harg4 arg5 harg5 arg6 harg6 arg7 harg7 arg8 harg8 arg9 harg9 arg10 harg10 arg11 harg11 x0 x1 x3) := harg11.eq_unread (by
    rw [hg1]; exact View.read_writes_eq_canon _ _ _ (k_cover c i arg2 harg2 arg3 harg3 arg4 harg4 arg5 harg5 arg6 harg6 arg7 harg7 arg8 harg8 arg9 harg9 arg10 harg10 arg11 harg11 x0 x1 x3))
  clear hg0 hg1
  subst e0 e1
  sl_for (inv_k0_t2 (F := F) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
    (harg10.unread (qCodes c i arg2 harg2 arg3 harg3 arg4 harg4 arg5 harg5 arg6 harg6 arg7 harg7 arg8 harg8 arg9 harg9 arg10 harg10 arg11 harg11 x0 x1 x3)) (harg11.unread (kCodes c i arg2 harg2 arg3 harg3 arg4 harg4 arg5 harg5 arg6 harg6 arg7 harg7 arg8 harg8 arg9 harg9 arg10 harg10 arg11 harg11 x0 x1 x3)) f7) $$ [H2 H4 H5 H6 H7 HS0 HS1]
  · exact (loopInv_k0_t2 (F := F) Variants.none c none E i arg2 harg2 arg3 harg3 arg4 harg4 arg5 harg5 arg6 harg6 arg7 harg7 arg8 harg8 arg9 harg9 arg10 harg10 arg11 harg11 (harg4.unread x2) (harg6.unread x4) (harg7.unread x5) (harg8.unread x6)
      (harg10.unread (qCodes c i arg2 harg2 arg3 harg3 arg4 harg4 arg5 harg5 arg6 harg6 arg7 harg7 arg8 harg8 arg9 harg9 arg10 harg10 arg11 harg11 x0 x1 x3)) (harg11.unread (kCodes c i arg2 harg2 arg3 harg3 arg4 harg4 arg5 harg5 arg6 harg6 arg7 harg7 arg8 harg8 arg9 harg9 arg10 harg10 arg11 harg11 x0 x1 x3)) f7).step
  · isplitl [H2]; · iexact H2
    isplitl [H4]; · iexact H4
    isplitl [H5]; · iexact H5
    isplitl [H6]; · iexact H6
    isplitl [HS0]; · iexact HS0
    isplitl [HS1]; · iexact HS1
    iexists _; isplitl [H7]; · iexact H7
    ipureintro; rfl
  iintro %acc2 ⟨H2, H4, H5, H6, HS0, HS1, ⟨%g7, H7, %hg7⟩⟩
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [hg7]; exact View.read_writes_eq_canon _ _ _ (out_cover c i arg2 harg2 arg3 harg3 arg4 harg4 arg5 harg5 arg6 harg6 arg7 harg7 arg8 harg8 arg9 harg9 arg10 harg10 arg11 harg11 x0 x1 x2 x3 x4 x5 x6)
  isplitl [HS0]
  · iexists _, _; isplitr; swap; · iexact HS0
    ipureintro; rfl
  iexists _, _; isplitr; swap; · iexact HS1
  ipureintro; rfl

end body

end Cert.Attend.Hand

end
-- ==== Proof.AttendFrame.lean ====
/- The attention kernel's launch: the pipeline's proof data with the output block of each grid step, the body's obligation at a generic
   grid point, and the frame. -/
module

public import proofs.«01_k».proof.Proof.AttendRun

@[expose] public section

set_option maxRecDepth 16384

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the run's contents at
    the point's memrefs and input blocks. -/
def outsAt0 (c : Dev nD) (t : Fin cfg0.N) : Vec F S1x8192x128 .bf16 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t)

/-! ## The pipeline's proof data -/

/-- The proof data of the pipeline: every input's buffer ends at its block, the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the contents that the region finds. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the run of one grid step applied to the point's buffers and blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: the arrays at the proof data's contents, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the pipeline ends at what the proof data give, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The kernel runs to its end, its argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Attend.Hand

end
-- ==== Proof.AttendRunIdeal.lean ====
/- One grid step of the attention kernel run as a whole: the first loop fills the two scratch arrays with the codes of q and k, the
   second loop fills the output block. The contents each buffer ends with are named by the pieces that the loops' trips write. -/
module

public import proofs.«01_k».proof.Proof.Gen.AttendIdeal.Frame.Runs
public import Idealize.ShloMosaic.Lib.Pipeline.CanonAppend
public import Idealize.ShloMosaic.Lib.Claim

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section body
variable (c : Dev nD) (i : grid0.Coords) (arg2 : Memref sig .tc .vmem S1x4x4x64x8x128 .bf16) (harg2 : arg2.IsWhole) (arg3 : Memref sig .tc .vmem S1x4x4x64x8x128 .bf16) (harg3 : arg3.IsWhole) (arg4 : Memref sig .tc .vmem S1x4x32x8192 .fp8e4m3) (harg4 : arg4.IsWhole) (arg5 : Memref sig .tc .vmem S1x2x4x64x128 .f32) (harg5 : arg5.IsWhole) (arg6 : Memref sig .tc .vmem S1x4x64x128 .f32) (harg6 : arg6.IsWhole) (arg7 : Memref sig .tc .vmem S1x4x64x128 .f32) (harg7 : arg7.IsWhole) (arg8 : Memref sig .tc .vmem S64x512 .f32) (harg8 : arg8.IsWhole) (arg9 : Memref sig .tc .vmem S1x8192x128 .bf16) (harg9 : arg9.IsWhole) (arg10 : Memref sig .tc .vmem S4x64x32x128 .fp8e4m3) (harg10 : arg10.IsWhole) (arg11 : Memref sig .tc .vmem S4x64x32x128 .fp8e4m3) (harg11 : arg11.IsWhole)
variable (x0 : Vec F S1x4x4x64x8x128 .bf16) (x1 : Vec F S1x4x4x64x8x128 .bf16) (x2 : Vec F S1x4x32x8192 .fp8e4m3) (x3 : Vec F S1x2x4x64x128 .f32) (x4 : Vec F S1x4x64x128 .f32) (x5 : Vec F S1x4x64x128 .f32) (x6 : Vec F S64x512 .f32)

/-- The pieces that the first loop writes into the two scratch arrays. -/
abbrev codePieces : List (View.Piece (Elt F) S4x64x32x128 .fp8e4m3) × List (View.Piece (Elt F) S4x64x32x128 .fp8e4m3) :=
  pb_k0_t1 (F := F) Variants.none c none i arg2 harg2 arg3 harg3 arg4 harg4 arg5 harg5 arg6 harg6 arg7 harg7 arg8 harg8 arg9 harg9 arg10 harg10 arg11 harg11 (harg2.unread x0) (harg3.unread x1) (harg5.unread x3) k0_t1_loop.trips

/-- The codes of q, as the first loop leaves them. -/
def qCodes : Vec F S4x64x32x128 .fp8e4m3 := View.canon (codePieces c i arg2 harg2 arg3 harg3 arg4 harg4 arg5 harg5 arg6 harg6 arg7 harg7 arg8 harg8 arg9 harg9 arg10 harg10 arg11 harg11 x0 x1 x3).1
/-- The codes of k, as the first loop leaves them. -/
def kCodes : Vec F S4x64x32x128 .fp8e4m3 := View.canon (codePieces c i arg2 harg2 arg3 harg3 arg4 harg4 arg5 harg5 arg6 harg6 arg7 harg7 arg8 harg8 arg9 harg9 arg10 harg10 arg11 harg11 x0 x1 x3).2

/-- The first loop's pieces cover the scratch array of q. -/
theorem q_cover (y : S4x64x32x128.Idx) : ∃ p ∈ (codePieces (F := F) c i arg2 harg2 arg3 harg3 arg4 harg4 arg5 harg5 arg6 harg6 arg7 harg7 arg8 harg8 arg9 harg9 arg10 harg10 arg11 harg11 x0 x1 x3).1, y ∈ p.1.set :=
  View.cover_of_tiledL (codePieces (F := F) c i arg2 harg2 arg3 harg3 arg4 harg4 arg5 harg5 arg6 harg6 arg7 harg7 arg8 harg8 arg9 harg9 arg10 harg10 arg11 harg11 x0 x1 x3).1 S1x1x32x128.size (by sl_kernel_rfl) y
/-- The first loop's pieces cover the scratch array of k. -/
theorem k_cover (y : S4x64x32x128.Idx) : ∃ p ∈ (codePieces (F := F) c i arg2 harg2 arg3 harg3 arg4 harg4 arg5 harg5 arg6 harg6 arg7 harg7 arg8 harg8 arg9 harg9 arg10 harg10 arg11 harg11 x0 x1 x3).2, y ∈ p.1.set :=
  View.cover_of_tiledL (codePieces (F := F) c i arg2 harg2 arg3 harg3 arg4 harg4 arg5 harg5 arg6 harg6 arg7 harg7 arg8 harg8 arg9 harg9 arg10 harg10 arg11 harg11 x0 x1 x3).2 S1x1x32x128.size (by sl_kernel_rfl) y

/-- The pieces that the second loop writes into the output block. -/
abbrev outPieces : List (View.Piece (Elt F) S1x8192x128 .bf16) :=
  pb_k0_t2 (F := F) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
    (harg10.unread (qCodes c i arg2 harg2 arg3 harg3 arg4 harg4 arg5 harg5 arg6 harg6 arg7 harg7 arg8 harg8 arg9 harg9 arg10 harg10 arg11 harg11 x0 x1 x3)) (harg11.unread (kCodes c i arg2 harg2 arg3 harg3 arg4 harg4 arg5 harg5 arg6 harg6 arg7 harg7 arg8 harg8 arg9 harg9 arg10 harg10 arg11 harg11 x0 x1 x3)) k0_t2_loop.trips

/-- The output block, as the second loop leaves it. -/
def outBlock : Vec F S1x8192x128 .bf16 := View.canon (outPieces c i arg2 harg2 arg3 harg3 arg4 harg4 arg5 harg5 arg6 harg6 arg7 harg7 arg8 harg8 arg9 harg9 arg10 harg10 arg11 harg11 x0 x1 x2 x3 x4 x5 x6)

/-- The second loop's pieces cover the output block. -/
theorem out_cover (y : S1x8192x128.Idx) : ∃ p ∈ outPieces (F := F) c i arg2 harg2 arg3 harg3 arg4 harg4 arg5 harg5 arg6 harg6 arg7 harg7 arg8 harg8 arg9 harg9 arg10 harg10 arg11 harg11 x0 x1 x2 x3 x4 x5 x6, y ∈ p.1.set :=
  View.cover_of_tiledL (outPieces (F := F) c i arg2 harg2 arg3 harg3 arg4 harg4 arg5 harg5 arg6 harg6 arg7 harg7 arg8 harg8 arg9 harg9 arg10 harg10 arg11 harg11 x0 x1 x2 x3 x4 x5 x6) S1x128x128.size (by sl_kernel_rfl) y

set_option maxHeartbeats 800000 in
/-- One grid step: from the input blocks it leaves `outBlock` in the output's buffer, the inputs as they were and the scratch arrays at
    some contents. -/
theorem body_run (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock c i arg2 harg2 arg3 harg3 arg4 harg4 arg5 harg5 arg6 harg6 arg7 harg7 arg8 harg8 arg9 harg9 arg10 harg10 arg11 harg11 x0 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc0_window_attention i arg2 harg2 arg3 harg3 arg4 harg4 arg5 harg5 arg6 harg6 arg7 harg7 arg8 harg8 arg9 harg9 arg10 harg10 arg11 harg11) K := by
  simp only [cc0_window_attention_eq_skeleton]; unfold cc0_window_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_for (inv_k0_t1 (F := F) Variants.none c none i arg2 harg2 arg3 harg3 arg4 harg4 arg5 harg5 arg6 harg6 arg7 harg7 arg8 harg8 arg9 harg9 arg10 harg10 arg11 harg11 (harg2.unread x0) (harg3.unread x1) (harg5.unread x3) fs0 fs1) $$ [H0 H1 H3 HS0 HS1]
  · exact (loopInv_k0_t1 (F := F) Variants.none c none E i arg2 harg2 arg3 harg3 arg4 harg4 arg5 harg5 arg6 harg6 arg7 harg7 arg8 harg8 arg9 harg9 arg10 harg10 arg11 harg11 (harg2.unread x0) (harg3.unread x1) (harg5.unread x3) fs0 fs1).step
  · isplitl [H0]; · iexact H0
    isplitl [H1]; · iexact H1
    isplitl [H3]; · iexact H3
    isplitl [HS0]
    · iexists _; isplitl [HS0]; · iexact HS0
      ipureintro; rfl
    iexists _; isplitl [HS1]; · iexact HS1
    ipureintro; rfl
  iintro %acc ⟨H0, H1, H3, ⟨%g0, HS0, %hg0⟩, ⟨%g1, HS1, %hg1⟩⟩
  have e0 : g0 = harg10.unread (qCodes c i arg2 harg2 arg3 harg3 arg4 harg4 arg5 harg5 arg6 harg6 arg7 harg7 arg8 harg8 arg9 harg9 arg10 harg10 arg11 harg11 x0 x1 x3) := harg10.eq_unread (by
    rw [hg0]; exact View.read_writes_eq_canon _ _ _ (q_cover c i arg2 harg2 arg3 harg3 arg4 harg4 arg5 harg5 arg6 harg6 arg7 harg7 arg8 harg8 arg9 harg9 arg10 harg10 arg11 harg11 x0 x1 x3))
  have e1 : g1 = harg11.unread (kCodes c i arg2 harg2 arg3 harg3 arg4 harg4 arg5 harg5 arg6 harg6 arg7 harg7 arg8 harg8 arg9 harg9 arg10 harg10 arg11 harg11 x0 x1 x3) := harg11.eq_unread (by
    rw [hg1]; exact View.read_writes_eq_canon _ _ _ (k_cover c i arg2 harg2 arg3 harg3 arg4 harg4 arg5 harg5 arg6 harg6 arg7 harg7 arg8 harg8 arg9 harg9 arg10 harg10 arg11 harg11 x0 x1 x3))
  clear hg0 hg1
  subst e0 e1
  sl_for (inv_k0_t2 (F := F) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
    (harg10.unread (qCodes c i arg2 harg2 arg3 harg3 arg4 harg4 arg5 harg5 arg6 harg6 arg7 harg7 arg8 harg8 arg9 harg9 arg10 harg10 arg11 harg11 x0 x1 x3)) (harg11.unread (kCodes c i arg2 harg2 arg3 harg3 arg4 harg4 arg5 harg5 arg6 harg6 arg7 harg7 arg8 harg8 arg9 harg9 arg10 harg10 arg11 harg11 x0 x1 x3)) f7) $$ [H2 H4 H5 H6 H7 HS0 HS1]
  · exact (loopInv_k0_t2 (F := F) Variants.none c none E i arg2 harg2 arg3 harg3 arg4 harg4 arg5 harg5 arg6 harg6 arg7 harg7 arg8 harg8 arg9 harg9 arg10 harg10 arg11 harg11 (harg4.unread x2) (harg6.unread x4) (harg7.unread x5) (harg8.unread x6)
      (harg10.unread (qCodes c i arg2 harg2 arg3 harg3 arg4 harg4 arg5 harg5 arg6 harg6 arg7 harg7 arg8 harg8 arg9 harg9 arg10 harg10 arg11 harg11 x0 x1 x3)) (harg11.unread (kCodes c i arg2 harg2 arg3 harg3 arg4 harg4 arg5 harg5 arg6 harg6 arg7 harg7 arg8 harg8 arg9 harg9 arg10 harg10 arg11 harg11 x0 x1 x3)) f7).step
  · isplitl [H2]; · iexact H2
    isplitl [H4]; · iexact H4
    isplitl [H5]; · iexact H5
    isplitl [H6]; · iexact H6
    isplitl [HS0]; · iexact HS0
    isplitl [HS1]; · iexact HS1
    iexists _; isplitl [H7]; · iexact H7
    ipureintro; rfl
  iintro %acc2 ⟨H2, H4, H5, H6, HS0, HS1, ⟨%g7, H7, %hg7⟩⟩
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [hg7]; exact View.read_writes_eq_canon _ _ _ (out_cover c i arg2 harg2 arg3 harg3 arg4 harg4 arg5 harg5 arg6 harg6 arg7 harg7 arg8 harg8 arg9 harg9 arg10 harg10 arg11 harg11 x0 x1 x2 x3 x4 x5 x6)
  isplitl [HS0]
  · iexists _, _; isplitr; swap; · iexact HS0
    ipureintro; rfl
  iexists _, _; isplitr; swap; · iexact HS1
  ipureintro; rfl

end body

end Cert.AttendIdeal.Hand

end
-- ==== Proof.AttendFrameIdeal.lean ====
/- The attention kernel's launch: the pipeline's proof data with the output block of each grid step, the body's obligation at a generic
   grid point, and the frame. -/
module

public import proofs.«01_k».proof.Proof.AttendRunIdeal

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the run's contents at
    the point's memrefs and input blocks. -/
def outsAt0 (c : Dev nD) (t : Fin cfg0.N) : Vec F S1x8192x128 .bf16 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t)

/-! ## The pipeline's proof data -/

/-- The proof data of the pipeline: every input's buffer ends at its block, the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the contents that the region finds. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the run of one grid step applied to the point's buffers and blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: the arrays at the proof data's contents, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the pipeline ends at what the proof data give, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The kernel runs to its end, its argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.AttendIdeal.Hand

end
-- ==== Proof.AttendValue.lean ====
/- The values of the attention kernel's payloads read at an index, over the extended reals: the clipped codes, the masked product
   of the keys with the queries, the softmax over a window and the masked product with the values. -/
module

public import proofs.«01_k».proof.Proof.Gen.AttendIdeal.Skeleton
public import Idealize.ShloMosaic.Lib.Pointwise

@[expose] public section

set_option maxHeartbeats 1000000

noncomputable section

namespace Cert.AttendIdeal.Hand

open Cert.AttendIdeal Cert.AttendIdeal.Gen
open Idealize.ShloMosaic

/-- The lane of a 128-lane row that holds position `i` of the window that lane `l` lies in. -/
def own (l : Fin 128) (i : Fin 64) : Fin 128 := ⟨(l.val / 64) * 64 + i.val, by omega⟩

/-- A value scaled by its factor and clipped to the range of the codes. -/
def clip (y : EReal) : EReal := min (Ideal.ofBits FTy.f32 0x43E00000#32) (max (Ideal.ofBits FTy.f32 0xC3E00000#32) y)

/-- A sum over 256 positions is a sum over 32 of the eight positions that lie 32 apart. -/
theorem sum_eight (f : Fin 256 → EReal) :
    ∑ x, f x = ∑ d : Fin 32, (f ⟨d.val, by omega⟩ + f ⟨32 + d.val, by omega⟩ + f ⟨64 + d.val, by omega⟩ + f ⟨96 + d.val, by omega⟩
      + f ⟨128 + d.val, by omega⟩ + f ⟨160 + d.val, by omega⟩ + f ⟨192 + d.val, by omega⟩ + f ⟨224 + d.val, by omega⟩) := by
  rw [← Equiv.sum_comp (finProdFinEquiv (m := 8) (n := 32)) f, Fintype.sum_prod_type, Finset.sum_comm]
  refine Finset.sum_congr rfl fun d _ => ?_
  rw [Fin.sum_univ_eight]
  have e : ∀ (b : Fin 8) (n : ℕ) (h : n < 256), 32 * b.val + d.val = n → finProdFinEquiv (b, d) = (⟨n, h⟩ : Fin 256) := by
    intro b n h hn; apply Fin.ext; simp [finProdFinEquiv]; omega
  rw [e 0 d.val (by omega) (by simp), e 1 (32 + d.val) (by omega) (by simp), e 2 (64 + d.val) (by omega) (by simp),
    e 3 (96 + d.val) (by omega) (by simp), e 4 (128 + d.val) (by omega) (by simp), e 5 (160 + d.val) (by omega) (by simp),
    e 6 (192 + d.val) (by omega) (by simp), e 7 (224 + d.val) (by omega) (by simp)]

/-- A sum over 128 positions is a sum over 64 of the two positions that lie 64 apart. -/
theorem sum_two (f : Fin 128 → EReal) :
    ∑ x, f x = ∑ i : Fin 64, (f ⟨i.val, by omega⟩ + f ⟨64 + i.val, by omega⟩) := by
  rw [← Equiv.sum_comp (finProdFinEquiv (m := 2) (n := 64)) f, Fintype.sum_prod_type, Finset.sum_comm]
  refine Finset.sum_congr rfl fun d _ => ?_
  rw [Fin.sum_univ_two]
  have e : ∀ (b : Fin 2) (n : ℕ) (h : n < 128), 64 * b.val + d.val = n → finProdFinEquiv (b, d) = (⟨n, h⟩ : Fin 128) := by
    intro b n h hn; apply Fin.ext; simp [finProdFinEquiv]; omega
  rw [e 0 d.val (by omega) (by simp), e 1 (64 + d.val) (by omega) (by simp)]

/-- The codes of a tile: each element times its token's factor, clipped. -/
theorem pay6_apply (v : Vec Ideal S1x1x4x1x8x128 .bf16) (f : Vec Ideal S1x1x1x1x128 .f32) (j : S1x1x32x128.Idx) :
    k0_pay6 v f j = clip (v (ix6 0 0 ⟨(j 2).val / 8, by have := (j 2).isLt; simp at this; omega⟩ 0 ⟨(j 2).val % 8, by omega⟩ (j 3))
      * f (ix5 0 0 0 0 (j 3))) := by
  pointwise [k0_pay6, clip]

/-- The lower half's mask. -/
theorem pay2_apply (l : Fin 128) : k0_pay2 (ix2 0 l) = if l.val < 64 then 1#1 else 0#1 := by
  pointwise [k0_pay2]
  revert l; decide

/-- The upper half's mask. -/
theorem pay3_apply (l : Fin 128) : k0_pay3 (ix2 0 l) = if l.val < 64 then 0#1 else 1#1 := by
  pointwise [k0_pay3, k0_pay2]
  revert l; decide

/-- The block of zeros. -/
theorem pay4_apply (j : S32x128.Idx) : (k0_pay4 (F := Ideal)) j = 0 := by
  pointwise [k0_pay4]
  exact Ideal.ofBits_zero _

/-- The zero word of the codes reads as zero. -/
theorem zero8 : Ideal.ofBits FTy.fp8e4m3 0#8 = 0 := Ideal.ofBits_zero _

/-- The product of keys and queries over the 32 features, for position `i` of the window of lane `l`. -/
def score (ck cq : Vec Ideal S1x1x32x128 .fp8e4m3) (i : Fin 64) (l : Fin 128) : EReal :=
  ∑ d : Fin 32, ck (ix4 0 0 d (own l i)) * cq (ix4 0 0 d l)

/-- The keys laid out for the product: head `h` of the lower window lies in columns `32 h …`, of the upper window in
    columns `128 + 32 h …`. -/
theorem pay17_apply (c0 c1 c2 c3 : Vec Ideal S1x1x32x128 .fp8e4m3) (i : Fin 64) (d : Fin 32) :
    k0_pay17 c0 c1 c2 c3 (ix2 i ⟨d.val, by omega⟩) = c0 (ix4 0 0 d ⟨i.val, by omega⟩)
    ∧ k0_pay17 c0 c1 c2 c3 (ix2 i ⟨32 + d.val, by omega⟩) = c1 (ix4 0 0 d ⟨i.val, by omega⟩)
    ∧ k0_pay17 c0 c1 c2 c3 (ix2 i ⟨64 + d.val, by omega⟩) = c2 (ix4 0 0 d ⟨i.val, by omega⟩)
    ∧ k0_pay17 c0 c1 c2 c3 (ix2 i ⟨96 + d.val, by omega⟩) = c3 (ix4 0 0 d ⟨i.val, by omega⟩)
    ∧ k0_pay17 c0 c1 c2 c3 (ix2 i ⟨128 + d.val, by omega⟩) = c0 (ix4 0 0 d ⟨64 + i.val, by omega⟩)
    ∧ k0_pay17 c0 c1 c2 c3 (ix2 i ⟨160 + d.val, by omega⟩) = c1 (ix4 0 0 d ⟨64 + i.val, by omega⟩)
    ∧ k0_pay17 c0 c1 c2 c3 (ix2 i ⟨192 + d.val, by omega⟩) = c2 (ix4 0 0 d ⟨64 + i.val, by omega⟩)
    ∧ k0_pay17 c0 c1 c2 c3 (ix2 i ⟨224 + d.val, by omega⟩) = c3 (ix4 0 0 d ⟨64 + i.val, by omega⟩) := by
  have hd := d.isLt
  refine ⟨?_, ?_, ?_, ?_, ?_, ?_, ?_, ?_⟩ <;> pointwise [k0_pay17] <;>
    (split_ifs <;> first | omega | rfl | (congr 2; apply Fin.ext; simp only []; omega))

/-- `own` in the lower and in the upper half. -/
theorem own_lo (l : Fin 128) (i : Fin 64) (h : l.val < 64) : own l i = ⟨i.val, by omega⟩ := by
  apply Fin.ext; simp only [own]; omega
theorem own_hi (l : Fin 128) (i : Fin 64) (h : ¬ l.val < 64) : own l i = ⟨64 + i.val, by omega⟩ := by
  apply Fin.ext; have := l.isLt; simp only [own]; omega

/-- The tests and differences that pick one of eight pieces of 32 rows. -/
theorem picks (d : Fin 32) :
    ((64 + d.val - 32 = 32 + d.val ∧ 96 + d.val - 32 = 64 + d.val ∧ 128 + d.val - 32 = 96 + d.val) ∧ 160 + d.val - 32 = 128 + d.val
      ∧ 192 + d.val - 32 = 160 + d.val ∧ 224 + d.val - 32 = 192 + d.val ∧ 32 + d.val - 32 = d.val)
    ∧ ((32 + d.val < 32) = False ∧ (64 + d.val < 32) = False ∧ (96 + d.val < 32) = False ∧ (128 + d.val < 32) = False)
    ∧ (160 + d.val < 32) = False ∧ (192 + d.val < 32) = False ∧ (224 + d.val < 32) = False ∧ (d.val < 32) = True := by
  have := d.isLt
  refine ⟨⟨⟨?_, ?_, ?_⟩, ?_, ?_, ?_, ?_⟩, ⟨?_, ?_, ?_, ?_⟩, ?_, ?_, ?_, ?_⟩ <;> first | omega | (simp; done) | (simp; omega)

/-- The masked product of the first two heads at the first head: exactly the head's own window. -/
theorem score0 (c0 c1 c2 c3 a0 a1 : Vec Ideal S1x1x32x128 .fp8e4m3) (i : Fin 64) (l : Fin 128) :
    k0_pay22 k0_pay3 k0_pay4 (k0_pay17 c0 c1 c2 c3) (k0_pay18 k0_pay2 k0_pay4 a0) (k0_pay19 k0_pay2 k0_pay4 a1) (k0_pay20 k0_pay4)
      (k0_pay21 k0_pay4) a0 a1 (ix2 i ⟨l.val, by omega⟩) = score c0 a0 i l := by
  pointwise [k0_pay22, k0_pay18, k0_pay19, k0_pay20, k0_pay21, k0_pay29, k0_pay30, k0_pay31, k0_pay32, k0_pay33, k0_pay34, k0_pay35, k0_pay36]
  rw [sum_eight, score]
  refine Finset.sum_congr rfl fun d _ => ?_
  obtain ⟨e0, e1, e2, e3, e4, e5, e6, e7⟩ := pay17_apply c0 c1 c2 c3 i d
  obtain ⟨⟨⟨p0, p1, p2⟩, p3, p4, p5, p6⟩, ⟨q0, q1, q2, q3⟩, q4, q5, q6, q7⟩ := picks d
  simp only [e0, e1, e2, e3, e4, e5, e6, e7, pay4_apply, pay2_apply, pay3_apply, zero8, p0, p1, p2, p3, p4, p5, p6, q0, q1, q2, q3, q4, q5, q6, q7]
  by_cases h : l.val < 64
  · simp [own_lo l i h, h, Scalar.select]
  · simp [own_hi l i h, h, Scalar.select]

/-- The same at the second head. -/
theorem score1 (c0 c1 c2 c3 a0 a1 : Vec Ideal S1x1x32x128 .fp8e4m3) (i : Fin 64) (l : Fin 128) :
    k0_pay22 k0_pay3 k0_pay4 (k0_pay17 c0 c1 c2 c3) (k0_pay18 k0_pay2 k0_pay4 a0) (k0_pay19 k0_pay2 k0_pay4 a1) (k0_pay20 k0_pay4)
      (k0_pay21 k0_pay4) a0 a1 (ix2 i ⟨128 + l.val, by omega⟩) = score c1 a1 i l := by
  pointwise [k0_pay22, k0_pay18, k0_pay19, k0_pay20, k0_pay21, k0_pay29, k0_pay30, k0_pay31, k0_pay32, k0_pay33, k0_pay34, k0_pay35, k0_pay36]
  rw [sum_eight, score]
  refine Finset.sum_congr rfl fun d _ => ?_
  obtain ⟨e0, e1, e2, e3, e4, e5, e6, e7⟩ := pay17_apply c0 c1 c2 c3 i d
  obtain ⟨⟨⟨p0, p1, p2⟩, p3, p4, p5, p6⟩, ⟨q0, q1, q2, q3⟩, q4, q5, q6, q7⟩ := picks d
  simp only [e0, e1, e2, e3, e4, e5, e6, e7, pay4_apply, pay2_apply, pay3_apply, zero8, p0, p1, p2, p3, p4, p5, p6, q0, q1, q2, q3, q4, q5, q6, q7]
  by_cases h : l.val < 64
  · simp [own_lo l i h, h, Scalar.select]
  · simp [own_hi l i h, h, Scalar.select]

/-- The masked product of the last two heads at the third head. -/
theorem score2 (c0 c1 c2 c3 a0 a1 : Vec Ideal S1x1x32x128 .fp8e4m3) (i : Fin 64) (l : Fin 128) :
    k0_pay36 k0_pay3 k0_pay4 (k0_pay17 c0 c1 c2 c3) (k0_pay29 k0_pay4) (k0_pay30 k0_pay4) (k0_pay31 k0_pay2 k0_pay4 a0)
      (k0_pay32 k0_pay2 k0_pay4 a1) (k0_pay33 k0_pay4) (k0_pay34 k0_pay4) (k0_pay35 k0_pay3 k0_pay4 a0) a1 (ix2 i ⟨l.val, by omega⟩) = score c2 a0 i l := by
  pointwise [k0_pay22, k0_pay18, k0_pay19, k0_pay20, k0_pay21, k0_pay29, k0_pay30, k0_pay31, k0_pay32, k0_pay33, k0_pay34, k0_pay35, k0_pay36]
  rw [sum_eight, score]
  refine Finset.sum_congr rfl fun d _ => ?_
  obtain ⟨e0, e1, e2, e3, e4, e5, e6, e7⟩ := pay17_apply c0 c1 c2 c3 i d
  obtain ⟨⟨⟨p0, p1, p2⟩, p3, p4, p5, p6⟩, ⟨q0, q1, q2, q3⟩, q4, q5, q6, q7⟩ := picks d
  simp only [e0, e1, e2, e3, e4, e5, e6, e7, pay4_apply, pay2_apply, pay3_apply, zero8, p0, p1, p2, p3, p4, p5, p6, q0, q1, q2, q3, q4, q5, q6, q7]
  by_cases h : l.val < 64
  · simp [own_lo l i h, h, Scalar.select]
  · simp [own_hi l i h, h, Scalar.select]

/-- The same at the fourth head. -/
theorem score3 (c0 c1 c2 c3 a0 a1 : Vec Ideal S1x1x32x128 .fp8e4m3) (i : Fin 64) (l : Fin 128) :
    k0_pay36 k0_pay3 k0_pay4 (k0_pay17 c0 c1 c2 c3) (k0_pay29 k0_pay4) (k0_pay30 k0_pay4) (k0_pay31 k0_pay2 k0_pay4 a0)
      (k0_pay32 k0_pay2 k0_pay4 a1) (k0_pay33 k0_pay4) (k0_pay34 k0_pay4) (k0_pay35 k0_pay3 k0_pay4 a0) a1 (ix2 i ⟨128 + l.val, by omega⟩) = score c3 a1 i l := by
  pointwise [k0_pay22, k0_pay18, k0_pay19, k0_pay20, k0_pay21, k0_pay29, k0_pay30, k0_pay31, k0_pay32, k0_pay33, k0_pay34, k0_pay35, k0_pay36]
  rw [sum_eight, score]
  refine Finset.sum_congr rfl fun d _ => ?_
  obtain ⟨e0, e1, e2, e3, e4, e5, e6, e7⟩ := pay17_apply c0 c1 c2 c3 i d
  obtain ⟨⟨⟨p0, p1, p2⟩, p3, p4, p5, p6⟩, ⟨q0, q1, q2, q3⟩, q4, q5, q6, q7⟩ := picks d
  simp only [e0, e1, e2, e3, e4, e5, e6, e7, pay4_apply, pay2_apply, pay3_apply, zero8, p0, p1, p2, p3, p4, p5, p6, q0, q1, q2, q3, q4, q5, q6, q7]
  by_cases h : l.val < 64
  · simp [own_lo l i h, h, Scalar.select]
  · simp [own_hi l i h, h, Scalar.select]

end Cert.AttendIdeal.Hand

end
-- ==== Proof.AttendSoft.lean ====
/- The attention kernel's payloads after the scores, read at an index over the extended reals: the softmax over a window, the masked
   product with the values, and the block of four heads that a trip stores. -/
module

public import proofs.«01_k».proof.Proof.AttendValue

@[expose] public section

set_option maxHeartbeats 1000000

noncomputable section

namespace Cert.AttendIdeal.Hand

open Cert.AttendIdeal Cert.AttendIdeal.Gen
open Idealize.ShloMosaic

/-- The scores of one head: the product times the logit factor plus the bias. -/
def logit (s : Fin 64 → Fin 128 → EReal) (f : Vec Ideal S1x1x1x128 .f32) (b : Vec Ideal S64x128 .f32) (i : Fin 64) (l : Fin 128) : EReal :=
  s i l * f (ix4 0 0 0 l) + b (ix2 i l)

/-- The exponentials of the scores less their greatest. -/
def expo (x : Fin 64 → Fin 128 → EReal) (i : Fin 64) (l : Fin 128) : EReal :=
  Ideal.exp (x i l - Finset.univ.fold max (Ideal.ofBits FTy.f32 0xFF800000#32) fun k : Fin 64 => x k l)

/-- The codes of the probabilities of one head: each exponential times 256 over their sum. -/
def prob (x : Fin 64 → Fin 128 → EReal) (i : Fin 64) (l : Fin 128) : EReal :=
  expo x i l * Ideal.div (Ideal.ofBits FTy.f32 0x43800000#32) (∑ k : Fin 64, expo x k l)

/-- The product of the values with the probability codes over the 64 positions of the window of lane `l`. -/
def mix (p : Fin 64 → Fin 128 → EReal) (v : Fin 32 → Fin 128 → EReal) (d : Fin 32) (l : Fin 128) : EReal :=
  ∑ i : Fin 64, v d (own l i) * p i l

/-- The probability codes of the first head. -/
theorem pay23_apply (v5 : IVec S1x128 1) (v6 : FVec Ideal S32x128 .fp8e4m3) (v24 : FVec Ideal S64x256 .fp8e4m3) (v32 v40 v41 v42 : FVec Ideal S32x256 .fp8e4m3)
    (v44 v52 : Vec Ideal S1x1x32x128 .fp8e4m3) (v65 : Vec Ideal S1x1x1x128 .f32) (v69 : Vec Ideal S64x128 .f32) (i : Fin 64) (l : Fin 128) :
    k0_pay23 v5 v6 v24 v32 v40 v41 v42 v44 v52 v65 v69 (ix2 i l)
      = prob (logit (fun i l => k0_pay22 v5 v6 v24 v32 v40 v41 v42 v44 v52 (ix2 i ⟨l.val, by omega⟩)) v65 v69) i l := by
  pointwise [k0_pay23, prob, expo, logit]

/-- The scores of the second head before the factor. -/
theorem pay24_apply (v5 : IVec S1x128 1) (v6 : FVec Ideal S32x128 .fp8e4m3) (v24 : FVec Ideal S64x256 .fp8e4m3) (v32 v40 v41 v42 : FVec Ideal S32x256 .fp8e4m3)
    (v44 v52 : Vec Ideal S1x1x32x128 .fp8e4m3) (i : Fin 64) (l : Fin 128) :
    k0_pay24 v5 v6 v24 v32 v40 v41 v42 v44 v52 (ix2 i l) = k0_pay22 v5 v6 v24 v32 v40 v41 v42 v44 v52 (ix2 i ⟨128 + l.val, by omega⟩) := by
  pointwise [k0_pay24]

/-- The probability codes of the third head. -/
theorem pay37_apply (v5 : IVec S1x128 1) (v6 : FVec Ideal S32x128 .fp8e4m3) (v24 : FVec Ideal S64x256 .fp8e4m3) (v145 v146 v154 v162 v163 v164 v172 : FVec Ideal S32x256 .fp8e4m3)
    (v174 : Vec Ideal S1x1x32x128 .fp8e4m3) (v185 : Vec Ideal S1x1x1x128 .f32) (v189 : Vec Ideal S64x128 .f32) (i : Fin 64) (l : Fin 128) :
    k0_pay37 v5 v6 v24 v145 v146 v154 v162 v163 v164 v172 v174 v185 v189 (ix2 i l)
      = prob (logit (fun i l => k0_pay36 v5 v6 v24 v145 v146 v154 v162 v163 v164 v172 v174 (ix2 i ⟨l.val, by omega⟩)) v185 v189) i l := by
  pointwise [k0_pay37, prob, expo, logit]

/-- The scores of the fourth head. -/
theorem pay38_apply (v5 : IVec S1x128 1) (v6 : FVec Ideal S32x128 .fp8e4m3) (v24 : FVec Ideal S64x256 .fp8e4m3) (v145 v146 v154 v162 v163 v164 v172 : FVec Ideal S32x256 .fp8e4m3)
    (v174 : Vec Ideal S1x1x32x128 .fp8e4m3) (v206 : Vec Ideal S1x1x1x128 .f32) (v210 : Vec Ideal S64x128 .f32) (i : Fin 64) (l : Fin 128) :
    k0_pay38 v5 v6 v24 v145 v146 v154 v162 v163 v164 v172 v174 v206 v210 (ix2 i l)
      = logit (fun i l => k0_pay36 v5 v6 v24 v145 v146 v154 v162 v163 v164 v172 v174 (ix2 i ⟨128 + l.val, by omega⟩)) v206 v210 i l := by
  pointwise [k0_pay38, logit]

/-- The greatest score of the fourth head. -/
theorem pay39_apply (v5 : IVec S1x128 1) (v6 : FVec Ideal S32x128 .fp8e4m3) (v24 : FVec Ideal S64x256 .fp8e4m3) (v145 v146 v154 v162 v163 v164 v172 : FVec Ideal S32x256 .fp8e4m3)
    (v174 : Vec Ideal S1x1x32x128 .fp8e4m3) (v206 : Vec Ideal S1x1x1x128 .f32) (v210 : Vec Ideal S64x128 .f32) (i : Fin 64) (l : Fin 128) :
    k0_pay39 v5 v6 v24 v145 v146 v154 v162 v163 v164 v172 v174 v206 v210 (ix2 i l)
      = Finset.univ.fold max (Ideal.ofBits FTy.f32 0xFF800000#32) fun k : Fin 64 =>
          logit (fun i l => k0_pay36 v5 v6 v24 v145 v146 v154 v162 v163 v164 v172 v174 (ix2 i ⟨128 + l.val, by omega⟩)) v206 v210 k l := by
  pointwise [k0_pay39, k0_pay38, logit]

/-- A masked product over both windows of a row is the product over the lane's own window. -/
theorem mix_masked (p : Fin 64 → Fin 128 → EReal) (v : Fin 32 → Fin 128 → EReal) (d : Fin 32) (l : Fin 128) :
    (∑ x : Fin 64, v d ⟨x.val, by omega⟩ * Scalar.select (k0_pay2 (ix2 0 l)) (p x l) (Ideal.ofBits FTy.fp8e4m3 0#8))
      + (∑ x : Fin 64, v d ⟨64 + x.val, by omega⟩ * Scalar.select (k0_pay3 (ix2 0 l)) (p x l) (Ideal.ofBits FTy.fp8e4m3 0#8)) = mix p v d l := by
  rw [mix, pay2_apply, pay3_apply, zero8]
  by_cases h : l.val < 64
  · simp [own_lo l _ h, h, Scalar.select]
  · simp [own_hi l _ h, h, Scalar.select]

/-- The product with the values, first head. -/
theorem pay25_left (p : FVec Ideal S64x128 .fp8e4m3) (s : FVec Ideal S64x128 .f32) (f : Vec Ideal S1x1x1x128 .f32) (b : Vec Ideal S64x128 .f32) (v : Vec Ideal S1x2x32x128 .fp8e4m3) (d : Fin 32) (l : Fin 128) :
    k0_pay25 k0_pay2 k0_pay3 p s f b v (ix2 ⟨d.val, by omega⟩ ⟨l.val, by omega⟩) = mix (fun i l => p (ix2 i l)) (fun d l => v (ix4 0 0 d l)) d l := by
  have hd := d.isLt
  have hq : (d.val / 32 = 0 ∧ d.val % 32 = d.val) ∧ (32 + d.val) / 32 = 1 := by omega
  rw [← mix_masked]
  pointwise [k0_pay25, prob, expo, logit]
  simp only [hq.1.1, hq.1.2, hq.2]
  rfl

/-- The product with the values, second head. -/
theorem pay25_right (p : FVec Ideal S64x128 .fp8e4m3) (s : FVec Ideal S64x128 .f32) (f : Vec Ideal S1x1x1x128 .f32) (b : Vec Ideal S64x128 .f32) (v : Vec Ideal S1x2x32x128 .fp8e4m3) (d : Fin 32) (l : Fin 128) :
    k0_pay25 k0_pay2 k0_pay3 p s f b v (ix2 ⟨32 + d.val, by omega⟩ ⟨128 + l.val, by omega⟩) = mix (prob (logit (fun i l => s (ix2 i l)) f b)) (fun d l => v (ix4 0 1 d l)) d l := by
  have hd := d.isLt
  have hq : (d.val / 32 = 0 ∧ d.val % 32 = d.val) ∧ (32 + d.val) / 32 = 1 := by omega
  rw [← mix_masked]
  pointwise [k0_pay25, prob, expo, logit]
  simp only [hq.1.1, hq.1.2, hq.2]
  rfl

/-- The product with the values, third head. -/
theorem pay40_left (p : FVec Ideal S64x128 .fp8e4m3) (s t : FVec Ideal S64x128 .f32) (v : Vec Ideal S1x2x32x128 .fp8e4m3) (d : Fin 32) (l : Fin 128) :
    k0_pay40 k0_pay2 k0_pay3 p s t v (ix2 ⟨d.val, by omega⟩ ⟨l.val, by omega⟩) = mix (fun i l => p (ix2 i l)) (fun d l => v (ix4 0 0 d l)) d l := by
  have hd := d.isLt
  have hq : (d.val / 32 = 0 ∧ d.val % 32 = d.val) ∧ (32 + d.val) / 32 = 1 := by omega
  rw [← mix_masked]
  pointwise [k0_pay40, prob, expo, logit]
  simp only [hq.1.1, hq.1.2, hq.2]
  rfl

/-- The product with the values, fourth head. -/
theorem pay40_right (p : FVec Ideal S64x128 .fp8e4m3) (s t : FVec Ideal S64x128 .f32) (v : Vec Ideal S1x2x32x128 .fp8e4m3) (d : Fin 32) (l : Fin 128) :
    k0_pay40 k0_pay2 k0_pay3 p s t v (ix2 ⟨32 + d.val, by omega⟩ ⟨128 + l.val, by omega⟩) = mix (fun i l => Ideal.exp (s (ix2 i l) - t (ix2 i l)) * Ideal.div (Ideal.ofBits FTy.f32 0x43800000#32) (∑ k : Fin 64, Ideal.exp (s (ix2 k l) - t (ix2 k l)))) (fun d l => v (ix4 0 1 d l)) d l := by
  have hd := d.isLt
  have hq : (d.val / 32 = 0 ∧ d.val % 32 = d.val) ∧ (32 + d.val) / 32 = 1 := by omega
  rw [← mix_masked]
  pointwise [k0_pay40, prob, expo, logit]
  simp only [hq.1.1, hq.1.2, hq.2]
  rfl

end Cert.AttendIdeal.Hand

end
-- ==== Proof.AttendTrip.lean ====
/- What one trip of the attention loop stores: 128 tokens by four heads of 32 features, each the product of the window's values with the
   probability codes, times the head's scale. -/
module

public import proofs.«01_k».proof.Proof.AttendSoft

@[expose] public section

set_option maxHeartbeats 1000000

noncomputable section

namespace Cert.AttendIdeal.Hand

open Cert.AttendIdeal Cert.AttendIdeal.Gen
open Idealize.ShloMosaic

section
variable (Q K : Fin 4 → Vec Ideal S1x1x32x128 .fp8e4m3) (f g : Fin 4 → Vec Ideal S1x1x1x128 .f32) (b : Fin 4 → Vec Ideal S64x128 .f32)
  (v : Fin 2 → Vec Ideal S1x2x32x128 .fp8e4m3)

/-- The probability codes of the first head. -/
def p0 : FVec Ideal S64x128 .fp8e4m3 :=
  k0_pay23 k0_pay3 k0_pay4 (k0_pay17 (K 0) (K 1) (K 2) (K 3)) (k0_pay18 k0_pay2 k0_pay4 (Q 0)) (k0_pay19 k0_pay2 k0_pay4 (Q 1))
    (k0_pay20 k0_pay4) (k0_pay21 k0_pay4) (Q 0) (Q 1) (f 0) (b 0)
/-- The scores of the second head before the factor. -/
def s1 : FVec Ideal S64x128 .f32 :=
  k0_pay24 k0_pay3 k0_pay4 (k0_pay17 (K 0) (K 1) (K 2) (K 3)) (k0_pay18 k0_pay2 k0_pay4 (Q 0)) (k0_pay19 k0_pay2 k0_pay4 (Q 1))
    (k0_pay20 k0_pay4) (k0_pay21 k0_pay4) (Q 0) (Q 1)
/-- The probability codes of the third head. -/
def p2 : FVec Ideal S64x128 .fp8e4m3 :=
  k0_pay37 k0_pay3 k0_pay4 (k0_pay17 (K 0) (K 1) (K 2) (K 3)) (k0_pay29 k0_pay4) (k0_pay30 k0_pay4) (k0_pay31 k0_pay2 k0_pay4 (Q 2))
    (k0_pay32 k0_pay2 k0_pay4 (Q 3)) (k0_pay33 k0_pay4) (k0_pay34 k0_pay4) (k0_pay35 k0_pay3 k0_pay4 (Q 2)) (Q 3) (f 2) (b 2)
/-- The scores of the fourth head. -/
def s3 : FVec Ideal S64x128 .f32 :=
  k0_pay38 k0_pay3 k0_pay4 (k0_pay17 (K 0) (K 1) (K 2) (K 3)) (k0_pay29 k0_pay4) (k0_pay30 k0_pay4) (k0_pay31 k0_pay2 k0_pay4 (Q 2))
    (k0_pay32 k0_pay2 k0_pay4 (Q 3)) (k0_pay33 k0_pay4) (k0_pay34 k0_pay4) (k0_pay35 k0_pay3 k0_pay4 (Q 2)) (Q 3) (f 3) (b 3)
/-- The greatest scores of the fourth head. -/
def t3 : FVec Ideal S64x128 .f32 :=
  k0_pay39 k0_pay3 k0_pay4 (k0_pay17 (K 0) (K 1) (K 2) (K 3)) (k0_pay29 k0_pay4) (k0_pay30 k0_pay4) (k0_pay31 k0_pay2 k0_pay4 (Q 2))
    (k0_pay32 k0_pay2 k0_pay4 (Q 3)) (k0_pay33 k0_pay4) (k0_pay34 k0_pay4) (k0_pay35 k0_pay3 k0_pay4 (Q 2)) (Q 3) (f 3) (b 3)

/-- What a trip stores, from its loads. -/
def tripPay : FVec Ideal S1x128x128 .bf16 :=
  k0_pay5 (k0_pay27 (k0_pay26 k0_pay2 k0_pay3 (p0 Q K f b) (s1 Q K) (f 1) (b 1) (v 0)) (g 0))
    (k0_pay28 (k0_pay25 k0_pay2 k0_pay3 (p0 Q K f b) (s1 Q K) (f 1) (b 1) (v 0)) (g 1))
    (k0_pay41 k0_pay2 k0_pay3 (p2 Q K f b) (s3 Q K f b) (t3 Q K f b) (v 1) (g 2))
    (k0_pay42 k0_pay2 k0_pay3 (p2 Q K f b) (s3 Q K f b) (t3 Q K f b) (v 1)) (g 3)

/-- One head's probability codes. -/
def headP (h : Fin 4) : Fin 64 → Fin 128 → EReal := prob (logit (score (K h) (Q h)) (f h) (b h))

theorem p0_eq : (fun i l => p0 Q K f b (ix2 i l)) = headP Q K f b 0 := by
  funext i l
  rw [p0, pay23_apply]
  simp only [score0]
  rfl

theorem s1_eq : (fun i l => s1 Q K (ix2 i l)) = score (K 1) (Q 1) := by
  funext i l
  rw [s1, pay24_apply]
  simp only [score1]

theorem p2_eq : (fun i l => p2 Q K f b (ix2 i l)) = headP Q K f b 2 := by
  funext i l
  rw [p2, pay37_apply]
  simp only [score2]
  rfl

theorem s3_eq (i : Fin 64) (l : Fin 128) : s3 Q K f b (ix2 i l) = logit (score (K 3) (Q 3)) (f 3) (b 3) i l := by
  rw [s3, pay38_apply]
  simp only [score3]

theorem t3_eq (i : Fin 64) (l : Fin 128) : t3 Q K f b (ix2 i l)
    = Finset.univ.fold max (Ideal.ofBits FTy.f32 0xFF800000#32) fun k : Fin 64 => logit (score (K 3) (Q 3)) (f 3) (b 3) k l := by
  rw [t3, pay39_apply]
  simp only [score3]

/-- What a trip stores, head by head. -/
theorem tripPay_apply (h : Fin 4) (d : Fin 32) (l : Fin 128) :
    tripPay Q K f g b v (ix3 0 l ⟨32 * h.val + d.val, by omega⟩)
      = mix (headP Q K f b h) (fun d l => v ⟨h.val / 2, by omega⟩ (ix4 0 ⟨h.val % 2, by omega⟩ d l)) d l * g h (ix4 0 0 0 l) := by
  have hd := d.isLt
  have e0 := pay25_left (p0 Q K f b) (s1 Q K) (f 1) (b 1) (v 0) d l
  have e1 := pay25_right (p0 Q K f b) (s1 Q K) (f 1) (b 1) (v 0) d l
  have e2 := pay40_left (p2 Q K f b) (s3 Q K f b) (t3 Q K f b) (v 1) d l
  have e3 := pay40_right (p2 Q K f b) (s3 Q K f b) (t3 Q K f b) (v 1) d l
  rw [p0_eq] at e0
  rw [s1_eq] at e1
  rw [p2_eq] at e2
  simp only [s3_eq, t3_eq] at e3
  obtain ⟨⟨⟨a0, a1, a2⟩, a3, a4, a5, a6⟩, ⟨q0, q1, q2, q3⟩, q4, q5, q6, q7⟩ := picks d
  fin_cases h <;> pointwise [tripPay, k0_pay5, k0_pay27, k0_pay28, k0_pay26, k0_pay41, k0_pay42] <;> (try simp only [a0, a1, a6, q0, q1, q2, q7, dite_true, dite_false])
  · exact congrArg (· * g 0 (ix4 0 0 0 l)) e0
  · exact congrArg (· * g 1 (ix4 0 0 0 l)) e1
  · exact congrArg (· * g 2 (ix4 0 0 0 l)) e2
  · exact congrArg (· * g 3 (ix4 0 0 0 l)) e3

end

end Cert.AttendIdeal.Hand

end
-- ==== Proof.AttendBlock.lean ====
/- What the two loops of a grid step leave: the scratch arrays hold the clipped codes of q and k, and the output block holds, for each
   token and head, the product of its window's values with the probability codes. -/
module

public import proofs.«01_k».proof.Proof.AttendRunIdeal
public import proofs.«01_k».proof.Proof.AttendTrip
public import Idealize.ShloMosaic.Lib.Pipeline.ValueKit.Tiles

@[expose] public section

set_option maxHeartbeats 1000000

noncomputable section

namespace Cert.AttendIdeal.Hand

open Cert.AttendIdeal Cert.AttendIdeal.Gen
open Idealize.ShloMosaic

/-! ## The offsets of the loads and stores -/

theorem off1_eq : ∀ (k : Fin k0_t1_loop.trips) (a : Fin 6), k0_off1 k a = ![0, 0, 0, k.val, 0, 0] a := by decide +kernel
theorem off2_eq : ∀ (k : Fin k0_t1_loop.trips) (a : Fin 5), k0_off2 k a = ![0, 0, 0, k.val, 0] a := by decide +kernel
theorem off3_eq : ∀ (k : Fin k0_t1_loop.trips) (a : Fin 4), k0_off3 k a = ![0, k.val, 0, 0] a := by decide +kernel
theorem off13_eq : ∀ (k : Fin k0_t1_loop.trips) (a : Fin 5), k0_off13 k a = ![0, 1, 0, k.val, 0] a := by decide +kernel
theorem off17_eq : ∀ (k : Fin k0_t2_loop.trips) (a : Fin 4), k0_off17 k a = ![0, k.val, 0, 0] a := by decide +kernel
theorem off4_eq : ∀ (k : Fin k0_t1_loop.trips) (a : Fin 6), k0_off4 k a = ![0, 1, 0, k.val, 0, 0] a := by decide +kernel
theorem off5_eq : ∀ (k : Fin k0_t1_loop.trips) (a : Fin 5), k0_off5 k a = ![0, 0, 1, k.val, 0] a := by decide +kernel
theorem off6_eq : ∀ (k : Fin k0_t1_loop.trips) (a : Fin 4), k0_off6 k a = ![1, k.val, 0, 0] a := by decide +kernel
theorem off14_eq : ∀ (k : Fin k0_t1_loop.trips) (a : Fin 5), k0_off14 k a = ![0, 1, 1, k.val, 0] a := by decide +kernel
theorem off18_eq : ∀ (k : Fin k0_t2_loop.trips) (a : Fin 4), k0_off18 k a = ![1, k.val, 0, 0] a := by decide +kernel
theorem off7_eq : ∀ (k : Fin k0_t1_loop.trips) (a : Fin 6), k0_off7 k a = ![0, 2, 0, k.val, 0, 0] a := by decide +kernel
theorem off8_eq : ∀ (k : Fin k0_t1_loop.trips) (a : Fin 5), k0_off8 k a = ![0, 0, 2, k.val, 0] a := by decide +kernel
theorem off9_eq : ∀ (k : Fin k0_t1_loop.trips) (a : Fin 4), k0_off9 k a = ![2, k.val, 0, 0] a := by decide +kernel
theorem off15_eq : ∀ (k : Fin k0_t1_loop.trips) (a : Fin 5), k0_off15 k a = ![0, 1, 2, k.val, 0] a := by decide +kernel
theorem off19_eq : ∀ (k : Fin k0_t2_loop.trips) (a : Fin 4), k0_off19 k a = ![2, k.val, 0, 0] a := by decide +kernel
theorem off10_eq : ∀ (k : Fin k0_t1_loop.trips) (a : Fin 6), k0_off10 k a = ![0, 3, 0, k.val, 0, 0] a := by decide +kernel
theorem off11_eq : ∀ (k : Fin k0_t1_loop.trips) (a : Fin 5), k0_off11 k a = ![0, 0, 3, k.val, 0] a := by decide +kernel
theorem off12_eq : ∀ (k : Fin k0_t1_loop.trips) (a : Fin 4), k0_off12 k a = ![3, k.val, 0, 0] a := by decide +kernel
theorem off16_eq : ∀ (k : Fin k0_t1_loop.trips) (a : Fin 5), k0_off16 k a = ![0, 1, 3, k.val, 0] a := by decide +kernel
theorem off20_eq : ∀ (k : Fin k0_t2_loop.trips) (a : Fin 4), k0_off20 k a = ![3, k.val, 0, 0] a := by decide +kernel
theorem off21_eq : ∀ (k : Fin k0_t2_loop.trips) (a : Fin 4), k0_off21 k a = ![0, 0, k.val, 0] a := by decide +kernel
theorem off22_eq : ∀ (k : Fin k0_t2_loop.trips) (a : Fin 4), k0_off22 k a = ![0, 1, k.val, 0] a := by decide +kernel
theorem off24_eq : ∀ (k : Fin k0_t2_loop.trips) (a : Fin 4), k0_off24 k a = ![0, 2, k.val, 0] a := by decide +kernel
theorem off25_eq : ∀ (k : Fin k0_t2_loop.trips) (a : Fin 4), k0_off25 k a = ![0, 3, k.val, 0] a := by decide +kernel
theorem off23_eq : ∀ (k : Fin k0_t2_loop.trips) (a : Fin 4), k0_off23 k a = ![0, 0, 0, 128 * k.val] a := by decide +kernel
theorem off26_eq : ∀ (k : Fin k0_t2_loop.trips) (a : Fin 4), k0_off26 k a = ![0, 2, 0, 128 * k.val] a := by decide +kernel
theorem off27_eq : ∀ (k : Fin k0_t2_loop.trips) (a : Fin 3), k0_off27 k a = ![0, 128 * k.val, 0] a := by decide +kernel

/-- A load through a whole buffer that holds `X` reads `X`. -/
theorem readAt_ld {S : Shape} {e : EltTy} {m : Memref sig .tc .vmem S e} (h : m.IsWhole) (X : S.Idx → Elt Ideal e) (r : Rect S) :
    View.readAt (Elt Ideal) m.view r.toLoadRect (h.unread X) = View.ld X r := by
  rw [View.readAt_eq_ld, h.read_unread]

/-! ## The codes -/

/-- The codes of one of the two inputs of a grid step: each element times its token's factor, clipped. -/
def codeOf (x : Vec Ideal S1x4x4x64x8x128 .bf16) (s : Vec Ideal S1x2x4x64x128 .f32) (e : Fin 2) : Vec Ideal S4x64x32x128 .fp8e4m3 :=
  fun y => clip (x (ix6 0 (y 0) ⟨(y 2).val / 8, by have := (y 2).isLt; simp at this; omega⟩ (y 1) ⟨(y 2).val % 8, by omega⟩ (y 3))
    * s (ix5 0 e (y 0) (y 1) (y 3)))

/-- A store of the first loop writes the codes of one head and one row of 128 tokens. -/
theorem code_piece (x : Vec Ideal S1x4x4x64x8x128 .bf16) (s : Vec Ideal S1x2x4x64x128 .f32) (e : Fin 2) (h : Fin 4) (k : Fin 64)
    (o1 : Fin 6 → ℕ) (i1 : ∀ a, o1 a + S1x1x4x1x8x128.size a ≤ S1x4x4x64x8x128.size a) (o2 : Fin 5 → ℕ)
    (i2 : ∀ a, o2 a + S1x1x1x1x128.size a ≤ S1x2x4x64x128.size a) (o3 : Fin 4 → ℕ) (i3 : ∀ a, o3 a + S1x1x32x128.size a ≤ S4x64x32x128.size a)
    (h1 : ∀ a, o1 a = ![0, h.val, 0, k.val, 0, 0] a) (h2 : ∀ a, o2 a = ![0, e.val, h.val, k.val, 0] a)
    (h3 : ∀ a, o3 a = ![h.val, k.val, 0, 0] a) (j : S1x1x32x128.Idx) :
    k0_pay6 (View.ld x (Rect.unit o1 S1x1x4x1x8x128.size i1)) (View.ld s (Rect.unit o2 S1x1x1x1x128.size i2)) j
      = codeOf x s e ((Rect.unit (s := S4x64x32x128) o3 S1x1x32x128.size i3).emb j) := by
  have he : ∀ a, (((Rect.unit (s := S4x64x32x128) o3 S1x1x32x128.size i3).emb j) a : ℕ) = ![h.val, k.val, 0, 0] a + (j a).val := fun a => by
    rw [← h3]; exact Rect.idx_unit_val _ _ _ _ _
  have j0 : (j 0).val = 0 := by have := (j 0).isLt; simp at this; omega
  have j1 : (j 1).val = 0 := by have := (j 1).isLt; simp at this; omega
  have e0 := he 0; have e1 := he 1; have e2 := he 2; have e3 := he 3
  simp [j0, j1] at e0 e1 e2 e3
  rw [pay6_apply, codeOf]
  refine congrArg clip (congrArg₂ (· * ·) (View.ld_unit_apply_of x o1 _ i1 _ _ ?_) (View.ld_unit_apply_of s o2 _ i2 _ _ ?_))
  · intro a
    rw [h1]
    fin_cases a <;> simp [ix6, e0, e1, e2, e3, j0, j1]
  · intro a
    rw [h2]
    fin_cases a <;> simp [ix5, e0, e1, e2, e3, j0, j1]

section
variable (c : Dev nD) (i : grid0.Coords) (arg2 : Memref sig .tc .vmem S1x4x4x64x8x128 .bf16) (harg2 : arg2.IsWhole) (arg3 : Memref sig .tc .vmem S1x4x4x64x8x128 .bf16) (harg3 : arg3.IsWhole) (arg4 : Memref sig .tc .vmem S1x4x32x8192 .fp8e4m3) (harg4 : arg4.IsWhole) (arg5 : Memref sig .tc .vmem S1x2x4x64x128 .f32) (harg5 : arg5.IsWhole) (arg6 : Memref sig .tc .vmem S1x4x64x128 .f32) (harg6 : arg6.IsWhole) (arg7 : Memref sig .tc .vmem S1x4x64x128 .f32) (harg7 : arg7.IsWhole) (arg8 : Memref sig .tc .vmem S64x512 .f32) (harg8 : arg8.IsWhole) (arg9 : Memref sig .tc .vmem S1x8192x128 .bf16) (harg9 : arg9.IsWhole) (arg10 : Memref sig .tc .vmem S4x64x32x128 .fp8e4m3) (harg10 : arg10.IsWhole) (arg11 : Memref sig .tc .vmem S4x64x32x128 .fp8e4m3) (harg11 : arg11.IsWhole)
variable (x0 x1 : Vec Ideal S1x4x4x64x8x128 .bf16) (x2 : Vec Ideal S1x4x32x8192 .fp8e4m3) (x3 : Vec Ideal S1x2x4x64x128 .f32) (x4 x5 : Vec Ideal S1x4x64x128 .f32) (x6 : Vec Ideal S64x512 .f32)

/-- The stores of one trip of the first loop. -/
theorem trip1_eq (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 (harg2.unread x0) (harg3.unread x1) (harg5.unread x3) k
      = ([⟨Rect.unit (s := S4x64x32x128) (k0_off12 k) S1x1x32x128.size (k0_off12_inb k), k0_pay6 (View.ld x0 (Rect.unit (k0_off10 k) S1x1x4x1x8x128.size (k0_off10_inb k))) (View.ld x3 (Rect.unit (k0_off11 k) S1x1x1x1x128.size (k0_off11_inb k)))⟩,
        ⟨Rect.unit (s := S4x64x32x128) (k0_off9 k) S1x1x32x128.size (k0_off9_inb k), k0_pay6 (View.ld x0 (Rect.unit (k0_off7 k) S1x1x4x1x8x128.size (k0_off7_inb k))) (View.ld x3 (Rect.unit (k0_off8 k) S1x1x1x1x128.size (k0_off8_inb k)))⟩,
        ⟨Rect.unit (s := S4x64x32x128) (k0_off6 k) S1x1x32x128.size (k0_off6_inb k), k0_pay6 (View.ld x0 (Rect.unit (k0_off4 k) S1x1x4x1x8x128.size (k0_off4_inb k))) (View.ld x3 (Rect.unit (k0_off5 k) S1x1x1x1x128.size (k0_off5_inb k)))⟩,
        ⟨Rect.unit (s := S4x64x32x128) (k0_off3 k) S1x1x32x128.size (k0_off3_inb k), k0_pay6 (View.ld x0 (Rect.unit (k0_off1 k) S1x1x4x1x8x128.size (k0_off1_inb k))) (View.ld x3 (Rect.unit (k0_off2 k) S1x1x1x1x128.size (k0_off2_inb k)))⟩],
        [⟨Rect.unit (s := S4x64x32x128) (k0_off12 k) S1x1x32x128.size (k0_off12_inb k), k0_pay6 (View.ld x1 (Rect.unit (k0_off10 k) S1x1x4x1x8x128.size (k0_off10_inb k))) (View.ld x3 (Rect.unit (k0_off16 k) S1x1x1x1x128.size (k0_off16_inb k)))⟩,
        ⟨Rect.unit (s := S4x64x32x128) (k0_off9 k) S1x1x32x128.size (k0_off9_inb k), k0_pay6 (View.ld x1 (Rect.unit (k0_off7 k) S1x1x4x1x8x128.size (k0_off7_inb k))) (View.ld x3 (Rect.unit (k0_off15 k) S1x1x1x1x128.size (k0_off15_inb k)))⟩,
        ⟨Rect.unit (s := S4x64x32x128) (k0_off6 k) S1x1x32x128.size (k0_off6_inb k), k0_pay6 (View.ld x1 (Rect.unit (k0_off4 k) S1x1x4x1x8x128.size (k0_off4_inb k))) (View.ld x3 (Rect.unit (k0_off14 k) S1x1x1x1x128.size (k0_off14_inb k)))⟩,
        ⟨Rect.unit (s := S4x64x32x128) (k0_off3 k) S1x1x32x128.size (k0_off3_inb k), k0_pay6 (View.ld x1 (Rect.unit (k0_off1 k) S1x1x4x1x8x128.size (k0_off1_inb k))) (View.ld x3 (Rect.unit (k0_off13 k) S1x1x1x1x128.size (k0_off13_inb k)))⟩]) := by
  simp only [← readAt_ld harg2 x0, ← readAt_ld harg3 x1, ← readAt_ld harg5 x3]
  unfold tripL_k0_t1 trip_k0_t1
  rfl

/-- Every store of the first loop writes the codes. -/
theorem codes_mem : ∀ n : ℕ, n ≤ k0_t1_loop.trips →
    (∀ p ∈ (pb_k0_t1 (F := Ideal) Variants.none c none i arg2 harg2 arg3 harg3 arg4 harg4 arg5 harg5 arg6 harg6 arg7 harg7 arg8 harg8 arg9 harg9 arg10 harg10 arg11 harg11 (harg2.unread x0) (harg3.unread x1) (harg5.unread x3) n).1,
      ∀ y, p.2 y = codeOf x0 x3 0 (p.1.emb y))
    ∧ (∀ p ∈ (pb_k0_t1 (F := Ideal) Variants.none c none i arg2 harg2 arg3 harg3 arg4 harg4 arg5 harg5 arg6 harg6 arg7 harg7 arg8 harg8 arg9 harg9 arg10 harg10 arg11 harg11 (harg2.unread x0) (harg3.unread x1) (harg5.unread x3) n).2,
      ∀ y, p.2 y = codeOf x1 x3 1 (p.1.emb y))
  | 0, _ => ⟨fun p hp => absurd hp (List.not_mem_nil), fun p hp => absurd hp (List.not_mem_nil)⟩
  | n + 1, hn => by
    obtain ⟨ih1, ih2⟩ := codes_mem n (by omega)
    rw [pb_k0_t1_succ (F := Ideal) Variants.none c none i arg2 harg2 arg3 harg3 arg4 harg4 arg5 harg5 arg6 harg6 arg7 harg7 arg8 harg8 arg9 harg9 arg10 harg10 arg11 harg11 (harg2.unread x0) (harg3.unread x1) (harg5.unread x3) ⟨n, hn⟩, trip1_eq]
    refine ⟨fun p hp y => ?_, fun p hp y => ?_⟩
    · rcases List.mem_append.mp hp with hp | hp
      · simp only [List.mem_cons, List.not_mem_nil, or_false] at hp
        rcases hp with rfl | rfl | rfl | rfl
        · exact code_piece x0 x3 0 3 ⟨n, hn⟩ _ (k0_off10_inb ⟨n, hn⟩) _ (k0_off11_inb ⟨n, hn⟩) _ (k0_off12_inb ⟨n, hn⟩) (off10_eq _) (off11_eq _) (off12_eq _) y
        · exact code_piece x0 x3 0 2 ⟨n, hn⟩ _ (k0_off7_inb ⟨n, hn⟩) _ (k0_off8_inb ⟨n, hn⟩) _ (k0_off9_inb ⟨n, hn⟩) (off7_eq _) (off8_eq _) (off9_eq _) y
        · exact code_piece x0 x3 0 1 ⟨n, hn⟩ _ (k0_off4_inb ⟨n, hn⟩) _ (k0_off5_inb ⟨n, hn⟩) _ (k0_off6_inb ⟨n, hn⟩) (off4_eq _) (off5_eq _) (off6_eq _) y
        · exact code_piece x0 x3 0 0 ⟨n, hn⟩ _ (k0_off1_inb ⟨n, hn⟩) _ (k0_off2_inb ⟨n, hn⟩) _ (k0_off3_inb ⟨n, hn⟩) (off1_eq _) (off2_eq _) (off3_eq _) y
      · exact ih1 p hp y
    · rcases List.mem_append.mp hp with hp | hp
      · simp only [List.mem_cons, List.not_mem_nil, or_false] at hp
        rcases hp with rfl | rfl | rfl | rfl
        · exact code_piece x1 x3 1 3 ⟨n, hn⟩ _ (k0_off10_inb ⟨n, hn⟩) _ (k0_off16_inb ⟨n, hn⟩) _ (k0_off12_inb ⟨n, hn⟩) (off10_eq _) (off16_eq _) (off12_eq _) y
        · exact code_piece x1 x3 1 2 ⟨n, hn⟩ _ (k0_off7_inb ⟨n, hn⟩) _ (k0_off15_inb ⟨n, hn⟩) _ (k0_off9_inb ⟨n, hn⟩) (off7_eq _) (off15_eq _) (off9_eq _) y
        · exact code_piece x1 x3 1 1 ⟨n, hn⟩ _ (k0_off4_inb ⟨n, hn⟩) _ (k0_off14_inb ⟨n, hn⟩) _ (k0_off6_inb ⟨n, hn⟩) (off4_eq _) (off14_eq _) (off6_eq _) y
        · exact code_piece x1 x3 1 0 ⟨n, hn⟩ _ (k0_off1_inb ⟨n, hn⟩) _ (k0_off13_inb ⟨n, hn⟩) _ (k0_off3_inb ⟨n, hn⟩) (off1_eq _) (off13_eq _) (off3_eq _) y
      · exact ih2 p hp y

/-- The first loop leaves the codes of q. -/
theorem qCodes_eq : qCodes c i arg2 harg2 arg3 harg3 arg4 harg4 arg5 harg5 arg6 harg6 arg7 harg7 arg8 harg8 arg9 harg9 arg10 harg10 arg11 harg11 x0 x1 x3 = codeOf x0 x3 0 := by
  funext y
  have h := View.canon_append_of_pieces (codeOf x0 x3 0) [] _ (codes_mem c i arg2 harg2 arg3 harg3 arg4 harg4 arg5 harg5 arg6 harg6 arg7 harg7 arg8 harg8 arg9 harg9 arg10 harg10 arg11 harg11 x0 x1 x3 _ le_rfl).1 y
    (q_cover (F := Ideal) c i arg2 harg2 arg3 harg3 arg4 harg4 arg5 harg5 arg6 harg6 arg7 harg7 arg8 harg8 arg9 harg9 arg10 harg10 arg11 harg11 x0 x1 x3 y)
  rwa [List.append_nil] at h

/-- The first loop leaves the codes of k. -/
theorem kCodes_eq : kCodes c i arg2 harg2 arg3 harg3 arg4 harg4 arg5 harg5 arg6 harg6 arg7 harg7 arg8 harg8 arg9 harg9 arg10 harg10 arg11 harg11 x0 x1 x3 = codeOf x1 x3 1 := by
  funext y
  have h := View.canon_append_of_pieces (codeOf x1 x3 1) [] _ (codes_mem c i arg2 harg2 arg3 harg3 arg4 harg4 arg5 harg5 arg6 harg6 arg7 harg7 arg8 harg8 arg9 harg9 arg10 harg10 arg11 harg11 x0 x1 x3 _ le_rfl).2 y
    (k_cover (F := Ideal) c i arg2 harg2 arg3 harg3 arg4 harg4 arg5 harg5 arg6 harg6 arg7 harg7 arg8 harg8 arg9 harg9 arg10 harg10 arg11 harg11 x0 x1 x3 y)
  rwa [List.append_nil] at h

/-! ## The output block -/

/-- The loads of a trip of the second loop: the codes of head `h` of q or of k, -/
def ldC (a : Vec Ideal S4x64x32x128 .fp8e4m3) (k : Fin k0_t2_loop.trips) : Fin 4 → Vec Ideal S1x1x32x128 .fp8e4m3 :=
  ![View.ld a (Rect.unit (k0_off17 k) S1x1x32x128.size (k0_off17_inb k)), View.ld a (Rect.unit (k0_off18 k) S1x1x32x128.size (k0_off18_inb k)), View.ld a (Rect.unit (k0_off19 k) S1x1x32x128.size (k0_off19_inb k)), View.ld a (Rect.unit (k0_off20 k) S1x1x32x128.size (k0_off20_inb k))]
/-- a row of factors of head `h`, -/
def ldR (a : Vec Ideal S1x4x64x128 .f32) (k : Fin k0_t2_loop.trips) : Fin 4 → Vec Ideal S1x1x1x128 .f32 :=
  ![View.ld a (Rect.unit (k0_off21 k) S1x1x1x128.size (k0_off21_inb k)), View.ld a (Rect.unit (k0_off22 k) S1x1x1x128.size (k0_off22_inb k)), View.ld a (Rect.unit (k0_off24 k) S1x1x1x128.size (k0_off24_inb k)), View.ld a (Rect.unit (k0_off25 k) S1x1x1x128.size (k0_off25_inb k))]
/-- the bias of head `h`, -/
def ldB (a : Vec Ideal S64x512 .f32) : Fin 4 → Vec Ideal S64x128 .f32 :=
  ![View.ld a (Rect.unit ![0, 0] S64x128.size inb_S64x512_S64x128_0_0), View.ld a (Rect.unit ![0, 128] S64x128.size inb_S64x512_S64x128_0_128), View.ld a (Rect.unit ![0, 256] S64x128.size inb_S64x512_S64x128_0_256), View.ld a (Rect.unit ![0, 384] S64x128.size inb_S64x512_S64x128_0_384)]
/-- and the values of two heads. -/
def ldV (a : Vec Ideal S1x4x32x8192 .fp8e4m3) (k : Fin k0_t2_loop.trips) : Fin 2 → Vec Ideal S1x2x32x128 .fp8e4m3 :=
  ![View.ld a (Rect.unit (k0_off23 k) S1x2x32x128.size (k0_off23_inb k)), View.ld a (Rect.unit (k0_off26 k) S1x2x32x128.size (k0_off26_inb k))]

/-- The store of one trip of the second loop. -/
theorem trip2_eq (a b : Vec Ideal S4x64x32x128 .fp8e4m3) (k : Fin k0_t2_loop.trips) :
    tripL_k0_t2 (F := Ideal) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
        (harg10.unread a) (harg11.unread b) k
      = [⟨Rect.unit (s := S1x8192x128) (k0_off27 k) S1x128x128.size (k0_off27_inb k),
          tripPay (ldC a k) (ldC b k) (ldR x4 k) (ldR x5 k) (ldB x6) (ldV x2 k)⟩] := by
  unfold ldC ldR ldB ldV
  simp only [← readAt_ld harg4 x2, ← readAt_ld harg6 x4, ← readAt_ld harg7 x5, ← readAt_ld harg8 x6, ← readAt_ld harg10 a, ← readAt_ld harg11 b]
  unfold tripL_k0_t2 trip_k0_t2
  rfl

end

end Cert.AttendIdeal.Hand

end
-- ==== Proof.AttendOut.lean ====
/- The output block of a grid step, read at an index. -/
module

public import proofs.«01_k».proof.Proof.AttendBlock
public import Idealize.ShloMosaic.Lib.Pointwise

@[expose] public section

set_option maxHeartbeats 1000000

noncomputable section

namespace Cert.AttendIdeal.Hand

open Cert.AttendIdeal Cert.AttendIdeal.Gen
open Idealize.ShloMosaic

/-- The row of 128 tokens of a row of the block. -/
def rowOf (r : Fin 8192) : Fin k0_t2_loop.trips := ⟨r.val / 128, by have := r.isLt; show r.val / 128 < 64; omega⟩

/-- The output block: each row of 128 tokens as its trip stores it. -/
def blockOf (a b : Vec Ideal S4x64x32x128 .fp8e4m3) (x2 : Vec Ideal S1x4x32x8192 .fp8e4m3) (x4 x5 : Vec Ideal S1x4x64x128 .f32)
    (x6 : Vec Ideal S64x512 .f32) : Vec Ideal S1x8192x128 .bf16 := fun y =>
  tripPay (ldC a (rowOf (y 1))) (ldC b (rowOf (y 1))) (ldR x4 (rowOf (y 1))) (ldR x5 (rowOf (y 1))) (ldB x6) (ldV x2 (rowOf (y 1)))
    (ix3 (n0 := 1) (n1 := 128) (n2 := 128) 0 ⟨(y 1).val % 128, by omega⟩ (y 2))

section
variable (c : Dev nD) (i : grid0.Coords) (arg2 : Memref sig .tc .vmem S1x4x4x64x8x128 .bf16) (harg2 : arg2.IsWhole) (arg3 : Memref sig .tc .vmem S1x4x4x64x8x128 .bf16) (harg3 : arg3.IsWhole) (arg4 : Memref sig .tc .vmem S1x4x32x8192 .fp8e4m3) (harg4 : arg4.IsWhole) (arg5 : Memref sig .tc .vmem S1x2x4x64x128 .f32) (harg5 : arg5.IsWhole) (arg6 : Memref sig .tc .vmem S1x4x64x128 .f32) (harg6 : arg6.IsWhole) (arg7 : Memref sig .tc .vmem S1x4x64x128 .f32) (harg7 : arg7.IsWhole) (arg8 : Memref sig .tc .vmem S64x512 .f32) (harg8 : arg8.IsWhole) (arg9 : Memref sig .tc .vmem S1x8192x128 .bf16) (harg9 : arg9.IsWhole) (arg10 : Memref sig .tc .vmem S4x64x32x128 .fp8e4m3) (harg10 : arg10.IsWhole) (arg11 : Memref sig .tc .vmem S4x64x32x128 .fp8e4m3) (harg11 : arg11.IsWhole)
variable (x0 x1 : Vec Ideal S1x4x4x64x8x128 .bf16) (x2 : Vec Ideal S1x4x32x8192 .fp8e4m3) (x3 : Vec Ideal S1x2x4x64x128 .f32) (x4 x5 : Vec Ideal S1x4x64x128 .f32) (x6 : Vec Ideal S64x512 .f32)

/-- Every store of the second loop writes the output block. -/
theorem out_mem (a b : Vec Ideal S4x64x32x128 .fp8e4m3) : ∀ n : ℕ, n ≤ k0_t2_loop.trips →
    ∀ p ∈ pb_k0_t2 (F := Ideal) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
        (harg10.unread a) (harg11.unread b) n,
      ∀ y, p.2 y = blockOf a b x2 x4 x5 x6 (p.1.emb y)
  | 0, _ => fun p hp => absurd hp (List.not_mem_nil)
  | n + 1, hn => by
    intro p hp y
    rw [pb_k0_t2_succ (F := Ideal) Variants.none c none i arg2 harg2 arg3 harg3 arg4 harg4 arg5 harg5 arg6 harg6 arg7 harg7 arg8 harg8 arg9 harg9 arg10 harg10 arg11 harg11 (harg4.unread x2) (harg6.unread x4) (harg7.unread x5) (harg8.unread x6)
        (harg10.unread a) (harg11.unread b) ⟨n, hn⟩, trip2_eq] at hp
    rcases List.mem_append.mp hp with hp | hp
    · rw [List.mem_singleton] at hp
      subst hp
      have hk : n < 64 := hn
      have he : ∀ a, (((Rect.unit (s := S1x8192x128) (k0_off27 ⟨n, hn⟩) S1x128x128.size (k0_off27_inb ⟨n, hn⟩)).emb y) a : ℕ)
          = ![0, 128 * n, 0] a + (y a).val := fun a => by
        rw [← off27_eq ⟨n, hn⟩]; exact Rect.idx_unit_val _ _ _ _ _
      have e1 := he 1
      have e2 := he 2
      have y0 : (y 0).val < 1 := (y 0).isLt
      have y1 : (y 1).val < 128 := (y 1).isLt
      have hr : rowOf (((Rect.unit (s := S1x8192x128) (k0_off27 ⟨n, hn⟩) S1x128x128.size (k0_off27_inb ⟨n, hn⟩)).emb y) 1) = ⟨n, hn⟩ := by
        apply Fin.ext
        show _ / 128 = n
        rw [e1]; simp; omega
      show tripPay _ _ _ _ _ _ y = blockOf a b x2 x4 x5 x6 ((Rect.unit (s := S1x8192x128) (k0_off27 ⟨n, hn⟩) S1x128x128.size (k0_off27_inb ⟨n, hn⟩)).emb y)
      unfold blockOf
      rw [hr]
      refine congrArg (tripPay _ _ _ _ _ _) ?_
      funext q
      apply Fin.ext
      fin_cases q
      · show (y 0).val = 0; omega
      · show (y 1).val = _ % 128
        rw [e1]; simp; omega
      · have e2' : (y 2).val = (((Rect.unit (s := S1x8192x128) (k0_off27 ⟨n, hn⟩) S1x128x128.size (k0_off27_inb ⟨n, hn⟩)).emb y) 2 : ℕ) := by
          rw [e2]; simp
        exact e2'
    · exact out_mem a b n (by omega) p hp y

/-- A grid step leaves this block. -/
theorem outBlock_eq : outBlock c i arg2 harg2 arg3 harg3 arg4 harg4 arg5 harg5 arg6 harg6 arg7 harg7 arg8 harg8 arg9 harg9 arg10 harg10 arg11 harg11 x0 x1 x2 x3 x4 x5 x6 = blockOf (codeOf x0 x3 0) (codeOf x1 x3 1) x2 x4 x5 x6 := by
  funext y
  have h := View.canon_append_of_pieces (blockOf (qCodes c i arg2 harg2 arg3 harg3 arg4 harg4 arg5 harg5 arg6 harg6 arg7 harg7 arg8 harg8 arg9 harg9 arg10 harg10 arg11 harg11 x0 x1 x3) (kCodes c i arg2 harg2 arg3 harg3 arg4 harg4 arg5 harg5 arg6 harg6 arg7 harg7 arg8 harg8 arg9 harg9 arg10 harg10 arg11 harg11 x0 x1 x3) x2 x4 x5 x6) [] _
    (out_mem c i arg2 harg2 arg3 harg3 arg4 harg4 arg5 harg5 arg6 harg6 arg7 harg7 arg8 harg8 arg9 harg9 arg10 harg10 arg11 harg11 x2 x4 x5 x6 (qCodes c i arg2 harg2 arg3 harg3 arg4 harg4 arg5 harg5 arg6 harg6 arg7 harg7 arg8 harg8 arg9 harg9 arg10 harg10 arg11 harg11 x0 x1 x3) (kCodes c i arg2 harg2 arg3 harg3 arg4 harg4 arg5 harg5 arg6 harg6 arg7 harg7 arg8 harg8 arg9 harg9 arg10 harg10 arg11 harg11 x0 x1 x3) _ le_rfl) y
    (out_cover (F := Ideal) c i arg2 harg2 arg3 harg3 arg4 harg4 arg5 harg5 arg6 harg6 arg7 harg7 arg8 harg8 arg9 harg9 arg10 harg10 arg11 harg11 x0 x1 x2 x3 x4 x5 x6 y)
  rw [List.append_nil] at h
  rw [← qCodes_eq c i arg2 harg2 arg3 harg3 arg4 harg4 arg5 harg5 arg6 harg6 arg7 harg7 arg8 harg8 arg9 harg9 arg10 harg10 arg11 harg11 x0 x1 x3, ← kCodes_eq c i arg2 harg2 arg3 harg3 arg4 harg4 arg5 harg5 arg6 harg6 arg7 harg7 arg8 harg8 arg9 harg9 arg10 harg10 arg11 harg11 x0 x1 x3]
  exact h

end

/-! ## The loads of a trip -/

/-- A row of 128 tokens as a trip. -/
def tr (k : Fin 64) : Fin k0_t2_loop.trips := k

theorem tr_val (k : Fin 64) : (tr k).val = k.val := rfl

theorem ldC_apply (a : Vec Ideal S4x64x32x128 .fp8e4m3) (k : Fin 64) (h : Fin 4) (d : Fin 32) (l : Fin 128) :
    ldC a (tr k) h (ix4 0 0 d l) = a (ix4 h k d l) := by
  unfold ldC
  fin_cases h
  · exact View.ld_unit_apply_of a _ _ _ _ _ fun q => by rw [off17_eq]; fin_cases q <;> simp [ix4, tr_val]
  · exact View.ld_unit_apply_of a _ _ _ _ _ fun q => by rw [off18_eq]; fin_cases q <;> simp [ix4, tr_val]
  · exact View.ld_unit_apply_of a _ _ _ _ _ fun q => by rw [off19_eq]; fin_cases q <;> simp [ix4, tr_val]
  · exact View.ld_unit_apply_of a _ _ _ _ _ fun q => by rw [off20_eq]; fin_cases q <;> simp [ix4, tr_val]

theorem ldR_apply (a : Vec Ideal S1x4x64x128 .f32) (k : Fin 64) (h : Fin 4) (l : Fin 128) :
    ldR a (tr k) h (ix4 0 0 0 l) = a (ix4 0 h k l) := by
  unfold ldR
  fin_cases h
  · exact View.ld_unit_apply_of a _ _ _ _ _ fun q => by rw [off21_eq]; fin_cases q <;> simp [ix4, tr_val]
  · exact View.ld_unit_apply_of a _ _ _ _ _ fun q => by rw [off22_eq]; fin_cases q <;> simp [ix4, tr_val]
  · exact View.ld_unit_apply_of a _ _ _ _ _ fun q => by rw [off24_eq]; fin_cases q <;> simp [ix4, tr_val]
  · exact View.ld_unit_apply_of a _ _ _ _ _ fun q => by rw [off25_eq]; fin_cases q <;> simp [ix4, tr_val]

theorem ldB_apply (a : Vec Ideal S64x512 .f32) (h : Fin 4) (i : Fin 64) (l : Fin 128) :
    ldB a h (ix2 i l) = a (ix2 i ⟨h.val * 128 + l.val, by omega⟩) := by
  unfold ldB
  fin_cases h
  · exact View.ld_unit_apply_of a _ _ _ _ _ fun q => by fin_cases q <;> simp [ix2]
  · exact View.ld_unit_apply_of a _ _ _ _ _ fun q => by fin_cases q <;> simp [ix2]
  · exact View.ld_unit_apply_of a _ _ _ _ _ fun q => by fin_cases q <;> simp [ix2]
  · exact View.ld_unit_apply_of a _ _ _ _ _ fun q => by fin_cases q <;> simp [ix2]

theorem ldV_apply (a : Vec Ideal S1x4x32x8192 .fp8e4m3) (k : Fin 64) (h : Fin 4) (d : Fin 32) (l : Fin 128) :
    ldV a (tr k) ⟨h.val / 2, by omega⟩ (ix4 0 ⟨h.val % 2, by omega⟩ d l)
      = a (ix4 0 h d ⟨k.val * 128 + l.val, by omega⟩) := by
  unfold ldV
  fin_cases h
  · exact View.ld_unit_apply_of a _ _ _ _ _ fun q => by rw [off23_eq]; fin_cases q <;> simp [ix4, tr_val, Nat.mul_comm]
  · exact View.ld_unit_apply_of a _ _ _ _ _ fun q => by rw [off23_eq]; fin_cases q <;> simp [ix4, tr_val, Nat.mul_comm]
  · exact View.ld_unit_apply_of a _ _ _ _ _ fun q => by rw [off26_eq]; fin_cases q <;> simp [ix4, tr_val, Nat.mul_comm]
  · exact View.ld_unit_apply_of a _ _ _ _ _ fun q => by rw [off26_eq]; fin_cases q <;> simp [ix4, tr_val, Nat.mul_comm]

/-- The output block at token `128 k + l` of the step, head `h` and dimension `d`. -/
theorem blockOf_apply (a b : Vec Ideal S4x64x32x128 .fp8e4m3) (x2 : Vec Ideal S1x4x32x8192 .fp8e4m3) (x4 x5 : Vec Ideal S1x4x64x128 .f32)
    (x6 : Vec Ideal S64x512 .f32) (k : Fin 64) (l : Fin 128) (h : Fin 4) (d : Fin 32) :
    blockOf a b x2 x4 x5 x6 (ix3 0 ⟨k.val * 128 + l.val, by omega⟩ ⟨h.val * 32 + d.val, by omega⟩)
      = (∑ j : Fin 64, x2 (ix4 0 h d ⟨k.val * 128 + (own l j).val, by omega⟩)
          * prob (fun j l => (∑ e : Fin 32, b (ix4 h k e (own l j)) * a (ix4 h k e l)) * x4 (ix4 0 h k l)
              + x6 (ix2 j ⟨h.val * 128 + l.val, by omega⟩)) j l) * x5 (ix4 0 h k l) := by
  have hl := l.isLt
  have hr : rowOf ⟨k.val * 128 + l.val, by omega⟩ = tr k := by
    apply Fin.ext; show (k.val * 128 + l.val) / 128 = k.val; omega
  have hi : (ix3 (n0 := 1) (n1 := 128) (n2 := 128) 0 ⟨(k.val * 128 + l.val) % 128, by omega⟩ ⟨h.val * 32 + d.val, by omega⟩ : S1x128x128.Idx)
      = ix3 0 l ⟨32 * h.val + d.val, by omega⟩ := by
    funext q
    apply Fin.ext
    fin_cases q
    · rfl
    · show (k.val * 128 + l.val) % 128 = l.val; omega
    · show h.val * 32 + d.val = 32 * h.val + d.val; omega
  have e : ∀ r : Fin k0_t2_loop.trips, r = tr k →
      tripPay (ldC a r) (ldC b r) (ldR x4 r) (ldR x5 r) (ldB x6) (ldV x2 r)
        (ix3 (n0 := 1) (n1 := 128) (n2 := 128) 0 ⟨(k.val * 128 + l.val) % 128, by omega⟩ ⟨h.val * 32 + d.val, by omega⟩)
      = mix (headP (ldC a (tr k)) (ldC b (tr k)) (ldR x4 (tr k)) (ldB x6) h)
          (fun d l => ldV x2 (tr k) ⟨h.val / 2, by omega⟩ (ix4 0 ⟨h.val % 2, by omega⟩ d l)) d l
        * ldR x5 (tr k) h (ix4 0 0 0 l) := by
    rintro r rfl
    rw [hi, tripPay_apply]
    rfl
  refine (e _ hr).trans ?_
  rw [ldR_apply]
  unfold mix headP
  simp only [ldV_apply]
  refine congrArg (· * x5 (ix4 0 h k l)) (Finset.sum_congr rfl fun j _ => congrArg (_ * ·) (congrArg (fun f => prob f j l) ?_))
  funext j l
  unfold logit score
  simp only [ldC_apply, ldR_apply, ldB_apply]

end Cert.AttendIdeal.Hand

end
-- ==== Proof.AttendHost.lean ====
/- The arrays that the attention kernel's windows stage, as the host operations before it leave them: each is an argument re-laid out, read
   here at an index. -/
module

public import proofs.«01_k».proof.Proof.Gen.AttendIdeal.Frame.Runs
public import Idealize.ShloMosaic.Lib.Claim
public import Idealize.ShloMosaic.Lib.Pointwise

@[expose] public section

set_option maxRecDepth 16384
set_option maxHeartbeats 1600000

noncomputable section

namespace Cert.AttendIdeal.Hand

open Cert.AttendIdeal Cert.AttendIdeal.Gen
open Idealize.ShloMosaic Idealize.ShloMosaic.TcCoe

variable (m : (ℓ : Loc nD τ sig) → Buf (Elt Ideal) ℓ) (c : Dev nD)

/-- The array of q, re-laid out with the tokens last, -/
theorem V34_eq : V m c main_v34 = transpose S6x4x4x128x8x128 [0, 1, 2, 4, 3, 5] (shapeCast S6x4x4x8x128x128
      (transpose S6x4x32x16384 [0, 2, 3, 1] (m ((c : Thread nD τ).loc main_arg0) : FVec Ideal S6x16384x4x32 .bf16) transposes_S6x16384x4x32_S6x4x32x16384_0_2_3_1)
      shapeCasts_S6x4x32x16384_S6x4x4x8x128x128) transposes_S6x4x4x8x128x128_S6x4x4x128x8x128_0_1_2_4_3_5 := by
  show StableHlo.after hostOps0 _ (Proc.devRef .tc main_v34) = _
  simp only [hostOps0, StableHlo.after_cons, StableHlo.after_nil]
  after_results_simp
  rfl

/-- read at an index. -/
theorem V34_apply (b : Fin 6) (h : Fin 4) (dt : Fin 4) (ct : Fin 128) (s : Fin 8) (l : Fin 128) :
    (V m c main_v34 : FVec Ideal S6x4x4x128x8x128 .bf16) (ix6 b h dt ct s l)
      = (m ((c : Thread nD τ).loc main_arg0) : FVec Ideal S6x16384x4x32 .bf16) (ix4 b ⟨ct.val * 128 + l.val, by omega⟩ h ⟨dt.val * 8 + s.val, by omega⟩) := by
  rw [V34_eq]
  pointwise

/-- The array of k, re-laid out with the tokens last, -/
theorem V37_eq : V m c main_v37 = transpose S6x4x4x128x8x128 [0, 1, 2, 4, 3, 5] (shapeCast S6x4x4x8x128x128
      (transpose S6x4x32x16384 [0, 2, 3, 1] (m ((c : Thread nD τ).loc main_arg1) : FVec Ideal S6x16384x4x32 .bf16) transposes_S6x16384x4x32_S6x4x32x16384_0_2_3_1)
      shapeCasts_S6x4x32x16384_S6x4x4x8x128x128) transposes_S6x4x4x8x128x128_S6x4x4x128x8x128_0_1_2_4_3_5 := by
  show StableHlo.after hostOps0 _ (Proc.devRef .tc main_v37) = _
  simp only [hostOps0, StableHlo.after_cons, StableHlo.after_nil]
  after_results_simp
  rfl

/-- read at an index. -/
theorem V37_apply (b : Fin 6) (h : Fin 4) (dt : Fin 4) (ct : Fin 128) (s : Fin 8) (l : Fin 128) :
    (V m c main_v37 : FVec Ideal S6x4x4x128x8x128 .bf16) (ix6 b h dt ct s l)
      = (m ((c : Thread nD τ).loc main_arg1) : FVec Ideal S6x16384x4x32 .bf16) (ix4 b ⟨ct.val * 128 + l.val, by omega⟩ h ⟨dt.val * 8 + s.val, by omega⟩) := by
  rw [V37_eq]
  pointwise

/-- The array of the values, the tokens last, -/
theorem V38_eq : V m c main_v38 = transpose S6x4x32x16384 [0, 2, 3, 1] (m ((c : Thread nD τ).loc main_arg2) : FVec Ideal S6x16384x4x32 .fp8e4m3) transposes_S6x16384x4x32_S6x4x32x16384_0_2_3_1 := by
  show StableHlo.after hostOps0 _ (Proc.devRef .tc main_v38) = _
  simp only [hostOps0, StableHlo.after_cons, StableHlo.after_nil]
  after_results_simp

/-- read at an index. -/
theorem V38_apply (b : Fin 6) (h : Fin 4) (d : Fin 32) (t : Fin 16384) :
    (V m c main_v38 : FVec Ideal S6x4x32x16384 .fp8e4m3) (ix4 b h d t) = (m ((c : Thread nD τ).loc main_arg2) : FVec Ideal S6x16384x4x32 .fp8e4m3) (ix4 b t h d) := by
  rw [V38_eq]
  pointwise

/-- The factors of the tokens, -/
def facT (a : FVec Ideal S6x16384x4 .f32) : FVec Ideal S6x1x4x128x128 .f32 :=
  broadcastInDim S6x1x4x128x128 ![0, 2, 3, 4] bcast_S6x4x128x128_S6x1x4x128x128_0_2_3_4
    (shapeCast S6x4x128x128 (transpose S6x4x16384 [0, 2, 1] a transposes_S6x16384x4_S6x4x16384_0_2_1) shapeCasts_S6x4x16384_S6x4x128x128)

/-- those of q and of k stacked, -/
theorem V6_eq : V m c main_v6 = concatenate S6x2x4x128x128 1
      [⟨S6x1x4x128x128, facT (m ((c : Thread nD τ).loc main_arg3))⟩, ⟨S6x1x4x128x128, facT (m ((c : Thread nD τ).loc main_arg4))⟩]
      concatenates_S6x1x4x128x128_S6x1x4x128x128_S6x2x4x128x128_d1 := by
  show StableHlo.after hostOps0 _ (Proc.devRef .tc main_v6) = _
  simp only [hostOps0, StableHlo.after_cons, StableHlo.after_nil]
  after_results_simp
  rfl

/-- read at an index: those of q, -/
theorem V6_apply_q (b : Fin 6) (h : Fin 4) (ct l : Fin 128) :
    (V m c main_v6 : FVec Ideal S6x2x4x128x128 .f32) (ix5 b 0 h ct l)
      = (m ((c : Thread nD τ).loc main_arg3) : FVec Ideal S6x16384x4 .f32) (ix3 b ⟨ct.val * 128 + l.val, by omega⟩ h) := by
  rw [V6_eq]
  unfold facT
  pointwise

/-- and those of k. -/
theorem V6_apply_k (b : Fin 6) (h : Fin 4) (ct l : Fin 128) :
    (V m c main_v6 : FVec Ideal S6x2x4x128x128 .f32) (ix5 b 1 h ct l)
      = (m ((c : Thread nD τ).loc main_arg4) : FVec Ideal S6x16384x4 .f32) (ix3 b ⟨ct.val * 128 + l.val, by omega⟩ h) := by
  rw [V6_eq]
  unfold facT
  pointwise

/-- A factor of each window, repeated over its tokens, -/
def winT (a : FVec Ideal S6x256x4 .f32) : FVec Ideal S6x4x128x128 .f32 :=
  shapeCast S6x4x128x128 (broadcastInDim S6x4x256x64 ![0, 1, 2, 3] bcast_S6x4x256x1_S6x4x256x64_0_1_2_3
    (broadcastInDim S6x4x256x1 ![0, 1, 2] bcast_S6x4x256_S6x4x256x1_0_1_2
      (transpose S6x4x256 [0, 2, 1] a transposes_S6x256x4_S6x4x256_0_2_1))) shapeCasts_S6x4x256x64_S6x4x128x128

/-- read at an index. -/
theorem winT_apply (a : FVec Ideal S6x256x4 .f32) (b : Fin 6) (h : Fin 4) (ct l : Fin 128) :
    winT a (ix4 b h ct l) = a (ix3 b ⟨ct.val * 2 + l.val / 64, by omega⟩ h) := by
  unfold winT
  pointwise

/-- The factors of the logits. -/
theorem V42_eq : V m c main_v42 = winT (m ((c : Thread nD τ).loc main_arg5)) := by
  show StableHlo.after hostOps0 _ (Proc.devRef .tc main_v42) = _
  simp only [hostOps0, StableHlo.after_cons, StableHlo.after_nil]
  after_results_simp
  rfl

/-- The scales of the values over 256. -/
theorem V48_eq : V m c main_v48 = winT (mulf (m ((c : Thread nD τ).loc main_arg6) : FVec Ideal S6x256x4 .f32)
      (broadcastInDim S6x256x4 ![] bcast_S_S6x256x4 (constant S_ .f32 0x3B800000#32))) := by
  show StableHlo.after hostOps0 _ (Proc.devRef .tc main_v48) = _
  simp only [hostOps0, StableHlo.after_cons, StableHlo.after_nil]
  after_results_simp
  rfl

/-- The bias of a head, its keys first, -/
def biasT (o : Fin 3 → ℕ) (hs : S4x64x64.Slices o S1x64x64) (a : FVec Ideal S4x64x64 .f32) : FVec Ideal S64x64 .f32 :=
  transpose S64x64 [1, 0] (shapeCast S64x64 (extractStridedSlice S1x64x64 o a hs) shapeCasts_S1x64x64_S64x64) transposes_S64x64_S64x64_1_0

/-- the bias of the four heads, each twice, side by side, -/
def biasAll (a : FVec Ideal S4x64x64 .f32) : FVec Ideal S64x512 .f32 :=
  concatenate S64x512 1 [
    ⟨S64x64, biasT ![0, 0, 0] slices_S4x64x64_S1x64x64_0_0_0 a⟩, ⟨S64x64, biasT ![0, 0, 0] slices_S4x64x64_S1x64x64_0_0_0 a⟩,
    ⟨S64x64, biasT ![1, 0, 0] slices_S4x64x64_S1x64x64_1_0_0 a⟩, ⟨S64x64, biasT ![1, 0, 0] slices_S4x64x64_S1x64x64_1_0_0 a⟩,
    ⟨S64x64, biasT ![2, 0, 0] slices_S4x64x64_S1x64x64_2_0_0 a⟩, ⟨S64x64, biasT ![2, 0, 0] slices_S4x64x64_S1x64x64_2_0_0 a⟩,
    ⟨S64x64, biasT ![3, 0, 0] slices_S4x64x64_S1x64x64_3_0_0 a⟩, ⟨S64x64, biasT ![3, 0, 0] slices_S4x64x64_S1x64x64_3_0_0 a⟩]
    concatenates_S64x64_S64x64_S64x64_S64x64_S64x64_S64x64_S64x64_S64x64_S64x512_d1

/-- The arrays that are put side by side, -/
theorem bias0_eq (W : Valuation τ sig (Elt Ideal)) :
    StableHlo.after (hostOps0.take 31) W (Proc.devRef .tc main_v11) = biasT ![0, 0, 0] slices_S4x64x64_S1x64x64_0_0_0 (W (Proc.devRef .tc main_arg7)) := by
  simp only [hostOps0, List.take, StableHlo.after_cons, StableHlo.after_nil]
  after_results_simp
  rfl

theorem bias1_eq (W : Valuation τ sig (Elt Ideal)) :
    StableHlo.after (hostOps0.take 31) W (Proc.devRef .tc main_v12) = biasT ![0, 0, 0] slices_S4x64x64_S1x64x64_0_0_0 (W (Proc.devRef .tc main_arg7)) := by
  simp only [hostOps0, List.take, StableHlo.after_cons, StableHlo.after_nil]
  after_results_simp
  rfl

theorem bias2_eq (W : Valuation τ sig (Elt Ideal)) :
    StableHlo.after (hostOps0.take 31) W (Proc.devRef .tc main_v17) = biasT ![1, 0, 0] slices_S4x64x64_S1x64x64_1_0_0 (W (Proc.devRef .tc main_arg7)) := by
  simp only [hostOps0, List.take, StableHlo.after_cons, StableHlo.after_nil]
  after_results_simp
  rfl

theorem bias3_eq (W : Valuation τ sig (Elt Ideal)) :
    StableHlo.after (hostOps0.take 31) W (Proc.devRef .tc main_v18) = biasT ![1, 0, 0] slices_S4x64x64_S1x64x64_1_0_0 (W (Proc.devRef .tc main_arg7)) := by
  simp only [hostOps0, List.take, StableHlo.after_cons, StableHlo.after_nil]
  after_results_simp
  rfl

theorem bias4_eq (W : Valuation τ sig (Elt Ideal)) :
    StableHlo.after (hostOps0.take 31) W (Proc.devRef .tc main_v23) = biasT ![2, 0, 0] slices_S4x64x64_S1x64x64_2_0_0 (W (Proc.devRef .tc main_arg7)) := by
  simp only [hostOps0, List.take, StableHlo.after_cons, StableHlo.after_nil]
  after_results_simp
  rfl

theorem bias5_eq (W : Valuation τ sig (Elt Ideal)) :
    StableHlo.after (hostOps0.take 31) W (Proc.devRef .tc main_v24) = biasT ![2, 0, 0] slices_S4x64x64_S1x64x64_2_0_0 (W (Proc.devRef .tc main_arg7)) := by
  simp only [hostOps0, List.take, StableHlo.after_cons, StableHlo.after_nil]
  after_results_simp
  rfl

theorem bias6_eq (W : Valuation τ sig (Elt Ideal)) :
    StableHlo.after (hostOps0.take 31) W (Proc.devRef .tc main_v29) = biasT ![3, 0, 0] slices_S4x64x64_S1x64x64_3_0_0 (W (Proc.devRef .tc main_arg7)) := by
  simp only [hostOps0, List.take, StableHlo.after_cons, StableHlo.after_nil]
  after_results_simp
  rfl

theorem bias7_eq (W : Valuation τ sig (Elt Ideal)) :
    StableHlo.after (hostOps0.take 31) W (Proc.devRef .tc main_v30) = biasT ![3, 0, 0] slices_S4x64x64_S1x64x64_3_0_0 (W (Proc.devRef .tc main_arg7)) := by
  simp only [hostOps0, List.take, StableHlo.after_cons, StableHlo.after_nil]
  after_results_simp
  rfl

/-- and the array of the bias. -/
theorem V31_eq : V m c main_v31 = biasAll (m ((c : Thread nD τ).loc main_arg7)) := by
  have key : ∀ W1 : Valuation τ sig (Elt Ideal), StableHlo.after (hostOps0.drop 31) W1 (Proc.devRef .tc main_v31)
      = concatenate S64x512 1 [⟨S64x64, (W1 (Proc.devRef .tc main_v11) : FVec Ideal S64x64 .f32)⟩, ⟨S64x64, (W1 (Proc.devRef .tc main_v12) : FVec Ideal S64x64 .f32)⟩, ⟨S64x64, (W1 (Proc.devRef .tc main_v17) : FVec Ideal S64x64 .f32)⟩, ⟨S64x64, (W1 (Proc.devRef .tc main_v18) : FVec Ideal S64x64 .f32)⟩, ⟨S64x64, (W1 (Proc.devRef .tc main_v23) : FVec Ideal S64x64 .f32)⟩, ⟨S64x64, (W1 (Proc.devRef .tc main_v24) : FVec Ideal S64x64 .f32)⟩, ⟨S64x64, (W1 (Proc.devRef .tc main_v29) : FVec Ideal S64x64 .f32)⟩, ⟨S64x64, (W1 (Proc.devRef .tc main_v30) : FVec Ideal S64x64 .f32)⟩]
        concatenates_S64x64_S64x64_S64x64_S64x64_S64x64_S64x64_S64x64_S64x64_S64x512_d1 := by
    intro W1
    simp only [hostOps0, List.drop, StableHlo.after_cons, StableHlo.after_nil]
    after_results_steps
    rfl
  have cong : ∀ a b : Fin 8 → FVec Ideal S64x64 .f32, (∀ k, a k = b k) →
      concatenate S64x512 1 [⟨S64x64, a 0⟩, ⟨S64x64, a 1⟩, ⟨S64x64, a 2⟩, ⟨S64x64, a 3⟩, ⟨S64x64, a 4⟩, ⟨S64x64, a 5⟩, ⟨S64x64, a 6⟩, ⟨S64x64, a 7⟩]
        concatenates_S64x64_S64x64_S64x64_S64x64_S64x64_S64x64_S64x64_S64x64_S64x512_d1
      = concatenate S64x512 1 [⟨S64x64, b 0⟩, ⟨S64x64, b 1⟩, ⟨S64x64, b 2⟩, ⟨S64x64, b 3⟩, ⟨S64x64, b 4⟩, ⟨S64x64, b 5⟩, ⟨S64x64, b 6⟩, ⟨S64x64, b 7⟩]
        concatenates_S64x64_S64x64_S64x64_S64x64_S64x64_S64x64_S64x64_S64x64_S64x512_d1 := by
    intro a b h
    rw [show a = b from funext h]
  show StableHlo.after hostOps0 (fun b => m (c, b)) (Proc.devRef .tc main_v31) = _
  rw [← List.take_append_drop 31 (hostOps0 : List (HloOp τ sig (Elt Ideal))), StableHlo.after_append, key]
  refine cong (fun k => match k with
    | ⟨0, _⟩ => StableHlo.after (hostOps0.take 31) (fun b => m (c, b)) (Proc.devRef .tc main_v11)
    | ⟨1, _⟩ => StableHlo.after (hostOps0.take 31) (fun b => m (c, b)) (Proc.devRef .tc main_v12)
    | ⟨2, _⟩ => StableHlo.after (hostOps0.take 31) (fun b => m (c, b)) (Proc.devRef .tc main_v17)
    | ⟨3, _⟩ => StableHlo.after (hostOps0.take 31) (fun b => m (c, b)) (Proc.devRef .tc main_v18)
    | ⟨4, _⟩ => StableHlo.after (hostOps0.take 31) (fun b => m (c, b)) (Proc.devRef .tc main_v23)
    | ⟨5, _⟩ => StableHlo.after (hostOps0.take 31) (fun b => m (c, b)) (Proc.devRef .tc main_v24)
    | ⟨6, _⟩ => StableHlo.after (hostOps0.take 31) (fun b => m (c, b)) (Proc.devRef .tc main_v29)
    | ⟨7, _⟩ => StableHlo.after (hostOps0.take 31) (fun b => m (c, b)) (Proc.devRef .tc main_v30))
    ![biasT ![0, 0, 0] slices_S4x64x64_S1x64x64_0_0_0 (m ((c : Thread nD τ).loc main_arg7)), biasT ![0, 0, 0] slices_S4x64x64_S1x64x64_0_0_0 (m ((c : Thread nD τ).loc main_arg7)),
      biasT ![1, 0, 0] slices_S4x64x64_S1x64x64_1_0_0 (m ((c : Thread nD τ).loc main_arg7)), biasT ![1, 0, 0] slices_S4x64x64_S1x64x64_1_0_0 (m ((c : Thread nD τ).loc main_arg7)),
      biasT ![2, 0, 0] slices_S4x64x64_S1x64x64_2_0_0 (m ((c : Thread nD τ).loc main_arg7)), biasT ![2, 0, 0] slices_S4x64x64_S1x64x64_2_0_0 (m ((c : Thread nD τ).loc main_arg7)),
      biasT ![3, 0, 0] slices_S4x64x64_S1x64x64_3_0_0 (m ((c : Thread nD τ).loc main_arg7)), biasT ![3, 0, 0] slices_S4x64x64_S1x64x64_3_0_0 (m ((c : Thread nD τ).loc main_arg7))]
    (fun k => ?_)
  match k with
  | ⟨0, _⟩ => exact bias0_eq _
  | ⟨1, _⟩ => exact bias1_eq _
  | ⟨2, _⟩ => exact bias2_eq _
  | ⟨3, _⟩ => exact bias3_eq _
  | ⟨4, _⟩ => exact bias4_eq _
  | ⟨5, _⟩ => exact bias5_eq _
  | ⟨6, _⟩ => exact bias6_eq _
  | ⟨7, _⟩ => exact bias7_eq _

/-- read at an index. -/
theorem biasAll_apply (a : FVec Ideal S4x64x64 .f32) (i : Fin 64) (h : Fin 4) (l : Fin 128) :
    biasAll a (ix2 i ⟨h.val * 128 + l.val, by omega⟩) = a (ix3 h ⟨l.val % 64, by omega⟩ i) := by
  have key : ∀ (h' : Fin 4) (x : ℕ) (hx : x < 64), h' = h → x = l.val % 64 → a (ix3 h' ⟨x, hx⟩ i) = a (ix3 h ⟨l.val % 64, by omega⟩ i) := by
    rintro _ _ _ rfl rfl; rfl
  have hl := l.isLt
  unfold biasAll biasT
  pointwise
  split_ifs
  all_goals
    refine key _ _ _ (Fin.ext ?_) (by omega)
    first
      | (show (0 : ℕ) = h.val; omega)
      | (show (1 : ℕ) = h.val; omega)
      | (show (2 : ℕ) = h.val; omega)
      | (show (3 : ℕ) = h.val; omega)

end Cert.AttendIdeal.Hand

end
-- ==== Proof.AttendArray.lean ====
/- The attention kernel's result array, element by element: each grid step's block of every array it is given, the block it writes back,
   and the run with the result named. -/
module

public import proofs.«01_k».proof.Proof.AttendFrameIdeal
public import proofs.«01_k».proof.Proof.AttendOut
public import proofs.«01_k».proof.Proof.AttendHost
public import Idealize.ShloMosaic.Lib.Pipeline.Value

@[expose] public section

set_option maxRecDepth 16384

noncomputable section

namespace Cert.AttendIdeal.Hand

open Cert.AttendIdeal Cert.AttendIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Where each window's block lies -/

theorem index0 : ∀ t : Fin cfg0.N, win0_0.index t = ![t.val / 2, 0, 0, t.val % 2, 0, 0] :=
  (by decide +kernel : ∀ t : Fin grid0.N, win0_0.index t = ![t.val / 2, 0, 0, t.val % 2, 0, 0])
theorem index1 : ∀ t : Fin cfg0.N, win0_1.index t = ![t.val / 2, 0, 0, t.val % 2, 0, 0] :=
  (by decide +kernel : ∀ t : Fin grid0.N, win0_1.index t = ![t.val / 2, 0, 0, t.val % 2, 0, 0])
theorem index2 : ∀ t : Fin cfg0.N, win0_2.index t = ![t.val / 2, 0, 0, t.val % 2] :=
  (by decide +kernel : ∀ t : Fin grid0.N, win0_2.index t = ![t.val / 2, 0, 0, t.val % 2])
theorem index3 : ∀ t : Fin cfg0.N, win0_3.index t = ![t.val / 2, 0, 0, t.val % 2, 0] :=
  (by decide +kernel : ∀ t : Fin grid0.N, win0_3.index t = ![t.val / 2, 0, 0, t.val % 2, 0])
theorem index4 : ∀ t : Fin cfg0.N, win0_4.index t = ![t.val / 2, 0, t.val % 2, 0] :=
  (by decide +kernel : ∀ t : Fin grid0.N, win0_4.index t = ![t.val / 2, 0, t.val % 2, 0])
theorem index5 : ∀ t : Fin cfg0.N, win0_5.index t = ![t.val / 2, 0, t.val % 2, 0] :=
  (by decide +kernel : ∀ t : Fin grid0.N, win0_5.index t = ![t.val / 2, 0, t.val % 2, 0])
theorem index6 : ∀ t : Fin cfg0.N, win0_6.index t = ![0, 0] :=
  (by decide +kernel : ∀ t : Fin grid0.N, win0_6.index t = ![0, 0])
theorem index7 : ∀ t : Fin cfg0.N, win0_7.index t = ![t.val / 2, t.val % 2, 0] :=
  (by decide +kernel : ∀ t : Fin grid0.N, win0_7.index t = ![t.val / 2, t.val % 2, 0])

/-- The grid has twelve points. -/
theorem lt12 (t : Fin cfg0.N) : t.val < 12 := t.isLt

/-- The batch element of a grid point, -/
def bOf (t : Fin cfg0.N) : Fin 6 := ⟨t.val / 2, by have := lt12 t; omega⟩

/-- the row of 128 tokens that row `k` of the point's block is. -/
def rowAt (t : Fin cfg0.N) (k : Fin 64) : Fin 128 := ⟨t.val % 2 * 64 + k.val, by omega⟩

/-! ## The blocks of the arrays given -/

/-- The block of q, -/
theorem blk0 (t : Fin cfg0.N) (h : Fin 4) (dt : Fin 4) (k : Fin 64) (s : Fin 8) (l : Fin 128) :
    (iblk m c 0 t : Vec Ideal S1x4x4x64x8x128 .bf16) (ix6 0 h dt k s l)
      = (V m c main_v34 : FVec Ideal S6x4x4x128x8x128 .bf16) (ix6 (bOf t) h dt (rowAt t k) s l) := by
  have hi := index0 t
  unfold iblk
  rw [View.read_apply]
  show V m c main_v34 _ = V m c main_v34 _
  refine congrArg (V m c main_v34) ?_
  funext a
  apply Fin.ext
  match a with
  | ⟨0, _⟩ => show win0_0.index t 0 * 1 + 1 * 0 = t.val / 2; rw [congrFun hi 0]; simp
  | ⟨1, _⟩ => show win0_0.index t 1 * 4 + 1 * h.val = h.val; rw [congrFun hi 1]; simp
  | ⟨2, _⟩ => show win0_0.index t 2 * 4 + 1 * dt.val = dt.val; rw [congrFun hi 2]; simp
  | ⟨3, _⟩ => show win0_0.index t 3 * 64 + 1 * k.val = t.val % 2 * 64 + k.val; rw [congrFun hi 3]; simp
  | ⟨4, _⟩ => show win0_0.index t 4 * 8 + 1 * s.val = s.val; rw [congrFun hi 4]; simp
  | ⟨5, _⟩ => show win0_0.index t 5 * 128 + 1 * l.val = l.val; rw [congrFun hi 5]; simp

/-- of k, -/
theorem blk1 (t : Fin cfg0.N) (h : Fin 4) (dt : Fin 4) (k : Fin 64) (s : Fin 8) (l : Fin 128) :
    (iblk m c 1 t : Vec Ideal S1x4x4x64x8x128 .bf16) (ix6 0 h dt k s l)
      = (V m c main_v37 : FVec Ideal S6x4x4x128x8x128 .bf16) (ix6 (bOf t) h dt (rowAt t k) s l) := by
  have hi := index1 t
  unfold iblk
  rw [View.read_apply]
  show V m c main_v37 _ = V m c main_v37 _
  refine congrArg (V m c main_v37) ?_
  funext a
  apply Fin.ext
  match a with
  | ⟨0, _⟩ => show win0_1.index t 0 * 1 + 1 * 0 = t.val / 2; rw [congrFun hi 0]; simp
  | ⟨1, _⟩ => show win0_1.index t 1 * 4 + 1 * h.val = h.val; rw [congrFun hi 1]; simp
  | ⟨2, _⟩ => show win0_1.index t 2 * 4 + 1 * dt.val = dt.val; rw [congrFun hi 2]; simp
  | ⟨3, _⟩ => show win0_1.index t 3 * 64 + 1 * k.val = t.val % 2 * 64 + k.val; rw [congrFun hi 3]; simp
  | ⟨4, _⟩ => show win0_1.index t 4 * 8 + 1 * s.val = s.val; rw [congrFun hi 4]; simp
  | ⟨5, _⟩ => show win0_1.index t 5 * 128 + 1 * l.val = l.val; rw [congrFun hi 5]; simp

/-- of the codes of v, -/
theorem blk2 (t : Fin cfg0.N) (h : Fin 4) (d : Fin 32) (x : Fin 8192) :
    (iblk m c 2 t : Vec Ideal S1x4x32x8192 .fp8e4m3) (ix4 0 h d x)
      = (V m c main_v38 : FVec Ideal S6x4x32x16384 .fp8e4m3) (ix4 (bOf t) h d ⟨t.val % 2 * 8192 + x.val, by omega⟩) := by
  have hi := index2 t
  unfold iblk
  rw [View.read_apply]
  show V m c main_v38 _ = V m c main_v38 _
  refine congrArg (V m c main_v38) ?_
  funext a
  apply Fin.ext
  match a with
  | ⟨0, _⟩ => show win0_2.index t 0 * 1 + 1 * 0 = t.val / 2; rw [congrFun hi 0]; simp
  | ⟨1, _⟩ => show win0_2.index t 1 * 4 + 1 * h.val = h.val; rw [congrFun hi 1]; simp
  | ⟨2, _⟩ => show win0_2.index t 2 * 32 + 1 * d.val = d.val; rw [congrFun hi 2]; simp
  | ⟨3, _⟩ => show win0_2.index t 3 * 8192 + 1 * x.val = t.val % 2 * 8192 + x.val; rw [congrFun hi 3]; simp

/-- of the tokens' factors, -/
theorem blk3 (t : Fin cfg0.N) (e : Fin 2) (h : Fin 4) (k : Fin 64) (l : Fin 128) :
    (iblk m c 3 t : Vec Ideal S1x2x4x64x128 .f32) (ix5 0 e h k l)
      = (V m c main_v6 : FVec Ideal S6x2x4x128x128 .f32) (ix5 (bOf t) e h (rowAt t k) l) := by
  have hi := index3 t
  unfold iblk
  rw [View.read_apply]
  show V m c main_v6 _ = V m c main_v6 _
  refine congrArg (V m c main_v6) ?_
  funext a
  apply Fin.ext
  match a with
  | ⟨0, _⟩ => show win0_3.index t 0 * 1 + 1 * 0 = t.val / 2; rw [congrFun hi 0]; simp
  | ⟨1, _⟩ => show win0_3.index t 1 * 2 + 1 * e.val = e.val; rw [congrFun hi 1]; simp
  | ⟨2, _⟩ => show win0_3.index t 2 * 4 + 1 * h.val = h.val; rw [congrFun hi 2]; simp
  | ⟨3, _⟩ => show win0_3.index t 3 * 64 + 1 * k.val = t.val % 2 * 64 + k.val; rw [congrFun hi 3]; simp
  | ⟨4, _⟩ => show win0_3.index t 4 * 128 + 1 * l.val = l.val; rw [congrFun hi 4]; simp

/-- of the logits' factors, -/
theorem blk4 (t : Fin cfg0.N) (h : Fin 4) (k : Fin 64) (l : Fin 128) :
    (iblk m c 4 t : Vec Ideal S1x4x64x128 .f32) (ix4 0 h k l)
      = (V m c main_v42 : FVec Ideal S6x4x128x128 .f32) (ix4 (bOf t) h (rowAt t k) l) := by
  have hi := index4 t
  unfold iblk
  rw [View.read_apply]
  show V m c main_v42 _ = V m c main_v42 _
  refine congrArg (V m c main_v42) ?_
  funext a
  apply Fin.ext
  match a with
  | ⟨0, _⟩ => show win0_4.index t 0 * 1 + 1 * 0 = t.val / 2; rw [congrFun hi 0]; simp
  | ⟨1, _⟩ => show win0_4.index t 1 * 4 + 1 * h.val = h.val; rw [congrFun hi 1]; simp
  | ⟨2, _⟩ => show win0_4.index t 2 * 64 + 1 * k.val = t.val % 2 * 64 + k.val; rw [congrFun hi 2]; simp
  | ⟨3, _⟩ => show win0_4.index t 3 * 128 + 1 * l.val = l.val; rw [congrFun hi 3]; simp

/-- of the scales of v, -/
theorem blk5 (t : Fin cfg0.N) (h : Fin 4) (k : Fin 64) (l : Fin 128) :
    (iblk m c 5 t : Vec Ideal S1x4x64x128 .f32) (ix4 0 h k l)
      = (V m c main_v48 : FVec Ideal S6x4x128x128 .f32) (ix4 (bOf t) h (rowAt t k) l) := by
  have hi := index5 t
  unfold iblk
  rw [View.read_apply]
  show V m c main_v48 _ = V m c main_v48 _
  refine congrArg (V m c main_v48) ?_
  funext a
  apply Fin.ext
  match a with
  | ⟨0, _⟩ => show win0_5.index t 0 * 1 + 1 * 0 = t.val / 2; rw [congrFun hi 0]; simp
  | ⟨1, _⟩ => show win0_5.index t 1 * 4 + 1 * h.val = h.val; rw [congrFun hi 1]; simp
  | ⟨2, _⟩ => show win0_5.index t 2 * 64 + 1 * k.val = t.val % 2 * 64 + k.val; rw [congrFun hi 2]; simp
  | ⟨3, _⟩ => show win0_5.index t 3 * 128 + 1 * l.val = l.val; rw [congrFun hi 3]; simp

/-- and of the bias. -/
theorem blk6 (t : Fin cfg0.N) (i : Fin 64) (x : Fin 512) :
    (iblk m c 6 t : Vec Ideal S64x512 .f32) (ix2 i x) = (V m c main_v31 : FVec Ideal S64x512 .f32) (ix2 i x) := by
  have hi := index6 t
  unfold iblk
  rw [View.read_apply]
  show V m c main_v31 _ = V m c main_v31 _
  refine congrArg (V m c main_v31) ?_
  funext a
  apply Fin.ext
  match a with
  | ⟨0, _⟩ => show win0_6.index t 0 * 64 + 1 * i.val = i.val; rw [congrFun hi 0]; simp
  | ⟨1, _⟩ => show win0_6.index t 1 * 512 + 1 * x.val = x.val; rw [congrFun hi 1]; simp

/-! ## The block written back -/

/-- What grid point `t` writes back is the step's output block. -/
theorem flushed7 (t : Fin cfg0.N) :
    (dats m 0 c).flushed 7 t = (cfg0.win 7).cut (grid0.coords t) (outsAt0 m c t) := by
  show (cfg0.win 7).cut (grid0.coords t) ((dats m 0 c).after 7 t) = _
  rw [after0_7]

/-- Distinct grid points write distinct blocks, -/
theorem idx_inj7 : ∀ t t' : Fin cfg0.N, win0_7.index t = win0_7.index t' → t = t' :=
  (by decide +kernel : ∀ t t' : Fin grid0.N, win0_7.index t = win0_7.index t' → t = t')

/-- so their blocks share no element. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- The result array at a token of grid point `t`'s block. -/
theorem final_apply (t : Fin cfg0.N) (x : Fin 8192) (y : Fin 128) :
    ((dats m 0 c).arrAt 7 cfg0.N : FVec Ideal S6x16384x128 .bf16) (ix3 (bOf t) ⟨t.val % 2 * 8192 + x.val, by omega⟩ y)
      = outsAt0 m c t (ix3 0 x y) := by
  have hi := index7 t
  have h := congrFun ((dats m 0 c).read_blk_arrAt_eq_flushed 7 disjoint7 cfg0.N t t.isLt (flush0_7 t))
    (ix3 (n0 := 1) (n1 := 8192) (n2 := 128) 0 x y)
  rw [flushed7, View.read_apply] at h
  refine Eq.trans ?_ h
  show (dats m 0 c).arrAt 7 cfg0.N _ = (dats m 0 c).arrAt 7 cfg0.N _
  refine congrArg ((dats m 0 c).arrAt 7 cfg0.N) ?_
  funext a
  apply Fin.ext
  match a with
  | ⟨0, _⟩ => show t.val / 2 = win0_7.index t 0 * 1 + 1 * 0; rw [congrFun hi 0]; simp
  | ⟨1, _⟩ => show t.val % 2 * 8192 + x.val = win0_7.index t 1 * 8192 + 1 * x.val; rw [congrFun hi 1]; simp
  | ⟨2, _⟩ => show y.val = win0_7.index t 2 * 128 + 1 * y.val; rw [congrFun hi 2]; simp

/-! ## The run -/

/-- After the run the result array is what the grid steps wrote, and the arguments are as they were. -/
theorem run_result : θ_run defs (onTc (τ := τ) (main (F := Ideal))) ⟨m, fun _ => 0, ρ⟩ (fun r => ∀ c : Dev nD,
      r.2.mem ((c.tc : Thread nD τ).loc main_v49) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h.1 c, h.2 c⟩) (θ_run_and (Q₁ := fun r => ∀ c : Dev nD, r.2.mem ((c.tc : Thread nD τ).loc main_v49) = (dats m 0 c).arrAt 7 cfg0.N)
    ((θ_run defs _ _).mono (fun _ h c => (h c).1 7) (run_main m ρ)) (unchanged m ρ))

end Cert.AttendIdeal.Hand

end
-- ==== Proof.AttendMath.lean ====
/- The arithmetic of the equation: over real logits, an exponential times 256 over the sum is 256 times the quotient by the sum. -/
module

public import proofs.«01_k».proof.Proof.AttendSoft

@[expose] public section

noncomputable section

namespace Cert.AttendIdeal.Hand

open Idealize.ShloMosaic

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {n : ℕ} {f : Fin n → EReal} (h : ∀ i, IsReal (f i)) : IsReal (∑ i, f i) :=
  Finset.sum_induction f IsReal (fun _ _ => IsReal.add) ⟨0, EReal.coe_zero.symm⟩ fun i _ => h i

theorem isReal_of_ne {x : EReal} (h0 : x ≠ ⊥) (h1 : x ≠ ⊤) : IsReal x := ⟨x.toReal, (EReal.coe_toReal h1 h0).symm⟩

/-- A number whose absolute value is less than infinity is real. -/
theorem isReal_of_abs_lt {x : EReal} (h : max x (-x) < ⊤) : IsReal x := by
  refine isReal_of_ne ?_ ?_
  · rintro rfl; simp at h
  · rintro rfl; simp at h

theorem isReal_hi : IsReal (Ideal.ofBits FTy.f32 0x43E00000#32) := by
  simp [IsReal, Ideal.ofBits, Ideal.ieee, -EReal.coe_mul, -EReal.coe_neg]

theorem isReal_lo : IsReal (Ideal.ofBits FTy.f32 0xC3E00000#32) := by
  simp [IsReal, Ideal.ofBits, Ideal.ieee, -EReal.coe_mul, -EReal.coe_neg]

theorem bot_bits : Ideal.ofBits FTy.f32 0xFF800000#32 = ⊥ := by
  simp [Ideal.ofBits, Ideal.ieee]

theorem top_bits : Ideal.ofBits FTy.f32 0x7F800000#32 = ⊤ := by
  simp [Ideal.ofBits, Ideal.ieee]

/-- A code is a real number, whatever it is the code of. -/
theorem isReal_clip (y : EReal) : IsReal (clip y) := by
  unfold clip
  obtain ⟨a, ha⟩ := isReal_hi
  obtain ⟨b, hb⟩ := isReal_lo
  rw [ha, hb]
  refine isReal_of_ne ?_ ?_
  · refine ne_of_gt (lt_min (EReal.bot_lt_coe a) (lt_max_of_lt_left (EReal.bot_lt_coe b)))
  · exact ne_of_lt (min_lt_of_left_lt (EReal.coe_lt_top a))

/-- The greatest of real numbers, from the least value, is real. -/
theorem isReal_max (y : Fin 64 → EReal) (hy : ∀ k, IsReal (y k)) :
    IsReal (Finset.univ.fold max (Ideal.ofBits FTy.f32 0xFF800000#32) y) := by
  rw [bot_bits]
  refine isReal_of_ne ?_ ?_
  · obtain ⟨r, hr⟩ := hy 0
    have : (r : EReal) ≤ Finset.univ.fold max ⊥ y := (Finset.le_fold_max _).mpr (Or.inr ⟨0, Finset.mem_univ _, hr.ge⟩)
    exact ne_of_gt (lt_of_lt_of_le (EReal.bot_lt_coe r) this)
  · refine ne_of_lt ((Finset.fold_max_lt _).mpr ⟨bot_lt_top, fun k _ => ?_⟩)
    obtain ⟨r, hr⟩ := hy k
    rw [hr]; exact EReal.coe_lt_top r

/-- The exponential of a column less its greatest element. -/
def colExp (y : Fin 64 → EReal) (j : Fin 64) : EReal :=
  Ideal.exp (y j - Finset.univ.fold max (Ideal.ofBits FTy.f32 0xFF800000#32) y)

/-- The code of a probability as the kernel computes it. -/
def colProb (y : Fin 64 → EReal) (j : Fin 64) : EReal :=
  colExp y j * Ideal.div (Ideal.ofBits FTy.f32 0x43800000#32) (∑ k, colExp y k)

theorem colExp_pos (y : Fin 64 → EReal) (hy : ∀ k, IsReal (y k)) (j : Fin 64) : 0 < colExp y j := by
  unfold colExp
  obtain ⟨a, ha⟩ := hy j
  obtain ⟨b, hb⟩ := isReal_max y hy
  rw [hb, ha, ← EReal.coe_sub]
  show (0 : EReal) < ((Real.exp (a - b) : ℝ) : EReal)
  exact EReal.coe_pos.mpr (Real.exp_pos _)

theorem colSum_ne (y : Fin 64 → EReal) (hy : ∀ k, IsReal (y k)) : (∑ k, colExp y k) ≠ 0 :=
  ne_of_gt (lt_of_lt_of_le (colExp_pos y hy 0)
    (Finset.single_le_sum (f := colExp y) (fun k _ => (colExp_pos y hy k).le) (Finset.mem_univ 0)))

/-- The kernel's code of a probability is 256 times the probability, for real logits. -/
theorem colProb_eq (y : Fin 64 → EReal) (hy : ∀ k, IsReal (y k)) (j : Fin 64) :
    colProb y j = Ideal.div (colExp y j) (∑ k, colExp y k) * Ideal.ofBits FTy.f32 0x43800000#32 := by
  unfold colProb Ideal.div
  rw [if_neg (colSum_ne y hy), if_neg (colSum_ne y hy), mul_comm (Ideal.ofBits FTy.f32 0x43800000#32), mul_assoc]

/-- Taking the greatest once more with the least value changes nothing. -/
theorem max_fold (y : Fin 64 → EReal) :
    max (Ideal.ofBits FTy.f32 0xFF800000#32) (Finset.univ.fold max (Ideal.ofBits FTy.f32 0xFF800000#32) y)
      = Finset.univ.fold max (Ideal.ofBits FTy.f32 0xFF800000#32) y :=
  max_eq_right ((Finset.le_fold_max _).mpr (Or.inl le_rfl))

theorem prob_eq_colProb (x : Fin 64 → Fin 128 → EReal) (j : Fin 64) (l : Fin 128) : prob x j l = colProb (fun k => x k l) j := rfl

end Cert.AttendIdeal.Hand

end
-- ==== Proof.AttentionTail.lean ====
/- The reference's host operations after its one call: the result as one term of the arguments, in four named steps. -/
module

public import proofs.«01_k».proof.Proof.Gen.AttentionIdeal.Launch
public import Idealize.ShloMosaic.Lib.Pipeline.FrameSuffix
public import Idealize.ShloMosaic.Lib.Claim
public import Idealize.ShloMosaic.Lib.Pointwise

@[expose] public section

set_option maxRecDepth 16384
set_option maxHeartbeats 1600000

noncomputable section

namespace Cert.AttentionIdeal.Hand

open Cert.AttentionIdeal Cert.AttentionIdeal.Gen
open Idealize.ShloMosaic Idealize.ShloMosaic.TcCoe

/-- The codes: each element times its token's factor, clipped. -/
def codesT (x : FVec Ideal S6x16384x4x32 .bf16) (s : FVec Ideal S6x16384x4 .f32) : FVec Ideal S6x256x64x4x32 .f32 :=
  shapeCast S6x256x64x4x32
    (minimumf (broadcastInDim S6x16384x4x32 ![] bcast_S_S6x16384x4x32 (constant S_ .f32 0x43E00000#32))
      (maximumf (broadcastInDim S6x16384x4x32 ![] bcast_S_S6x16384x4x32 (constant S_ .f32 0xC3E00000#32))
        (mulf (extf .f32 x bitsLt_bf16_f32) (broadcastInDim S6x16384x4x32 ![0, 1, 2, 3] bcast_S6x16384x4x1_S6x16384x4x32_0_1_2_3
          (broadcastInDim S6x16384x4x1 ![0, 1, 2] bcast_S6x16384x4_S6x16384x4x1_0_1_2 s)))))
    shapeCasts_S6x16384x4x32_S6x256x64x4x32

/-- The scores: the products of the codes times the factors of the logits, plus the bias. -/
def scoresT (q k : FVec Ideal S6x256x64x4x32 .f32) (f : FVec Ideal S6x256x4 .f32) (b : FVec Ideal S4x64x64 .f32) : FVec Ideal S6x256x4x64x64 .f32 :=
  addf (mulf (Host.dotGeneral dot_S6x256x64x4x32_S6x256x64x4x32_S6x256x4x64x64_4_4_2_2_013_013 none q k)
      (broadcastInDim S6x256x4x64x64 ![0, 1, 2, 3, 4] bcast_S6x256x4x1x1_S6x256x4x64x64_0_1_2_3_4
        (broadcastInDim S6x256x4x1x1 ![0, 1, 2] bcast_S6x256x4_S6x256x4x1x1_0_1_2 f)))
    (broadcastInDim S6x256x4x64x64 ![0, 1, 2, 3, 4] bcast_S1x1x4x64x64_S6x256x4x64x64_0_1_2_3_4
      (broadcastInDim S1x1x4x64x64 ![2, 3, 4] bcast_S4x64x64_S1x1x4x64x64_2_3_4 b))

/-- The greatest score of each row. -/
def maxT (s : FVec Ideal S6x256x4x64x64 .f32) : FVec Ideal S6x256x4x64 .f32 :=
  Host.reduce FloatOps.maximumf s (constant S_ .f32 0xFF800000#32) reducesTo_S6x256x4x64x64_S6x256x4x64_d4 h_S_

/-- The exponentials of the scores less the greatest of their row. -/
def expT (s : FVec Ideal S6x256x4x64x64 .f32) (g : FVec Ideal S6x256x4x64 .f32) : FVec Ideal S6x256x4x64x64 .f32 :=
  Host.exp (subf s (broadcastInDim S6x256x4x64x64 ![0, 1, 2, 3, 4] bcast_S6x256x4x64x1_S6x256x4x64x64_0_1_2_3_4
    (broadcastInDim S6x256x4x64x1 ![0, 1, 2, 3] bcast_S6x256x4x64_S6x256x4x64x1_0_1_2_3
      (maximumf (broadcastInDim S6x256x4x64 ![] bcast_S_S6x256x4x64 (constant S_ .f32 0xFF800000#32)) g))))

/-- The exponentials of the scores. -/
def softT (s : FVec Ideal S6x256x4x64x64 .f32) : FVec Ideal S6x256x4x64x64 .f32 := expT s (maxT s)

/-- The probabilities times 256. -/
def probsT (e : FVec Ideal S6x256x4x64x64 .f32) : FVec Ideal S6x256x4x64x64 .f32 :=
  mulf (Host.divf e (broadcastInDim S6x256x4x64x64 ![0, 1, 2, 3, 4] bcast_S6x256x4x64x1_S6x256x4x64x64_0_1_2_3_4
      (broadcastInDim S6x256x4x64x1 ![0, 1, 2, 3] bcast_S6x256x4x64_S6x256x4x64x1_0_1_2_3
        (Host.reduceAdd e (constant S_ .f32 0x00000000#32) reducesTo_S6x256x4x64x64_S6x256x4x64_d4 h_S_))))
    (broadcastInDim S6x256x4x64x64 ![] bcast_S_S6x256x4x64x64 (constant S_ .f32 0x43800000#32))

/-- The output: the products of the values with the probabilities, times the scales of the values. -/
def outT (v : FVec Ideal S6x16384x4x32 .f32) (p : FVec Ideal S6x256x4x64x64 .f32) (s : FVec Ideal S6x256x4 .f32) : FVec Ideal S6x16384x128 .bf16 :=
  truncf .bf16 (shapeCast S6x16384x128
    (mulf (mulf (transpose S6x256x64x4x32 [0, 1, 4, 2, 3]
          (Host.dotGeneral dot_S6x256x64x4x32_S6x256x4x64x64_S6x256x4x32x64_2_4_4_3_013_012 none
            (shapeCast S6x256x64x4x32 v shapeCasts_S6x16384x4x32_S6x256x64x4x32) p)
          transposes_S6x256x4x32x64_S6x256x64x4x32_0_1_4_2_3)
        (broadcastInDim S6x256x64x4x32 ![0, 1, 2, 3, 4] bcast_S6x256x1x4x1_S6x256x64x4x32_0_1_2_3_4
          (broadcastInDim S6x256x1x4x1 ![0, 1, 3] bcast_S6x256x4_S6x256x1x4x1_0_1_3 s)))
      (broadcastInDim S6x256x64x4x32 ![] bcast_S_S6x256x64x4x32 (constant S_ .f32 0x3B800000#32)))
    shapeCasts_S6x256x64x4x32_S6x16384x128) bitsLt_bf16_f32

/-- The host operations after the call leave this term of the call's result and of the arguments. -/
theorem tail_value (W : Valuation τ sig (Elt Ideal)) :
    StableHlo.after (hostOps1 ++ (hostOps1_1 ++ (hostOps1_2 ++ (hostOps1_3 ++ hostOps1_4)))) W (Proc.devRef .tc main_v42)
      = outT (W (Proc.devRef .tc main_v0))
          (probsT (softT (scoresT (codesT (W (Proc.devRef .tc main_arg0)) (W (Proc.devRef .tc main_arg3)))
            (codesT (W (Proc.devRef .tc main_arg1)) (W (Proc.devRef .tc main_arg4))) (W (Proc.devRef .tc main_arg5)) (W (Proc.devRef .tc main_arg7)))))
          (W (Proc.devRef .tc main_arg6)) := by
  simp only [hostOps1, hostOps1_1, hostOps1_2, hostOps1_3, hostOps1_4, List.cons_append, List.nil_append, StableHlo.after_cons, StableHlo.after_nil]
  after_results_simp
  rfl

end Cert.AttentionIdeal.Hand

end
-- ==== Proof.AttentionRead.lean ====
/- The reference's four steps, each read at an index. -/
module

public import proofs.«01_k».proof.Proof.AttentionTail

@[expose] public section

set_option maxRecDepth 16384
set_option maxHeartbeats 1600000

noncomputable section

namespace Cert.AttentionIdeal.Hand

open Cert.AttentionIdeal Cert.AttentionIdeal.Gen
open Idealize.ShloMosaic Idealize.ShloMosaic.TcCoe

/-- A code: an element times its token's factor, clipped. -/
theorem codesT_apply (x : FVec Ideal S6x16384x4x32 .bf16) (s : FVec Ideal S6x16384x4 .f32) (b : Fin 6) (w : Fin 256) (i : Fin 64) (h : Fin 4) (d : Fin 32) :
    codesT x s (ix5 b w i h d) = min (Ideal.ofBits FTy.f32 0x43E00000#32) (max (Ideal.ofBits FTy.f32 0xC3E00000#32)
      (x (ix4 b ⟨w.val * 64 + i.val, by omega⟩ h d) * s (ix3 b ⟨w.val * 64 + i.val, by omega⟩ h))) := by
  unfold codesT
  pointwise

/-- A score of query `i` and key `j`. -/
theorem scoresT_apply (q k : FVec Ideal S6x256x64x4x32 .f32) (f : FVec Ideal S6x256x4 .f32) (p : FVec Ideal S4x64x64 .f32)
    (b : Fin 6) (w : Fin 256) (h : Fin 4) (i j : Fin 64) :
    scoresT q k f p (ix5 b w h i j) = (∑ x : Fin 32, q (ix5 b w i h x) * k (ix5 b w j h x)) * f (ix3 b w h) + p (ix3 h i j) := by
  unfold scoresT
  pointwise

/-- A maximum over the last of five axes. -/
theorem maxLast {n0 n1 n2 n3 n4 : ℕ} {u : Shape} (x : FVec Ideal ⟨5, ![n0, n1, n2, n3, n4]⟩ .f32) (init : u.Idx → Ideal .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf x init h hu (ix4 a b c d) = Finset.univ.fold max (init (Shape.Idx.first hu)) fun k : Fin n4 => x (ix5 a b c d k) := by
  simp only [pointwise]

/-- The greatest of a row of scores. -/
theorem maxT_apply (s : FVec Ideal S6x256x4x64x64 .f32) (b : Fin 6) (w : Fin 256) (h : Fin 4) (i : Fin 64) :
    maxT s (ix4 b w h i) = Finset.univ.fold max (Ideal.ofBits FTy.f32 0xFF800000#32) fun k : Fin 64 => s (ix5 b w h i k) :=
  maxLast s _ _ _ b w h i

/-- An exponential. -/
theorem expT_apply (s : FVec Ideal S6x256x4x64x64 .f32) (g : FVec Ideal S6x256x4x64 .f32) (b : Fin 6) (w : Fin 256) (h : Fin 4) (i j : Fin 64) :
    expT s g (ix5 b w h i j) = Ideal.exp (s (ix5 b w h i j) - max (Ideal.ofBits FTy.f32 0xFF800000#32) (g (ix4 b w h i))) := by
  unfold expT
  pointwise

/-- An exponential of a score less the greatest of its row. -/
theorem softT_apply (s : FVec Ideal S6x256x4x64x64 .f32) (b : Fin 6) (w : Fin 256) (h : Fin 4) (i j : Fin 64) :
    softT s (ix5 b w h i j) = Ideal.exp (s (ix5 b w h i j) - max (Ideal.ofBits FTy.f32 0xFF800000#32)
      (Finset.univ.fold max (Ideal.ofBits FTy.f32 0xFF800000#32) fun k : Fin 64 => s (ix5 b w h i k))) := by
  unfold softT
  rw [expT_apply, maxT_apply]

/-- A probability times 256. -/
theorem probsT_apply (e : FVec Ideal S6x256x4x64x64 .f32) (b : Fin 6) (w : Fin 256) (h : Fin 4) (i j : Fin 64) :
    probsT e (ix5 b w h i j) = Ideal.div (e (ix5 b w h i j)) (∑ k : Fin 64, e (ix5 b w h i k)) * Ideal.ofBits FTy.f32 0x43800000#32 := by
  unfold probsT
  pointwise

/-- An element of the output. -/
theorem outT_apply (v : FVec Ideal S6x16384x4x32 .f32) (p : FVec Ideal S6x256x4x64x64 .f32) (s : FVec Ideal S6x256x4 .f32)
    (b : Fin 6) (w : Fin 256) (i : Fin 64) (h : Fin 4) (d : Fin 32) :
    outT v p s (ix3 b ⟨w.val * 64 + i.val, by omega⟩ ⟨h.val * 32 + d.val, by omega⟩)
      = (∑ x : Fin 64, v (ix4 b ⟨w.val * 64 + x.val, by omega⟩ h d) * p (ix5 b w h i x)) * s (ix3 b w h) * Ideal.ofBits FTy.f32 0x3B800000#32 := by
  unfold outT
  pointwise

end Cert.AttentionIdeal.Hand

end
-- ==== Proof.AttentionRun.lean ====
/- The reference's run: what its one call leaves, and its result as one term of the arguments. -/
module

public import proofs.«01_k».proof.Proof.AttentionTail
public import proofs.«01_k».proof.Proof.Gen.AttentionIdeal.Frame
public import Idealize.ShloMosaic.Lib.Pipeline.Value
public import Idealize.ShloMosaic.Lib.Pipeline.ValueKit.Geometry

@[expose] public section

set_option maxRecDepth 16384

noncomputable section

namespace Cert.AttentionIdeal.Hand

open Cert.AttentionIdeal Cert.AttentionIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem hz4 : (![0, 0, 0, 0] : Fin 4 → Nat) = fun _ => 0 := funext fun a => by fin_cases a <;> rfl

/-- The call widens its block: it leaves every element as it is. -/
theorem out_eq (x : Vec Ideal S6x16384x4x32 .fp8e4m3) (y : S6x16384x4x32.Idx) : out0_1 x y = x y := by
  unfold out0_1
  rw [View.canon_unit_zero hz4]
  unfold k0_pay1
  rw [View.ld_unit_zero (S := S6x16384x4x32) hz4]
  rfl

/-- The one grid point. -/
abbrev pt : Fin cfg0.N := (⟨0, by decide⟩ : Fin grid0.N)

/-- After the call its result array is the third argument. -/
theorem call_eq : (dats m 0 c).arrAt 1 cfg0.N = m ((c : Thread nD τ).loc main_arg2) := by
  refine (dats m 0 c).arrAt_eq_of_cover 1 _ (fun t _ => ?_) fun i => ⟨pt, (by decide +kernel), ?_⟩
  · show (cfg0.win 1).cut (grid0.coords t) ((dats m 0 c).after 1 t) = _
    rw [after0_1]
    funext y
    refine (out_eq _ _).trans ?_
    unfold iblk
    rw [View.read_apply, View.read_apply]
    show m ((c : Thread nD τ).loc main_arg2) _ = m ((c : Thread nD τ).loc main_arg2) _
    refine congrArg (m ((c : Thread nD τ).loc main_arg2)) ?_
    funext a
    apply Fin.ext
    rfl
  · show i ∈ ((View.whole main_v0).slice (win0_1.rect pt)).set
    rw [View.set_slice_whole, Rect.mem_set_unit]
    intro a
    have e : ∀ a : Fin 4, win0_1.index pt a * win0_1.size a = 0 := by decide +kernel
    have z : ∀ a : Fin 4, win0_1.xsize (grid0.coords pt) a = S6x16384x4x32.size a := by decide +kernel
    show win0_1.index pt a * win0_1.size a ≤ (i a : Nat) ∧ (i a : Nat) < win0_1.index pt a * win0_1.size a + win0_1.xsize (grid0.coords pt) a
    rw [e a, z a, Nat.zero_add]
    exact ⟨Nat.zero_le _, (i a).isLt⟩

/-- The reference's result, from the arguments. -/
def result (c : Dev nD) : FVec Ideal S6x16384x128 .bf16 :=
  outT (m ((c : Thread nD τ).loc main_arg2))
    (probsT (softT (scoresT (codesT (m ((c : Thread nD τ).loc main_arg0)) (m ((c : Thread nD τ).loc main_arg3)))
      (codesT (m ((c : Thread nD τ).loc main_arg1)) (m ((c : Thread nD τ).loc main_arg4)))
      (m ((c : Thread nD τ).loc main_arg5)) (m ((c : Thread nD τ).loc main_arg7)))))
    (m ((c : Thread nD τ).loc main_arg6))

theorem tail_eq : Pipeline.afterTail₀ cfgs (dats m) 0 (V0 m) [hostOps1, hostOps1_1, hostOps1_2, hostOps1_3, hostOps1_4] c main_v42 = result m c := by
  unfold Pipeline.afterTail₀
  have hfl : ([hostOps1, hostOps1_1, hostOps1_2, hostOps1_3, hostOps1_4] : List (List (HloOp τ sig (Elt Ideal)))).flatten
      = hostOps1 ++ (hostOps1_1 ++ (hostOps1_2 ++ (hostOps1_3 ++ hostOps1_4))) := by
    simp only [List.flatten_cons, List.flatten_nil, List.append_nil]
  rw [hfl, tail_value]
  have h0 := (Pipeline.withArrays_arr spec0 launch0.win.arr_inj c (V0 m c) (fun w => (dats m 0 c).arrAt w cfg0.N) 1).trans (call_eq m c)
  have e0 := Pipeline.withArrays_of_ne spec0 c (V0 m c) (fun w => (dats m 0 c).arrAt w cfg0.N) main_arg0 (by exact (by decide : ∀ w, Pipeline.arrRef spec0 w ≠ main_arg0))
  have e1 := Pipeline.withArrays_of_ne spec0 c (V0 m c) (fun w => (dats m 0 c).arrAt w cfg0.N) main_arg1 (by exact (by decide : ∀ w, Pipeline.arrRef spec0 w ≠ main_arg1))
  have e3 := Pipeline.withArrays_of_ne spec0 c (V0 m c) (fun w => (dats m 0 c).arrAt w cfg0.N) main_arg3 (by exact (by decide : ∀ w, Pipeline.arrRef spec0 w ≠ main_arg3))
  have e4 := Pipeline.withArrays_of_ne spec0 c (V0 m c) (fun w => (dats m 0 c).arrAt w cfg0.N) main_arg4 (by exact (by decide : ∀ w, Pipeline.arrRef spec0 w ≠ main_arg4))
  have e5 := Pipeline.withArrays_of_ne spec0 c (V0 m c) (fun w => (dats m 0 c).arrAt w cfg0.N) main_arg5 (by exact (by decide : ∀ w, Pipeline.arrRef spec0 w ≠ main_arg5))
  have e6 := Pipeline.withArrays_of_ne spec0 c (V0 m c) (fun w => (dats m 0 c).arrAt w cfg0.N) main_arg6 (by exact (by decide : ∀ w, Pipeline.arrRef spec0 w ≠ main_arg6))
  have e7 := Pipeline.withArrays_of_ne spec0 c (V0 m c) (fun w => (dats m 0 c).arrAt w cfg0.N) main_arg7 (by exact (by decide : ∀ w, Pipeline.arrRef spec0 w ≠ main_arg7))
  unfold result
  generalize Pipeline.withArrays _ c (V0 m c) _ = W at h0 e0 e1 e3 e4 e5 e6 e7 ⊢
  have h0' : W (Proc.devRef .tc main_v0) = m ((c : Thread nD τ).loc main_arg2) := h0
  have e0' : W (Proc.devRef .tc main_arg0) = m ((c : Thread nD τ).loc main_arg0) := e0.trans (V_main_arg0 m c)
  have e1' : W (Proc.devRef .tc main_arg1) = m ((c : Thread nD τ).loc main_arg1) := e1.trans (V_main_arg1 m c)
  have e3' : W (Proc.devRef .tc main_arg3) = m ((c : Thread nD τ).loc main_arg3) := e3.trans (V_main_arg3 m c)
  have e4' : W (Proc.devRef .tc main_arg4) = m ((c : Thread nD τ).loc main_arg4) := e4.trans (V_main_arg4 m c)
  have e5' : W (Proc.devRef .tc main_arg5) = m ((c : Thread nD τ).loc main_arg5) := e5.trans (V_main_arg5 m c)
  have e6' : W (Proc.devRef .tc main_arg6) = m ((c : Thread nD τ).loc main_arg6) := e6.trans (V_main_arg6 m c)
  have e7' : W (Proc.devRef .tc main_arg7) = m ((c : Thread nD τ).loc main_arg7) := e7.trans (V_main_arg7 m c)
  rw [h0', e0', e1', e3', e4', e5', e6', e7']

/-- The reference runs to its end with that result, its arguments unchanged. -/
theorem run_result : θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h.1 c, h.2 c⟩) (θ_run_and (Q₁ := fun r => ∀ c : Dev nD, r.2.mem ((c.tc : Thread nD τ).loc main_v42) = result m c)
    ((θ_run defs _ _).mono (fun _ h c => ((h c).2 main_v42 (Pipeline.mem_restRefs_of main_v42 (by decide) (by decide))).trans (tail_eq m c)) (run_main m ρ)) (unchanged m ρ))

end Cert.AttentionIdeal.Hand

end
-- ==== Proof.AttendEqual.lean ====
/- The attention kernel's result and the reference's, element by element, and their equality over the extended reals. -/
module

public import proofs.«01_k».proof.Proof.AttendArray
public import proofs.«01_k».proof.Proof.AttendMath
public import proofs.«01_k».proof.Proof.AttentionRead
public import proofs.«01_k».proof.Proof.AttentionRun

@[expose] public section

set_option maxRecDepth 16384

noncomputable section

namespace Cert.AttendIdeal.Hand

open Cert.AttendIdeal Cert.AttendIdeal.Gen
open Idealize.ShloMosaic Idealize.ShloMosaic.TcCoe Idealize.SL.Sem

/-! ## The value, from the eight arguments -/

section
variable (a0 a1 : FVec Ideal S6x16384x4x32 .bf16) (a2 : FVec Ideal S6x16384x4x32 .fp8e4m3) (a3 a4 : FVec Ideal S6x16384x4 .f32)
  (a5 a6 : FVec Ideal S6x256x4 .f32) (a7 : FVec Ideal S4x64x64 .f32)

/-- A code: an element times its token's factor, clipped. -/
def codeAt (a : FVec Ideal S6x16384x4x32 .bf16) (f : FVec Ideal S6x16384x4 .f32) (b : Fin 6) (T : Fin 16384) (h : Fin 4) (e : Fin 32) : EReal :=
  clip (a (ix4 b T h e) * f (ix3 b T h))

/-- The logit of query `i` and key `j` of a window. -/
def logitAt (b : Fin 6) (w : Fin 256) (h : Fin 4) (i j : Fin 64) : EReal :=
  (∑ e : Fin 32, codeAt a1 a4 b ⟨w.val * 64 + j.val, by omega⟩ h e
      * codeAt a0 a3 b ⟨w.val * 64 + i.val, by omega⟩ h e)
    * a5 (ix3 b w h) + a7 (ix3 h i j)

/-- The result at query `i` of a window, head `h` and dimension `d`. -/
def valueAt (b : Fin 6) (w : Fin 256) (i : Fin 64) (h : Fin 4) (d : Fin 32) : EReal :=
  (∑ j : Fin 64, a2 (ix4 b ⟨w.val * 64 + j.val, by omega⟩ h d) * colProb (logitAt a0 a1 a3 a4 a5 a7 b w h i) j)
    * (a6 (ix3 b w h) * Ideal.ofBits FTy.f32 0x3B800000#32)

theorem isReal_logitAt (h5 : ∀ i, IsReal (a5 i)) (h7 : ∀ i, IsReal (a7 i)) (b : Fin 6) (w : Fin 256) (h : Fin 4) (i j : Fin 64) :
    IsReal (logitAt a0 a1 a3 a4 a5 a7 b w h i j) :=
  ((IsReal.sum fun e => (isReal_clip _).mul (isReal_clip _)).mul (h5 _)).add (h7 _)

end

/-! ## The kernel's result -/

section
variable (m : (ℓ : Loc nD τ sig) → Buf (Elt Ideal) ℓ) (c : Dev nD)

/-- A code, from the two elements it is computed of. -/
theorem codeOf_eq (x : Vec Ideal S1x4x4x64x8x128 .bf16) (s : Vec Ideal S1x2x4x64x128 .f32) (u : Fin 2) (h : Fin 4) (k : Fin 64) (e : Fin 32) (l : Fin 128)
    (y z : EReal) (hy : x (ix6 0 h ⟨e.val / 8, by omega⟩ k ⟨e.val % 8, by omega⟩ l) = y) (hz : s (ix5 0 u h k l) = z) :
    codeOf x s u (ix4 h k e l) = clip (y * z) := by
  subst hy hz; rfl

/-- A code of q, -/
theorem qcode_apply (t : Fin cfg0.N) (h : Fin 4) (k : Fin 64) (e : Fin 32) (l : Fin 128) (T : Fin 16384) (hT : T.val = (rowAt t k).val * 128 + l.val) :
    codeOf (iblk m c 0 t) (iblk m c 3 t) 0 (ix4 h k e l)
      = codeAt (m ((c : Thread nD τ).loc main_arg0)) (m ((c : Thread nD τ).loc main_arg3)) (bOf t) T h e := by
  have hE : (⟨(⟨e.val / 8, by omega⟩ : Fin 4).val * 8 + (⟨e.val % 8, by omega⟩ : Fin 8).val, by show e.val / 8 * 8 + e.val % 8 < 32; omega⟩ : Fin 32) = e :=
    Fin.ext (by show e.val / 8 * 8 + e.val % 8 = e.val; omega)
  have hT' : (⟨(rowAt t k).val * 128 + l.val, by omega⟩ : Fin 16384) = T := Fin.ext hT.symm
  have e1 := (blk0 m c t h ⟨e.val / 8, by omega⟩ k ⟨e.val % 8, by omega⟩ l).trans (V34_apply m c (bOf t) h _ (rowAt t k) _ l)
  have e2 := (blk3 m c t 0 h k l).trans (V6_apply_q m c (bOf t) h (rowAt t k) l)
  rw [hT'] at e1 e2
  rw [hE] at e1
  exact codeOf_eq _ _ _ h k e l _ _ e1 e2

/-- of k. -/
theorem kcode_apply (t : Fin cfg0.N) (h : Fin 4) (k : Fin 64) (e : Fin 32) (l : Fin 128) (T : Fin 16384) (hT : T.val = (rowAt t k).val * 128 + l.val) :
    codeOf (iblk m c 1 t) (iblk m c 3 t) 1 (ix4 h k e l)
      = codeAt (m ((c : Thread nD τ).loc main_arg1)) (m ((c : Thread nD τ).loc main_arg4)) (bOf t) T h e := by
  have hE : (⟨(⟨e.val / 8, by omega⟩ : Fin 4).val * 8 + (⟨e.val % 8, by omega⟩ : Fin 8).val, by show e.val / 8 * 8 + e.val % 8 < 32; omega⟩ : Fin 32) = e :=
    Fin.ext (by show e.val / 8 * 8 + e.val % 8 = e.val; omega)
  have hT' : (⟨(rowAt t k).val * 128 + l.val, by omega⟩ : Fin 16384) = T := Fin.ext hT.symm
  have e1 := (blk1 m c t h ⟨e.val / 8, by omega⟩ k ⟨e.val % 8, by omega⟩ l).trans (V37_apply m c (bOf t) h _ (rowAt t k) _ l)
  have e2 := (blk3 m c t 1 h k l).trans (V6_apply_k m c (bOf t) h (rowAt t k) l)
  rw [hT'] at e1 e2
  rw [hE] at e1
  exact codeOf_eq _ _ _ h k e l _ _ e1 e2

/-- The kernel's result at an element of grid point `t`'s block. -/
theorem kernel_at (t : Fin cfg0.N) (k : Fin 64) (l : Fin 128) (h : Fin 4) (d : Fin 32) (w : Fin 256) (i : Fin 64)
    (hw : w.val = (rowAt t k).val * 2 + l.val / 64) (hi : i.val = l.val % 64) :
    outsAt0 m c t (ix3 0 ⟨k.val * 128 + l.val, by omega⟩ ⟨h.val * 32 + d.val, by omega⟩)
      = valueAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (bOf t) w i h d := by
  have hr : (rowAt t k).val = t.val % 2 * 64 + k.val := rfl
  have hwin : (⟨(rowAt t k).val * 2 + l.val / 64, by omega⟩ : Fin 256) = w := Fin.ext hw.symm
  have hpos : (⟨l.val % 64, by omega⟩ : Fin 64) = i := Fin.ext hi.symm
  unfold outsAt0
  rw [outBlock_eq, blockOf_apply]
  unfold valueAt
  have hsc := (blk4 m c t h k l).trans ((congrFun (V42_eq m c) _).trans (winT_apply _ (bOf t) h (rowAt t k) l))
  have hvs := (blk5 m c t h k l).trans ((congrFun (V48_eq m c) _).trans (winT_apply _ (bOf t) h (rowAt t k) l))
  rw [hwin] at hsc hvs
  refine congrArg₂ (· * ·) (Finset.sum_congr rfl fun j _ => congrArg₂ (· * ·) ?_ ?_) (hvs.trans ?_)
  · refine (blk2 m c t h d _).trans ((V38_apply m c (bOf t) h d _).trans ?_)
    refine congrArg (fun T => (m ((c : Thread nD τ).loc main_arg2) : FVec Ideal S6x16384x4x32 .fp8e4m3) (ix4 (bOf t) T h d)) ?_
    apply Fin.ext
    show t.val % 2 * 8192 + (k.val * 128 + (l.val / 64 * 64 + j.val)) = w.val * 64 + j.val
    omega
  · rw [prob_eq_colProb]
    refine congrArg (fun y => colProb y j) ?_
    funext j
    have hb := (blk6 m c t j ⟨h.val * 128 + l.val, by omega⟩).trans ((congrFun (V31_eq m c) _).trans (biasAll_apply _ j h l))
    rw [hpos] at hb
    refine congrArg₂ (· + ·) (congrArg₂ (· * ·) (Finset.sum_congr rfl fun e _ => congrArg₂ (· * ·) ?_ ?_) hsc) hb
    · exact kcode_apply m c t h k e (own l j) ⟨w.val * 64 + j.val, by omega⟩ (by
        show w.val * 64 + j.val = (rowAt t k).val * 128 + (l.val / 64 * 64 + j.val); omega)
    · exact qcode_apply m c t h k e l ⟨w.val * 64 + i.val, by omega⟩ (by
        show w.val * 64 + i.val = (rowAt t k).val * 128 + l.val; omega)
  · rfl

/-- The kernel's result array at an element. -/
theorem kernel_apply (b : Fin 6) (w : Fin 256) (i : Fin 64) (h : Fin 4) (d : Fin 32) :
    ((dats m 0 c).arrAt 7 cfg0.N : FVec Ideal S6x16384x128 .bf16) (ix3 b ⟨w.val * 64 + i.val, by omega⟩ ⟨h.val * 32 + d.val, by omega⟩)
      = valueAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b w i h d := by
  have key : ∀ (t : Fin cfg0.N) (k : Fin 64) (l : Fin 128), t.val = b.val * 2 + w.val / 128 → k.val = w.val / 2 % 64 → l.val = w.val % 2 * 64 + i.val →
      ((dats m 0 c).arrAt 7 cfg0.N : FVec Ideal S6x16384x128 .bf16) (ix3 b ⟨w.val * 64 + i.val, by omega⟩ ⟨h.val * 32 + d.val, by omega⟩)
        = valueAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b w i h d := by
    intro t k l ht hk hl
    have hr : (rowAt t k).val = t.val % 2 * 64 + k.val := rfl
    have hb : b = bOf t := Fin.ext (by show b.val = t.val / 2; omega)
    subst hb
    have hbt : (bOf t).val = t.val / 2 := rfl
    have hx : (⟨w.val * 64 + i.val, by omega⟩ : Fin 16384) = ⟨t.val % 2 * 8192 + (⟨k.val * 128 + l.val, by omega⟩ : Fin 8192).val, by
        show t.val % 2 * 8192 + (k.val * 128 + l.val) < 16384; omega⟩ := Fin.ext (by
      show w.val * 64 + i.val = t.val % 2 * 8192 + (k.val * 128 + l.val); omega)
    rw [hx]
    exact (final_apply m c t ⟨k.val * 128 + l.val, by omega⟩ ⟨h.val * 32 + d.val, by omega⟩).trans
      (kernel_at m c t k l h d w i (by omega) (by omega))
  exact key ((⟨b.val * 2 + w.val / 128, by show _ < 12; omega⟩ : Fin grid0.N)) ⟨w.val / 2 % 64, by omega⟩ ⟨w.val % 2 * 64 + i.val, by omega⟩ rfl rfl rfl

end

/-! ## The reference's result -/

section
open Cert.AttentionIdeal.Hand

variable (m : (ℓ : Loc Cert.AttentionIdeal.nD Cert.AttentionIdeal.τ Cert.AttentionIdeal.sig) → Buf (Elt Ideal) ℓ) (c : Dev Cert.AttentionIdeal.nD)

/-- The reference's result at an element, when the factors of the logits and the bias are real. -/
theorem reference_apply (a0 a1 : FVec Ideal S6x16384x4x32 .bf16) (a2 : FVec Ideal S6x16384x4x32 .fp8e4m3) (a3 a4 : FVec Ideal S6x16384x4 .f32)
    (a5 a6 : FVec Ideal S6x256x4 .f32) (a7 : FVec Ideal S4x64x64 .f32) (h5 : ∀ i, IsReal (a5 i)) (h7 : ∀ i, IsReal (a7 i))
    (b : Fin 6) (w : Fin 256) (i : Fin 64) (h : Fin 4) (d : Fin 32) :
    outT a2 (probsT (softT (scoresT (codesT a0 a3) (codesT a1 a4) a5 a7))) a6 (ix3 b ⟨w.val * 64 + i.val, by omega⟩ ⟨h.val * 32 + d.val, by omega⟩)
      = valueAt a0 a1 a2 a3 a4 a5 a6 a7 b w i h d := by
  have hs : ∀ j, scoresT (codesT a0 a3) (codesT a1 a4) a5 a7 (ix5 b w h i j) = logitAt a0 a1 a3 a4 a5 a7 b w h i j := by
    intro j
    rw [scoresT_apply]
    simp only [codesT_apply]
    refine congrArg₂ (· + ·) (congrArg₂ (· * ·) (Finset.sum_congr rfl fun e _ => ?_) rfl) rfl
    exact mul_comm _ _
  have he : ∀ j, softT (scoresT (codesT a0 a3) (codesT a1 a4) a5 a7) (ix5 b w h i j) = colExp (logitAt a0 a1 a3 a4 a5 a7 b w h i) j := by
    intro j
    rw [softT_apply, max_fold]
    simp only [hs]
    rfl
  rw [outT_apply, mul_assoc]
  unfold valueAt
  refine congrArg (· * _) (Finset.sum_congr rfl fun j _ => congrArg (_ * ·) ?_)
  rw [probsT_apply, colProb_eq _ fun k => isReal_logitAt a0 a1 a3 a4 a5 a7 h5 h7 b w h i k]
  simp only [he]

end

end Cert.AttendIdeal.Hand

end
-- ==== Proof.AttendClaim.lean ====
/- The attention kernel and its reference compute the same array over the extended reals, when the factors of the logits and the bias are real. -/
module

public import proofs.«01_k».proof.Defs
public import proofs.«01_k».proof.Proof.AttendEqual

@[expose] public section

set_option maxRecDepth 16384

noncomputable section

namespace Cert.AttendIdeal.Hand

open Cert.AttendIdeal
open Idealize.ShloMosaic Idealize.ShloMosaic.TcCoe Idealize.SL.Sem

/-- The side conditions of the precondition's operations. -/
theorem finiteFacts : Cert.Pre_finite.Facts := ⟨by decide, by decide⟩

/-- An element whose comparison with infinity holds is real. -/
theorem isReal_of_cmp {x : EReal} (h : Ideal.cmp .olt (max x (-x)) (Ideal.ofBits .f32 0x7F800000#32) = 1#1) : IsReal x := by
  refine isReal_of_abs_lt ?_
  rw [top_bits] at h
  by_contra hn
  simp [Ideal.cmp, hn] at h

/-- What the precondition says of the arguments: the factors of the logits and the bias are real. -/
theorem real_of_pre [Cert.Pre_finite.Facts] (a0 a1 : FVec Ideal S6x16384x4x32 .bf16) (a2 : FVec Ideal S6x16384x4x32 .fp8e4m3)
    (a3 a4 : FVec Ideal S6x16384x4 .f32) (a5 a6 : FVec Ideal S6x256x4 .f32) (a7 : FVec Ideal S4x64x64 .f32)
    (h : (Cert.Pre_finite.fn (F := Ideal) a0 a1 a2 a3 a4 a5 a6 a7).1 = (fun _ => 1#1)
      ∧ (Cert.Pre_finite.fn (F := Ideal) a0 a1 a2 a3 a4 a5 a6 a7).2 = (fun _ => 1#1)) :
    (∀ i, IsReal (a5 i)) ∧ ∀ i, IsReal (a7 i) :=
  ⟨fun i => isReal_of_cmp (congrFun h.1 i), fun i => isReal_of_cmp (congrFun h.2 i)⟩

/-- Every index of the result is a token of a window and an element of a head. -/
theorem exists_index (y : S6x16384x128.Idx) : ∃ (b : Fin 6) (w : Fin 256) (i : Fin 64) (h : Fin 4) (d : Fin 32),
    y = ix3 b ⟨w.val * 64 + i.val, by omega⟩ ⟨h.val * 32 + d.val, by omega⟩ := by
  have h1 : (y 1).val < 16384 := (y 1).isLt
  have h2 : (y 2).val < 128 := (y 2).isLt
  refine ⟨y 0, ⟨(y 1).val / 64, by omega⟩, ⟨(y 1).val % 64, by omega⟩, ⟨(y 2).val / 32, by omega⟩, ⟨(y 2).val % 32, by omega⟩, ?_⟩
  funext k
  fin_cases k
  · rfl
  · exact Fin.ext (by show (y 1).val = (y 1).val / 64 * 64 + (y 1).val % 64; omega)
  · exact Fin.ext (by show (y 2).val = (y 2).val / 32 * 32 + (y 2).val % 32; omega)

/-- The claim about values: kernel and reference leave the same array, and each its arguments as they were. -/
theorem algebraic [Cert.Pre_finite.Facts] : Cert.algebraic_AttendIdeal_AttentionIdeal_pre_finite := by
  intro m g m' g' hpre hargs
  refine ⟨fun c => (dats m 0 c).arrAt 7 cfg0.N, run_result m g, ?_⟩
  refine (θ_run _ _ _).mono (fun r h c => ⟨(h c).1.trans ?_, (h c).2⟩) (Cert.AttentionIdeal.Hand.run_result m' g')
  obtain ⟨e0, e1, e2, e3, e4, e5, e6, e7⟩ := hargs c
  obtain ⟨h5, h7⟩ := real_of_pre _ _ _ _ _ _ _ _ (hpre c)
  unfold Cert.AttentionIdeal.Hand.result
  funext y
  obtain ⟨b, w, i, hd, d, rfl⟩ := exists_index y
  refine Eq.trans ?_ (kernel_apply m c b w i hd d).symm
  refine Eq.trans ?_ (reference_apply _ _ _ _ _ _ _ _ h5 h7 b w i hd d)
  exact congrFun (congr (congrArg₂ _ e2 (congrArg _ (congrArg _ (congr (congr (congrArg₂ _ (congrArg₂ _ e0 e3) (congrArg₂ _ e1 e4)) e5) e7)))) e6) _

end Cert.AttendIdeal.Hand

end
-- ==== Proof.TableKernelRun.lean ====
/- The table kernel's body, in its own arithmetic, run at a grid point: at the first point it fills the codes and the bias table, at every other point it
   touches nothing. -/
module

public import proofs.«01_k».proof.Proof.Gen.Table.Frame
public import proofs.«01_k».proof.Proof.Gen.Table.Skeleton
public import Idealize.ShloMosaic.Lib.Pipeline.CanonAppend
public import Idealize.ShloMosaic.Lib.Pipeline.TableIdle
public import Idealize.ShloMosaic.Lib.Claim

@[expose] public section

set_option maxRecDepth 16384

noncomputable section

namespace Cert.Table.Hand

open Cert.Table Cert.Table.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

abbrev row0 : Rect S2x512 := Rect.unit (s := S2x512) ![0, 0] S1x512.size inb_S2x512_S1x512_0_0
abbrev row1 : Rect S2x512 := Rect.unit (s := S2x512) ![1, 0] S1x512.size inb_S2x512_S1x512_1_0
abbrev biasAll : Rect S1x512 := Rect.unit (s := S1x512) ![0, 0] S1x512.size inb_S1x512_S1x512_0_0
abbrev colAll : Rect S225x1 := Rect.unit (s := S225x1) ![0, 0] S225x1.size inb_S225x1_S225x1_0_0
abbrev w2All : Rect S4x512 := Rect.unit (s := S4x512) ![0, 0] S4x512.size inb_S4x512_S4x512_0_0
abbrev w2sAll : Rect S4x1 := Rect.unit (s := S4x1) ![0, 0] S4x1.size inb_S4x1_S4x1_0_0
abbrev relAll : Rect S4x225 := Rect.unit (s := S4x225) ![0, 0] S4x225.size inb_S4x225_S4x225_0_0
abbrev codesAll : Rect S225x512 := Rect.unit (s := S225x512) ![0, 0] S225x512.size inb_S225x512_S225x512_0_0

/-- The codes that the first point computes from its input blocks. -/
def codesPay (x0 : Vec F S2x512 .f32) (x1 : Vec F S1x512 .f32) (x5 : Vec F S225x1 .f32) : Vec F S225x512 .fp8e4m3 :=
  k0_pay1 (k0_pay10 (k0_pay5 (F := F)) (k0_pay6 (F := F)) (k0_pay7 (F := F)) (k0_pay8 (F := F)) (View.ld x0 row0) (View.ld x0 row1) (View.ld x1 biasAll) (View.ld x5 colAll)) (Scalar.ofBits .f32 0x43E00000#32) (k0_pay11 (F := F))

/-- The bias table that the first point computes from its input blocks. -/
def relPay (x0 : Vec F S2x512 .f32) (x1 : Vec F S1x512 .f32) (x2 : Vec F S4x512 .fp8e4m3) (x3 : Vec F S4x1 .f32) (x4 : Vec F S225x1 .f32) (x5 : Vec F S225x1 .f32) : Vec F S4x225 .f32 :=
  k0_pay2 (k0_pay9 (View.ld x4 colAll)) (k0_pay10 (k0_pay5 (F := F)) (k0_pay6 (F := F)) (k0_pay7 (F := F)) (k0_pay8 (F := F)) (View.ld x0 row0) (View.ld x0 row1) (View.ld x1 biasAll) (View.ld x5 colAll)) (Scalar.ofBits .f32 0x43E00000#32) (k0_pay11 (F := F)) (View.ld x2 w2All) (View.ld x3 w2sAll)

/-- The codes' buffer after the first point. -/
def codesOut (x0 : Vec F S2x512 .f32) (x1 : Vec F S1x512 .f32) (x5 : Vec F S225x1 .f32) : Vec F S225x512 .fp8e4m3 :=
  View.canon [⟨codesAll, codesPay x0 x1 x5⟩]

/-- The table's buffer after the first point. -/
def relOut (x0 : Vec F S2x512 .f32) (x1 : Vec F S1x512 .f32) (x2 : Vec F S4x512 .fp8e4m3) (x3 : Vec F S4x1 .f32) (x4 : Vec F S225x1 .f32) (x5 : Vec F S225x1 .f32) : Vec F S4x225 .f32 :=
  View.canon [⟨relAll, relPay x0 x1 x2 x3 x4 x5⟩]

theorem cover_rel (p0 : Vec F S4x225 .f32) (y : S4x225.Idx) :
    ∃ pc ∈ ([⟨relAll, p0⟩] : List (View.Piece (Elt F) S4x225 .f32)), y ∈ pc.1.set :=
  View.cover_of_tiled [⟨relAll, p0⟩] S4x225.size (by rfl) y

theorem cover_codes (p0 : Vec F S225x512 .fp8e4m3) (y : S225x512.Idx) :
    ∃ pc ∈ ([⟨codesAll, p0⟩] : List (View.Piece (Elt F) S225x512 .fp8e4m3)), y ∈ pc.1.set :=
  View.cover_of_tiled [⟨codesAll, p0⟩] S225x512.size (by rfl) y

set_option maxHeartbeats 1000000 in
/-- The first point: both outputs are filled. -/
theorem run_first (c : Dev nD) (i : grid0.Coords) (arg2 : Memref sig .tc .vmem S2x512 .f32) (harg2 : arg2.IsWhole) (arg3 : Memref sig .tc .vmem S1x512 .f32) (harg3 : arg3.IsWhole) (arg4 : Memref sig .tc .vmem S4x512 .fp8e4m3) (harg4 : arg4.IsWhole) (arg5 : Memref sig .tc .vmem S4x1 .f32) (harg5 : arg5.IsWhole) (arg6 : Memref sig .tc .vmem S225x1 .f32) (harg6 : arg6.IsWhole) (arg7 : Memref sig .tc .vmem S225x1 .f32) (harg7 : arg7.IsWhole) (arg8 : Memref sig .tc .vmem S4x225 .f32) (harg8 : arg8.IsWhole) (arg9 : Memref sig .tc .vmem S225x512 .fp8e4m3) (harg9 : arg9.IsWhole) (hc0 : k0_cond1 i = 1#1)
    (x0 : Vec F S2x512 .f32) (x1 : Vec F S1x512 .f32) (x2 : Vec F S4x512 .fp8e4m3) (x3 : Vec F S4x1 .f32) (x4 : Vec F S225x1 .f32) (x5 : Vec F S225x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (relOut x0 x1 x2 x3 x4 x5) ∗ owns (c : Thread nD τ) arg9 fullShare (codesOut x0 x1 x5)) -∗ K ⟨⟩))
      ⊢ wp frame (wpE (defs₀ (F := F)) Variants.none c none) E (cc0_window_attention i arg2 harg2 arg3 harg3 arg4 harg4 arg5 harg5 arg6 harg6 arg7 harg7 arg8 harg8 arg9 harg9) K := by
  simp only [cc0_window_attention_eq_skeleton]; unfold cc0_window_attention_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rel _)
  iexists _; isplitr
  swap; · iexact H7
  ipureintro
  exact View.read_writes_eq_canon _ _ _ (cover_codes _)

set_option maxHeartbeats 1000000 in
/-- Every other point: nothing is touched. -/
theorem run_other (c : Dev nD) (i : grid0.Coords) (arg2 : Memref sig .tc .vmem S2x512 .f32) (harg2 : arg2.IsWhole) (arg3 : Memref sig .tc .vmem S1x512 .f32) (harg3 : arg3.IsWhole) (arg4 : Memref sig .tc .vmem S4x512 .fp8e4m3) (harg4 : arg4.IsWhole) (arg5 : Memref sig .tc .vmem S4x1 .f32) (harg5 : arg5.IsWhole) (arg6 : Memref sig .tc .vmem S225x1 .f32) (harg6 : arg6.IsWhole) (arg7 : Memref sig .tc .vmem S225x1 .f32) (harg7 : arg7.IsWhole) (arg8 : Memref sig .tc .vmem S4x225 .f32) (harg8 : arg8.IsWhole) (arg9 : Memref sig .tc .vmem S225x512 .fp8e4m3) (harg9 : arg9.IsWhole) (hc0 : ¬k0_cond1 i = 1#1)
    (P : sProp 𝕄) (E : Set ℕ) (K : PUnit → sProp 𝕄) :
    iprop(P ∗ (P -∗ K ⟨⟩))
      ⊢ wp frame (wpE (defs₀ (F := F)) Variants.none c none) E (cc0_window_attention i arg2 harg2 arg3 harg3 arg4 harg4 arg5 harg5 arg6 harg6 arg7 harg7 arg8 harg8 arg9 harg9) K := by
  simp only [cc0_window_attention_eq_skeleton]; unfold cc0_window_attention_skel
  iintro ⟨H, Hk⟩
  sl_exec (disch := first | sl_exact hc0)
  sl_step
  iapply Hk
  iexact H

end Cert.Table.Hand

end
-- ==== Proof.TableKernelFrame.lean ====
/- The table kernel's launch, in its own arithmetic: the pipeline's proof data (both outputs hold from the first point on what the first point computes), the
   body's obligation at every point, and the frame. -/
module

public import proofs.«01_k».proof.Proof.TableKernelRun
public import proofs.«01_k».proof.Proof.Gen.Table.Skeleton
public import Idealize.ShloMosaic.Lib.Pipeline.CanonAppend
public import Idealize.ShloMosaic.Lib.Pipeline.TableIdle
public import Idealize.ShloMosaic.Lib.Claim

@[expose] public section

set_option maxRecDepth 16384

noncomputable section

namespace Cert.Table.Hand

open Cert.Table Cert.Table.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The first grid point. -/
abbrev p0 : Fin cfg0.N := (t0_0 : Fin grid0.N)

/-- The bias table, from the input blocks of the first point. -/
def relV (c : Dev nD) : Vec F S4x225 .f32 := relOut (iblk m c 0 p0) (iblk m c 1 p0) (iblk m c 2 p0) (iblk m c 3 p0) (iblk m c 4 p0) (iblk m c 5 p0)

/-- The codes, from the input blocks of the first point. -/
def codesV (c : Dev nD) : Vec F S225x512 .fp8e4m3 := codesOut (iblk m c 0 p0) (iblk m c 1 p0) (iblk m c 5 p0)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => relV m c
    | ⟨7, _⟩ => codesV m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = relV m c := by dsimp only [dats]
theorem after0_7 (c : Dev nD) (t : Fin cfg0.N) : (dats m 0 c).after 7 t = codesV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body's condition holds at the first point only. -/
theorem hcond : ∀ t : Fin cfg0.N, k0_cond1 (grid0.coords t) = 1#1 ↔ t.val = 0 :=
  (fun t => by
    have ht : t.val < 12 := Nat.lt_of_lt_of_eq t.isLt N_0
    have e0 : (grid0.coords t 0).val = t.val / 2 % 6 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val = 0)

/-- Window 6 is idle at every point but the first. -/
theorem idle6 (t : Fin cfg0.N) : cfg0.idle 6 (grid0.coords t) = !decide (t.val = 0) := by
  show (!(k0_cond1 (grid0.coords t) == 1#1)) = _
  congr 1
  rw [Bool.eq_iff_iff, beq_iff_eq, decide_eq_true_iff]
  exact hcond t

/-- Its buffer is as the region found it before the first point only. -/
theorem fresh6 : ∀ n, n ≤ cfg0.N → cfg0.fresh 6 n = decide (n = 0 ∨ n = 12) :=
  Pipeline.Cfg.fresh_tab cfg0 6 (fun n => decide (n = 0 ∨ n = 12)) rfl (fun t => by
    rw [idle6 t]
    have ht : t.val < 12 := Nat.lt_of_lt_of_eq t.isLt N_0
    have hf := flush0_6 t
    cases h : (cfg0.win 6).flush t
    · have : ¬ t.val % 12 = 11 := fun h' => by rw [h] at hf; exact absurd (hf.mpr h') Bool.false_ne_true
      simp only [Bool.false_or]
      by_cases h0 : t.val = 0
      · simp [h0]
      · simp [h0]; omega
    · have := hf.mp h
      simp only [Bool.true_or]
      simp; omega)

/-- After the first point its buffer holds what the first point computed. -/
theorem before0_6 (c : Dev nD) (t : Fin cfg0.N) (h0 : t.val ≠ 0) (d) : (dats m 0 c).before 6 t d = (dats m 0 c).after 6 t := by
  have ht : t.val < 12 := Nat.lt_of_lt_of_eq t.isLt N_0
  rw [(dats m 0 c).before_out_traj 6 rfl (fun _ _ => rfl) (fun t _ _ _ => by rw [after0_6, after0_6]) t.val t rfl d,
    fresh6 t.val (Nat.le_of_lt t.isLt), after0_6, after0_6, if_neg]
  simp only [decide_eq_true_iff]; omega

/-- What the body leaves in its buffer, at every point. -/
theorem leaves6 (c : Dev nD) (t : Fin cfg0.N) :
    owns (c : Thread nD τ) (st0_6 t) fullShare ((dats m 0 c).after 6 t) ⊢ ((dats m 0 c).leavesExact 6 t : sProp 𝕄) := by
  unfold Dat.leavesExact
  rw [idle6 t]
  by_cases h0 : t.val = 0
  · rw [decide_eq_true h0]; exact .rfl
  · rw [decide_eq_false h0]
    cases (cfg0.win 6).flush t
    · rw [← before0_6 m c t h0 ((dats m 0 c).after 6 t)]
      show _ ⊢ iprop(∃ d, _)
      iintro H
      iexists _
      iexact H
    · exact .rfl

/-- Window 7 is idle at every point but the first. -/
theorem idle7 (t : Fin cfg0.N) : cfg0.idle 7 (grid0.coords t) = !decide (t.val = 0) := by
  show (!(k0_cond1 (grid0.coords t) == 1#1)) = _
  congr 1
  rw [Bool.eq_iff_iff, beq_iff_eq, decide_eq_true_iff]
  exact hcond t

/-- Its buffer is as the region found it before the first point only. -/
theorem fresh7 : ∀ n, n ≤ cfg0.N → cfg0.fresh 7 n = decide (n = 0 ∨ n = 12) :=
  Pipeline.Cfg.fresh_tab cfg0 7 (fun n => decide (n = 0 ∨ n = 12)) rfl (fun t => by
    rw [idle7 t]
    have ht : t.val < 12 := Nat.lt_of_lt_of_eq t.isLt N_0
    have hf := flush0_7 t
    cases h : (cfg0.win 7).flush t
    · have : ¬ t.val % 12 = 11 := fun h' => by rw [h] at hf; exact absurd (hf.mpr h') Bool.false_ne_true
      simp only [Bool.false_or]
      by_cases h0 : t.val = 0
      · simp [h0]
      · simp [h0]; omega
    · have := hf.mp h
      simp only [Bool.true_or]
      simp; omega)

/-- After the first point its buffer holds what the first point computed. -/
theorem before0_7 (c : Dev nD) (t : Fin cfg0.N) (h0 : t.val ≠ 0) (d) : (dats m 0 c).before 7 t d = (dats m 0 c).after 7 t := by
  have ht : t.val < 12 := Nat.lt_of_lt_of_eq t.isLt N_0
  rw [(dats m 0 c).before_out_traj 7 rfl (fun _ _ => rfl) (fun t _ _ _ => by rw [after0_7, after0_7]) t.val t rfl d,
    fresh7 t.val (Nat.le_of_lt t.isLt), after0_7, after0_7, if_neg]
  simp only [decide_eq_true_iff]; omega

/-- What the body leaves in its buffer, at every point. -/
theorem leaves7 (c : Dev nD) (t : Fin cfg0.N) :
    owns (c : Thread nD τ) (st0_7 t) fullShare ((dats m 0 c).after 7 t) ⊢ ((dats m 0 c).leavesExact 7 t : sProp 𝕄) := by
  unfold Dat.leavesExact
  rw [idle7 t]
  by_cases h0 : t.val = 0
  · rw [decide_eq_true h0]; exact .rfl
  · rw [decide_eq_false h0]
    cases (cfg0.win 7).flush t
    · rw [← before0_7 m c t h0 ((dats m 0 c).after 7 t)]
      show _ ⊢ iprop(∃ d, _)
      iintro H
      iexists _
      iexact H
    · exact .rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = p0 := Fin.ext h0
    unfold bodyPre bodyPost bodyAt0
    simp only [before0_0, before0_1, before0_2, before0_3, before0_4, before0_5]
    rw [show (dats m 0 c).Φ (p0 : Fin cfg0.N).succ = (dats m 0 c).Φ (p0 : Fin cfg0.N).castSucc from rfl,
      show (dats m 0 c).owesAt () (p0 : Fin cfg0.N).succ = (dats m 0 c).owesAt () (p0 : Fin cfg0.N).castSucc from rfl,
      after0_0, after0_1, after0_2, after0_3, after0_4, after0_5, after0_6, after0_7]
    unfold relV codesV
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply run_first c (grid0.coords p0) _ _ _ _ _ _ _ _ _ _ _ _ _ _ _ _ ((hcond p0).mpr rfl) (iblk m c 0 p0) (iblk m c 1 p0) (iblk m c 2 p0) (iblk m c 3 p0) (iblk m c 4 p0) (iblk m c 5 p0) Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hpp : bodyPre m c t ⊢ bodyPost m c t := by
      unfold bodyPre bodyPost
      simp only [before0_0, before0_1, before0_2, before0_3, before0_4, before0_5, before0_6 m c t h0, before0_7 m c t h0]
      rw [show (dats m 0 c).Φ t.succ = (dats m 0 c).Φ t.castSucc from rfl,
        show (dats m 0 c).owesAt () t.succ = (dats m 0 c).owesAt () t.castSucc from rfl,
        after0_0, after0_1, after0_2, after0_3, after0_4, after0_5]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    refine hpp.trans ?_
    unfold bodyAt0
    iintro H
    iapply run_other c (grid0.coords t) _ _ _ _ _ _ _ _ _ _ _ _ _ _ _ _ (fun h => h0 ((hcond t).mp h)) (bodyPost m c t) Set.univ _
    isplitl [H]; · iexact H
    iintro H
    iexact H

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body returns is what the library's obligation asks. -/
theorem post_leaves (c : Dev nD) (t : Fin cfg0.N) : bodyPost m c t ⊢
    iprop((dats m 0 c).Φ t.succ ∗ (dats m 0 c).owesAt () t.succ
    ∗ (owns (c : Thread nD τ) (st0_0 t) fullShare ((dats m 0 c).after 0 t) : sProp 𝕄)
    ∗ (owns (c : Thread nD τ) (st0_1 t) fullShare ((dats m 0 c).after 1 t) : sProp 𝕄)
    ∗ (owns (c : Thread nD τ) (st0_2 t) fullShare ((dats m 0 c).after 2 t) : sProp 𝕄)
    ∗ (owns (c : Thread nD τ) (st0_3 t) fullShare ((dats m 0 c).after 3 t) : sProp 𝕄)
    ∗ (owns (c : Thread nD τ) (st0_4 t) fullShare ((dats m 0 c).after 4 t) : sProp 𝕄)
    ∗ (owns (c : Thread nD τ) (st0_5 t) fullShare ((dats m 0 c).after 5 t) : sProp 𝕄)
    ∗ (dats m 0 c).leavesExact 6 t ∗ (dats m 0 c).leavesExact 7 t) := by
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply leaves6 m c t; iexact H6
  iapply leaves7 m c t; iexact H7

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

/-! ## The run and the frame -/

-- `θ_run_frame`'s implicit arguments are found by unifying its conclusion with this one, which takes unfolding plain
-- definitions in a metavariable's type
set_option backward.isDefEq.respectTransparency.types false in
/-- The launch: the arrays at the proof data's contents, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the pipeline ends at what the proof data give, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The kernel runs to its end, its argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Table.Hand

end
-- ==== Proof.TableRun.lean ====
/- The table kernel's body run at a grid point: at the first point it fills the codes and the bias table, at every other point it
   touches nothing. -/
module

public import proofs.«01_k».proof.Proof.Gen.TableIdeal.Frame
public import proofs.«01_k».proof.Proof.Gen.TableIdeal.Skeleton
public import Idealize.ShloMosaic.Lib.Pipeline.CanonAppend
public import Idealize.ShloMosaic.Lib.Pipeline.TableIdle
public import Idealize.ShloMosaic.Lib.Claim

@[expose] public section

set_option maxRecDepth 16384

noncomputable section

namespace Cert.TableIdeal.Hand

open Cert.TableIdeal Cert.TableIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev row0 : Rect S2x512 := Rect.unit (s := S2x512) ![0, 0] S1x512.size inb_S2x512_S1x512_0_0
abbrev row1 : Rect S2x512 := Rect.unit (s := S2x512) ![1, 0] S1x512.size inb_S2x512_S1x512_1_0
abbrev biasAll : Rect S1x512 := Rect.unit (s := S1x512) ![0, 0] S1x512.size inb_S1x512_S1x512_0_0
abbrev colAll : Rect S225x1 := Rect.unit (s := S225x1) ![0, 0] S225x1.size inb_S225x1_S225x1_0_0
abbrev w2All : Rect S4x512 := Rect.unit (s := S4x512) ![0, 0] S4x512.size inb_S4x512_S4x512_0_0
abbrev w2sAll : Rect S4x1 := Rect.unit (s := S4x1) ![0, 0] S4x1.size inb_S4x1_S4x1_0_0
abbrev relAll : Rect S4x225 := Rect.unit (s := S4x225) ![0, 0] S4x225.size inb_S4x225_S4x225_0_0
abbrev codesAll : Rect S225x512 := Rect.unit (s := S225x512) ![0, 0] S225x512.size inb_S225x512_S225x512_0_0

/-- The codes that the first point computes from its input blocks. -/
def codesPay (x0 : Vec F S2x512 .f32) (x1 : Vec F S1x512 .f32) (x5 : Vec F S225x1 .f32) : Vec F S225x512 .fp8e4m3 :=
  k0_pay8 (k0_pay4 (F := F)) (k0_pay5 (F := F)) (k0_pay6 (F := F)) (Scalar.ofBits .f32 0x3FB8AA3B#32) (View.ld x0 row0) (View.ld x0 row1) (View.ld x1 biasAll) (View.ld x5 colAll)

/-- The bias table that the first point computes from its input blocks. -/
def relPay (x0 : Vec F S2x512 .f32) (x1 : Vec F S1x512 .f32) (x2 : Vec F S4x512 .fp8e4m3) (x3 : Vec F S4x1 .f32) (x4 : Vec F S225x1 .f32) (x5 : Vec F S225x1 .f32) : Vec F S4x225 .f32 :=
  k0_pay1 (k0_pay7 (View.ld x4 colAll)) (codesPay x0 x1 x5) (View.ld x2 w2All) (View.ld x3 w2sAll)

/-- The codes' buffer after the first point. -/
def codesOut (x0 : Vec F S2x512 .f32) (x1 : Vec F S1x512 .f32) (x5 : Vec F S225x1 .f32) : Vec F S225x512 .fp8e4m3 :=
  View.canon [⟨codesAll, codesPay x0 x1 x5⟩]

/-- The table's buffer after the first point. -/
def relOut (x0 : Vec F S2x512 .f32) (x1 : Vec F S1x512 .f32) (x2 : Vec F S4x512 .fp8e4m3) (x3 : Vec F S4x1 .f32) (x4 : Vec F S225x1 .f32) (x5 : Vec F S225x1 .f32) : Vec F S4x225 .f32 :=
  View.canon [⟨relAll, relPay x0 x1 x2 x3 x4 x5⟩]

theorem cover_rel (p0 : Vec F S4x225 .f32) (y : S4x225.Idx) :
    ∃ pc ∈ ([⟨relAll, p0⟩] : List (View.Piece (Elt F) S4x225 .f32)), y ∈ pc.1.set :=
  View.cover_of_tiled [⟨relAll, p0⟩] S4x225.size (by rfl) y

theorem cover_codes (p0 : Vec F S225x512 .fp8e4m3) (y : S225x512.Idx) :
    ∃ pc ∈ ([⟨codesAll, p0⟩] : List (View.Piece (Elt F) S225x512 .fp8e4m3)), y ∈ pc.1.set :=
  View.cover_of_tiled [⟨codesAll, p0⟩] S225x512.size (by rfl) y

set_option maxHeartbeats 1000000 in
/-- The first point: both outputs are filled. -/
theorem run_first (c : Dev nD) (i : grid0.Coords) (arg2 : Memref sig .tc .vmem S2x512 .f32) (harg2 : arg2.IsWhole) (arg3 : Memref sig .tc .vmem S1x512 .f32) (harg3 : arg3.IsWhole) (arg4 : Memref sig .tc .vmem S4x512 .fp8e4m3) (harg4 : arg4.IsWhole) (arg5 : Memref sig .tc .vmem S4x1 .f32) (harg5 : arg5.IsWhole) (arg6 : Memref sig .tc .vmem S225x1 .f32) (harg6 : arg6.IsWhole) (arg7 : Memref sig .tc .vmem S225x1 .f32) (harg7 : arg7.IsWhole) (arg8 : Memref sig .tc .vmem S4x225 .f32) (harg8 : arg8.IsWhole) (arg9 : Memref sig .tc .vmem S225x512 .fp8e4m3) (harg9 : arg9.IsWhole) (hc0 : k0_cond1 i = 1#1)
    (x0 : Vec F S2x512 .f32) (x1 : Vec F S1x512 .f32) (x2 : Vec F S4x512 .fp8e4m3) (x3 : Vec F S4x1 .f32) (x4 : Vec F S225x1 .f32) (x5 : Vec F S225x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (relOut x0 x1 x2 x3 x4 x5) ∗ owns (c : Thread nD τ) arg9 fullShare (codesOut x0 x1 x5)) -∗ K ⟨⟩))
      ⊢ wp frame (wpE (defs₀ (F := F)) Variants.none c none) E (cc0_window_attention i arg2 harg2 arg3 harg3 arg4 harg4 arg5 harg5 arg6 harg6 arg7 harg7 arg8 harg8 arg9 harg9) K := by
  simp only [cc0_window_attention_eq_skeleton]; unfold cc0_window_attention_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rel _)
  iexists _; isplitr
  swap; · iexact H7
  ipureintro
  exact View.read_writes_eq_canon _ _ _ (cover_codes _)

set_option maxHeartbeats 1000000 in
/-- Every other point: nothing is touched. -/
theorem run_other (c : Dev nD) (i : grid0.Coords) (arg2 : Memref sig .tc .vmem S2x512 .f32) (harg2 : arg2.IsWhole) (arg3 : Memref sig .tc .vmem S1x512 .f32) (harg3 : arg3.IsWhole) (arg4 : Memref sig .tc .vmem S4x512 .fp8e4m3) (harg4 : arg4.IsWhole) (arg5 : Memref sig .tc .vmem S4x1 .f32) (harg5 : arg5.IsWhole) (arg6 : Memref sig .tc .vmem S225x1 .f32) (harg6 : arg6.IsWhole) (arg7 : Memref sig .tc .vmem S225x1 .f32) (harg7 : arg7.IsWhole) (arg8 : Memref sig .tc .vmem S4x225 .f32) (harg8 : arg8.IsWhole) (arg9 : Memref sig .tc .vmem S225x512 .fp8e4m3) (harg9 : arg9.IsWhole) (hc0 : ¬k0_cond1 i = 1#1)
    (P : sProp 𝕄) (E : Set ℕ) (K : PUnit → sProp 𝕄) :
    iprop(P ∗ (P -∗ K ⟨⟩))
      ⊢ wp frame (wpE (defs₀ (F := F)) Variants.none c none) E (cc0_window_attention i arg2 harg2 arg3 harg3 arg4 harg4 arg5 harg5 arg6 harg6 arg7 harg7 arg8 harg8 arg9 harg9) K := by
  simp only [cc0_window_attention_eq_skeleton]; unfold cc0_window_attention_skel
  iintro ⟨H, Hk⟩
  sl_exec (disch := first | sl_exact hc0)
  sl_step
  iapply Hk
  iexact H

end Cert.TableIdeal.Hand

end
-- ==== Proof.TableFrame.lean ====
/- The table kernel's launch: the pipeline's proof data (both outputs hold from the first point on what the first point computes), the
   body's obligation at every point, and the frame. -/
module

public import proofs.«01_k».proof.Proof.TableRun
public import proofs.«01_k».proof.Proof.Gen.TableIdeal.Skeleton
public import Idealize.ShloMosaic.Lib.Pipeline.CanonAppend
public import Idealize.ShloMosaic.Lib.Pipeline.TableIdle
public import Idealize.ShloMosaic.Lib.Claim

@[expose] public section

set_option maxRecDepth 16384

noncomputable section

namespace Cert.TableIdeal.Hand

open Cert.TableIdeal Cert.TableIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev p0 : Fin cfg0.N := (t0_0 : Fin grid0.N)

/-- The bias table, from the input blocks of the first point. -/
def relV (c : Dev nD) : Vec F S4x225 .f32 := relOut (iblk m c 0 p0) (iblk m c 1 p0) (iblk m c 2 p0) (iblk m c 3 p0) (iblk m c 4 p0) (iblk m c 5 p0)

/-- The codes, from the input blocks of the first point. -/
def codesV (c : Dev nD) : Vec F S225x512 .fp8e4m3 := codesOut (iblk m c 0 p0) (iblk m c 1 p0) (iblk m c 5 p0)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => relV m c
    | ⟨7, _⟩ => codesV m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = relV m c := by dsimp only [dats]
theorem after0_7 (c : Dev nD) (t : Fin cfg0.N) : (dats m 0 c).after 7 t = codesV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body's condition holds at the first point only. -/
theorem hcond : ∀ t : Fin cfg0.N, k0_cond1 (grid0.coords t) = 1#1 ↔ t.val = 0 :=
  (fun t => by
    have ht : t.val < 12 := Nat.lt_of_lt_of_eq t.isLt N_0
    have e0 : (grid0.coords t 0).val = t.val / 2 % 6 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val = 0)

/-- Window 6 is idle at every point but the first. -/
theorem idle6 (t : Fin cfg0.N) : cfg0.idle 6 (grid0.coords t) = !decide (t.val = 0) := by
  show (!(k0_cond1 (grid0.coords t) == 1#1)) = _
  congr 1
  rw [Bool.eq_iff_iff, beq_iff_eq, decide_eq_true_iff]
  exact hcond t

/-- Its buffer is as the region found it before the first point only. -/
theorem fresh6 : ∀ n, n ≤ cfg0.N → cfg0.fresh 6 n = decide (n = 0 ∨ n = 12) :=
  Pipeline.Cfg.fresh_tab cfg0 6 (fun n => decide (n = 0 ∨ n = 12)) rfl (fun t => by
    rw [idle6 t]
    have ht : t.val < 12 := Nat.lt_of_lt_of_eq t.isLt N_0
    have hf := flush0_6 t
    cases h : (cfg0.win 6).flush t
    · have : ¬ t.val % 12 = 11 := fun h' => by rw [h] at hf; exact absurd (hf.mpr h') Bool.false_ne_true
      simp only [Bool.false_or]
      by_cases h0 : t.val = 0
      · simp [h0]
      · simp [h0]; omega
    · have := hf.mp h
      simp only [Bool.true_or]
      simp; omega)

/-- After the first point its buffer holds what the first point computed. -/
theorem before0_6 (c : Dev nD) (t : Fin cfg0.N) (h0 : t.val ≠ 0) (d) : (dats m 0 c).before 6 t d = (dats m 0 c).after 6 t := by
  have ht : t.val < 12 := Nat.lt_of_lt_of_eq t.isLt N_0
  rw [(dats m 0 c).before_out_traj 6 rfl (fun _ _ => rfl) (fun t _ _ _ => by rw [after0_6, after0_6]) t.val t rfl d,
    fresh6 t.val (Nat.le_of_lt t.isLt), after0_6, after0_6, if_neg]
  simp only [decide_eq_true_iff]; omega

/-- What the body leaves in its buffer, at every point. -/
theorem leaves6 (c : Dev nD) (t : Fin cfg0.N) :
    owns (c : Thread nD τ) (st0_6 t) fullShare ((dats m 0 c).after 6 t) ⊢ ((dats m 0 c).leavesExact 6 t : sProp 𝕄) := by
  unfold Dat.leavesExact
  rw [idle6 t]
  by_cases h0 : t.val = 0
  · rw [decide_eq_true h0]; exact .rfl
  · rw [decide_eq_false h0]
    cases (cfg0.win 6).flush t
    · rw [← before0_6 m c t h0 ((dats m 0 c).after 6 t)]
      show _ ⊢ iprop(∃ d, _)
      iintro H
      iexists _
      iexact H
    · exact .rfl

/-- Window 7 is idle at every point but the first. -/
theorem idle7 (t : Fin cfg0.N) : cfg0.idle 7 (grid0.coords t) = !decide (t.val = 0) := by
  show (!(k0_cond1 (grid0.coords t) == 1#1)) = _
  congr 1
  rw [Bool.eq_iff_iff, beq_iff_eq, decide_eq_true_iff]
  exact hcond t

/-- Its buffer is as the region found it before the first point only. -/
theorem fresh7 : ∀ n, n ≤ cfg0.N → cfg0.fresh 7 n = decide (n = 0 ∨ n = 12) :=
  Pipeline.Cfg.fresh_tab cfg0 7 (fun n => decide (n = 0 ∨ n = 12)) rfl (fun t => by
    rw [idle7 t]
    have ht : t.val < 12 := Nat.lt_of_lt_of_eq t.isLt N_0
    have hf := flush0_7 t
    cases h : (cfg0.win 7).flush t
    · have : ¬ t.val % 12 = 11 := fun h' => by rw [h] at hf; exact absurd (hf.mpr h') Bool.false_ne_true
      simp only [Bool.false_or]
      by_cases h0 : t.val = 0
      · simp [h0]
      · simp [h0]; omega
    · have := hf.mp h
      simp only [Bool.true_or]
      simp; omega)

/-- After the first point its buffer holds what the first point computed. -/
theorem before0_7 (c : Dev nD) (t : Fin cfg0.N) (h0 : t.val ≠ 0) (d) : (dats m 0 c).before 7 t d = (dats m 0 c).after 7 t := by
  have ht : t.val < 12 := Nat.lt_of_lt_of_eq t.isLt N_0
  rw [(dats m 0 c).before_out_traj 7 rfl (fun _ _ => rfl) (fun t _ _ _ => by rw [after0_7, after0_7]) t.val t rfl d,
    fresh7 t.val (Nat.le_of_lt t.isLt), after0_7, after0_7, if_neg]
  simp only [decide_eq_true_iff]; omega

/-- What the body leaves in its buffer, at every point. -/
theorem leaves7 (c : Dev nD) (t : Fin cfg0.N) :
    owns (c : Thread nD τ) (st0_7 t) fullShare ((dats m 0 c).after 7 t) ⊢ ((dats m 0 c).leavesExact 7 t : sProp 𝕄) := by
  unfold Dat.leavesExact
  rw [idle7 t]
  by_cases h0 : t.val = 0
  · rw [decide_eq_true h0]; exact .rfl
  · rw [decide_eq_false h0]
    cases (cfg0.win 7).flush t
    · rw [← before0_7 m c t h0 ((dats m 0 c).after 7 t)]
      show _ ⊢ iprop(∃ d, _)
      iintro H
      iexists _
      iexact H
    · exact .rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = p0 := Fin.ext h0
    unfold bodyPre bodyPost bodyAt0
    simp only [before0_0, before0_1, before0_2, before0_3, before0_4, before0_5]
    rw [show (dats m 0 c).Φ (p0 : Fin cfg0.N).succ = (dats m 0 c).Φ (p0 : Fin cfg0.N).castSucc from rfl,
      show (dats m 0 c).owesAt () (p0 : Fin cfg0.N).succ = (dats m 0 c).owesAt () (p0 : Fin cfg0.N).castSucc from rfl,
      after0_0, after0_1, after0_2, after0_3, after0_4, after0_5, after0_6, after0_7]
    unfold relV codesV
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply run_first c (grid0.coords p0) _ _ _ _ _ _ _ _ _ _ _ _ _ _ _ _ ((hcond p0).mpr rfl) (iblk m c 0 p0) (iblk m c 1 p0) (iblk m c 2 p0) (iblk m c 3 p0) (iblk m c 4 p0) (iblk m c 5 p0) Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hpp : bodyPre m c t ⊢ bodyPost m c t := by
      unfold bodyPre bodyPost
      simp only [before0_0, before0_1, before0_2, before0_3, before0_4, before0_5, before0_6 m c t h0, before0_7 m c t h0]
      rw [show (dats m 0 c).Φ t.succ = (dats m 0 c).Φ t.castSucc from rfl,
        show (dats m 0 c).owesAt () t.succ = (dats m 0 c).owesAt () t.castSucc from rfl,
        after0_0, after0_1, after0_2, after0_3, after0_4, after0_5]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    refine hpp.trans ?_
    unfold bodyAt0
    iintro H
    iapply run_other c (grid0.coords t) _ _ _ _ _ _ _ _ _ _ _ _ _ _ _ _ (fun h => h0 ((hcond t).mp h)) (bodyPost m c t) Set.univ _
    isplitl [H]; · iexact H
    iintro H
    iexact H

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body returns is what the library's obligation asks. -/
theorem post_leaves (c : Dev nD) (t : Fin cfg0.N) : bodyPost m c t ⊢
    iprop((dats m 0 c).Φ t.succ ∗ (dats m 0 c).owesAt () t.succ
    ∗ (owns (c : Thread nD τ) (st0_0 t) fullShare ((dats m 0 c).after 0 t) : sProp 𝕄)
    ∗ (owns (c : Thread nD τ) (st0_1 t) fullShare ((dats m 0 c).after 1 t) : sProp 𝕄)
    ∗ (owns (c : Thread nD τ) (st0_2 t) fullShare ((dats m 0 c).after 2 t) : sProp 𝕄)
    ∗ (owns (c : Thread nD τ) (st0_3 t) fullShare ((dats m 0 c).after 3 t) : sProp 𝕄)
    ∗ (owns (c : Thread nD τ) (st0_4 t) fullShare ((dats m 0 c).after 4 t) : sProp 𝕄)
    ∗ (owns (c : Thread nD τ) (st0_5 t) fullShare ((dats m 0 c).after 5 t) : sProp 𝕄)
    ∗ (dats m 0 c).leavesExact 6 t ∗ (dats m 0 c).leavesExact 7 t) := by
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply leaves6 m c t; iexact H6
  iapply leaves7 m c t; iexact H7

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

/-! ## The run and the frame -/

-- `θ_run_frame`'s implicit arguments are found by unifying its conclusion with this one, which takes unfolding plain
-- definitions in a metavariable's type
set_option backward.isDefEq.respectTransparency.types false in
/-- The launch: the arrays at the proof data's contents, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the pipeline ends at what the proof data give, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The kernel runs to its end, its argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.TableIdeal.Hand

end
-- ==== Proof.TableRead.lean ====
/- The table kernel's payloads read at an index, and the arithmetic of the coordinates: the rows of a table of 225 displacements, as the
   kernel divides them out, and the log-spaced coordinate of a displacement. -/
module

public import proofs.«01_k».proof.Proof.TableFrame
public import Idealize.ShloMosaic.Lib.Pipeline.Value
public import Idealize.ShloMosaic.Lib.Pipeline.ValueKit.Geometry
public import Idealize.ShloMosaic.Lib.Claim
public import Idealize.ShloMosaic.Lib.Pointwise

@[expose] public section

set_option maxRecDepth 16384

noncomputable section

namespace Cert.TableIdeal.Hand

open Cert.TableIdeal Cert.TableIdeal.Gen
open Idealize.ShloMosaic Idealize.ShloMosaic.TcCoe Idealize.SL.Sem

/-- The log-spaced coordinate of a displacement: its sign times the logarithm of its size, in units of three octaves. -/
def coord (d : EReal) : EReal :=
  Ideal.div (Ideal.sign d * (Ideal.log (1 + Ideal.div (Ideal.ofBits FTy.f32 0x41000000#32 * FloatOps.absf (F := Ideal) (φ := .f32) d) (Ideal.ofBits FTy.f32 0x40E00000#32))
    * Ideal.ofBits FTy.f32 0x3FB8AA3B#32)) (Ideal.ofBits FTy.f32 0x40400000#32)

/-- The displacement numbered `k` along an axis. -/
def disp (k : ℕ) : EReal := Ideal.ofBits FTy.f32 0xC0E00000#32 + (((k : ℕ) : ℝ) : EReal)

theorem bits_half : Ideal.ofBits FTy.f32 0x3F000000#32 = ((1 / 2 : ℝ) : EReal) := by
  simp [Ideal.ofBits, Ideal.ieee, -EReal.coe_mul, -EReal.coe_neg]; norm_num
theorem bits_fifteenth : Ideal.ofBits FTy.f32 0x3D888889#32 = ((8947849 / 134217728 : ℝ) : EReal) := by
  simp [Ideal.ofBits, Ideal.ieee, -EReal.coe_mul, -EReal.coe_neg]; norm_num
theorem bits_fifteen : Ideal.ofBits FTy.f32 0x41700000#32 = ((15 : ℝ) : EReal) := by
  simp [Ideal.ofBits, Ideal.ieee, -EReal.coe_mul, -EReal.coe_neg]; norm_num
theorem bits_seven : Ideal.ofBits FTy.f32 0x40E00000#32 = ((7 : ℝ) : EReal) := by
  simp [Ideal.ofBits, Ideal.ieee, -EReal.coe_mul, -EReal.coe_neg]; norm_num
theorem bits_seven_neg : Ideal.ofBits FTy.f32 0xC0E00000#32 = ((-7 : ℝ) : EReal) := by
  simp [Ideal.ofBits, Ideal.ieee, -EReal.coe_mul, -EReal.coe_neg]; norm_num
theorem bits_one_neg : Ideal.ofBits FTy.f32 0xBF800000#32 = ((-1 : ℝ) : EReal) := by
  simp [Ideal.ofBits, Ideal.ieee, -EReal.coe_mul, -EReal.coe_neg]; norm_num
theorem bits_three : Ideal.ofBits FTy.f32 0x40400000#32 = ((3 : ℝ) : EReal) := by
  simp [Ideal.ofBits, Ideal.ieee, -EReal.coe_mul, -EReal.coe_neg]; norm_num

/-- A quotient by a nonzero number is a product. -/
theorem div_of_ne {x y : EReal} (h : y ≠ 0) : Ideal.div x y = x * y⁻¹ := if_neg h

theorem three_ne : Ideal.ofBits FTy.f32 0x40400000#32 ≠ 0 := by
  rw [bits_three]; exact_mod_cast (by norm_num : (3 : ℝ) ≠ 0)

/-- The kernel's sign of a displacement, by comparisons, is its sign. -/
theorem sign_eq (d : EReal) : (if 0 < FloatOps.absf (F := Ideal) (φ := .f32) d then if d < 0 then Ideal.ofBits FTy.f32 0xBF800000#32 else 1 else d) = Ideal.sign d := by
  rw [Ideal.absf_def, bits_one_neg]
  induction d with
  | bot => simp
  | top => simp
  | coe r =>
    rw [Ideal.sign_coe]
    rcases lt_trichotomy r 0 with h | h | h
    · have h1 : (0 : EReal) < max (r : EReal) (-(r : EReal)) := by
        refine lt_max_of_lt_right ?_
        rw [← EReal.coe_neg]; exact_mod_cast (neg_pos.mpr h)
      have h2 : (r : EReal) < 0 := by exact_mod_cast h
      rw [if_pos h1, if_pos h2, sign_neg h]; simp
    · subst h; simp
    · have h1 : (0 : EReal) < max (r : EReal) (-(r : EReal)) := lt_max_of_lt_left (by exact_mod_cast h)
      have h2 : ¬ (r : EReal) < 0 := not_lt.mpr (by exact_mod_cast h.le)
      rw [if_pos h1, if_neg h2, sign_pos h]; simp

/-- The kernel's coordinate of a displacement is the coordinate. -/
theorem coord_eq (d : EReal) :
    (if 0 < FloatOps.absf (F := Ideal) (φ := .f32) d then if d < 0 then Ideal.ofBits FTy.f32 0xBF800000#32 else 1 else d)
      * Ideal.div (Ideal.log (1 + Ideal.div (Ideal.ofBits FTy.f32 0x41000000#32 * FloatOps.absf (F := Ideal) (φ := .f32) d) (Ideal.ofBits FTy.f32 0x40E00000#32))
          * Ideal.ofBits FTy.f32 0x3FB8AA3B#32) (Ideal.ofBits FTy.f32 0x40400000#32) = coord d := by
  rw [sign_eq]
  unfold coord
  rw [div_of_ne three_ne, div_of_ne three_ne, mul_assoc, mul_assoc, mul_assoc]

/-- The sixteenfold logistic, as the kernel computes it. -/
theorem sixteen_logistic (a x : EReal) : Ideal.div a (1 + Ideal.exp (0 - x)) = a * Ideal.logistic x := by
  have h : (1 : EReal) + Ideal.exp (-x) ≠ 0 := by
    refine ne_of_gt (lt_of_lt_of_le zero_lt_one ?_)
    refine le_add_of_nonneg_right ?_
    induction x with
    | bot => simp
    | top => simp
    | coe r => rw [← EReal.coe_neg]; rw [Ideal.exp_coe]; exact_mod_cast (Real.exp_pos (-r)).le
  unfold Ideal.logistic
  rw [zero_sub, div_of_ne h, div_of_ne h, one_mul]

/-- An index as a number. -/
theorem index_eq (n : ℕ) (h : n < 225) : FloatOps.sitofp (F := Ideal) FTy.f32 (BitVec.ofNat 32 n) = (((n : ℕ) : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]; omega
  rw [this]; simp

theorem pay2_apply (t : Fin 225) (l : Fin 128) : k0_pay2 (F := Ideal) (ix2 t l) = (((t.val : ℕ) : ℝ) : EReal) := by
  unfold k0_pay2
  pointwise
  exact index_eq _ t.isLt

/-- The row of a displacement. -/
theorem pay3_apply (t : Fin 225) (l : Fin 128) : k0_pay3 (F := Ideal) (ix2 t l) = (((t.val / 15 : ℕ) : ℝ) : EReal) := by
  unfold k0_pay3
  pointwise
  rw [pay2_apply, bits_half, bits_fifteenth, ← EReal.coe_add, ← EReal.coe_mul, Ideal.liftRound_coe]
  have hf : ⌊((t.val : ℝ) + 1 / 2) * (8947849 / 134217728)⌋ = ((t.val / 15 : ℕ) : ℤ) := by
    have h0 : t.val = 15 * (t.val / 15) + t.val % 15 := (Nat.div_add_mod _ _).symm
    have h1 : t.val / 15 ≤ 14 := by omega
    have h2 : t.val % 15 ≤ 14 := by omega
    generalize t.val / 15 = q at *
    generalize t.val % 15 = r at *
    have h0' : (t.val : ℝ) = 15 * q + r := by rw [h0]; push_cast; ring
    have h1' : (q : ℝ) ≤ 14 := by exact_mod_cast h1
    have h2' : (r : ℝ) ≤ 14 := by exact_mod_cast h2
    have h3' : (0 : ℝ) ≤ q := Nat.cast_nonneg q
    have h4' : (0 : ℝ) ≤ r := Nat.cast_nonneg r
    rw [Int.floor_eq_iff, h0']
    constructor
    · push_cast; linarith
    · push_cast; linarith
  rw [hf, Int.cast_natCast]

theorem pay4_apply (t : Fin 225) : k0_pay4 (F := Ideal) (ix2 t 0) = coord (disp (t.val / 15)) := by
  unfold k0_pay4
  pointwise
  have hd : k0_pay3 (F := Ideal) (ix2 t 0) - Ideal.ofBits FTy.f32 0x40E00000#32 = disp (t.val / 15) := by
    rw [pay3_apply, bits_seven]; unfold disp
    rw [bits_seven_neg, ← EReal.coe_sub, ← EReal.coe_add]; congr 1; ring
  rw [hd]
  exact coord_eq _

theorem pay5_apply (t : Fin 225) (l : Fin 128) : k0_pay5 (F := Ideal) (ix2 t l) = disp (t.val % 15) := by
  unfold k0_pay5
  pointwise
  rw [pay2_apply, pay3_apply, bits_fifteen, bits_seven]
  unfold disp
  rw [bits_seven_neg, ← EReal.coe_mul, ← EReal.coe_sub, ← EReal.coe_sub, ← EReal.coe_add]
  congr 1
  have h0 : t.val = 15 * (t.val / 15) + t.val % 15 := (Nat.div_add_mod _ _).symm
  have h0' : (t.val : ℝ) = 15 * (t.val / 15 : ℕ) + (t.val % 15 : ℕ) := by exact_mod_cast h0
  linarith

theorem pay6_apply (t : Fin 225) (l : Fin 128) : k0_pay6 (F := Ideal) (ix2 t l)
    = Ideal.log (1 + Ideal.div (Ideal.ofBits FTy.f32 0x41000000#32 * FloatOps.absf (F := Ideal) (φ := .f32) (disp (t.val % 15))) (Ideal.ofBits FTy.f32 0x40E00000#32)) := by
  unfold k0_pay6
  pointwise
  rw [pay5_apply]

theorem pay7_apply (v : Vec Ideal S225x1 .f32) (t : Fin 225) (l : Fin 128) : k0_pay7 (F := Ideal) v (ix2 t l) = v (ix2 t 0) := by
  unfold k0_pay7
  pointwise

/-- A code of the hidden layer, from its coordinates, weights, bias and the inverse of its scale. -/
def code (x y w0 w1 b s : EReal) : EReal :=
  min (Ideal.ofBits FTy.f32 0x43E00000#32) (max (Ideal.ofBits FTy.f32 0xC3E00000#32) (max (x * w0 + y * w1 + b) 0 * s))

theorem pay8_apply (v67 : Vec Ideal S1x512 .f32) (v71 : Vec Ideal S1x512 .f32) (v76 : Vec Ideal S1x512 .f32) (v86 : Vec Ideal S225x1 .f32)
    (t : Fin 225) (f : Fin 512) :
    k0_pay8 (F := Ideal) (k0_pay4 (F := Ideal)) (k0_pay5 (F := Ideal)) (k0_pay6 (F := Ideal)) (Scalar.ofBits .f32 0x3FB8AA3B#32) v67 v71 v76 v86 (ix2 t f)
      = code (coord (disp (t.val / 15))) (coord (disp (t.val % 15))) (v67 (ix2 0 f)) (v71 (ix2 0 f)) (v76 (ix2 0 f)) (v86 (ix2 t 0)) := by
  unfold k0_pay8
  pointwise
  rw [pay4_apply, pay5_apply, pay6_apply]
  unfold code
  rw [← coord_eq (disp (t.val % 15))]

theorem pay1_apply (v82 : Vec Ideal S225x1 .f32) (v94 : FVec Ideal S225x512 .fp8e4m3) (v106 : Vec Ideal S4x512 .fp8e4m3) (v111 : Vec Ideal S4x1 .f32)
    (h : Fin 4) (t : Fin 225) : k0_pay1 (F := Ideal) (k0_pay7 v82) v94 v106 v111 (ix2 h t)
      = Ideal.ofBits FTy.f32 0x41800000#32 * Ideal.logistic ((∑ x, v94 (ix2 t x) * v106 (ix2 h x)) * v82 (ix2 t 0) * v111 (ix2 h 0)) := by
  unfold k0_pay1
  pointwise
  rw [sixteen_logistic]
  have hv : (if h : t.val < 128 then k0_pay7 (F := Ideal) v82 (ix2 t 0)
      else if h_1 : 128 + (t.val - 128) < 225 then k0_pay7 (F := Ideal) v82 (ix2 ⟨128 + (t.val - 128), h_1⟩ 0) else 0) = v82 (ix2 t 0) := by
    by_cases h1 : t.val < 128
    · rw [dif_pos h1, pay7_apply]
    · have h2 : 128 + (t.val - 128) < 225 := by omega
      rw [dif_neg h1, dif_pos h2, pay7_apply]
      congr 2; exact Fin.ext (by show 128 + (t.val - 128) = t.val; omega)
  rw [hv]
  congr 4
  exact Finset.sum_congr rfl fun x _ => mul_comm _ _

variable (m : (ℓ : Loc nD τ sig) → Buf (Elt Ideal) ℓ) (c : Dev nD)

theorem V0_eq : V m c main_v0 = shapeCast S1x512 (m ((c : Thread nD τ).loc main_arg1) : FVec Ideal S512 .f32) shapeCasts_S512_S1x512 := by
  show StableHlo.after hostOps0 _ (Proc.devRef .tc main_v0) = _
  simp only [hostOps0, StableHlo.after_cons, StableHlo.after_nil]
  after_results_simp
  rfl
theorem V1_eq : V m c main_v1 = transpose S4x512 [1, 0] (m ((c : Thread nD τ).loc main_arg2) : FVec Ideal S512x4 .fp8e4m3) transposes_S512x4_S4x512_1_0 := by
  show StableHlo.after hostOps0 _ (Proc.devRef .tc main_v1) = _
  simp only [hostOps0, StableHlo.after_cons, StableHlo.after_nil]
  after_results_simp
theorem V2_eq : V m c main_v2 = shapeCast S4x1 (m ((c : Thread nD τ).loc main_arg3) : FVec Ideal S4 .f32) shapeCasts_S4_S4x1 := by
  show StableHlo.after hostOps0 _ (Proc.devRef .tc main_v2) = _
  simp only [hostOps0, StableHlo.after_cons, StableHlo.after_nil]
  after_results_simp
  rfl
theorem V3_eq : V m c main_v3 = shapeCast S225x1 (m ((c : Thread nD τ).loc main_arg4) : FVec Ideal S225 .f32) shapeCasts_S225_S225x1 := by
  show StableHlo.after hostOps0 _ (Proc.devRef .tc main_v3) = _
  simp only [hostOps0, StableHlo.after_cons, StableHlo.after_nil]
  after_results_simp
  rfl
theorem V4_eq : V m c main_v4 = shapeCast S225x1 (m ((c : Thread nD τ).loc main_arg5) : FVec Ideal S225 .f32) shapeCasts_S225_S225x1 := by
  show StableHlo.after hostOps0 _ (Proc.devRef .tc main_v4) = _
  simp only [hostOps0, StableHlo.after_cons, StableHlo.after_nil]
  after_results_simp
  rfl

/-- The blocks of the first point are the whole arrays. -/
theorem b0_apply (a : Fin 2) (f : Fin 512) : (iblk m c 0 p0 : Vec Ideal S2x512 .f32) (ix2 a f) = (m ((c : Thread nD τ).loc main_arg0) : FVec Ideal S2x512 .f32) (ix2 a f) := by
  refine Eq.trans ?_ (congrFun (V_main_arg0 m c) (ix2 a f))
  unfold iblk
  rw [View.read_apply]
  show V m c main_arg0 _ = V m c main_arg0 _
  refine congrArg (V m c main_arg0) ?_
  funext k; apply Fin.ext; fin_cases k <;> (simp; rfl)

theorem b1_apply (f : Fin 512) : (iblk m c 1 p0 : Vec Ideal S1x512 .f32) (ix2 0 f) = (m ((c : Thread nD τ).loc main_arg1) : FVec Ideal S512 .f32) (ix1 f) := by
  have h : (V m c main_v0 : FVec Ideal S1x512 .f32) (ix2 0 f) = (m ((c : Thread nD τ).loc main_arg1) : FVec Ideal S512 .f32) (ix1 f) := by
    rw [V0_eq]; pointwise
  refine Eq.trans ?_ h
  unfold iblk
  rw [View.read_apply]
  show V m c main_v0 _ = V m c main_v0 _
  refine congrArg (V m c main_v0) ?_
  funext k; apply Fin.ext; fin_cases k <;> (simp; rfl)

theorem b2_apply (h : Fin 4) (f : Fin 512) : (iblk m c 2 p0 : Vec Ideal S4x512 .fp8e4m3) (ix2 h f) = (m ((c : Thread nD τ).loc main_arg2) : FVec Ideal S512x4 .fp8e4m3) (ix2 f h) := by
  have h : (V m c main_v1 : FVec Ideal S4x512 .fp8e4m3) (ix2 h f) = (m ((c : Thread nD τ).loc main_arg2) : FVec Ideal S512x4 .fp8e4m3) (ix2 f h) := by
    rw [V1_eq]; pointwise
  refine Eq.trans ?_ h
  unfold iblk
  rw [View.read_apply]
  show V m c main_v1 _ = V m c main_v1 _
  refine congrArg (V m c main_v1) ?_
  funext k; apply Fin.ext; fin_cases k <;> (simp; rfl)

theorem b3_apply (h : Fin 4) : (iblk m c 3 p0 : Vec Ideal S4x1 .f32) (ix2 h 0) = (m ((c : Thread nD τ).loc main_arg3) : FVec Ideal S4 .f32) (ix1 h) := by
  have h : (V m c main_v2 : FVec Ideal S4x1 .f32) (ix2 h 0) = (m ((c : Thread nD τ).loc main_arg3) : FVec Ideal S4 .f32) (ix1 h) := by
    rw [V2_eq]; pointwise
  refine Eq.trans ?_ h
  unfold iblk
  rw [View.read_apply]
  show V m c main_v2 _ = V m c main_v2 _
  refine congrArg (V m c main_v2) ?_
  funext k; apply Fin.ext; fin_cases k <;> (simp; rfl)

theorem b4_apply (t : Fin 225) : (iblk m c 4 p0 : Vec Ideal S225x1 .f32) (ix2 t 0) = (m ((c : Thread nD τ).loc main_arg4) : FVec Ideal S225 .f32) (ix1 t) := by
  have h : (V m c main_v3 : FVec Ideal S225x1 .f32) (ix2 t 0) = (m ((c : Thread nD τ).loc main_arg4) : FVec Ideal S225 .f32) (ix1 t) := by
    rw [V3_eq]; pointwise
  refine Eq.trans ?_ h
  unfold iblk
  rw [View.read_apply]
  show V m c main_v3 _ = V m c main_v3 _
  refine congrArg (V m c main_v3) ?_
  funext k; apply Fin.ext; fin_cases k <;> (simp; rfl)

theorem b5_apply (t : Fin 225) : (iblk m c 5 p0 : Vec Ideal S225x1 .f32) (ix2 t 0) = (m ((c : Thread nD τ).loc main_arg5) : FVec Ideal S225 .f32) (ix1 t) := by
  have h : (V m c main_v4 : FVec Ideal S225x1 .f32) (ix2 t 0) = (m ((c : Thread nD τ).loc main_arg5) : FVec Ideal S225 .f32) (ix1 t) := by
    rw [V4_eq]; pointwise
  refine Eq.trans ?_ h
  unfold iblk
  rw [View.read_apply]
  show V m c main_v4 _ = V m c main_v4 _
  refine congrArg (V m c main_v4) ?_
  funext k; apply Fin.ext; fin_cases k <;> (simp; rfl)

theorem hz1 : (![0] : Fin 1 → ℕ) = fun _ => 0 := by funext k; fin_cases k; rfl
theorem hz2 : (![0, 0] : Fin 2 → ℕ) = fun _ => 0 := by funext k; fin_cases k <;> rfl

theorem ld_row0 (x : Vec Ideal S2x512 .f32) (f : Fin 512) : (View.ld x row0 : Vec Ideal S1x512 .f32) (ix2 0 f) = x (ix2 0 f) := by
  show x _ = x _
  refine congrArg x ?_
  funext k; apply Fin.ext; fin_cases k <;> first | rfl | (simp; done) | (simp; rfl)

theorem ld_row1 (x : Vec Ideal S2x512 .f32) (f : Fin 512) : (View.ld x row1 : Vec Ideal S1x512 .f32) (ix2 0 f) = x (ix2 1 f) := by
  show x _ = x _
  refine congrArg x ?_
  funext k; apply Fin.ext; fin_cases k <;> first | rfl | (simp; done) | (simp; rfl)

/-- The codes at an index, from the arguments. -/
theorem codesPay_apply (t : Fin 225) (f : Fin 512) : codesPay (iblk m c 0 p0) (iblk m c 1 p0) (iblk m c 5 p0) (ix2 t f)
      = code (coord (disp (t.val / 15))) (coord (disp (t.val % 15)))
          ((m ((c : Thread nD τ).loc main_arg0) : FVec Ideal S2x512 .f32) (ix2 0 f)) ((m ((c : Thread nD τ).loc main_arg0) : FVec Ideal S2x512 .f32) (ix2 1 f))
          ((m ((c : Thread nD τ).loc main_arg1) : FVec Ideal S512 .f32) (ix1 f)) ((m ((c : Thread nD τ).loc main_arg5) : FVec Ideal S225 .f32) (ix1 t)) := by
  unfold codesPay
  refine (pay8_apply _ _ _ _ t f).trans ?_
  rw [ld_row0, ld_row1, View.ld_unit_zero (S := S1x512) hz2, View.ld_unit_zero (S := S225x1) hz2, b0_apply, b0_apply, b1_apply, b5_apply]

theorem codesV_apply (t : Fin 225) (f : Fin 512) : codesV m c (ix2 t f)
      = code (coord (disp (t.val / 15))) (coord (disp (t.val % 15)))
          ((m ((c : Thread nD τ).loc main_arg0) : FVec Ideal S2x512 .f32) (ix2 0 f)) ((m ((c : Thread nD τ).loc main_arg0) : FVec Ideal S2x512 .f32) (ix2 1 f))
          ((m ((c : Thread nD τ).loc main_arg1) : FVec Ideal S512 .f32) (ix1 f)) ((m ((c : Thread nD τ).loc main_arg5) : FVec Ideal S225 .f32) (ix1 t)) := by
  refine Eq.trans ?_ (codesPay_apply m c t f)
  unfold codesV codesOut
  rw [View.canon_unit_zero hz2]

/-- The bias table at an index, from the codes and the arguments. -/
theorem relV_apply (h : Fin 4) (t : Fin 225) : relV m c (ix2 h t)
      = Ideal.ofBits FTy.f32 0x41800000#32 * Ideal.logistic ((∑ x, (codesV m c (ix2 t x) : EReal) * ((m ((c : Thread nD τ).loc main_arg2) : FVec Ideal S512x4 .fp8e4m3) (ix2 x h) : EReal))
          * ((m ((c : Thread nD τ).loc main_arg4) : FVec Ideal S225 .f32) (ix1 t) : EReal) * ((m ((c : Thread nD τ).loc main_arg3) : FVec Ideal S4 .f32) (ix1 h) : EReal)) := by
  unfold relV relOut
  rw [View.canon_unit_zero hz2]
  unfold relPay
  refine (pay1_apply _ _ _ _ h t).trans ?_
  rw [View.ld_unit_zero (S := S225x1) hz2, View.ld_unit_zero (S := S4x1) hz2, View.ld_unit_zero (S := S4x512) hz2, b4_apply, b3_apply]
  refine congrArg (fun z : EReal => Ideal.ofBits FTy.f32 0x41800000#32 * Ideal.logistic z) ?_
  refine congrArg (fun z : EReal => z * _ * _) ?_
  refine Finset.sum_congr rfl fun x _ => ?_
  rw [b2_apply, codesV_apply, codesPay_apply]

/-- After the run the array is what the body computes from the blocks. -/
theorem arr6 : (dats m 0 c).arrAt 6 cfg0.N = relV m c := by
  refine (dats m 0 c).arrAt_eq_of_cover 6 _ (fun t hf => ?_) fun i => ⟨t0_11, (by decide +kernel), ?_⟩
  · show (cfg0.win 6).cut (grid0.coords t) ((dats m 0 c).after 6 t) = _
    obtain rfl : t = t0_11 := Fin.ext (by have h0 := (flush0_6 t).mp hf; have h1 : t.val < 12 := Nat.lt_of_lt_of_eq t.isLt N_0; show t.val = 11; omega)
    rw [after0_6]
    generalize relV m c = G
    funext y
    rw [View.read_apply]
    show G _ = G _
    refine congrArg G ?_
    funext a
    apply Fin.ext
    fin_cases a <;> (simp; rfl)
  · show i ∈ ((View.whole main_v5_0).slice (win0_6.rect t0_11)).set
    rw [View.set_slice_whole, Rect.mem_set_unit]
    intro a
    have e : ∀ a : Fin 2, win0_6.index t0_11 a * win0_6.size a = 0 := by decide +kernel
    have z : ∀ a : Fin 2, win0_6.xsize (grid0.coords t0_11) a = S4x225.size a := by decide +kernel
    show win0_6.index t0_11 a * win0_6.size a ≤ (i a : Nat) ∧ (i a : Nat) < win0_6.index t0_11 a * win0_6.size a + win0_6.xsize (grid0.coords t0_11) a
    rw [e a, z a, Nat.zero_add]
    exact ⟨Nat.zero_le _, (i a).isLt⟩

/-- After the run the array is what the body computes from the blocks. -/
theorem arr7 : (dats m 0 c).arrAt 7 cfg0.N = codesV m c := by
  refine (dats m 0 c).arrAt_eq_of_cover 7 _ (fun t hf => ?_) fun i => ⟨t0_11, (by decide +kernel), ?_⟩
  · show (cfg0.win 7).cut (grid0.coords t) ((dats m 0 c).after 7 t) = _
    obtain rfl : t = t0_11 := Fin.ext (by have h0 := (flush0_7 t).mp hf; have h1 : t.val < 12 := Nat.lt_of_lt_of_eq t.isLt N_0; show t.val = 11; omega)
    rw [after0_7]
    generalize codesV m c = G
    funext y
    rw [View.read_apply]
    show G _ = G _
    refine congrArg G ?_
    funext a
    apply Fin.ext
    fin_cases a <;> (simp; rfl)
  · show i ∈ ((View.whole main_v5_1).slice (win0_7.rect t0_11)).set
    rw [View.set_slice_whole, Rect.mem_set_unit]
    intro a
    have e : ∀ a : Fin 2, win0_7.index t0_11 a * win0_7.size a = 0 := by decide +kernel
    have z : ∀ a : Fin 2, win0_7.xsize (grid0.coords t0_11) a = S225x512.size a := by decide +kernel
    show win0_7.index t0_11 a * win0_7.size a ≤ (i a : Nat) ∧ (i a : Nat) < win0_7.index t0_11 a * win0_7.size a + win0_7.xsize (grid0.coords t0_11) a
    rw [e a, z a, Nat.zero_add]
    exact ⟨Nat.zero_le _, (i a).isLt⟩

/-- After the run the two result arrays hold what the body computed, and the arguments are as they were. -/
theorem run_result (ρ : Dev nD → PrngReg) : θ_run defs (onTc (τ := τ) (main (F := Ideal))) ⟨m, fun _ => 0, ρ⟩ (fun r => ∀ c : Dev nD,
      r.2.mem ((c.tc : Thread nD τ).loc main_v5_0) = relV m c
      ∧ r.2.mem ((c.tc : Thread nD τ).loc main_v5_1) = codesV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1, (h.1 c).2, h.2 c⟩) (θ_run_and (Q₁ := fun r => ∀ c : Dev nD,
      r.2.mem ((c.tc : Thread nD τ).loc main_v5_0) = relV m c ∧ r.2.mem ((c.tc : Thread nD τ).loc main_v5_1) = codesV m c)
    ((θ_run defs _ _).mono (fun _ h c => ⟨((h c).1 6).trans (arr6 m c), ((h c).1 7).trans (arr7 m c)⟩) (run_main m ρ)) (unchanged m ρ))

end Cert.TableIdeal.Hand

end
-- ==== Proof.TableRefRead.lean ====
/- The reference of the table kernel: its coordinates, its payloads and its two results read at an index, and its run. -/
module

public import proofs.«01_k».proof.Proof.Gen.TableReferenceIdeal.Frame
public import proofs.«01_k».proof.Proof.TableRead
public import proofs.«01_k».proof.Proof.Gen.TableReferenceIdeal.Skeleton
public import Idealize.ShloMosaic.Lib.Pipeline.Value
public import Idealize.ShloMosaic.Lib.Pipeline.ValueKit.Geometry
public import Idealize.ShloMosaic.Lib.Claim
public import Idealize.ShloMosaic.Lib.Pointwise

@[expose] public section

set_option maxRecDepth 16384

noncomputable section

namespace Cert.TableReferenceIdeal.Hand

open Cert.TableReferenceIdeal Cert.TableReferenceIdeal.Gen
open Idealize.ShloMosaic Idealize.ShloMosaic.TcCoe Idealize.SL.Sem
open Cert.TableIdeal.Hand (coord disp code index_eq)

variable (m : (ℓ : Loc nD τ sig) → Buf (Elt Ideal) ℓ) (c : Dev nD)

/-- The coordinates of the displacements along one axis. -/
def axisT : FVec Ideal S15 .f32 :=
  have d : FVec Ideal S15 .f32 := addf (broadcastInDim S15 ![] bcast_S_S15 (constant S_ .f32 0xC0E00000#32)) (sitofp .f32 (iotaInDim S15 32 0))
  Host.divf (mulf (Host.sign d) (mulf (Host.log (addf (broadcastInDim S15 ![] bcast_S_S15 (constant S_ .f32 0x3F800000#32))
      (Host.divf (mulf (broadcastInDim S15 ![] bcast_S_S15 (constant S_ .f32 0x41000000#32)) (Host.absf d))
        (broadcastInDim S15 ![] bcast_S_S15 (constant S_ .f32 0x40E00000#32)))))
      (broadcastInDim S15 ![] bcast_S_S15 (constant S_ .f32 0x3FB8AA3B#32))))
    (broadcastInDim S15 ![] bcast_S_S15 (constant S_ .f32 0x40400000#32))

/-- The coordinates of all displacements, first along the rows, then along the columns. -/
def coordsT (a : FVec Ideal S15 .f32) : FVec Ideal S225x2 .f32 :=
  concatenate S225x2 1
    [⟨S225x1, broadcastInDim S225x1 ![0] bcast_S225_S225x1_0 (shapeCast S225 (broadcastInDim S15x15 ![0] bcast_S15_S15x15_0 a) shapeCasts_S15x15_S225)⟩,
     ⟨S225x1, broadcastInDim S225x1 ![0] bcast_S225_S225x1_0 (shapeCast S225 (broadcastInDim S15x15 ![1] bcast_S15_S15x15_1 a) shapeCasts_S15x15_S225)⟩]
    concatenates_S225x1_S225x1_S225x2_d1

theorem V23_eq : V m c main_v23 = coordsT axisT := by
  show StableHlo.after hostOps0 _ (Proc.devRef .tc main_v23) = _
  simp only [hostOps0, StableHlo.after_cons, StableHlo.after_nil]
  after_results_simp
  rfl

theorem axisT_apply (k : Fin 15) : axisT (ix1 k) = coord (disp k.val) := by
  unfold axisT
  pointwise
  rw [index_eq _ (by omega)]
  rfl

theorem coordsT_apply0 (a : FVec Ideal S15 .f32) (t : Fin 225) : coordsT a (ix2 t 0) = a (ix1 ⟨t.val / 15, by omega⟩) := by
  unfold coordsT
  pointwise

theorem coordsT_apply1 (a : FVec Ideal S15 .f32) (t : Fin 225) : coordsT a (ix2 t 1) = a (ix1 ⟨t.val % 15, by omega⟩) := by
  unfold coordsT
  pointwise

theorem pay1_apply (v0 : Vec Ideal S225x2 .f32) (v2 : Vec Ideal S2x512 .f32) (v4 : Vec Ideal S512 .f32) (v10 : Vec Ideal S225 .f32) (t : Fin 225) (f : Fin 512) :
    k0_pay1 (F := Ideal) v0 v2 v4 v10 (ix2 t f) = code (v0 (ix2 t 0)) (v0 (ix2 t 1)) (v2 (ix2 0 f)) (v2 (ix2 1 f)) (v4 (ix1 f)) (v10 (ix1 t)) := by
  unfold k0_pay1
  pointwise
  rw [Fin.sum_univ_two]
  rfl

theorem pay2_apply (v0 : Vec Ideal S225x2 .f32) (v2 : Vec Ideal S2x512 .f32) (v4 : Vec Ideal S512 .f32) (v10 : Vec Ideal S225 .f32)
    (v19 : Vec Ideal S512x4 .fp8e4m3) (v21 : Vec Ideal S225 .f32) (v25 : Vec Ideal S4 .f32) (h : Fin 4) (t : Fin 225) :
    k0_pay2 (F := Ideal) v0 v2 v4 v10 v19 v21 v25 (ix2 h t)
      = Ideal.ofBits FTy.f32 0x41800000#32 * Ideal.logistic ((∑ x, k0_pay1 (F := Ideal) v0 v2 v4 v10 (ix2 t x) * v19 (ix2 x h)) * v21 (ix1 t) * v25 (ix1 h)) := by
  unfold k0_pay2
  pointwise

/-- The blocks of the one point are the whole arrays. -/
theorem b0_eq (i : S225x2.Idx) : (iblk m c 0 t0_0 : Vec Ideal S225x2 .f32) i = coordsT axisT i := by
  refine Eq.trans ?_ (congrFun (V23_eq m c) i)
  unfold iblk
  rw [View.read_apply]
  show V m c main_v23 _ = V m c main_v23 _
  refine congrArg (V m c main_v23) ?_
  funext k; apply Fin.ext; fin_cases k <;> (simp; rfl)

theorem b1_apply (a : Fin 2) (f : Fin 512) : (iblk m c 1 t0_0 : Vec Ideal S2x512 .f32) (ix2 a f) = (m ((c : Thread nD τ).loc main_arg0) : FVec Ideal S2x512 .f32) (ix2 a f) := by
  refine Eq.trans ?_ (congrFun (V_main_arg0 m c) (ix2 a f))
  unfold iblk
  rw [View.read_apply]
  show V m c main_arg0 _ = V m c main_arg0 _
  refine congrArg (V m c main_arg0) ?_
  funext k; apply Fin.ext; fin_cases k <;> (simp; rfl)

theorem b2_apply (f : Fin 512) : (iblk m c 2 t0_0 : Vec Ideal S512 .f32) (ix1 f) = (m ((c : Thread nD τ).loc main_arg1) : FVec Ideal S512 .f32) (ix1 f) := by
  refine Eq.trans ?_ (congrFun (V_main_arg1 m c) (ix1 f))
  unfold iblk
  rw [View.read_apply]
  show V m c main_arg1 _ = V m c main_arg1 _
  refine congrArg (V m c main_arg1) ?_
  funext k; apply Fin.ext; fin_cases k <;> (simp; rfl)

theorem b3_apply (f : Fin 512) (h : Fin 4) : (iblk m c 3 t0_0 : Vec Ideal S512x4 .fp8e4m3) (ix2 f h) = (m ((c : Thread nD τ).loc main_arg2) : FVec Ideal S512x4 .fp8e4m3) (ix2 f h) := by
  refine Eq.trans ?_ (congrFun (V_main_arg2 m c) (ix2 f h))
  unfold iblk
  rw [View.read_apply]
  show V m c main_arg2 _ = V m c main_arg2 _
  refine congrArg (V m c main_arg2) ?_
  funext k; apply Fin.ext; fin_cases k <;> (simp; rfl)

theorem b4_apply (h : Fin 4) : (iblk m c 4 t0_0 : Vec Ideal S4 .f32) (ix1 h) = (m ((c : Thread nD τ).loc main_arg3) : FVec Ideal S4 .f32) (ix1 h) := by
  refine Eq.trans ?_ (congrFun (V_main_arg3 m c) (ix1 h))
  unfold iblk
  rw [View.read_apply]
  show V m c main_arg3 _ = V m c main_arg3 _
  refine congrArg (V m c main_arg3) ?_
  funext k; apply Fin.ext; fin_cases k <;> (simp; rfl)

theorem b5_apply (t : Fin 225) : (iblk m c 5 t0_0 : Vec Ideal S225 .f32) (ix1 t) = (m ((c : Thread nD τ).loc main_arg4) : FVec Ideal S225 .f32) (ix1 t) := by
  refine Eq.trans ?_ (congrFun (V_main_arg4 m c) (ix1 t))
  unfold iblk
  rw [View.read_apply]
  show V m c main_arg4 _ = V m c main_arg4 _
  refine congrArg (V m c main_arg4) ?_
  funext k; apply Fin.ext; fin_cases k <;> (simp; rfl)

theorem b6_apply (t : Fin 225) : (iblk m c 6 t0_0 : Vec Ideal S225 .f32) (ix1 t) = (m ((c : Thread nD τ).loc main_arg5) : FVec Ideal S225 .f32) (ix1 t) := by
  refine Eq.trans ?_ (congrFun (V_main_arg5 m c) (ix1 t))
  unfold iblk
  rw [View.read_apply]
  show V m c main_arg5 _ = V m c main_arg5 _
  refine congrArg (V m c main_arg5) ?_
  funext k; apply Fin.ext; fin_cases k <;> (simp; rfl)

theorem hz1 : (![0] : Fin 1 → ℕ) = fun _ => 0 := by funext k; fin_cases k; rfl
theorem hz2 : (![0, 0] : Fin 2 → ℕ) = fun _ => 0 := by funext k; fin_cases k <;> rfl

/-- The bias table, from the blocks. -/
def relR : Vec Ideal S4x225 .f32 := out0_7 (iblk m c 0 t0_0) (iblk m c 1 t0_0) (iblk m c 2 t0_0) (iblk m c 3 t0_0) (iblk m c 4 t0_0) (iblk m c 5 t0_0) (iblk m c 6 t0_0)

/-- The codes, from the blocks. -/
def codesR : Vec Ideal S225x512 .fp8e4m3 := out0_8 (iblk m c 0 t0_0) (iblk m c 1 t0_0) (iblk m c 2 t0_0) (iblk m c 3 t0_0) (iblk m c 4 t0_0) (iblk m c 5 t0_0) (iblk m c 6 t0_0)

theorem pay1_blocks (t : Fin 225) (f : Fin 512) :
    k0_pay1 (F := Ideal) (iblk m c 0 t0_0) (iblk m c 1 t0_0) (iblk m c 2 t0_0) (iblk m c 6 t0_0) (ix2 t f)
      = code (coord (disp (t.val / 15))) (coord (disp (t.val % 15)))
          ((m ((c : Thread nD τ).loc main_arg0) : FVec Ideal S2x512 .f32) (ix2 0 f)) ((m ((c : Thread nD τ).loc main_arg0) : FVec Ideal S2x512 .f32) (ix2 1 f))
          ((m ((c : Thread nD τ).loc main_arg1) : FVec Ideal S512 .f32) (ix1 f)) ((m ((c : Thread nD τ).loc main_arg5) : FVec Ideal S225 .f32) (ix1 t)) := by
  rw [pay1_apply, b0_eq, b0_eq, coordsT_apply0, coordsT_apply1, axisT_apply, axisT_apply, b1_apply, b1_apply, b2_apply, b6_apply]

/-- The codes at an index, from the arguments. -/
theorem codesR_apply (t : Fin 225) (f : Fin 512) : codesR m c (ix2 t f)
      = code (coord (disp (t.val / 15))) (coord (disp (t.val % 15)))
          ((m ((c : Thread nD τ).loc main_arg0) : FVec Ideal S2x512 .f32) (ix2 0 f)) ((m ((c : Thread nD τ).loc main_arg0) : FVec Ideal S2x512 .f32) (ix2 1 f))
          ((m ((c : Thread nD τ).loc main_arg1) : FVec Ideal S512 .f32) (ix1 f)) ((m ((c : Thread nD τ).loc main_arg5) : FVec Ideal S225 .f32) (ix1 t)) := by
  refine Eq.trans ?_ (pay1_blocks m c t f)
  unfold codesR out0_8
  rw [View.canon_unit_zero hz2, View.ld_unit_zero (S := S225x2) hz2, View.ld_unit_zero (S := S2x512) hz2, View.ld_unit_zero (S := S512) hz1, View.ld_unit_zero (S := S225) hz1]

/-- The bias table at an index, from the codes and the arguments. -/
theorem relR_apply (h : Fin 4) (t : Fin 225) : relR m c (ix2 h t)
      = Ideal.ofBits FTy.f32 0x41800000#32 * Ideal.logistic ((∑ x, (codesR m c (ix2 t x) : EReal) * ((m ((c : Thread nD τ).loc main_arg2) : FVec Ideal S512x4 .fp8e4m3) (ix2 x h) : EReal))
          * ((m ((c : Thread nD τ).loc main_arg4) : FVec Ideal S225 .f32) (ix1 t) : EReal) * ((m ((c : Thread nD τ).loc main_arg3) : FVec Ideal S4 .f32) (ix1 h) : EReal)) := by
  unfold relR out0_7
  rw [View.canon_unit_zero hz2, View.ld_unit_zero (S := S225x2) hz2, View.ld_unit_zero (S := S2x512) hz2, View.ld_unit_zero (S := S512) hz1, View.ld_unit_zero (S := S225) hz1,
    View.ld_unit_zero (S := S512x4) hz2, View.ld_unit_zero (S := S225) hz1, View.ld_unit_zero (S := S4) hz1]
  refine (pay2_apply _ _ _ _ _ _ _ h t).trans ?_
  rw [b5_apply, b4_apply]
  refine congrArg (fun z : EReal => Ideal.ofBits FTy.f32 0x41800000#32 * Ideal.logistic z) ?_
  refine congrArg (fun z : EReal => z * _ * _) ?_
  refine Finset.sum_congr rfl fun x _ => ?_
  rw [b3_apply, codesR_apply, pay1_blocks]

/-- After the run the array is what the body computes from the blocks. -/
theorem arr7 : (dats m 0 c).arrAt 7 cfg0.N = relR m c := by
  refine (dats m 0 c).arrAt_eq_of_cover 7 _ (fun t hf => ?_) fun i => ⟨t0_0, (by decide +kernel), ?_⟩
  · show (cfg0.win 7).cut (grid0.coords t) ((dats m 0 c).after 7 t) = _
    obtain rfl : t = t0_0 := Subsingleton.elim (α := Fin 1) _ _
    rw [after0_7]
    show (cfg0.win 7).cut (grid0.coords t0_0) (relR m c) = _
    generalize relR m c = G
    funext y
    rw [View.read_apply]
    show G _ = G _
    refine congrArg G ?_
    funext a
    apply Fin.ext
    fin_cases a <;> (simp; rfl)
  · show i ∈ ((View.whole main_v24_0).slice (win0_7.rect t0_0)).set
    rw [View.set_slice_whole, Rect.mem_set_unit]
    intro a
    have e : ∀ a : Fin 2, win0_7.index t0_0 a * win0_7.size a = 0 := by decide +kernel
    have z : ∀ a : Fin 2, win0_7.xsize (grid0.coords t0_0) a = S4x225.size a := by decide +kernel
    show win0_7.index t0_0 a * win0_7.size a ≤ (i a : Nat) ∧ (i a : Nat) < win0_7.index t0_0 a * win0_7.size a + win0_7.xsize (grid0.coords t0_0) a
    rw [e a, z a, Nat.zero_add]
    exact ⟨Nat.zero_le _, (i a).isLt⟩

/-- After the run the array is what the body computes from the blocks. -/
theorem arr8 : (dats m 0 c).arrAt 8 cfg0.N = codesR m c := by
  refine (dats m 0 c).arrAt_eq_of_cover 8 _ (fun t hf => ?_) fun i => ⟨t0_0, (by decide +kernel), ?_⟩
  · show (cfg0.win 8).cut (grid0.coords t) ((dats m 0 c).after 8 t) = _
    obtain rfl : t = t0_0 := Subsingleton.elim (α := Fin 1) _ _
    rw [after0_8]
    show (cfg0.win 8).cut (grid0.coords t0_0) (codesR m c) = _
    generalize codesR m c = G
    funext y
    rw [View.read_apply]
    show G _ = G _
    refine congrArg G ?_
    funext a
    apply Fin.ext
    fin_cases a <;> (simp; rfl)
  · show i ∈ ((View.whole main_v24_1).slice (win0_8.rect t0_0)).set
    rw [View.set_slice_whole, Rect.mem_set_unit]
    intro a
    have e : ∀ a : Fin 2, win0_8.index t0_0 a * win0_8.size a = 0 := by decide +kernel
    have z : ∀ a : Fin 2, win0_8.xsize (grid0.coords t0_0) a = S225x512.size a := by decide +kernel
    show win0_8.index t0_0 a * win0_8.size a ≤ (i a : Nat) ∧ (i a : Nat) < win0_8.index t0_0 a * win0_8.size a + win0_8.xsize (grid0.coords t0_0) a
    rw [e a, z a, Nat.zero_add]
    exact ⟨Nat.zero_le _, (i a).isLt⟩

/-- After the run the two result arrays hold what the body computed, and the arguments are as they were. -/
theorem run_result (ρ : Dev nD → PrngReg) : θ_run defs (onTc (τ := τ) (main (F := Ideal))) ⟨m, fun _ => 0, ρ⟩ (fun r => ∀ c : Dev nD,
      r.2.mem ((c.tc : Thread nD τ).loc main_v24_0) = relR m c
      ∧ r.2.mem ((c.tc : Thread nD τ).loc main_v24_1) = codesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1, (h.1 c).2, h.2 c⟩) (θ_run_and (Q₁ := fun r => ∀ c : Dev nD,
      r.2.mem ((c.tc : Thread nD τ).loc main_v24_0) = relR m c ∧ r.2.mem ((c.tc : Thread nD τ).loc main_v24_1) = codesR m c)
    ((θ_run defs _ _).mono (fun _ h c => ⟨((h c).1 7).trans (arr7 m c), ((h c).1 8).trans (arr8 m c)⟩) (run_main m ρ)) (unchanged m ρ))

end Cert.TableReferenceIdeal.Hand

end
-- ==== Proof.TableClaim.lean ====
/- The table kernel and its reference compute the same two arrays over the extended reals, whatever the arguments. -/
module

public import proofs.«01_k».proof.Defs
public import proofs.«01_k».proof.Proof.TableRefRead

@[expose] public section

set_option maxRecDepth 16384

noncomputable section

namespace Cert.TableIdeal.Hand

open Cert.TableIdeal
open Idealize.ShloMosaic Idealize.ShloMosaic.TcCoe Idealize.SL.Sem

/-- An index of an array of two axes, by its two parts. -/
theorem index_two {a b : ℕ} (y : (⟨2, ![a, b]⟩ : Shape).Idx) : ∃ (i : Fin a) (j : Fin b), y = ix2 i j :=
  ⟨y 0, y 1, by funext k; fin_cases k <;> rfl⟩

/-- The claim about values: kernel and reference leave the same two arrays, and each its arguments as they were. -/
theorem algebraic : Cert.algebraic_TableIdeal_TableReferenceIdeal := by
  intro m g m' g' hpre hargs
  refine ⟨fun c => relV m c, fun c => codesV m c, run_result m g, ?_⟩
  refine (θ_run _ _ _).mono (fun r h c => ?_) (Cert.TableReferenceIdeal.Hand.run_result m' g')
  obtain ⟨e0, e1, e2, e3, e4, e5⟩ := hargs c
  have hc : ∀ t f, (Cert.TableReferenceIdeal.Hand.codesR m' c (ix2 t f) : EReal) = codesV m c (ix2 t f) := fun t f => by
    refine (Cert.TableReferenceIdeal.Hand.codesR_apply m' c t f).trans (Eq.trans ?_ (codesV_apply m c t f).symm)
    exact congr (congr (congr (congrArg _ (congrFun e0 _)) (congrFun e0 _)) (congrFun e1 _)) (congrFun e5 _)
  refine ⟨(h c).1.trans ?_, (h c).2.1.trans ?_, (h c).2.2⟩
  · funext y
    obtain ⟨i, t, rfl⟩ := index_two (a := 4) (b := 225) y
    refine (Cert.TableReferenceIdeal.Hand.relR_apply m' c i t).trans (Eq.trans ?_ (relV_apply m c i t).symm)
    refine congrArg (fun z => Ideal.ofBits FTy.f32 0x41800000#32 * Ideal.logistic z) ?_
    refine congrArg₂ (fun a b : EReal => a * b) (congrArg₂ (fun a b : EReal => a * b) ?_ (congrFun e4 _)) (congrFun e3 _)
    exact Finset.sum_congr rfl fun x _ => congrArg₂ (fun a b : EReal => a * b) (hc t x) (congrFun e2 _)
  · funext y
    obtain ⟨t, f, rfl⟩ := index_two (a := 225) (b := 512) y
    exact hc t f

end Cert.TableIdeal.Hand

end
-- ==== Proof.lean ====
/-
  The claims: the kernel and its ideal program run without a fault and leave their arguments as they were (Proof/FrameKernel.lean,
  Proof/FrameKernelIdeal.lean), and the ideal program is the kernel over the extended reals. The same of its attention alone
  (Proof/AttendFrame.lean, Proof/AttendFrameIdeal.lean) and of the reference of that; and the attention and its reference compute
  the same array over the extended reals (Proof/AttendClaim.lean). The same of its bias table alone and of the reference of that
  (Proof/TableKernelFrame.lean, Proof/TableFrame.lean, Proof/TableClaim.lean).
-/
module

public import proofs.«01_k».proof.Defs
public import proofs.«01_k».proof.Proof.Gen.Kernel
public import proofs.«01_k».proof.Proof.Gen.KernelIdeal
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Points
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Points
public import proofs.«01_k».proof.Proof.Gen.AttentionIdeal
public import proofs.«01_k».proof.Proof.Gen.AttentionIdeal.Frame
public import proofs.«01_k».proof.Proof.FrameKernel
public import proofs.«01_k».proof.Proof.FrameKernelIdeal
public import proofs.«01_k».proof.Proof.AttendFrame
public import proofs.«01_k».proof.Proof.AttendFrameIdeal
public import proofs.«01_k».proof.Proof.AttendClaim
public import proofs.«01_k».proof.Proof.Gen.Table
public import proofs.«01_k».proof.Proof.Gen.Table.Skeleton
public import proofs.«01_k».proof.Proof.Gen.Table.Launch
public import proofs.«01_k».proof.Proof.Gen.Table.Points
public import proofs.«01_k».proof.Proof.Gen.Table.Frame
public import proofs.«01_k».proof.Proof.Gen.TableIdeal
public import proofs.«01_k».proof.Proof.Gen.TableIdeal.Skeleton
public import proofs.«01_k».proof.Proof.Gen.TableIdeal.Launch
public import proofs.«01_k».proof.Proof.Gen.TableIdeal.Points
public import proofs.«01_k».proof.Proof.Gen.TableIdeal.Frame
public import proofs.«01_k».proof.Proof.Gen.TableReferenceIdeal
public import proofs.«01_k».proof.Proof.Gen.TableReferenceIdeal.Skeleton
public import proofs.«01_k».proof.Proof.Gen.TableReferenceIdeal.Launch
public import proofs.«01_k».proof.Proof.Gen.TableReferenceIdeal.Points
public import proofs.«01_k».proof.Proof.Gen.TableReferenceIdeal.Frame
public import proofs.«01_k».proof.Proof.TableKernelFrame
public import proofs.«01_k».proof.Proof.TableFrame
public import proofs.«01_k».proof.Proof.TableClaim
public import Idealize.ShloMosaic.Lib.Bf16PairInverse

@[expose] public section

noncomputable section

namespace Cert.Proof

open Idealize.ShloMosaic

/-- The rewrites that lead from the kernel to its ideal program each hold as stated. -/
theorem preserves : Cert.preserves_Kernel_KernelIdeal :=
  ⟨IdealRules.bf16_pair.bufferStatement Cert.KernelIdeal.S72x2x128 Cert.KernelIdeal.S72x1x128,
    IdealRules.sign_bit.statement Cert.KernelIdeal.S225x128 .f32,
    IdealRules.bf16_pair.statement Cert.KernelIdeal.S16x128 Cert.KernelIdeal.S8x128,
    IdealRules.bf16_pair.statement Cert.KernelIdeal.S8x2x128 Cert.KernelIdeal.S8x1x128,
    IdealRules.named_const.statement Cert.KernelIdeal.κ "eps2" .f32 0x179ABE15#32 _ rfl⟩

/-- Everything claimed. -/
theorem claim : Cert.Claim :=
  ⟨Cert.Kernel.Gen.facts, Cert.KernelIdeal.Gen.facts, Cert.Attend.Gen.facts, Cert.AttendIdeal.Gen.facts, Cert.AttentionIdeal.Gen.facts,
    Cert.Table.Gen.facts, Cert.TableIdeal.Gen.facts, Cert.TableReferenceIdeal.Gen.facts, Cert.AttendIdeal.Hand.finiteFacts,
    fun m ρ _ => Cert.Kernel.Hand.frame m ρ, fun m ρ _ => Cert.KernelIdeal.Hand.frame m ρ,
    fun m ρ _ => Cert.Attend.Hand.frame m ρ, fun m ρ _ => Cert.AttendIdeal.Hand.frame m ρ, fun m ρ _ => Cert.AttendIdeal.Hand.frame m ρ,
    fun m ρ _ => Cert.AttentionIdeal.Gen.frame m ρ, fun m ρ _ => Cert.AttentionIdeal.Gen.frame m ρ,
    fun m ρ _ => Cert.Table.Hand.frame m ρ, fun m ρ _ => Cert.TableIdeal.Hand.frame m ρ, fun m ρ _ => Cert.TableReferenceIdeal.Gen.frame m ρ,
    preserves, trivial, @Cert.AttendIdeal.Hand.algebraic Cert.AttendIdeal.Hand.finiteFacts,
    IdealRules.sign_bit.statement Cert.TableIdeal.S225x128 .f32, Cert.TableIdeal.Hand.algebraic⟩

end Cert.Proof

end
